-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v2) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v12) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v7)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v7) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v10) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxReferenceIdeal : Cert.DxReferenceIdeal.Facts) (hDw : Cert.Dw.Facts) (hDwIdeal : Cert.DwIdeal.Facts) (hDwReferenceIdeal : Cert.DwReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Dx (hDx := hDx)
    ∧ quiescent_DxIdeal (hDxIdeal := hDxIdeal)
    ∧ quiescent_DxReferenceIdeal (hDxReferenceIdeal := hDxReferenceIdeal)
    ∧ quiescent_Dw (hDw := hDw)
    ∧ quiescent_DwIdeal (hDwIdeal := hDwIdeal)
    ∧ quiescent_DwReferenceIdeal (hDwReferenceIdeal := hDwReferenceIdeal)
    ∧ preserves_Kernel_KernelIdeal
    ∧ algebraic_KernelIdeal_ReferenceIdeal (hKernelIdeal := hKernelIdeal) (hReferenceIdeal := hReferenceIdeal)
    ∧ preserves_Dx_DxIdeal
    ∧ algebraic_DxIdeal_DxReferenceIdeal (hDxIdeal := hDxIdeal) (hDxReferenceIdeal := hDxReferenceIdeal)
    ∧ preserves_Dw_DwIdeal
    ∧ algebraic_DwIdeal_DwReferenceIdeal (hDwIdeal := hDwIdeal) (hDwReferenceIdeal := hDwReferenceIdeal)
-- ==== Kernel.lean ====
abbrev S3x2048x3584 : Shape := ⟨3, ![3, 2048, 3584]⟩
abbrev S3x16384x1792 : Shape := ⟨3, ![3, 16384, 1792]⟩
abbrev S3x2048x56 : Shape := ⟨3, ![3, 2048, 56]⟩
abbrev S16x3584x1792 : Shape := ⟨3, ![16, 3584, 1792]⟩
abbrev S1792 : Shape := ⟨1, ![1792]⟩
abbrev S3x8x2048x1792 : Shape := ⟨4, ![3, 8, 2048, 1792]⟩
abbrev S1x8192x128 : Shape := ⟨3, ![1, 8192, 128]⟩
abbrev S1x1024x56 : Shape := ⟨3, ![1, 1024, 56]⟩
abbrev S1x8x1024x128 : Shape := ⟨4, ![1, 8, 1024, 128]⟩
abbrev S8192x128 : Shape := ⟨2, ![8192, 128]⟩
abbrev S1024x8x128 : Shape := ⟨3, ![1024, 8, 128]⟩
abbrev S1024x56 : Shape := ⟨2, ![1024, 56]⟩
abbrev S1024x72 : Shape := ⟨2, ![1024, 72]⟩
abbrev S1024x128 : Shape := ⟨2, ![1024, 128]⟩
abbrev S1024x128x1 : Shape := ⟨3, ![1024, 128, 1]⟩
abbrev S32x128 : Shape := ⟨2, ![32, 128]⟩
abbrev S32x1x128 : Shape := ⟨3, ![32, 1, 128]⟩
abbrev S1x1x32x128 : Shape := ⟨4, ![1, 1, 32, 128]⟩
abbrev S2x8x3584x1792 : Shape := ⟨4, ![2, 8, 3584, 1792]⟩
abbrev S1x1792 : Shape := ⟨2, ![1, 1792]⟩
abbrev S1x1x2048x1792 : Shape := ⟨4, ![1, 1, 2048, 1792]⟩
abbrev S2x1x512x1792 : Shape := ⟨4, ![2, 1, 512, 1792]⟩
abbrev S1x2048x512 : Shape := ⟨3, ![1, 2048, 512]⟩
abbrev S2048x512 : Shape := ⟨2, ![2048, 512]⟩
abbrev S2048x1792 : Shape := ⟨2, ![2048, 1792]⟩
abbrev S1x1x512x1792 : Shape := ⟨4, ![1, 1, 512, 1792]⟩
abbrev S512x1792 : Shape := ⟨2, ![512, 1792]⟩
abbrev S6144x3584 : Shape := ⟨2, ![6144, 3584]⟩
abbrev S3584x6144 : Shape := ⟨2, ![3584, 6144]⟩
abbrev S3x2047x3584 : Shape := ⟨3, ![3, 2047, 3584]⟩
abbrev S_ : Shape := ⟨0, ![]⟩
abbrev S7168x6144 : Shape := ⟨2, ![7168, 6144]⟩
abbrev S896x6144 : Shape := ⟨2, ![896, 6144]⟩
abbrev S3x1x2048x256 : Shape := ⟨4, ![3, 1, 2048, 256]⟩
abbrev S1x896x256 : Shape := ⟨3, ![1, 896, 256]⟩
abbrev S6144x256 : Shape := ⟨2, ![6144, 256]⟩
abbrev S896x256 : Shape := ⟨2, ![896, 256]⟩

abbrev nBuf : Space → Nat
  | .hbm => 19
  | .vmem => 21
  | .smem => 0
  | _ => 0

abbrev bufTy : (tb : Table) → Fin (tcTables nBuf tb) → BufTy
  | .hbm, ⟨0, _⟩ => ⟨S3x2048x3584, .bf16⟩
  | .hbm, ⟨1, _⟩ => ⟨S3x16384x1792, .fp8e5m2⟩
  | .hbm, ⟨2, _⟩ => ⟨S3x2048x56, .f32⟩
  | .hbm, ⟨3, _⟩ => ⟨S16x3584x1792, .fp8e4m3⟩
  | .hbm, ⟨4, _⟩ => ⟨S1792, .f32⟩
  | .hbm, ⟨5, _⟩ => ⟨S3x8x2048x1792, .bf16⟩
  | .hbm, ⟨6, _⟩ => ⟨S2x8x3584x1792, .fp8e4m3⟩
  | .hbm, ⟨7, _⟩ => ⟨S1x1792, .f32⟩
  | .hbm, ⟨8, _⟩ => ⟨S3x2048x3584, .bf16⟩
  | .hbm, ⟨9, _⟩ => ⟨S6144x3584, .bf16⟩
  | .hbm, ⟨10, _⟩ => ⟨S3584x6144, .bf16⟩
  | .hbm, ⟨11, _⟩ => ⟨S3x2047x3584, .bf16⟩
  | .hbm, ⟨12, _⟩ => ⟨S_, .i32⟩
  | .hbm, ⟨13, _⟩ => ⟨S_, .bf16⟩
  | .hbm, ⟨14, _⟩ => ⟨S3x2048x3584, .bf16⟩
  | .hbm, ⟨15, _⟩ => ⟨S6144x3584, .bf16⟩
  | .hbm, ⟨16, _⟩ => ⟨S3584x6144, .bf16⟩
  | .hbm, ⟨17, _⟩ => ⟨S7168x6144, .bf16⟩
  | .hbm, ⟨18, _⟩ => ⟨S16x3584x1792, .f32⟩
  | .local _ .vmem, ⟨0, _⟩ => ⟨S1x8192x128, .fp8e5m2⟩
  | .local _ .vmem, ⟨1, _⟩ => ⟨S1x8192x128, .fp8e5m2⟩
  | .local _ .vmem, ⟨2, _⟩ => ⟨S1x1024x56, .f32⟩
  | .local _ .vmem, ⟨3, _⟩ => ⟨S1x1024x56, .f32⟩
  | .local _ .vmem, ⟨4, _⟩ => ⟨S1x8x1024x128, .bf16⟩
  | .local _ .vmem, ⟨5, _⟩ => ⟨S1x8x1024x128, .bf16⟩
  | .local _ .vmem, ⟨6, _⟩ => ⟨S1x1x2048x1792, .bf16⟩
  | .local _ .vmem, ⟨7, _⟩ => ⟨S1x1x2048x1792, .bf16⟩
  | .local _ .vmem, ⟨8, _⟩ => ⟨S2x1x512x1792, .fp8e4m3⟩
  | .local _ .vmem, ⟨9, _⟩ => ⟨S2x1x512x1792, .fp8e4m3⟩
  | .local _ .vmem, ⟨10, _⟩ => ⟨S1x1792, .f32⟩
  | .local _ .vmem, ⟨11, _⟩ => ⟨S1x2048x512, .bf16⟩
  | .local _ .vmem, ⟨12, _⟩ => ⟨S1x2048x512, .bf16⟩
  | .local _ .vmem, ⟨13, _⟩ => ⟨S2048x512, .f32⟩
  | .local _ .vmem, ⟨14, _⟩ => ⟨S2048x512, .f32⟩
  | .local _ .vmem, ⟨15, _⟩ => ⟨S896x6144, .bf16⟩
  | .local _ .vmem, ⟨16, _⟩ => ⟨S896x6144, .bf16⟩
  | .local _ .vmem, ⟨17, _⟩ => ⟨S3x1x2048x256, .bf16⟩
  | .local _ .vmem, ⟨18, _⟩ => ⟨S3x1x2048x256, .bf16⟩
  | .local _ .vmem, ⟨19, _⟩ => ⟨S1x896x256, .f32⟩
  | .local _ .vmem, ⟨20, _⟩ => ⟨S1x896x256, .f32⟩
  | _, _ => ⟨S3x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨3, ![3, 2, 14], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x8192x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![3, 7, 8], ![false, false, false]⟩

def k1_cond2 (i : grid1.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_22 : BitVec 32 := 0#32
  let v32 : BitVec 1 := Scalar.cmpi .ne v31 c0_i32_22
  v32

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1x2048x1792 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2x1x512x1792 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x1792 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 56], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc2_transform_2 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c7_i32 : BitVec 32 := 7#32
  let v18 : BitVec 32 := Scalar.divsi arg1 c7_i32
  let c0_i32_4 : BitVec 32 := 0#32
  let v19 : BitVec 1 := Scalar.cmpi .sgt arg1 c0_i32_4
  let v20 : BitVec 32 := Scalar.extui v19
  let c0_i32_5 : BitVec 32 := 0#32
  let v21 : BitVec 1 := Scalar.cmpi .slt arg1 c0_i32_5
  let v22 : BitVec 32 := Scalar.extui v21
  let v23 : BitVec 32 := Scalar.subi v20 v22
  let c0_i32_6 : BitVec 32 := 0#32
  let v24 : BitVec 1 := Scalar.cmpi .sgt c7_i32 c0_i32_6
  let v25 : BitVec 32 := Scalar.extui v24
  let c0_i32_7 : BitVec 32 := 0#32
  let v26 : BitVec 1 := Scalar.cmpi .slt c7_i32 c0_i32_7
  let v27 : BitVec 32 := Scalar.extui v26
  let v28 : BitVec 32 := Scalar.subi v25 v27
  let v29 : BitVec 1 := Scalar.cmpi .ne v23 v28
  let v30 : BitVec 32 := Scalar.remsi arg1 c7_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let v35 : BitVec 32 := Scalar.addi v17 v34
  let c4_i32_10 : BitVec 32 := 4#32
  let c0_i32_11 : BitVec 32 := 0#32
  let v36 : BitVec 1 := Scalar.cmpi .eq c4_i32_10 c0_i32_11
  let c1_i32_12 : BitVec 32 := 1#32
  let v37 : BitVec 32 := Scalar.select v36 c1_i32_12 c4_i32_10
  let v38 : BitVec 32 := Scalar.remsi arg0 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c7_i32_16 : BitVec 32 := 7#32
  let c0_i32_17 : BitVec 32 := 0#32
  let v46 : BitVec 1 := Scalar.cmpi .eq c7_i32_16 c0_i32_17
  let c1_i32_18 : BitVec 32 := 1#32
  let v47 : BitVec 32 := Scalar.select v46 c1_i32_18 c7_i32_16
  let v48 : BitVec 32 := Scalar.remsi arg1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  ![v35.toNat, v45.toNat, v55.toNat]

abbrev stage2_0 : Fin 2 → Memref sig .tc .vmem S896x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S3x1x2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x896x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S3x2048x3584 : Shape := ⟨3, ![3, 2048, 3584]⟩
abbrev S3x16384x1792 : Shape := ⟨3, ![3, 16384, 1792]⟩
abbrev S3x2048x56 : Shape := ⟨3, ![3, 2048, 56]⟩
abbrev S16x3584x1792 : Shape := ⟨3, ![16, 3584, 1792]⟩
abbrev S1792 : Shape := ⟨1, ![1792]⟩
abbrev S3x2048x8x56x32 : Shape := ⟨5, ![3, 2048, 8, 56, 32]⟩
abbrev S3x2048x1x56x1 : Shape := ⟨5, ![3, 2048, 1, 56, 1]⟩
abbrev S3x2048x8x1792 : Shape := ⟨4, ![3, 2048, 8, 1792]⟩
abbrev S1x1x1792 : Shape := ⟨3, ![1, 1, 1792]⟩
abbrev S2x8x3584x1792 : Shape := ⟨4, ![2, 8, 3584, 1792]⟩
abbrev S3x2047x8x1792 : Shape := ⟨4, ![3, 2047, 8, 1792]⟩
abbrev S3x2047x3584 : Shape := ⟨3, ![3, 2047, 3584]⟩
abbrev S1x8x3584x1792 : Shape := ⟨4, ![1, 8, 3584, 1792]⟩
abbrev S8x3584x1792 : Shape := ⟨3, ![8, 3584, 1792]⟩
abbrev S_ : Shape := ⟨0, ![]⟩
abbrev S1 : Shape := ⟨1, ![1]⟩
abbrev S8x1792x3584 : Shape := ⟨3, ![8, 1792, 3584]⟩

abbrev nBuf : Space → Nat
  | .hbm => 38
  | .vmem => 4
  | .smem => 0
  | _ => 0

abbrev bufTy : (tb : Table) → Fin (tcTables nBuf tb) → BufTy
  | .hbm, ⟨0, _⟩ => ⟨S3x2048x3584, .bf16⟩
  | .hbm, ⟨1, _⟩ => ⟨S3x16384x1792, .fp8e5m2⟩
  | .hbm, ⟨2, _⟩ => ⟨S3x2048x56, .f32⟩
  | .hbm, ⟨3, _⟩ => ⟨S16x3584x1792, .fp8e4m3⟩
  | .hbm, ⟨4, _⟩ => ⟨S1792, .f32⟩
  | .hbm, ⟨5, _⟩ => ⟨S3x16384x1792, .bf16⟩
  | .hbm, ⟨6, _⟩ => ⟨S16x3584x1792, .bf16⟩
  | .hbm, ⟨7, _⟩ => ⟨S3x2048x8x56x32, .bf16⟩
  | .hbm, ⟨8, _⟩ => ⟨S3x2048x56, .bf16⟩
  | .hbm, ⟨9, _⟩ => ⟨S3x2048x1x56x1, .bf16⟩
  | .hbm, ⟨10, _⟩ => ⟨S3x2048x8x56x32, .bf16⟩
  | .hbm, ⟨11, _⟩ => ⟨S3x2048x8x56x32, .bf16⟩
  | .hbm, ⟨12, _⟩ => ⟨S3x2048x8x1792, .bf16⟩
  | .hbm, ⟨13, _⟩ => ⟨S1792, .bf16⟩
  | .hbm, ⟨14, _⟩ => ⟨S1x1x1792, .bf16⟩
  | .hbm, ⟨15, _⟩ => ⟨S16x3584x1792, .bf16⟩
  | .hbm, ⟨16, _⟩ => ⟨S16x3584x1792, .bf16⟩
  | .hbm, ⟨17, _⟩ => ⟨S2x8x3584x1792, .bf16⟩
  | .hbm, ⟨18, _⟩ => ⟨S3x2047x8x1792, .bf16⟩
  | .hbm, ⟨19, _⟩ => ⟨S3x2047x3584, .bf16⟩
  | .hbm, ⟨20, _⟩ => ⟨S1x8x3584x1792, .bf16⟩
  | .hbm, ⟨21, _⟩ => ⟨S8x3584x1792, .bf16⟩
  | .hbm, ⟨22, _⟩ => ⟨S3x2048x3584, .f32⟩
  | .hbm, ⟨23, _⟩ => ⟨S1x8x3584x1792, .bf16⟩
  | .hbm, ⟨24, _⟩ => ⟨S8x3584x1792, .bf16⟩
  | .hbm, ⟨25, _⟩ => ⟨S3x2047x3584, .f32⟩
  | .hbm, ⟨26, _⟩ => ⟨S_, .i32⟩
  | .hbm, ⟨27, _⟩ => ⟨S1, .i32⟩
  | .hbm, ⟨28, _⟩ => ⟨S3x2048x3584, .f32⟩
  | .hbm, ⟨29, _⟩ => ⟨S3x2048x3584, .bf16⟩
  | .hbm, ⟨30, _⟩ => ⟨S8x1792x3584, .f32⟩
  | .hbm, ⟨31, _⟩ => ⟨S8x3584x1792, .f32⟩
  | .hbm, ⟨32, _⟩ => ⟨S8x1792x3584, .f32⟩
  | .hbm, ⟨33, _⟩ => ⟨S8x3584x1792, .f32⟩
  | .hbm, ⟨34, _⟩ => ⟨S1x8x3584x1792, .f32⟩
  | .hbm, ⟨35, _⟩ => ⟨S1x8x3584x1792, .f32⟩
  | .hbm, ⟨36, _⟩ => ⟨S2x8x3584x1792, .f32⟩
  | .hbm, ⟨37, _⟩ => ⟨S16x3584x1792, .f32⟩
  | .local _ .vmem, ⟨0, _⟩ => ⟨S3x16384x1792, .fp8e5m2⟩
  | .local _ .vmem, ⟨1, _⟩ => ⟨S16x3584x1792, .fp8e4m3⟩
  | .local _ .vmem, ⟨2, _⟩ => ⟨S3x16384x1792, .bf16⟩
  | .local _ .vmem, ⟨3, _⟩ => ⟨S16x3584x1792, .bf16⟩
  | _, _ => ⟨S3x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x16384x1792 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3584x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3584x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dx.lean ====
abbrev S3x8x2048x1792 : Shape := ⟨4, ![3, 8, 2048, 1792]⟩
abbrev S16x3584x1792 : Shape := ⟨3, ![16, 3584, 1792]⟩
abbrev S1792 : Shape := ⟨1, ![1792]⟩
abbrev S2x8x3584x1792 : Shape := ⟨4, ![2, 8, 3584, 1792]⟩
abbrev S1x1792 : Shape := ⟨2, ![1, 1792]⟩
abbrev S3x2048x3584 : Shape := ⟨3, ![3, 2048, 3584]⟩
abbrev S1x1x2048x1792 : Shape := ⟨4, ![1, 1, 2048, 1792]⟩
abbrev S2x1x512x1792 : Shape := ⟨4, ![2, 1, 512, 1792]⟩
abbrev S1x2048x512 : Shape := ⟨3, ![1, 2048, 512]⟩
abbrev S2048x512 : Shape := ⟨2, ![2048, 512]⟩
abbrev S2048x1792 : Shape := ⟨2, ![2048, 1792]⟩
abbrev S1x1x512x1792 : Shape := ⟨4, ![1, 1, 512, 1792]⟩
abbrev S512x1792 : Shape := ⟨2, ![512, 1792]⟩

abbrev nBuf : Space → Nat
  | .hbm => 6
  | .vmem => 9
  | .smem => 0
  | _ => 0

abbrev bufTy : (tb : Table) → Fin (tcTables nBuf tb) → BufTy
  | .hbm, ⟨0, _⟩ => ⟨S3x8x2048x1792, .bf16⟩
  | .hbm, ⟨1, _⟩ => ⟨S16x3584x1792, .fp8e4m3⟩
  | .hbm, ⟨2, _⟩ => ⟨S1792, .f32⟩
  | .hbm, ⟨3, _⟩ => ⟨S2x8x3584x1792, .fp8e4m3⟩
  | .hbm, ⟨4, _⟩ => ⟨S1x1792, .f32⟩
  | .hbm, ⟨5, _⟩ => ⟨S3x2048x3584, .bf16⟩
  | .local _ .vmem, ⟨0, _⟩ => ⟨S1x1x2048x1792, .bf16⟩
  | .local _ .vmem, ⟨1, _⟩ => ⟨S1x1x2048x1792, .bf16⟩
  | .local _ .vmem, ⟨2, _⟩ => ⟨S2x1x512x1792, .fp8e4m3⟩
  | .local _ .vmem, ⟨3, _⟩ => ⟨S2x1x512x1792, .fp8e4m3⟩
  | .local _ .vmem, ⟨4, _⟩ => ⟨S1x1792, .f32⟩
  | .local _ .vmem, ⟨5, _⟩ => ⟨S1x2048x512, .bf16⟩
  | .local _ .vmem, ⟨6, _⟩ => ⟨S1x2048x512, .bf16⟩
  | .local _ .vmem, ⟨7, _⟩ => ⟨S2048x512, .f32⟩
  | .local _ .vmem, ⟨8, _⟩ => ⟨S2048x512, .f32⟩
  | _, _ => ⟨S3x8x2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 7, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_22 : BitVec 32 := 0#32
  let v32 : BitVec 1 := Scalar.cmpi .ne v31 c0_i32_22
  v32

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x512x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxReferenceIdeal.lean ====
abbrev S3x8x2048x1792 : Shape := ⟨4, ![3, 8, 2048, 1792]⟩
abbrev S16x3584x1792 : Shape := ⟨3, ![16, 3584, 1792]⟩
abbrev S1792 : Shape := ⟨1, ![1792]⟩
abbrev S1x1x1792 : Shape := ⟨3, ![1, 1, 1792]⟩
abbrev S2x8x3584x1792 : Shape := ⟨4, ![2, 8, 3584, 1792]⟩
abbrev S3x2048x8x1792 : Shape := ⟨4, ![3, 2048, 8, 1792]⟩
abbrev S3x2047x8x1792 : Shape := ⟨4, ![3, 2047, 8, 1792]⟩
abbrev S1x8x3584x1792 : Shape := ⟨4, ![1, 8, 3584, 1792]⟩
abbrev S8x3584x1792 : Shape := ⟨3, ![8, 3584, 1792]⟩
abbrev S3x2048x3584 : Shape := ⟨3, ![3, 2048, 3584]⟩
abbrev S3x2047x3584 : Shape := ⟨3, ![3, 2047, 3584]⟩
abbrev S_ : Shape := ⟨0, ![]⟩
abbrev S1 : Shape := ⟨1, ![1]⟩

abbrev nBuf : Space → Nat
  | .hbm => 17
  | .vmem => 3
  | .smem => 0
  | _ => 0

abbrev bufTy : (tb : Table) → Fin (tcTables nBuf tb) → BufTy
  | .hbm, ⟨0, _⟩ => ⟨S3x8x2048x1792, .bf16⟩
  | .hbm, ⟨1, _⟩ => ⟨S16x3584x1792, .fp8e4m3⟩
  | .hbm, ⟨2, _⟩ => ⟨S1792, .f32⟩
  | .hbm, ⟨3, _⟩ => ⟨S16x3584x1792, .bf16⟩
  | .hbm, ⟨4, _⟩ => ⟨S2x8x3584x1792, .bf16⟩
  | .hbm, ⟨5, _⟩ => ⟨S3x2048x8x1792, .bf16⟩
  | .hbm, ⟨6, _⟩ => ⟨S3x2047x8x1792, .bf16⟩
  | .hbm, ⟨7, _⟩ => ⟨S1x8x3584x1792, .bf16⟩
  | .hbm, ⟨8, _⟩ => ⟨S8x3584x1792, .bf16⟩
  | .hbm, ⟨9, _⟩ => ⟨S3x2048x3584, .f32⟩
  | .hbm, ⟨10, _⟩ => ⟨S1x8x3584x1792, .bf16⟩
  | .hbm, ⟨11, _⟩ => ⟨S8x3584x1792, .bf16⟩
  | .hbm, ⟨12, _⟩ => ⟨S3x2047x3584, .f32⟩
  | .hbm, ⟨13, _⟩ => ⟨S_, .i32⟩
  | .hbm, ⟨14, _⟩ => ⟨S1, .i32⟩
  | .hbm, ⟨15, _⟩ => ⟨S3x2048x3584, .f32⟩
  | .hbm, ⟨16, _⟩ => ⟨S3x2048x3584, .bf16⟩
  | .local _ .vmem, ⟨0, _⟩ => ⟨S16x3584x1792, .fp8e4m3⟩
  | .local _ .vmem, ⟨1, _⟩ => ⟨S1792, .f32⟩
  | .local _ .vmem, ⟨2, _⟩ => ⟨S16x3584x1792, .bf16⟩
  | _, _ => ⟨S3x8x2048x1792, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x3584x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3584x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Dw.lean ====
abbrev S3x2048x3584 : Shape := ⟨3, ![3, 2048, 3584]⟩
abbrev S3x8x2048x1792 : Shape := ⟨4, ![3, 8, 2048, 1792]⟩
abbrev S6144x3584 : Shape := ⟨2, ![6144, 3584]⟩
abbrev S3584x6144 : Shape := ⟨2, ![3584, 6144]⟩
abbrev S3x2047x3584 : Shape := ⟨3, ![3, 2047, 3584]⟩
abbrev S_ : Shape := ⟨0, ![]⟩
abbrev S7168x6144 : Shape := ⟨2, ![7168, 6144]⟩
abbrev S16x3584x1792 : Shape := ⟨3, ![16, 3584, 1792]⟩
abbrev S896x6144 : Shape := ⟨2, ![896, 6144]⟩
abbrev S3x1x2048x256 : Shape := ⟨4, ![3, 1, 2048, 256]⟩
abbrev S1x896x256 : Shape := ⟨3, ![1, 896, 256]⟩
abbrev S6144x256 : Shape := ⟨2, ![6144, 256]⟩
abbrev S896x256 : Shape := ⟨2, ![896, 256]⟩

abbrev nBuf : Space → Nat
  | .hbm => 12
  | .vmem => 6
  | .smem => 0
  | _ => 0

abbrev bufTy : (tb : Table) → Fin (tcTables nBuf tb) → BufTy
  | .hbm, ⟨0, _⟩ => ⟨S3x2048x3584, .bf16⟩
  | .hbm, ⟨1, _⟩ => ⟨S3x8x2048x1792, .bf16⟩
  | .hbm, ⟨2, _⟩ => ⟨S6144x3584, .bf16⟩
  | .hbm, ⟨3, _⟩ => ⟨S3584x6144, .bf16⟩
  | .hbm, ⟨4, _⟩ => ⟨S3x2047x3584, .bf16⟩
  | .hbm, ⟨5, _⟩ => ⟨S_, .i32⟩
  | .hbm, ⟨6, _⟩ => ⟨S_, .bf16⟩
  | .hbm, ⟨7, _⟩ => ⟨S3x2048x3584, .bf16⟩
  | .hbm, ⟨8, _⟩ => ⟨S6144x3584, .bf16⟩
  | .hbm, ⟨9, _⟩ => ⟨S3584x6144, .bf16⟩
  | .hbm, ⟨10, _⟩ => ⟨S7168x6144, .bf16⟩
  | .hbm, ⟨11, _⟩ => ⟨S16x3584x1792, .f32⟩
  | .local _ .vmem, ⟨0, _⟩ => ⟨S896x6144, .bf16⟩
  | .local _ .vmem, ⟨1, _⟩ => ⟨S896x6144, .bf16⟩
  | .local _ .vmem, ⟨2, _⟩ => ⟨S3x1x2048x256, .bf16⟩
  | .local _ .vmem, ⟨3, _⟩ => ⟨S3x1x2048x256, .bf16⟩
  | .local _ .vmem, ⟨4, _⟩ => ⟨S1x896x256, .f32⟩
  | .local _ .vmem, ⟨5, _⟩ => ⟨S1x896x256, .f32⟩
  | _, _ => ⟨S3x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c7_i32 : BitVec 32 := 7#32
  let v18 : BitVec 32 := Scalar.divsi arg1 c7_i32
  let c0_i32_4 : BitVec 32 := 0#32
  let v19 : BitVec 1 := Scalar.cmpi .sgt arg1 c0_i32_4
  let v20 : BitVec 32 := Scalar.extui v19
  let c0_i32_5 : BitVec 32 := 0#32
  let v21 : BitVec 1 := Scalar.cmpi .slt arg1 c0_i32_5
  let v22 : BitVec 32 := Scalar.extui v21
  let v23 : BitVec 32 := Scalar.subi v20 v22
  let c0_i32_6 : BitVec 32 := 0#32
  let v24 : BitVec 1 := Scalar.cmpi .sgt c7_i32 c0_i32_6
  let v25 : BitVec 32 := Scalar.extui v24
  let c0_i32_7 : BitVec 32 := 0#32
  let v26 : BitVec 1 := Scalar.cmpi .slt c7_i32 c0_i32_7
  let v27 : BitVec 32 := Scalar.extui v26
  let v28 : BitVec 32 := Scalar.subi v25 v27
  let v29 : BitVec 1 := Scalar.cmpi .ne v23 v28
  let v30 : BitVec 32 := Scalar.remsi arg1 c7_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let v35 : BitVec 32 := Scalar.addi v17 v34
  let c4_i32_10 : BitVec 32 := 4#32
  let c0_i32_11 : BitVec 32 := 0#32
  let v36 : BitVec 1 := Scalar.cmpi .eq c4_i32_10 c0_i32_11
  let c1_i32_12 : BitVec 32 := 1#32
  let v37 : BitVec 32 := Scalar.select v36 c1_i32_12 c4_i32_10
  let v38 : BitVec 32 := Scalar.remsi arg0 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c7_i32_16 : BitVec 32 := 7#32
  let c0_i32_17 : BitVec 32 := 0#32
  let v46 : BitVec 1 := Scalar.cmpi .eq c7_i32_16 c0_i32_17
  let c1_i32_18 : BitVec 32 := 1#32
  let v47 : BitVec 32 := Scalar.select v46 c1_i32_18 c7_i32_16
  let v48 : BitVec 32 := Scalar.remsi arg1 v47
  let c0_i32_19 : BitVec 32 := 0#32
  let v49 : BitVec 1 := Scalar.cmpi .ne v48 c0_i32_19
  let c0_i32_20 : BitVec 32 := 0#32
  let v50 : BitVec 1 := Scalar.cmpi .slt v48 c0_i32_20
  let c0_i32_21 : BitVec 32 := 0#32
  let v51 : BitVec 1 := Scalar.cmpi .slt v47 c0_i32_21
  let v52 : BitVec 1 := Scalar.xori v50 v51
  let v53 : BitVec 1 := Scalar.andi v52 v49
  let v54 : BitVec 32 := Scalar.addi v48 v47
  let v55 : BitVec 32 := Scalar.select v53 v54 v48
  let c0_i32_22 : BitVec 32 := 0#32
  ![v35.toNat, v45.toNat, v55.toNat]

abbrev stage0_0 : Fin 2 → Memref sig .tc .vmem S896x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x896x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwReferenceIdeal.lean ====
abbrev S3x2048x3584 : Shape := ⟨3, ![3, 2048, 3584]⟩
abbrev S3x8x2048x1792 : Shape := ⟨4, ![3, 8, 2048, 1792]⟩
abbrev S3x2048x8x1792 : Shape := ⟨4, ![3, 2048, 8, 1792]⟩
abbrev S3x2047x8x1792 : Shape := ⟨4, ![3, 2047, 8, 1792]⟩
abbrev S3x2047x3584 : Shape := ⟨3, ![3, 2047, 3584]⟩
abbrev S8x1792x3584 : Shape := ⟨3, ![8, 1792, 3584]⟩
abbrev S8x3584x1792 : Shape := ⟨3, ![8, 3584, 1792]⟩
abbrev S1x8x3584x1792 : Shape := ⟨4, ![1, 8, 3584, 1792]⟩
abbrev S2x8x3584x1792 : Shape := ⟨4, ![2, 8, 3584, 1792]⟩
abbrev S16x3584x1792 : Shape := ⟨3, ![16, 3584, 1792]⟩

abbrev nBuf : Space → Nat
  | .hbm => 13
  | .vmem => 0
  | .smem => 0
  | _ => 0

abbrev bufTy : (tb : Table) → Fin (tcTables nBuf tb) → BufTy
  | .hbm, ⟨0, _⟩ => ⟨S3x2048x3584, .bf16⟩
  | .hbm, ⟨1, _⟩ => ⟨S3x8x2048x1792, .bf16⟩
  | .hbm, ⟨2, _⟩ => ⟨S3x2048x8x1792, .bf16⟩
  | .hbm, ⟨3, _⟩ => ⟨S3x2047x8x1792, .bf16⟩
  | .hbm, ⟨4, _⟩ => ⟨S3x2047x3584, .bf16⟩
  | .hbm, ⟨5, _⟩ => ⟨S8x1792x3584, .f32⟩
  | .hbm, ⟨6, _⟩ => ⟨S8x3584x1792, .f32⟩
  | .hbm, ⟨7, _⟩ => ⟨S8x1792x3584, .f32⟩
  | .hbm, ⟨8, _⟩ => ⟨S8x3584x1792, .f32⟩
  | .hbm, ⟨9, _⟩ => ⟨S1x8x3584x1792, .f32⟩
  | .hbm, ⟨10, _⟩ => ⟨S1x8x3584x1792, .f32⟩
  | .hbm, ⟨11, _⟩ => ⟨S2x8x3584x1792, .f32⟩
  | .hbm, ⟨12, _⟩ => ⟨S16x3584x1792, .f32⟩
  | _, _ => ⟨S3x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.KernelExpand.lean ====
/- The first call, `expand`, as entered with the buffer contents `V`: what one body run stores (256 blocks of
   32 frames, pieced together), that the stores cover the output block, and that the body meets its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 0: custom_call 0, `cc0_expand` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x8192x128 := Rect.unit (s := S1x8192x128) ![0, 0, 0] S1x8192x128.size inb_S1x8192x128_S1x8192x128_0_0_0
abbrev r0_1 : Rect S1x1024x56 := Rect.unit (s := S1x1024x56) ![0, 0, 0] S1x1024x56.size inb_S1x1024x56_S1x1024x56_0_0_0
abbrev r0_2 : Rect S1x8x1024x128 := Rect.unit (s := S1x8x1024x128) ![0, 0, 0, 0] S1x1x32x128.size inb_S1x8x1024x128_S1x1x32x128_0_0_0_0
abbrev r0_3 : Rect S1x8x1024x128 := Rect.unit (s := S1x8x1024x128) ![0, 1, 0, 0] S1x1x32x128.size inb_S1x8x1024x128_S1x1x32x128_0_1_0_0
abbrev r0_4 : Rect S1x8x1024x128 := Rect.unit (s := S1x8x1024x128) ![0, 2, 0, 0] S1x1x32x128.size inb_S1x8x1024x128_S1x1x32x128_0_2_0_0
abbrev r0_5 : Rect S1x8x1024x128 := Rect.unit (s := S1x8x1024x128) ![0, 3, 0, 0] S1x1x32x128.size inb_S1x8x1024x128_S1x1x32x128_0_3_0_0
abbrev r0_6 : Rect S1x8x1024x128 := Rect.unit (s := S1x8x1024x128) ![0, 4, 0, 0] S1x1x32x128.size inb_S1x8x1024x128_S1x1x32x128_0_4_0_0
abbrev r0_7 : Rect S1x8x1024x128 := Rect.unit (s := S1x8x1024x128) ![0, 5, 0, 0] S1x1x32x128.size inb_S1x8x1024x128_S1x1x32x128_0_5_0_0
abbrev r0_8 : Rect S1x8x1024x128 := Rect.unit (s := S1x8x1024x128) ![0, 6, 0, 0] S1x1x32x128.size inb_S1x8x1024x128_S1x1x32x128_0_6_0_0
abbrev r0_9 : Rect S1x8x1024x128 := Rect.unit (s := S1x8x1024x128) ![0, 7, 0, 0] S1x1x32x128.size inb_S1x8x1024x128_S1x1x32x128_0_7_0_0
abbrev r0_10 : Rect S1x8x1024x128 := Rect.unit (s := S1x8x1024x128) ![0, 0, 32, 0] S1x1x32x128.size inb_S1x8x1024x128_S1x1x32x128_0_0_32_0
abbrev r0_11 : Rect S1x8x1024x128 := Rect.unit (s := S1x8x1024x128) ![0, 1, 32, 0] S1x1x32x128.size inb_S1x8x1024x128_S1x1x32x128_0_1_32_0
abbrev r0_12 : Rect S1x8x1024x128 := Rect.unit (s := S1x8x1024x128) ![0, 2, 32, 0] S1x1x32x128.size inb_S1x8x1024x128_S1x1x32x128_0_2_32_0
abbrev r0_13 : Rect S1x8x1024x128 := Rect.unit (s := S1x8x1024x128) ![0, 3, 32, 0] S1x1x32x128.size inb_S1x8x1024x128_S1x1x32x128_0_3_32_0
abbrev r0_14 : Rect S1x8x1024x128 := Rect.unit (s := S1x8x1024x128) ![0, 4, 32, 0] S1x1x32x128.size inb_S1x8x1024x128_S1x1x32x128_0_4_32_0
abbrev r0_15 : Rect S1x8x1024x128 := Rect.unit (s := S1x8x1024x128) ![0, 5, 32, 0] S1x1x32x128.size inb_S1x8x1024x128_S1x1x32x128_0_5_32_0
abbrev r0_16 : Rect S1x8x1024x128 := Rect.unit (s := S1x8x1024x128) ![0, 6, 32, 0] S1x1x32x128.size inb_S1x8x1024x128_S1x1x32x128_0_6_32_0
abbrev r0_17 : Rect S1x8x1024x128 := Rect.unit (s := S1x8x1024x128) ![0, 7, 32, 0] S1x1x32x128.size inb_S1x8x1024x128_S1x1x32x128_0_7_32_0
abbrev r0_18 : Rect S1x8x1024x128 := Rect.unit (s := S1x8x1024x128) ![0, 0, 64, 0] S1x1x32x128.size inb_S1x8x1024x128_S1x1x32x128_0_0_64_0
abbrev r0_19 : Rect S1x8x1024x128 := Rect.unit (s := S1x8x1024x128) ![0, 1, 64, 0] S1x1x32x128.size inb_S1x8x1024x128_S1x1x32x128_0_1_64_0
abbrev r0_20 : Rect S1x8x1024x128 := Rect.unit (s := S1x8x1024x128) ![0, 2, 64, 0] S1x1x32x128.size inb_S1x8x1024x128_S1x1x32x128_0_2_64_0
abbrev r0_21 : Rect S1x8x1024x128 := Rect.unit (s := S1x8x1024x128) ![0, 3, 64, 0] S1x1x32x128.size inb_S1x8x1024x128_S1x1x32x128_0_3_64_0
abbrev r0_22 : Rect S1x8x1024x128 := Rect.unit (s := S1x8x1024x128) ![0, 4, 64, 0] S1x1x32x128.size inb_S1x8x1024x128_S1x1x32x128_0_4_64_0
abbrev r0_23 : Rect S1x8x1024x128 := Rect.unit (s := S1x8x1024x128) ![0, 5, 64, 0] S1x1x32x128.size inb_S1x8x1024x128_S1x1x32x128_0_5_64_0
abbrev r0_24 : Rect S1x8x1024x128 := Rect.unit (s := S1x8x1024x128) ![0, 6, 64, 0] S1x1x32x128.size inb_S1x8x1024x128_S1x1x32x128_0_6_64_0
abbrev r0_25 : Rect S1x8x1024x128 := Rect.unit (s := S1x8x1024x128) ![0, 7, 64, 0] S1x1x32x128.size inb_S1x8x1024x128_S1x1x32x128_0_7_64_0
abbrev r0_26 : Rect S1x8x1024x128 := Rect.unit (s := S1x8x1024x128) ![0, 0, 96, 0] S1x1x32x128.size inb_S1x8x1024x128_S1x1x32x128_0_0_96_0
abbrev r0_27 : Rect S1x8x1024x128 := Rect.unit (s := S1x8x1024x128) ![0, 1, 96, 0] S1x1x32x128.size inb_S1x8x1024x128_S1x1x32x128_0_1_96_0
abbrev r0_28 : Rect S1x8x1024x128 := Rect.unit (s := S1x8x1024x128) ![0, 2, 96, 0] S1x1x32x128.size inb_S1x8x1024x128_S1x1x32x128_0_2_96_0
abbrev r0_29 : Rect S1x8x1024x128 := Rect.unit (s := S1x8x1024x128) ![0, 3, 96, 0] S1x1x32x128.size inb_S1x8x1024x128_S1x1x32x128_0_3_96_0
abbrev r0_30 : Rect S1x8x1024x128 := Rect.unit (s := S1x8x1024x128) ![0, 4, 96, 0] S1x1x32x128.size inb_S1x8x1024x128_S1x1x32x128_0_4_96_0
abbrev r0_31 : Rect S1x8x1024x128 := Rect.unit (s := S1x8x1024x128) ![0, 5, 96, 0] S1x1x32x128.size inb_S1x8x1024x128_S1x1x32x128_0_5_96_0
abbrev r0_32 : Rect S1x8x1024x128 := Rect.unit (s := S1x8x1024x128) ![0, 6, 96, 0] S1x1x32x128.size inb_S1x8x1024x128_S1x1x32x128_0_6_96_0
abbrev r0_33 : Rect S1x8x1024x128 := Rect.unit (s := S1x8x1024x128) ![0, 7, 96, 0] S1x1x32x128.size inb_S1x8x1024x128_S1x1x32x128_0_7_96_0
abbrev r0_34 : Rect S1x8x1024x128 := Rect.unit (s := S1x8x1024x128) ![0, 0, 128, 0] S1x1x32x128.size inb_S1x8x1024x128_S1x1x32x128_0_0_128_0
abbrev r0_35 : Rect S1x8x1024x128 := Rect.unit (s := S1x8x1024x128) ![0, 1, 128, 0] S1x1x32x128.size inb_S1x8x1024x128_S1x1x32x128_0_1_128_0
abbrev r0_36 : Rect S1x8x1024x128 := Rect.unit (s := S1x8x1024x128) ![0, 2, 128, 0] S1x1x32x128.size inb_S1x8x1024x128_S1x1x32x128_0_2_128_0
abbrev r0_37 : Rect S1x8x1024x128 := Rect.unit (s := S1x8x1024x128) ![0, 3, 128, 0] S1x1x32x128.size inb_S1x8x1024x128_S1x1x32x128_0_3_128_0
abbrev r0_38 : Rect S1x8x1024x128 := Rect.unit (s := S1x8x1024x128) ![0, 4, 128, 0] S1x1x32x128.size inb_S1x8x1024x128_S1x1x32x128_0_4_128_0
abbrev r0_39 : Rect S1x8x1024x128 := Rect.unit (s := S1x8x1024x128) ![0, 5, 128, 0] S1x1x32x128.size inb_S1x8x1024x128_S1x1x32x128_0_5_128_0
abbrev r0_40 : Rect S1x8x1024x128 := Rect.unit (s := S1x8x1024x128) ![0, 6, 128, 0] S1x1x32x128.size inb_S1x8x1024x128_S1x1x32x128_0_6_128_0
abbrev r0_41 : Rect S1x8x1024x128 := Rect.unit (s := S1x8x1024x128) ![0, 7, 128, 0] S1x1x32x128.size inb_S1x8x1024x128_S1x1x32x128_0_7_128_0
abbrev r0_42 : Rect S1x8x1024x128 := Rect.unit (s := S1x8x1024x128) ![0, 0, 160, 0] S1x1x32x128.size inb_S1x8x1024x128_S1x1x32x128_0_0_160_0
abbrev r0_43 : Rect S1x8x1024x128 := Rect.unit (s := S1x8x1024x128) ![0, 1, 160, 0] S1x1x32x128.size inb_S1x8x1024x128_S1x1x32x128_0_1_160_0
abbrev r0_44 : Rect S1x8x1024x128 := Rect.unit (s := S1x8x1024x128) ![0, 2, 160, 0] S1x1x32x128.size inb_S1x8x1024x128_S1x1x32x128_0_2_160_0
abbrev r0_45 : Rect S1x8x1024x128 := Rect.unit (s := S1x8x1024x128) ![0, 3, 160, 0] S1x1x32x128.size inb_S1x8x1024x128_S1x1x32x128_0_3_160_0
abbrev r0_46 : Rect S1x8x1024x128 := Rect.unit (s := S1x8x1024x128) ![0, 4, 160, 0] S1x1x32x128.size inb_S1x8x1024x128_S1x1x32x128_0_4_160_0
abbrev r0_47 : Rect S1x8x1024x128 := Rect.unit (s := S1x8x1024x128) ![0, 5, 160, 0] S1x1x32x128.size inb_S1x8x1024x128_S1x1x32x128_0_5_160_0
abbrev r0_48 : Rect S1x8x1024x128 := Rect.unit (s := S1x8x1024x128) ![0, 6, 160, 0] S1x1x32x128.size inb_S1x8x1024x128_S1x1x32x128_0_6_160_0
abbrev r0_49 : Rect S1x8x1024x128 := Rect.unit (s := S1x8x1024x128) ![0, 7, 160, 0] S1x1x32x128.size inb_S1x8x1024x128_S1x1x32x128_0_7_160_0
abbrev r0_50 : Rect S1x8x1024x128 := Rect.unit (s := S1x8x1024x128) ![0, 0, 192, 0] S1x1x32x128.size inb_S1x8x1024x128_S1x1x32x128_0_0_192_0
abbrev r0_51 : Rect S1x8x1024x128 := Rect.unit (s := S1x8x1024x128) ![0, 1, 192, 0] S1x1x32x128.size inb_S1x8x1024x128_S1x1x32x128_0_1_192_0
abbrev r0_52 : Rect S1x8x1024x128 := Rect.unit (s := S1x8x1024x128) ![0, 2, 192, 0] S1x1x32x128.size inb_S1x8x1024x128_S1x1x32x128_0_2_192_0
abbrev r0_53 : Rect S1x8x1024x128 := Rect.unit (s := S1x8x1024x128) ![0, 3, 192, 0] S1x1x32x128.size inb_S1x8x1024x128_S1x1x32x128_0_3_192_0
abbrev r0_54 : Rect S1x8x1024x128 := Rect.unit (s := S1x8x1024x128) ![0, 4, 192, 0] S1x1x32x128.size inb_S1x8x1024x128_S1x1x32x128_0_4_192_0
abbrev r0_55 : Rect S1x8x1024x128 := Rect.unit (s := S1x8x1024x128) ![0, 5, 192, 0] S1x1x32x128.size inb_S1x8x1024x128_S1x1x32x128_0_5_192_0
abbrev r0_56 : Rect S1x8x1024x128 := Rect.unit (s := S1x8x1024x128) ![0, 6, 192, 0] S1x1x32x128.size inb_S1x8x1024x128_S1x1x32x128_0_6_192_0
abbrev r0_57 : Rect S1x8x1024x128 := Rect.unit (s := S1x8x1024x128) ![0, 7, 192, 0] S1x1x32x128.size inb_S1x8x1024x128_S1x1x32x128_0_7_192_0
abbrev r0_58 : Rect S1x8x1024x128 := Rect.unit (s := S1x8x1024x128) ![0, 0, 224, 0] S1x1x32x128.size inb_S1x8x1024x128_S1x1x32x128_0_0_224_0
abbrev r0_59 : Rect S1x8x1024x128 := Rect.unit (s := S1x8x1024x128) ![0, 1, 224, 0] S1x1x32x128.size inb_S1x8x1024x128_S1x1x32x128_0_1_224_0
abbrev r0_60 : Rect S1x8x1024x128 := Rect.unit (s := S1x8x1024x128) ![0, 2, 224, 0] S1x1x32x128.size inb_S1x8x1024x128_S1x1x32x128_0_2_224_0
abbrev r0_61 : Rect S1x8x1024x128 := Rect.unit (s := S1x8x1024x128) ![0, 3, 224, 0] S1x1x32x128.size inb_S1x8x1024x128_S1x1x32x128_0_3_224_0
abbrev r0_62 : Rect S1x8x1024x128 := Rect.unit (s := S1x8x1024x128) ![0, 4, 224, 0] S1x1x32x128.size inb_S1x8x1024x128_S1x1x32x128_0_4_224_0
abbrev r0_63 : Rect S1x8x1024x128 := Rect.unit (s := S1x8x1024x128) ![0, 5, 224, 0] S1x1x32x128.size inb_S1x8x1024x128_S1x1x32x128_0_5_224_0
abbrev r0_64 : Rect S1x8x1024x128 := Rect.unit (s := S1x8x1024x128) ![0, 6, 224, 0] S1x1x32x128.size inb_S1x8x1024x128_S1x1x32x128_0_6_224_0
abbrev r0_65 : Rect S1x8x1024x128 := Rect.unit (s := S1x8x1024x128) ![0, 7, 224, 0] S1x1x32x128.size inb_S1x8x1024x128_S1x1x32x128_0_7_224_0
abbrev r0_66 : Rect S1x8x1024x128 := Rect.unit (s := S1x8x1024x128) ![0, 0, 256, 0] S1x1x32x128.size inb_S1x8x1024x128_S1x1x32x128_0_0_256_0
abbrev r0_67 : Rect S1x8x1024x128 := Rect.unit (s := S1x8x1024x128) ![0, 1, 256, 0] S1x1x32x128.size inb_S1x8x1024x128_S1x1x32x128_0_1_256_0
abbrev r0_68 : Rect S1x8x1024x128 := Rect.unit (s := S1x8x1024x128) ![0, 2, 256, 0] S1x1x32x128.size inb_S1x8x1024x128_S1x1x32x128_0_2_256_0
abbrev r0_69 : Rect S1x8x1024x128 := Rect.unit (s := S1x8x1024x128) ![0, 3, 256, 0] S1x1x32x128.size inb_S1x8x1024x128_S1x1x32x128_0_3_256_0
abbrev r0_70 : Rect S1x8x1024x128 := Rect.unit (s := S1x8x1024x128) ![0, 4, 256, 0] S1x1x32x128.size inb_S1x8x1024x128_S1x1x32x128_0_4_256_0
abbrev r0_71 : Rect S1x8x1024x128 := Rect.unit (s := S1x8x1024x128) ![0, 5, 256, 0] S1x1x32x128.size inb_S1x8x1024x128_S1x1x32x128_0_5_256_0
abbrev r0_72 : Rect S1x8x1024x128 := Rect.unit (s := S1x8x1024x128) ![0, 6, 256, 0] S1x1x32x128.size inb_S1x8x1024x128_S1x1x32x128_0_6_256_0
abbrev r0_73 : Rect S1x8x1024x128 := Rect.unit (s := S1x8x1024x128) ![0, 7, 256, 0] S1x1x32x128.size inb_S1x8x1024x128_S1x1x32x128_0_7_256_0
abbrev r0_74 : Rect S1x8x1024x128 := Rect.unit (s := S1x8x1024x128) ![0, 0, 288, 0] S1x1x32x128.size inb_S1x8x1024x128_S1x1x32x128_0_0_288_0
abbrev r0_75 : Rect S1x8x1024x128 := Rect.unit (s := S1x8x1024x128) ![0, 1, 288, 0] S1x1x32x128.size inb_S1x8x1024x128_S1x1x32x128_0_1_288_0
abbrev r0_76 : Rect S1x8x1024x128 := Rect.unit (s := S1x8x1024x128) ![0, 2, 288, 0] S1x1x32x128.size inb_S1x8x1024x128_S1x1x32x128_0_2_288_0
abbrev r0_77 : Rect S1x8x1024x128 := Rect.unit (s := S1x8x1024x128) ![0, 3, 288, 0] S1x1x32x128.size inb_S1x8x1024x128_S1x1x32x128_0_3_288_0
abbrev r0_78 : Rect S1x8x1024x128 := Rect.unit (s := S1x8x1024x128) ![0, 4, 288, 0] S1x1x32x128.size inb_S1x8x1024x128_S1x1x32x128_0_4_288_0
abbrev r0_79 : Rect S1x8x1024x128 := Rect.unit (s := S1x8x1024x128) ![0, 5, 288, 0] S1x1x32x128.size inb_S1x8x1024x128_S1x1x32x128_0_5_288_0
abbrev r0_80 : Rect S1x8x1024x128 := Rect.unit (s := S1x8x1024x128) ![0, 6, 288, 0] S1x1x32x128.size inb_S1x8x1024x128_S1x1x32x128_0_6_288_0
abbrev r0_81 : Rect S1x8x1024x128 := Rect.unit (s := S1x8x1024x128) ![0, 7, 288, 0] S1x1x32x128.size inb_S1x8x1024x128_S1x1x32x128_0_7_288_0
abbrev r0_82 : Rect S1x8x1024x128 := Rect.unit (s := S1x8x1024x128) ![0, 0, 320, 0] S1x1x32x128.size inb_S1x8x1024x128_S1x1x32x128_0_0_320_0
abbrev r0_83 : Rect S1x8x1024x128 := Rect.unit (s := S1x8x1024x128) ![0, 1, 320, 0] S1x1x32x128.size inb_S1x8x1024x128_S1x1x32x128_0_1_320_0
abbrev r0_84 : Rect S1x8x1024x128 := Rect.unit (s := S1x8x1024x128) ![0, 2, 320, 0] S1x1x32x128.size inb_S1x8x1024x128_S1x1x32x128_0_2_320_0
abbrev r0_85 : Rect S1x8x1024x128 := Rect.unit (s := S1x8x1024x128) ![0, 3, 320, 0] S1x1x32x128.size inb_S1x8x1024x128_S1x1x32x128_0_3_320_0
abbrev r0_86 : Rect S1x8x1024x128 := Rect.unit (s := S1x8x1024x128) ![0, 4, 320, 0] S1x1x32x128.size inb_S1x8x1024x128_S1x1x32x128_0_4_320_0
abbrev r0_87 : Rect S1x8x1024x128 := Rect.unit (s := S1x8x1024x128) ![0, 5, 320, 0] S1x1x32x128.size inb_S1x8x1024x128_S1x1x32x128_0_5_320_0
abbrev r0_88 : Rect S1x8x1024x128 := Rect.unit (s := S1x8x1024x128) ![0, 6, 320, 0] S1x1x32x128.size inb_S1x8x1024x128_S1x1x32x128_0_6_320_0
abbrev r0_89 : Rect S1x8x1024x128 := Rect.unit (s := S1x8x1024x128) ![0, 7, 320, 0] S1x1x32x128.size inb_S1x8x1024x128_S1x1x32x128_0_7_320_0
abbrev r0_90 : Rect S1x8x1024x128 := Rect.unit (s := S1x8x1024x128) ![0, 0, 352, 0] S1x1x32x128.size inb_S1x8x1024x128_S1x1x32x128_0_0_352_0
abbrev r0_91 : Rect S1x8x1024x128 := Rect.unit (s := S1x8x1024x128) ![0, 1, 352, 0] S1x1x32x128.size inb_S1x8x1024x128_S1x1x32x128_0_1_352_0
abbrev r0_92 : Rect S1x8x1024x128 := Rect.unit (s := S1x8x1024x128) ![0, 2, 352, 0] S1x1x32x128.size inb_S1x8x1024x128_S1x1x32x128_0_2_352_0
abbrev r0_93 : Rect S1x8x1024x128 := Rect.unit (s := S1x8x1024x128) ![0, 3, 352, 0] S1x1x32x128.size inb_S1x8x1024x128_S1x1x32x128_0_3_352_0
abbrev r0_94 : Rect S1x8x1024x128 := Rect.unit (s := S1x8x1024x128) ![0, 4, 352, 0] S1x1x32x128.size inb_S1x8x1024x128_S1x1x32x128_0_4_352_0
abbrev r0_95 : Rect S1x8x1024x128 := Rect.unit (s := S1x8x1024x128) ![0, 5, 352, 0] S1x1x32x128.size inb_S1x8x1024x128_S1x1x32x128_0_5_352_0
abbrev r0_96 : Rect S1x8x1024x128 := Rect.unit (s := S1x8x1024x128) ![0, 6, 352, 0] S1x1x32x128.size inb_S1x8x1024x128_S1x1x32x128_0_6_352_0
abbrev r0_97 : Rect S1x8x1024x128 := Rect.unit (s := S1x8x1024x128) ![0, 7, 352, 0] S1x1x32x128.size inb_S1x8x1024x128_S1x1x32x128_0_7_352_0
abbrev r0_98 : Rect S1x8x1024x128 := Rect.unit (s := S1x8x1024x128) ![0, 0, 384, 0] S1x1x32x128.size inb_S1x8x1024x128_S1x1x32x128_0_0_384_0
abbrev r0_99 : Rect S1x8x1024x128 := Rect.unit (s := S1x8x1024x128) ![0, 1, 384, 0] S1x1x32x128.size inb_S1x8x1024x128_S1x1x32x128_0_1_384_0
abbrev r0_100 : Rect S1x8x1024x128 := Rect.unit (s := S1x8x1024x128) ![0, 2, 384, 0] S1x1x32x128.size inb_S1x8x1024x128_S1x1x32x128_0_2_384_0
abbrev r0_101 : Rect S1x8x1024x128 := Rect.unit (s := S1x8x1024x128) ![0, 3, 384, 0] S1x1x32x128.size inb_S1x8x1024x128_S1x1x32x128_0_3_384_0
abbrev r0_102 : Rect S1x8x1024x128 := Rect.unit (s := S1x8x1024x128) ![0, 4, 384, 0] S1x1x32x128.size inb_S1x8x1024x128_S1x1x32x128_0_4_384_0
abbrev r0_103 : Rect S1x8x1024x128 := Rect.unit (s := S1x8x1024x128) ![0, 5, 384, 0] S1x1x32x128.size inb_S1x8x1024x128_S1x1x32x128_0_5_384_0
abbrev r0_104 : Rect S1x8x1024x128 := Rect.unit (s := S1x8x1024x128) ![0, 6, 384, 0] S1x1x32x128.size inb_S1x8x1024x128_S1x1x32x128_0_6_384_0
abbrev r0_105 : Rect S1x8x1024x128 := Rect.unit (s := S1x8x1024x128) ![0, 7, 384, 0] S1x1x32x128.size inb_S1x8x1024x128_S1x1x32x128_0_7_384_0
abbrev r0_106 : Rect S1x8x1024x128 := Rect.unit (s := S1x8x1024x128) ![0, 0, 416, 0] S1x1x32x128.size inb_S1x8x1024x128_S1x1x32x128_0_0_416_0
abbrev r0_107 : Rect S1x8x1024x128 := Rect.unit (s := S1x8x1024x128) ![0, 1, 416, 0] S1x1x32x128.size inb_S1x8x1024x128_S1x1x32x128_0_1_416_0
abbrev r0_108 : Rect S1x8x1024x128 := Rect.unit (s := S1x8x1024x128) ![0, 2, 416, 0] S1x1x32x128.size inb_S1x8x1024x128_S1x1x32x128_0_2_416_0
abbrev r0_109 : Rect S1x8x1024x128 := Rect.unit (s := S1x8x1024x128) ![0, 3, 416, 0] S1x1x32x128.size inb_S1x8x1024x128_S1x1x32x128_0_3_416_0
abbrev r0_110 : Rect S1x8x1024x128 := Rect.unit (s := S1x8x1024x128) ![0, 4, 416, 0] S1x1x32x128.size inb_S1x8x1024x128_S1x1x32x128_0_4_416_0
abbrev r0_111 : Rect S1x8x1024x128 := Rect.unit (s := S1x8x1024x128) ![0, 5, 416, 0] S1x1x32x128.size inb_S1x8x1024x128_S1x1x32x128_0_5_416_0
abbrev r0_112 : Rect S1x8x1024x128 := Rect.unit (s := S1x8x1024x128) ![0, 6, 416, 0] S1x1x32x128.size inb_S1x8x1024x128_S1x1x32x128_0_6_416_0
abbrev r0_113 : Rect S1x8x1024x128 := Rect.unit (s := S1x8x1024x128) ![0, 7, 416, 0] S1x1x32x128.size inb_S1x8x1024x128_S1x1x32x128_0_7_416_0
abbrev r0_114 : Rect S1x8x1024x128 := Rect.unit (s := S1x8x1024x128) ![0, 0, 448, 0] S1x1x32x128.size inb_S1x8x1024x128_S1x1x32x128_0_0_448_0
abbrev r0_115 : Rect S1x8x1024x128 := Rect.unit (s := S1x8x1024x128) ![0, 1, 448, 0] S1x1x32x128.size inb_S1x8x1024x128_S1x1x32x128_0_1_448_0
abbrev r0_116 : Rect S1x8x1024x128 := Rect.unit (s := S1x8x1024x128) ![0, 2, 448, 0] S1x1x32x128.size inb_S1x8x1024x128_S1x1x32x128_0_2_448_0
abbrev r0_117 : Rect S1x8x1024x128 := Rect.unit (s := S1x8x1024x128) ![0, 3, 448, 0] S1x1x32x128.size inb_S1x8x1024x128_S1x1x32x128_0_3_448_0
abbrev r0_118 : Rect S1x8x1024x128 := Rect.unit (s := S1x8x1024x128) ![0, 4, 448, 0] S1x1x32x128.size inb_S1x8x1024x128_S1x1x32x128_0_4_448_0
abbrev r0_119 : Rect S1x8x1024x128 := Rect.unit (s := S1x8x1024x128) ![0, 5, 448, 0] S1x1x32x128.size inb_S1x8x1024x128_S1x1x32x128_0_5_448_0
abbrev r0_120 : Rect S1x8x1024x128 := Rect.unit (s := S1x8x1024x128) ![0, 6, 448, 0] S1x1x32x128.size inb_S1x8x1024x128_S1x1x32x128_0_6_448_0
abbrev r0_121 : Rect S1x8x1024x128 := Rect.unit (s := S1x8x1024x128) ![0, 7, 448, 0] S1x1x32x128.size inb_S1x8x1024x128_S1x1x32x128_0_7_448_0
abbrev r0_122 : Rect S1x8x1024x128 := Rect.unit (s := S1x8x1024x128) ![0, 0, 480, 0] S1x1x32x128.size inb_S1x8x1024x128_S1x1x32x128_0_0_480_0
abbrev r0_123 : Rect S1x8x1024x128 := Rect.unit (s := S1x8x1024x128) ![0, 1, 480, 0] S1x1x32x128.size inb_S1x8x1024x128_S1x1x32x128_0_1_480_0
abbrev r0_124 : Rect S1x8x1024x128 := Rect.unit (s := S1x8x1024x128) ![0, 2, 480, 0] S1x1x32x128.size inb_S1x8x1024x128_S1x1x32x128_0_2_480_0
abbrev r0_125 : Rect S1x8x1024x128 := Rect.unit (s := S1x8x1024x128) ![0, 3, 480, 0] S1x1x32x128.size inb_S1x8x1024x128_S1x1x32x128_0_3_480_0
abbrev r0_126 : Rect S1x8x1024x128 := Rect.unit (s := S1x8x1024x128) ![0, 4, 480, 0] S1x1x32x128.size inb_S1x8x1024x128_S1x1x32x128_0_4_480_0
abbrev r0_127 : Rect S1x8x1024x128 := Rect.unit (s := S1x8x1024x128) ![0, 5, 480, 0] S1x1x32x128.size inb_S1x8x1024x128_S1x1x32x128_0_5_480_0
abbrev r0_128 : Rect S1x8x1024x128 := Rect.unit (s := S1x8x1024x128) ![0, 6, 480, 0] S1x1x32x128.size inb_S1x8x1024x128_S1x1x32x128_0_6_480_0
abbrev r0_129 : Rect S1x8x1024x128 := Rect.unit (s := S1x8x1024x128) ![0, 7, 480, 0] S1x1x32x128.size inb_S1x8x1024x128_S1x1x32x128_0_7_480_0
abbrev r0_130 : Rect S1x8x1024x128 := Rect.unit (s := S1x8x1024x128) ![0, 0, 512, 0] S1x1x32x128.size inb_S1x8x1024x128_S1x1x32x128_0_0_512_0
abbrev r0_131 : Rect S1x8x1024x128 := Rect.unit (s := S1x8x1024x128) ![0, 1, 512, 0] S1x1x32x128.size inb_S1x8x1024x128_S1x1x32x128_0_1_512_0
abbrev r0_132 : Rect S1x8x1024x128 := Rect.unit (s := S1x8x1024x128) ![0, 2, 512, 0] S1x1x32x128.size inb_S1x8x1024x128_S1x1x32x128_0_2_512_0
abbrev r0_133 : Rect S1x8x1024x128 := Rect.unit (s := S1x8x1024x128) ![0, 3, 512, 0] S1x1x32x128.size inb_S1x8x1024x128_S1x1x32x128_0_3_512_0
abbrev r0_134 : Rect S1x8x1024x128 := Rect.unit (s := S1x8x1024x128) ![0, 4, 512, 0] S1x1x32x128.size inb_S1x8x1024x128_S1x1x32x128_0_4_512_0
abbrev r0_135 : Rect S1x8x1024x128 := Rect.unit (s := S1x8x1024x128) ![0, 5, 512, 0] S1x1x32x128.size inb_S1x8x1024x128_S1x1x32x128_0_5_512_0
abbrev r0_136 : Rect S1x8x1024x128 := Rect.unit (s := S1x8x1024x128) ![0, 6, 512, 0] S1x1x32x128.size inb_S1x8x1024x128_S1x1x32x128_0_6_512_0
abbrev r0_137 : Rect S1x8x1024x128 := Rect.unit (s := S1x8x1024x128) ![0, 7, 512, 0] S1x1x32x128.size inb_S1x8x1024x128_S1x1x32x128_0_7_512_0
abbrev r0_138 : Rect S1x8x1024x128 := Rect.unit (s := S1x8x1024x128) ![0, 0, 544, 0] S1x1x32x128.size inb_S1x8x1024x128_S1x1x32x128_0_0_544_0
abbrev r0_139 : Rect S1x8x1024x128 := Rect.unit (s := S1x8x1024x128) ![0, 1, 544, 0] S1x1x32x128.size inb_S1x8x1024x128_S1x1x32x128_0_1_544_0
abbrev r0_140 : Rect S1x8x1024x128 := Rect.unit (s := S1x8x1024x128) ![0, 2, 544, 0] S1x1x32x128.size inb_S1x8x1024x128_S1x1x32x128_0_2_544_0
abbrev r0_141 : Rect S1x8x1024x128 := Rect.unit (s := S1x8x1024x128) ![0, 3, 544, 0] S1x1x32x128.size inb_S1x8x1024x128_S1x1x32x128_0_3_544_0
abbrev r0_142 : Rect S1x8x1024x128 := Rect.unit (s := S1x8x1024x128) ![0, 4, 544, 0] S1x1x32x128.size inb_S1x8x1024x128_S1x1x32x128_0_4_544_0
abbrev r0_143 : Rect S1x8x1024x128 := Rect.unit (s := S1x8x1024x128) ![0, 5, 544, 0] S1x1x32x128.size inb_S1x8x1024x128_S1x1x32x128_0_5_544_0
abbrev r0_144 : Rect S1x8x1024x128 := Rect.unit (s := S1x8x1024x128) ![0, 6, 544, 0] S1x1x32x128.size inb_S1x8x1024x128_S1x1x32x128_0_6_544_0
abbrev r0_145 : Rect S1x8x1024x128 := Rect.unit (s := S1x8x1024x128) ![0, 7, 544, 0] S1x1x32x128.size inb_S1x8x1024x128_S1x1x32x128_0_7_544_0
abbrev r0_146 : Rect S1x8x1024x128 := Rect.unit (s := S1x8x1024x128) ![0, 0, 576, 0] S1x1x32x128.size inb_S1x8x1024x128_S1x1x32x128_0_0_576_0
abbrev r0_147 : Rect S1x8x1024x128 := Rect.unit (s := S1x8x1024x128) ![0, 1, 576, 0] S1x1x32x128.size inb_S1x8x1024x128_S1x1x32x128_0_1_576_0
abbrev r0_148 : Rect S1x8x1024x128 := Rect.unit (s := S1x8x1024x128) ![0, 2, 576, 0] S1x1x32x128.size inb_S1x8x1024x128_S1x1x32x128_0_2_576_0
abbrev r0_149 : Rect S1x8x1024x128 := Rect.unit (s := S1x8x1024x128) ![0, 3, 576, 0] S1x1x32x128.size inb_S1x8x1024x128_S1x1x32x128_0_3_576_0
abbrev r0_150 : Rect S1x8x1024x128 := Rect.unit (s := S1x8x1024x128) ![0, 4, 576, 0] S1x1x32x128.size inb_S1x8x1024x128_S1x1x32x128_0_4_576_0
abbrev r0_151 : Rect S1x8x1024x128 := Rect.unit (s := S1x8x1024x128) ![0, 5, 576, 0] S1x1x32x128.size inb_S1x8x1024x128_S1x1x32x128_0_5_576_0
abbrev r0_152 : Rect S1x8x1024x128 := Rect.unit (s := S1x8x1024x128) ![0, 6, 576, 0] S1x1x32x128.size inb_S1x8x1024x128_S1x1x32x128_0_6_576_0
abbrev r0_153 : Rect S1x8x1024x128 := Rect.unit (s := S1x8x1024x128) ![0, 7, 576, 0] S1x1x32x128.size inb_S1x8x1024x128_S1x1x32x128_0_7_576_0
abbrev r0_154 : Rect S1x8x1024x128 := Rect.unit (s := S1x8x1024x128) ![0, 0, 608, 0] S1x1x32x128.size inb_S1x8x1024x128_S1x1x32x128_0_0_608_0
abbrev r0_155 : Rect S1x8x1024x128 := Rect.unit (s := S1x8x1024x128) ![0, 1, 608, 0] S1x1x32x128.size inb_S1x8x1024x128_S1x1x32x128_0_1_608_0
abbrev r0_156 : Rect S1x8x1024x128 := Rect.unit (s := S1x8x1024x128) ![0, 2, 608, 0] S1x1x32x128.size inb_S1x8x1024x128_S1x1x32x128_0_2_608_0
abbrev r0_157 : Rect S1x8x1024x128 := Rect.unit (s := S1x8x1024x128) ![0, 3, 608, 0] S1x1x32x128.size inb_S1x8x1024x128_S1x1x32x128_0_3_608_0
abbrev r0_158 : Rect S1x8x1024x128 := Rect.unit (s := S1x8x1024x128) ![0, 4, 608, 0] S1x1x32x128.size inb_S1x8x1024x128_S1x1x32x128_0_4_608_0
abbrev r0_159 : Rect S1x8x1024x128 := Rect.unit (s := S1x8x1024x128) ![0, 5, 608, 0] S1x1x32x128.size inb_S1x8x1024x128_S1x1x32x128_0_5_608_0
abbrev r0_160 : Rect S1x8x1024x128 := Rect.unit (s := S1x8x1024x128) ![0, 6, 608, 0] S1x1x32x128.size inb_S1x8x1024x128_S1x1x32x128_0_6_608_0
abbrev r0_161 : Rect S1x8x1024x128 := Rect.unit (s := S1x8x1024x128) ![0, 7, 608, 0] S1x1x32x128.size inb_S1x8x1024x128_S1x1x32x128_0_7_608_0
abbrev r0_162 : Rect S1x8x1024x128 := Rect.unit (s := S1x8x1024x128) ![0, 0, 640, 0] S1x1x32x128.size inb_S1x8x1024x128_S1x1x32x128_0_0_640_0
abbrev r0_163 : Rect S1x8x1024x128 := Rect.unit (s := S1x8x1024x128) ![0, 1, 640, 0] S1x1x32x128.size inb_S1x8x1024x128_S1x1x32x128_0_1_640_0
abbrev r0_164 : Rect S1x8x1024x128 := Rect.unit (s := S1x8x1024x128) ![0, 2, 640, 0] S1x1x32x128.size inb_S1x8x1024x128_S1x1x32x128_0_2_640_0
abbrev r0_165 : Rect S1x8x1024x128 := Rect.unit (s := S1x8x1024x128) ![0, 3, 640, 0] S1x1x32x128.size inb_S1x8x1024x128_S1x1x32x128_0_3_640_0
abbrev r0_166 : Rect S1x8x1024x128 := Rect.unit (s := S1x8x1024x128) ![0, 4, 640, 0] S1x1x32x128.size inb_S1x8x1024x128_S1x1x32x128_0_4_640_0
abbrev r0_167 : Rect S1x8x1024x128 := Rect.unit (s := S1x8x1024x128) ![0, 5, 640, 0] S1x1x32x128.size inb_S1x8x1024x128_S1x1x32x128_0_5_640_0
abbrev r0_168 : Rect S1x8x1024x128 := Rect.unit (s := S1x8x1024x128) ![0, 6, 640, 0] S1x1x32x128.size inb_S1x8x1024x128_S1x1x32x128_0_6_640_0
abbrev r0_169 : Rect S1x8x1024x128 := Rect.unit (s := S1x8x1024x128) ![0, 7, 640, 0] S1x1x32x128.size inb_S1x8x1024x128_S1x1x32x128_0_7_640_0
abbrev r0_170 : Rect S1x8x1024x128 := Rect.unit (s := S1x8x1024x128) ![0, 0, 672, 0] S1x1x32x128.size inb_S1x8x1024x128_S1x1x32x128_0_0_672_0
abbrev r0_171 : Rect S1x8x1024x128 := Rect.unit (s := S1x8x1024x128) ![0, 1, 672, 0] S1x1x32x128.size inb_S1x8x1024x128_S1x1x32x128_0_1_672_0
abbrev r0_172 : Rect S1x8x1024x128 := Rect.unit (s := S1x8x1024x128) ![0, 2, 672, 0] S1x1x32x128.size inb_S1x8x1024x128_S1x1x32x128_0_2_672_0
abbrev r0_173 : Rect S1x8x1024x128 := Rect.unit (s := S1x8x1024x128) ![0, 3, 672, 0] S1x1x32x128.size inb_S1x8x1024x128_S1x1x32x128_0_3_672_0
abbrev r0_174 : Rect S1x8x1024x128 := Rect.unit (s := S1x8x1024x128) ![0, 4, 672, 0] S1x1x32x128.size inb_S1x8x1024x128_S1x1x32x128_0_4_672_0
abbrev r0_175 : Rect S1x8x1024x128 := Rect.unit (s := S1x8x1024x128) ![0, 5, 672, 0] S1x1x32x128.size inb_S1x8x1024x128_S1x1x32x128_0_5_672_0
abbrev r0_176 : Rect S1x8x1024x128 := Rect.unit (s := S1x8x1024x128) ![0, 6, 672, 0] S1x1x32x128.size inb_S1x8x1024x128_S1x1x32x128_0_6_672_0
abbrev r0_177 : Rect S1x8x1024x128 := Rect.unit (s := S1x8x1024x128) ![0, 7, 672, 0] S1x1x32x128.size inb_S1x8x1024x128_S1x1x32x128_0_7_672_0
abbrev r0_178 : Rect S1x8x1024x128 := Rect.unit (s := S1x8x1024x128) ![0, 0, 704, 0] S1x1x32x128.size inb_S1x8x1024x128_S1x1x32x128_0_0_704_0
abbrev r0_179 : Rect S1x8x1024x128 := Rect.unit (s := S1x8x1024x128) ![0, 1, 704, 0] S1x1x32x128.size inb_S1x8x1024x128_S1x1x32x128_0_1_704_0
abbrev r0_180 : Rect S1x8x1024x128 := Rect.unit (s := S1x8x1024x128) ![0, 2, 704, 0] S1x1x32x128.size inb_S1x8x1024x128_S1x1x32x128_0_2_704_0
abbrev r0_181 : Rect S1x8x1024x128 := Rect.unit (s := S1x8x1024x128) ![0, 3, 704, 0] S1x1x32x128.size inb_S1x8x1024x128_S1x1x32x128_0_3_704_0
abbrev r0_182 : Rect S1x8x1024x128 := Rect.unit (s := S1x8x1024x128) ![0, 4, 704, 0] S1x1x32x128.size inb_S1x8x1024x128_S1x1x32x128_0_4_704_0
abbrev r0_183 : Rect S1x8x1024x128 := Rect.unit (s := S1x8x1024x128) ![0, 5, 704, 0] S1x1x32x128.size inb_S1x8x1024x128_S1x1x32x128_0_5_704_0
abbrev r0_184 : Rect S1x8x1024x128 := Rect.unit (s := S1x8x1024x128) ![0, 6, 704, 0] S1x1x32x128.size inb_S1x8x1024x128_S1x1x32x128_0_6_704_0
abbrev r0_185 : Rect S1x8x1024x128 := Rect.unit (s := S1x8x1024x128) ![0, 7, 704, 0] S1x1x32x128.size inb_S1x8x1024x128_S1x1x32x128_0_7_704_0
abbrev r0_186 : Rect S1x8x1024x128 := Rect.unit (s := S1x8x1024x128) ![0, 0, 736, 0] S1x1x32x128.size inb_S1x8x1024x128_S1x1x32x128_0_0_736_0
abbrev r0_187 : Rect S1x8x1024x128 := Rect.unit (s := S1x8x1024x128) ![0, 1, 736, 0] S1x1x32x128.size inb_S1x8x1024x128_S1x1x32x128_0_1_736_0
abbrev r0_188 : Rect S1x8x1024x128 := Rect.unit (s := S1x8x1024x128) ![0, 2, 736, 0] S1x1x32x128.size inb_S1x8x1024x128_S1x1x32x128_0_2_736_0
abbrev r0_189 : Rect S1x8x1024x128 := Rect.unit (s := S1x8x1024x128) ![0, 3, 736, 0] S1x1x32x128.size inb_S1x8x1024x128_S1x1x32x128_0_3_736_0
abbrev r0_190 : Rect S1x8x1024x128 := Rect.unit (s := S1x8x1024x128) ![0, 4, 736, 0] S1x1x32x128.size inb_S1x8x1024x128_S1x1x32x128_0_4_736_0
abbrev r0_191 : Rect S1x8x1024x128 := Rect.unit (s := S1x8x1024x128) ![0, 5, 736, 0] S1x1x32x128.size inb_S1x8x1024x128_S1x1x32x128_0_5_736_0
abbrev r0_192 : Rect S1x8x1024x128 := Rect.unit (s := S1x8x1024x128) ![0, 6, 736, 0] S1x1x32x128.size inb_S1x8x1024x128_S1x1x32x128_0_6_736_0
abbrev r0_193 : Rect S1x8x1024x128 := Rect.unit (s := S1x8x1024x128) ![0, 7, 736, 0] S1x1x32x128.size inb_S1x8x1024x128_S1x1x32x128_0_7_736_0
abbrev r0_194 : Rect S1x8x1024x128 := Rect.unit (s := S1x8x1024x128) ![0, 0, 768, 0] S1x1x32x128.size inb_S1x8x1024x128_S1x1x32x128_0_0_768_0
abbrev r0_195 : Rect S1x8x1024x128 := Rect.unit (s := S1x8x1024x128) ![0, 1, 768, 0] S1x1x32x128.size inb_S1x8x1024x128_S1x1x32x128_0_1_768_0
abbrev r0_196 : Rect S1x8x1024x128 := Rect.unit (s := S1x8x1024x128) ![0, 2, 768, 0] S1x1x32x128.size inb_S1x8x1024x128_S1x1x32x128_0_2_768_0
abbrev r0_197 : Rect S1x8x1024x128 := Rect.unit (s := S1x8x1024x128) ![0, 3, 768, 0] S1x1x32x128.size inb_S1x8x1024x128_S1x1x32x128_0_3_768_0
abbrev r0_198 : Rect S1x8x1024x128 := Rect.unit (s := S1x8x1024x128) ![0, 4, 768, 0] S1x1x32x128.size inb_S1x8x1024x128_S1x1x32x128_0_4_768_0
abbrev r0_199 : Rect S1x8x1024x128 := Rect.unit (s := S1x8x1024x128) ![0, 5, 768, 0] S1x1x32x128.size inb_S1x8x1024x128_S1x1x32x128_0_5_768_0
abbrev r0_200 : Rect S1x8x1024x128 := Rect.unit (s := S1x8x1024x128) ![0, 6, 768, 0] S1x1x32x128.size inb_S1x8x1024x128_S1x1x32x128_0_6_768_0
abbrev r0_201 : Rect S1x8x1024x128 := Rect.unit (s := S1x8x1024x128) ![0, 7, 768, 0] S1x1x32x128.size inb_S1x8x1024x128_S1x1x32x128_0_7_768_0
abbrev r0_202 : Rect S1x8x1024x128 := Rect.unit (s := S1x8x1024x128) ![0, 0, 800, 0] S1x1x32x128.size inb_S1x8x1024x128_S1x1x32x128_0_0_800_0
abbrev r0_203 : Rect S1x8x1024x128 := Rect.unit (s := S1x8x1024x128) ![0, 1, 800, 0] S1x1x32x128.size inb_S1x8x1024x128_S1x1x32x128_0_1_800_0
abbrev r0_204 : Rect S1x8x1024x128 := Rect.unit (s := S1x8x1024x128) ![0, 2, 800, 0] S1x1x32x128.size inb_S1x8x1024x128_S1x1x32x128_0_2_800_0
abbrev r0_205 : Rect S1x8x1024x128 := Rect.unit (s := S1x8x1024x128) ![0, 3, 800, 0] S1x1x32x128.size inb_S1x8x1024x128_S1x1x32x128_0_3_800_0
abbrev r0_206 : Rect S1x8x1024x128 := Rect.unit (s := S1x8x1024x128) ![0, 4, 800, 0] S1x1x32x128.size inb_S1x8x1024x128_S1x1x32x128_0_4_800_0
abbrev r0_207 : Rect S1x8x1024x128 := Rect.unit (s := S1x8x1024x128) ![0, 5, 800, 0] S1x1x32x128.size inb_S1x8x1024x128_S1x1x32x128_0_5_800_0
abbrev r0_208 : Rect S1x8x1024x128 := Rect.unit (s := S1x8x1024x128) ![0, 6, 800, 0] S1x1x32x128.size inb_S1x8x1024x128_S1x1x32x128_0_6_800_0
abbrev r0_209 : Rect S1x8x1024x128 := Rect.unit (s := S1x8x1024x128) ![0, 7, 800, 0] S1x1x32x128.size inb_S1x8x1024x128_S1x1x32x128_0_7_800_0
abbrev r0_210 : Rect S1x8x1024x128 := Rect.unit (s := S1x8x1024x128) ![0, 0, 832, 0] S1x1x32x128.size inb_S1x8x1024x128_S1x1x32x128_0_0_832_0
abbrev r0_211 : Rect S1x8x1024x128 := Rect.unit (s := S1x8x1024x128) ![0, 1, 832, 0] S1x1x32x128.size inb_S1x8x1024x128_S1x1x32x128_0_1_832_0
abbrev r0_212 : Rect S1x8x1024x128 := Rect.unit (s := S1x8x1024x128) ![0, 2, 832, 0] S1x1x32x128.size inb_S1x8x1024x128_S1x1x32x128_0_2_832_0
abbrev r0_213 : Rect S1x8x1024x128 := Rect.unit (s := S1x8x1024x128) ![0, 3, 832, 0] S1x1x32x128.size inb_S1x8x1024x128_S1x1x32x128_0_3_832_0
abbrev r0_214 : Rect S1x8x1024x128 := Rect.unit (s := S1x8x1024x128) ![0, 4, 832, 0] S1x1x32x128.size inb_S1x8x1024x128_S1x1x32x128_0_4_832_0
abbrev r0_215 : Rect S1x8x1024x128 := Rect.unit (s := S1x8x1024x128) ![0, 5, 832, 0] S1x1x32x128.size inb_S1x8x1024x128_S1x1x32x128_0_5_832_0
abbrev r0_216 : Rect S1x8x1024x128 := Rect.unit (s := S1x8x1024x128) ![0, 6, 832, 0] S1x1x32x128.size inb_S1x8x1024x128_S1x1x32x128_0_6_832_0
abbrev r0_217 : Rect S1x8x1024x128 := Rect.unit (s := S1x8x1024x128) ![0, 7, 832, 0] S1x1x32x128.size inb_S1x8x1024x128_S1x1x32x128_0_7_832_0
abbrev r0_218 : Rect S1x8x1024x128 := Rect.unit (s := S1x8x1024x128) ![0, 0, 864, 0] S1x1x32x128.size inb_S1x8x1024x128_S1x1x32x128_0_0_864_0
abbrev r0_219 : Rect S1x8x1024x128 := Rect.unit (s := S1x8x1024x128) ![0, 1, 864, 0] S1x1x32x128.size inb_S1x8x1024x128_S1x1x32x128_0_1_864_0
abbrev r0_220 : Rect S1x8x1024x128 := Rect.unit (s := S1x8x1024x128) ![0, 2, 864, 0] S1x1x32x128.size inb_S1x8x1024x128_S1x1x32x128_0_2_864_0
abbrev r0_221 : Rect S1x8x1024x128 := Rect.unit (s := S1x8x1024x128) ![0, 3, 864, 0] S1x1x32x128.size inb_S1x8x1024x128_S1x1x32x128_0_3_864_0
abbrev r0_222 : Rect S1x8x1024x128 := Rect.unit (s := S1x8x1024x128) ![0, 4, 864, 0] S1x1x32x128.size inb_S1x8x1024x128_S1x1x32x128_0_4_864_0
abbrev r0_223 : Rect S1x8x1024x128 := Rect.unit (s := S1x8x1024x128) ![0, 5, 864, 0] S1x1x32x128.size inb_S1x8x1024x128_S1x1x32x128_0_5_864_0
abbrev r0_224 : Rect S1x8x1024x128 := Rect.unit (s := S1x8x1024x128) ![0, 6, 864, 0] S1x1x32x128.size inb_S1x8x1024x128_S1x1x32x128_0_6_864_0
abbrev r0_225 : Rect S1x8x1024x128 := Rect.unit (s := S1x8x1024x128) ![0, 7, 864, 0] S1x1x32x128.size inb_S1x8x1024x128_S1x1x32x128_0_7_864_0
abbrev r0_226 : Rect S1x8x1024x128 := Rect.unit (s := S1x8x1024x128) ![0, 0, 896, 0] S1x1x32x128.size inb_S1x8x1024x128_S1x1x32x128_0_0_896_0
abbrev r0_227 : Rect S1x8x1024x128 := Rect.unit (s := S1x8x1024x128) ![0, 1, 896, 0] S1x1x32x128.size inb_S1x8x1024x128_S1x1x32x128_0_1_896_0
abbrev r0_228 : Rect S1x8x1024x128 := Rect.unit (s := S1x8x1024x128) ![0, 2, 896, 0] S1x1x32x128.size inb_S1x8x1024x128_S1x1x32x128_0_2_896_0
abbrev r0_229 : Rect S1x8x1024x128 := Rect.unit (s := S1x8x1024x128) ![0, 3, 896, 0] S1x1x32x128.size inb_S1x8x1024x128_S1x1x32x128_0_3_896_0
abbrev r0_230 : Rect S1x8x1024x128 := Rect.unit (s := S1x8x1024x128) ![0, 4, 896, 0] S1x1x32x128.size inb_S1x8x1024x128_S1x1x32x128_0_4_896_0
abbrev r0_231 : Rect S1x8x1024x128 := Rect.unit (s := S1x8x1024x128) ![0, 5, 896, 0] S1x1x32x128.size inb_S1x8x1024x128_S1x1x32x128_0_5_896_0
abbrev r0_232 : Rect S1x8x1024x128 := Rect.unit (s := S1x8x1024x128) ![0, 6, 896, 0] S1x1x32x128.size inb_S1x8x1024x128_S1x1x32x128_0_6_896_0
abbrev r0_233 : Rect S1x8x1024x128 := Rect.unit (s := S1x8x1024x128) ![0, 7, 896, 0] S1x1x32x128.size inb_S1x8x1024x128_S1x1x32x128_0_7_896_0
abbrev r0_234 : Rect S1x8x1024x128 := Rect.unit (s := S1x8x1024x128) ![0, 0, 928, 0] S1x1x32x128.size inb_S1x8x1024x128_S1x1x32x128_0_0_928_0
abbrev r0_235 : Rect S1x8x1024x128 := Rect.unit (s := S1x8x1024x128) ![0, 1, 928, 0] S1x1x32x128.size inb_S1x8x1024x128_S1x1x32x128_0_1_928_0
abbrev r0_236 : Rect S1x8x1024x128 := Rect.unit (s := S1x8x1024x128) ![0, 2, 928, 0] S1x1x32x128.size inb_S1x8x1024x128_S1x1x32x128_0_2_928_0
abbrev r0_237 : Rect S1x8x1024x128 := Rect.unit (s := S1x8x1024x128) ![0, 3, 928, 0] S1x1x32x128.size inb_S1x8x1024x128_S1x1x32x128_0_3_928_0
abbrev r0_238 : Rect S1x8x1024x128 := Rect.unit (s := S1x8x1024x128) ![0, 4, 928, 0] S1x1x32x128.size inb_S1x8x1024x128_S1x1x32x128_0_4_928_0
abbrev r0_239 : Rect S1x8x1024x128 := Rect.unit (s := S1x8x1024x128) ![0, 5, 928, 0] S1x1x32x128.size inb_S1x8x1024x128_S1x1x32x128_0_5_928_0
abbrev r0_240 : Rect S1x8x1024x128 := Rect.unit (s := S1x8x1024x128) ![0, 6, 928, 0] S1x1x32x128.size inb_S1x8x1024x128_S1x1x32x128_0_6_928_0
abbrev r0_241 : Rect S1x8x1024x128 := Rect.unit (s := S1x8x1024x128) ![0, 7, 928, 0] S1x1x32x128.size inb_S1x8x1024x128_S1x1x32x128_0_7_928_0
abbrev r0_242 : Rect S1x8x1024x128 := Rect.unit (s := S1x8x1024x128) ![0, 0, 960, 0] S1x1x32x128.size inb_S1x8x1024x128_S1x1x32x128_0_0_960_0
abbrev r0_243 : Rect S1x8x1024x128 := Rect.unit (s := S1x8x1024x128) ![0, 1, 960, 0] S1x1x32x128.size inb_S1x8x1024x128_S1x1x32x128_0_1_960_0
abbrev r0_244 : Rect S1x8x1024x128 := Rect.unit (s := S1x8x1024x128) ![0, 2, 960, 0] S1x1x32x128.size inb_S1x8x1024x128_S1x1x32x128_0_2_960_0
abbrev r0_245 : Rect S1x8x1024x128 := Rect.unit (s := S1x8x1024x128) ![0, 3, 960, 0] S1x1x32x128.size inb_S1x8x1024x128_S1x1x32x128_0_3_960_0
abbrev r0_246 : Rect S1x8x1024x128 := Rect.unit (s := S1x8x1024x128) ![0, 4, 960, 0] S1x1x32x128.size inb_S1x8x1024x128_S1x1x32x128_0_4_960_0
abbrev r0_247 : Rect S1x8x1024x128 := Rect.unit (s := S1x8x1024x128) ![0, 5, 960, 0] S1x1x32x128.size inb_S1x8x1024x128_S1x1x32x128_0_5_960_0
abbrev r0_248 : Rect S1x8x1024x128 := Rect.unit (s := S1x8x1024x128) ![0, 6, 960, 0] S1x1x32x128.size inb_S1x8x1024x128_S1x1x32x128_0_6_960_0
abbrev r0_249 : Rect S1x8x1024x128 := Rect.unit (s := S1x8x1024x128) ![0, 7, 960, 0] S1x1x32x128.size inb_S1x8x1024x128_S1x1x32x128_0_7_960_0
abbrev r0_250 : Rect S1x8x1024x128 := Rect.unit (s := S1x8x1024x128) ![0, 0, 992, 0] S1x1x32x128.size inb_S1x8x1024x128_S1x1x32x128_0_0_992_0
abbrev r0_251 : Rect S1x8x1024x128 := Rect.unit (s := S1x8x1024x128) ![0, 1, 992, 0] S1x1x32x128.size inb_S1x8x1024x128_S1x1x32x128_0_1_992_0
abbrev r0_252 : Rect S1x8x1024x128 := Rect.unit (s := S1x8x1024x128) ![0, 2, 992, 0] S1x1x32x128.size inb_S1x8x1024x128_S1x1x32x128_0_2_992_0
abbrev r0_253 : Rect S1x8x1024x128 := Rect.unit (s := S1x8x1024x128) ![0, 3, 992, 0] S1x1x32x128.size inb_S1x8x1024x128_S1x1x32x128_0_3_992_0
abbrev r0_254 : Rect S1x8x1024x128 := Rect.unit (s := S1x8x1024x128) ![0, 4, 992, 0] S1x1x32x128.size inb_S1x8x1024x128_S1x1x32x128_0_4_992_0
abbrev r0_255 : Rect S1x8x1024x128 := Rect.unit (s := S1x8x1024x128) ![0, 5, 992, 0] S1x1x32x128.size inb_S1x8x1024x128_S1x1x32x128_0_5_992_0
abbrev r0_256 : Rect S1x8x1024x128 := Rect.unit (s := S1x8x1024x128) ![0, 6, 992, 0] S1x1x32x128.size inb_S1x8x1024x128_S1x1x32x128_0_6_992_0
abbrev r0_257 : Rect S1x8x1024x128 := Rect.unit (s := S1x8x1024x128) ![0, 7, 992, 0] S1x1x32x128.size inb_S1x8x1024x128_S1x1x32x128_0_7_992_0

/-! ## What the body leaves in each output window's buffer -/

/-! ### Values of the body that the stores' payloads, spelt out, would write more than once

    Each is a vector the body binds (often a part call's result), stated over the input windows' blocks and
    numbered on from the skeleton's payload functions (`k0_pay414` …, after `k0_pay413`), so that
    `out0_W` and the values after it name it instead of spelling it out (`unfold_out out0_W` opens a canon
    with them, `unfold_payloads` opens them with the payloads); the comment after each is the printed function's
    name for the value (a count appended where that name is bound again). -/

def k0_pay414 (i : grid0.Coords) (x0 : Vec F S1x8192x128 .fp8e5m2) (x1 : Vec F S1x1024x56 .f32) : FVec F S1024x8x128 .fp8e5m2 :=
  k0_pay5 (View.ld x0 r0_0) -- `v2`
def k0_pay415 (i : grid0.Coords) (x0 : Vec F S1x8192x128 .fp8e5m2) (x1 : Vec F S1x1024x56 .f32) : FVec F S1024x128 .f32 :=
  k0_pay6 (View.ld x1 r0_1) -- `v6`
def k0_pay416 (i : grid0.Coords) (x0 : Vec F S1x8192x128 .fp8e5m2) (x1 : Vec F S1x1024x56 .f32) : IVec S1024x128 32 :=
  k0_pay7 i -- `v39`
def k0_pay417 (i : grid0.Coords) (x0 : Vec F S1x8192x128 .fp8e5m2) (x1 : Vec F S1x1024x56 .f32) : FVec F S1024x128 .bf16 :=
  k0_pay8 (k0_pay415 i x0 x1) (k0_pay416 i x0 x1) -- `v43`
def k0_pay418 (i : grid0.Coords) (x0 : Vec F S1x8192x128 .fp8e5m2) (x1 : Vec F S1x1024x56 .f32) : FVec F S32x128 .bf16 :=
  k0_pay9 (k0_pay415 i x0 x1) (k0_pay416 i x0 x1) -- `v44`
def k0_pay419 (i : grid0.Coords) (x0 : Vec F S1x8192x128 .fp8e5m2) (x1 : Vec F S1x1024x56 .f32) : FVec F S32x128 .bf16 :=
  k0_pay22 (k0_pay417 i x0 x1) -- `v101`
def k0_pay420 (i : grid0.Coords) (x0 : Vec F S1x8192x128 .fp8e5m2) (x1 : Vec F S1x1024x56 .f32) : FVec F S32x128 .bf16 :=
  k0_pay36 (k0_pay417 i x0 x1) -- `v158`
def k0_pay421 (i : grid0.Coords) (x0 : Vec F S1x8192x128 .fp8e5m2) (x1 : Vec F S1x1024x56 .f32) : FVec F S32x128 .bf16 :=
  k0_pay46 (k0_pay417 i x0 x1) -- `v215`
def k0_pay422 (i : grid0.Coords) (x0 : Vec F S1x8192x128 .fp8e5m2) (x1 : Vec F S1x1024x56 .f32) : FVec F S32x128 .bf16 :=
  k0_pay61 (k0_pay417 i x0 x1) -- `v272`
def k0_pay423 (i : grid0.Coords) (x0 : Vec F S1x8192x128 .fp8e5m2) (x1 : Vec F S1x1024x56 .f32) : FVec F S32x128 .bf16 :=
  k0_pay73 (k0_pay417 i x0 x1) -- `v329`
def k0_pay424 (i : grid0.Coords) (x0 : Vec F S1x8192x128 .fp8e5m2) (x1 : Vec F S1x1024x56 .f32) : FVec F S32x128 .bf16 :=
  k0_pay83 (k0_pay417 i x0 x1) -- `v386`
def k0_pay425 (i : grid0.Coords) (x0 : Vec F S1x8192x128 .fp8e5m2) (x1 : Vec F S1x1024x56 .f32) : FVec F S32x128 .bf16 :=
  k0_pay99 (k0_pay417 i x0 x1) -- `v443`
def k0_pay426 (i : grid0.Coords) (x0 : Vec F S1x8192x128 .fp8e5m2) (x1 : Vec F S1x1024x56 .f32) : FVec F S32x128 .bf16 :=
  k0_pay110 (k0_pay417 i x0 x1) -- `v500`
def k0_pay427 (i : grid0.Coords) (x0 : Vec F S1x8192x128 .fp8e5m2) (x1 : Vec F S1x1024x56 .f32) : FVec F S32x128 .bf16 :=
  k0_pay123 (k0_pay417 i x0 x1) -- `v557`
def k0_pay428 (i : grid0.Coords) (x0 : Vec F S1x8192x128 .fp8e5m2) (x1 : Vec F S1x1024x56 .f32) : FVec F S32x128 .bf16 :=
  k0_pay137 (k0_pay417 i x0 x1) -- `v614`
def k0_pay429 (i : grid0.Coords) (x0 : Vec F S1x8192x128 .fp8e5m2) (x1 : Vec F S1x1024x56 .f32) : FVec F S32x128 .bf16 :=
  k0_pay147 (k0_pay417 i x0 x1) -- `v671`
def k0_pay430 (i : grid0.Coords) (x0 : Vec F S1x8192x128 .fp8e5m2) (x1 : Vec F S1x1024x56 .f32) : FVec F S32x128 .bf16 :=
  k0_pay163 (k0_pay417 i x0 x1) -- `v728`
def k0_pay431 (i : grid0.Coords) (x0 : Vec F S1x8192x128 .fp8e5m2) (x1 : Vec F S1x1024x56 .f32) : FVec F S32x128 .bf16 :=
  k0_pay175 (k0_pay417 i x0 x1) -- `v785`
def k0_pay432 (i : grid0.Coords) (x0 : Vec F S1x8192x128 .fp8e5m2) (x1 : Vec F S1x1024x56 .f32) : FVec F S32x128 .bf16 :=
  k0_pay187 (k0_pay417 i x0 x1) -- `v842`
def k0_pay433 (i : grid0.Coords) (x0 : Vec F S1x8192x128 .fp8e5m2) (x1 : Vec F S1x1024x56 .f32) : FVec F S32x128 .bf16 :=
  k0_pay201 (k0_pay417 i x0 x1) -- `v899`
def k0_pay434 (i : grid0.Coords) (x0 : Vec F S1x8192x128 .fp8e5m2) (x1 : Vec F S1x1024x56 .f32) : FVec F S32x128 .bf16 :=
  k0_pay211 (k0_pay417 i x0 x1) -- `v956`
def k0_pay435 (i : grid0.Coords) (x0 : Vec F S1x8192x128 .fp8e5m2) (x1 : Vec F S1x1024x56 .f32) : FVec F S32x128 .bf16 :=
  k0_pay226 (k0_pay417 i x0 x1) -- `v1013`
def k0_pay436 (i : grid0.Coords) (x0 : Vec F S1x8192x128 .fp8e5m2) (x1 : Vec F S1x1024x56 .f32) : FVec F S32x128 .bf16 :=
  k0_pay239 (k0_pay417 i x0 x1) -- `v1070`
def k0_pay437 (i : grid0.Coords) (x0 : Vec F S1x8192x128 .fp8e5m2) (x1 : Vec F S1x1024x56 .f32) : FVec F S32x128 .bf16 :=
  k0_pay249 (k0_pay417 i x0 x1) -- `v1127`
def k0_pay438 (i : grid0.Coords) (x0 : Vec F S1x8192x128 .fp8e5m2) (x1 : Vec F S1x1024x56 .f32) : FVec F S32x128 .bf16 :=
  k0_pay265 (k0_pay417 i x0 x1) -- `v1184`
def k0_pay439 (i : grid0.Coords) (x0 : Vec F S1x8192x128 .fp8e5m2) (x1 : Vec F S1x1024x56 .f32) : FVec F S32x128 .bf16 :=
  k0_pay276 (k0_pay417 i x0 x1) -- `v1241`
def k0_pay440 (i : grid0.Coords) (x0 : Vec F S1x8192x128 .fp8e5m2) (x1 : Vec F S1x1024x56 .f32) : FVec F S32x128 .bf16 :=
  k0_pay289 (k0_pay417 i x0 x1) -- `v1298`
def k0_pay441 (i : grid0.Coords) (x0 : Vec F S1x8192x128 .fp8e5m2) (x1 : Vec F S1x1024x56 .f32) : FVec F S32x128 .bf16 :=
  k0_pay303 (k0_pay417 i x0 x1) -- `v1355`
def k0_pay442 (i : grid0.Coords) (x0 : Vec F S1x8192x128 .fp8e5m2) (x1 : Vec F S1x1024x56 .f32) : FVec F S32x128 .bf16 :=
  k0_pay313 (k0_pay417 i x0 x1) -- `v1412`
def k0_pay443 (i : grid0.Coords) (x0 : Vec F S1x8192x128 .fp8e5m2) (x1 : Vec F S1x1024x56 .f32) : FVec F S32x128 .bf16 :=
  k0_pay329 (k0_pay417 i x0 x1) -- `v1469`
def k0_pay444 (i : grid0.Coords) (x0 : Vec F S1x8192x128 .fp8e5m2) (x1 : Vec F S1x1024x56 .f32) : FVec F S32x128 .bf16 :=
  k0_pay341 (k0_pay417 i x0 x1) -- `v1526`
def k0_pay445 (i : grid0.Coords) (x0 : Vec F S1x8192x128 .fp8e5m2) (x1 : Vec F S1x1024x56 .f32) : FVec F S32x128 .bf16 :=
  k0_pay353 (k0_pay417 i x0 x1) -- `v1583`
def k0_pay446 (i : grid0.Coords) (x0 : Vec F S1x8192x128 .fp8e5m2) (x1 : Vec F S1x1024x56 .f32) : FVec F S32x128 .bf16 :=
  k0_pay368 (k0_pay417 i x0 x1) -- `v1640`
def k0_pay447 (i : grid0.Coords) (x0 : Vec F S1x8192x128 .fp8e5m2) (x1 : Vec F S1x1024x56 .f32) : FVec F S32x128 .bf16 :=
  k0_pay378 (k0_pay417 i x0 x1) -- `v1697`
def k0_pay448 (i : grid0.Coords) (x0 : Vec F S1x8192x128 .fp8e5m2) (x1 : Vec F S1x1024x56 .f32) : FVec F S32x128 .bf16 :=
  k0_pay392 (k0_pay417 i x0 x1) -- `v1754`
def k0_pay449 (i : grid0.Coords) (x0 : Vec F S1x8192x128 .fp8e5m2) (x1 : Vec F S1x1024x56 .f32) : FVec F S32x128 .bf16 :=
  k0_pay405 (k0_pay417 i x0 x1) -- `v1811`

/-- Window 2's staging buffer after the body, from the input windows' blocks: its 256 stores as pieces, LAST
    FIRST (`View.canon`). -/
def pieces0 (i : grid0.Coords) (x0 : Vec F S1x8192x128 .fp8e5m2) (x1 : Vec F S1x1024x56 .f32) : List (View.Piece (Elt F) S1x8x1024x128 .bf16) :=
  [⟨r0_257, k0_pay4 (k0_pay449 i x0 x1) (k0_pay413 (k0_pay414 i x0 x1))⟩,
    ⟨r0_256, k0_pay3 (k0_pay449 i x0 x1) (k0_pay412 (k0_pay414 i x0 x1))⟩,
    ⟨r0_255, k0_pay2 (k0_pay449 i x0 x1) (k0_pay411 (k0_pay414 i x0 x1))⟩,
    ⟨r0_254, k0_pay1 (k0_pay449 i x0 x1) (k0_pay410 (k0_pay414 i x0 x1))⟩,
    ⟨r0_253, k0_pay409 (k0_pay414 i x0 x1) (k0_pay417 i x0 x1)⟩,
    ⟨r0_252, k0_pay408 (k0_pay414 i x0 x1) (k0_pay417 i x0 x1)⟩,
    ⟨r0_251, k0_pay407 (k0_pay414 i x0 x1) (k0_pay417 i x0 x1)⟩,
    ⟨r0_250, k0_pay406 (k0_pay414 i x0 x1) (k0_pay417 i x0 x1)⟩,
    ⟨r0_249, k0_pay404 (k0_pay448 i x0 x1) (k0_pay400 (k0_pay414 i x0 x1))⟩,
    ⟨r0_248, k0_pay403 (k0_pay414 i x0 x1) (k0_pay448 i x0 x1)⟩,
    ⟨r0_247, k0_pay402 (k0_pay414 i x0 x1) (k0_pay448 i x0 x1)⟩,
    ⟨r0_246, k0_pay401 (k0_pay414 i x0 x1) (k0_pay448 i x0 x1)⟩,
    ⟨r0_245, k0_pay399 (k0_pay448 i x0 x1) (k0_pay394 (k0_pay414 i x0 x1))⟩,
    ⟨r0_244, k0_pay398 (k0_pay448 i x0 x1) (k0_pay393 (k0_pay414 i x0 x1))⟩,
    ⟨r0_243, k0_pay397 (k0_pay396 (k0_pay414 i x0 x1) (k0_pay417 i x0 x1))⟩,
    ⟨r0_242, k0_pay395 (k0_pay414 i x0 x1) (k0_pay417 i x0 x1)⟩,
    ⟨r0_241, k0_pay391 (k0_pay447 i x0 x1) (k0_pay386 (k0_pay414 i x0 x1))⟩,
    ⟨r0_240, k0_pay390 (k0_pay447 i x0 x1) (k0_pay385 (k0_pay414 i x0 x1))⟩,
    ⟨r0_239, k0_pay389 (k0_pay447 i x0 x1) (k0_pay384 (k0_pay414 i x0 x1))⟩,
    ⟨r0_238, k0_pay388 (k0_pay387 (k0_pay414 i x0 x1) (k0_pay447 i x0 x1))⟩,
    ⟨r0_237, k0_pay383 (k0_pay414 i x0 x1) (k0_pay447 i x0 x1)⟩,
    ⟨r0_236, k0_pay382 (k0_pay414 i x0 x1) (k0_pay447 i x0 x1)⟩,
    ⟨r0_235, k0_pay381 (k0_pay414 i x0 x1) (k0_pay447 i x0 x1)⟩,
    ⟨r0_234, k0_pay380 (k0_pay447 i x0 x1) (k0_pay379 (k0_pay414 i x0 x1))⟩,
    ⟨r0_233, k0_pay377 (k0_pay414 i x0 x1) (k0_pay446 i x0 x1)⟩,
    ⟨r0_232, k0_pay376 (k0_pay414 i x0 x1) (k0_pay446 i x0 x1)⟩,
    ⟨r0_231, k0_pay375 (k0_pay414 i x0 x1) (k0_pay446 i x0 x1)⟩,
    ⟨r0_230, k0_pay374 (k0_pay414 i x0 x1) (k0_pay446 i x0 x1)⟩,
    ⟨r0_229, k0_pay373 (k0_pay446 i x0 x1) (k0_pay372 (k0_pay414 i x0 x1))⟩,
    ⟨r0_228, k0_pay371 (k0_pay414 i x0 x1) (k0_pay417 i x0 x1)⟩,
    ⟨r0_227, k0_pay370 (k0_pay414 i x0 x1) (k0_pay417 i x0 x1)⟩,
    ⟨r0_226, k0_pay369 (k0_pay414 i x0 x1) (k0_pay417 i x0 x1)⟩,
    ⟨r0_225, k0_pay367 (k0_pay445 i x0 x1) (k0_pay363 (k0_pay414 i x0 x1))⟩,
    ⟨r0_224, k0_pay366 (k0_pay445 i x0 x1) (k0_pay362 (k0_pay414 i x0 x1))⟩,
    ⟨r0_223, k0_pay365 (k0_pay414 i x0 x1) (k0_pay445 i x0 x1)⟩,
    ⟨r0_222, k0_pay364 (k0_pay414 i x0 x1) (k0_pay445 i x0 x1)⟩,
    ⟨r0_221, k0_pay361 (k0_pay445 i x0 x1) (k0_pay356 (k0_pay414 i x0 x1))⟩,
    ⟨r0_220, k0_pay360 (k0_pay445 i x0 x1) (k0_pay355 (k0_pay414 i x0 x1))⟩,
    ⟨r0_219, k0_pay359 (k0_pay445 i x0 x1) (k0_pay354 (k0_pay414 i x0 x1))⟩,
    ⟨r0_218, k0_pay358 (k0_pay357 (k0_pay414 i x0 x1) (k0_pay417 i x0 x1))⟩,
    ⟨r0_217, k0_pay352 (k0_pay414 i x0 x1) (k0_pay444 i x0 x1)⟩,
    ⟨r0_216, k0_pay351 (k0_pay444 i x0 x1) (k0_pay348 (k0_pay414 i x0 x1))⟩,
    ⟨r0_215, k0_pay350 (k0_pay444 i x0 x1) (k0_pay347 (k0_pay414 i x0 x1))⟩,
    ⟨r0_214, k0_pay349 (k0_pay444 i x0 x1) (k0_pay346 (k0_pay414 i x0 x1))⟩,
    ⟨r0_213, k0_pay345 (k0_pay414 i x0 x1) (k0_pay417 i x0 x1)⟩,
    ⟨r0_212, k0_pay344 (k0_pay414 i x0 x1) (k0_pay417 i x0 x1)⟩,
    ⟨r0_211, k0_pay343 (k0_pay414 i x0 x1) (k0_pay417 i x0 x1)⟩,
    ⟨r0_210, k0_pay342 (k0_pay414 i x0 x1) (k0_pay417 i x0 x1)⟩,
    ⟨r0_209, k0_pay340 (k0_pay339 (k0_pay414 i x0 x1) (k0_pay443 i x0 x1))⟩,
    ⟨r0_208, k0_pay338 (k0_pay414 i x0 x1) (k0_pay443 i x0 x1)⟩,
    ⟨r0_207, k0_pay337 (k0_pay414 i x0 x1) (k0_pay443 i x0 x1)⟩,
    ⟨r0_206, k0_pay336 (k0_pay414 i x0 x1) (k0_pay443 i x0 x1)⟩,
    ⟨r0_205, k0_pay335 (k0_pay443 i x0 x1) (k0_pay330 (k0_pay414 i x0 x1))⟩,
    ⟨r0_204, k0_pay334 (k0_pay333 (k0_pay414 i x0 x1) (k0_pay417 i x0 x1))⟩,
    ⟨r0_203, k0_pay332 (k0_pay414 i x0 x1) (k0_pay417 i x0 x1)⟩,
    ⟨r0_202, k0_pay331 (k0_pay414 i x0 x1) (k0_pay417 i x0 x1)⟩,
    ⟨r0_201, k0_pay328 (k0_pay442 i x0 x1) (k0_pay323 (k0_pay414 i x0 x1))⟩,
    ⟨r0_200, k0_pay327 (k0_pay442 i x0 x1) (k0_pay322 (k0_pay414 i x0 x1))⟩,
    ⟨r0_199, k0_pay326 (k0_pay442 i x0 x1) (k0_pay325 (k0_pay414 i x0 x1))⟩,
    ⟨r0_198, k0_pay324 (k0_pay414 i x0 x1) (k0_pay442 i x0 x1)⟩,
    ⟨r0_197, k0_pay321 (k0_pay442 i x0 x1) (k0_pay317 (k0_pay414 i x0 x1))⟩,
    ⟨r0_196, k0_pay320 (k0_pay442 i x0 x1) (k0_pay316 (k0_pay414 i x0 x1))⟩,
    ⟨r0_195, k0_pay319 (k0_pay442 i x0 x1) (k0_pay315 (k0_pay414 i x0 x1))⟩,
    ⟨r0_194, k0_pay318 (k0_pay442 i x0 x1) (k0_pay314 (k0_pay414 i x0 x1))⟩,
    ⟨r0_193, k0_pay312 (k0_pay414 i x0 x1) (k0_pay441 i x0 x1)⟩,
    ⟨r0_192, k0_pay311 (k0_pay414 i x0 x1) (k0_pay441 i x0 x1)⟩,
    ⟨r0_191, k0_pay310 (k0_pay414 i x0 x1) (k0_pay441 i x0 x1)⟩,
    ⟨r0_190, k0_pay309 (k0_pay414 i x0 x1) (k0_pay441 i x0 x1)⟩,
    ⟨r0_189, k0_pay308 (k0_pay307 (k0_pay414 i x0 x1) (k0_pay417 i x0 x1))⟩,
    ⟨r0_188, k0_pay306 (k0_pay414 i x0 x1) (k0_pay417 i x0 x1)⟩,
    ⟨r0_187, k0_pay305 (k0_pay414 i x0 x1) (k0_pay417 i x0 x1)⟩,
    ⟨r0_186, k0_pay304 (k0_pay414 i x0 x1) (k0_pay417 i x0 x1)⟩,
    ⟨r0_185, k0_pay302 (k0_pay440 i x0 x1) (k0_pay297 (k0_pay414 i x0 x1))⟩,
    ⟨r0_184, k0_pay301 (k0_pay300 (k0_pay414 i x0 x1) (k0_pay440 i x0 x1))⟩,
    ⟨r0_183, k0_pay299 (k0_pay414 i x0 x1) (k0_pay440 i x0 x1)⟩,
    ⟨r0_182, k0_pay298 (k0_pay414 i x0 x1) (k0_pay440 i x0 x1)⟩,
    ⟨r0_181, k0_pay296 (k0_pay440 i x0 x1) (k0_pay291 (k0_pay414 i x0 x1))⟩,
    ⟨r0_180, k0_pay295 (k0_pay440 i x0 x1) (k0_pay290 (k0_pay414 i x0 x1))⟩,
    ⟨r0_179, k0_pay294 (k0_pay293 (k0_pay414 i x0 x1) (k0_pay417 i x0 x1))⟩,
    ⟨r0_178, k0_pay292 (k0_pay414 i x0 x1) (k0_pay417 i x0 x1)⟩,
    ⟨r0_177, k0_pay288 (k0_pay439 i x0 x1) (k0_pay283 (k0_pay414 i x0 x1))⟩,
    ⟨r0_176, k0_pay287 (k0_pay439 i x0 x1) (k0_pay282 (k0_pay414 i x0 x1))⟩,
    ⟨r0_175, k0_pay286 (k0_pay439 i x0 x1) (k0_pay281 (k0_pay414 i x0 x1))⟩,
    ⟨r0_174, k0_pay285 (k0_pay284 (k0_pay414 i x0 x1) (k0_pay417 i x0 x1))⟩,
    ⟨r0_173, k0_pay280 (k0_pay414 i x0 x1) (k0_pay417 i x0 x1)⟩,
    ⟨r0_172, k0_pay279 (k0_pay414 i x0 x1) (k0_pay417 i x0 x1)⟩,
    ⟨r0_171, k0_pay278 (k0_pay414 i x0 x1) (k0_pay417 i x0 x1)⟩,
    ⟨r0_170, k0_pay277 (k0_pay414 i x0 x1) (k0_pay417 i x0 x1)⟩,
    ⟨r0_169, k0_pay275 (k0_pay414 i x0 x1) (k0_pay438 i x0 x1)⟩,
    ⟨r0_168, k0_pay274 (k0_pay414 i x0 x1) (k0_pay438 i x0 x1)⟩,
    ⟨r0_167, k0_pay273 (k0_pay414 i x0 x1) (k0_pay438 i x0 x1)⟩,
    ⟨r0_166, k0_pay272 (k0_pay414 i x0 x1) (k0_pay438 i x0 x1)⟩,
    ⟨r0_165, k0_pay271 (k0_pay438 i x0 x1) (k0_pay266 (k0_pay414 i x0 x1))⟩,
    ⟨r0_164, k0_pay270 (k0_pay269 (k0_pay414 i x0 x1) (k0_pay417 i x0 x1))⟩,
    ⟨r0_163, k0_pay268 (k0_pay414 i x0 x1) (k0_pay417 i x0 x1)⟩,
    ⟨r0_162, k0_pay267 (k0_pay414 i x0 x1) (k0_pay417 i x0 x1)⟩,
    ⟨r0_161, k0_pay264 (k0_pay437 i x0 x1) (k0_pay259 (k0_pay414 i x0 x1))⟩,
    ⟨r0_160, k0_pay263 (k0_pay437 i x0 x1) (k0_pay258 (k0_pay414 i x0 x1))⟩,
    ⟨r0_159, k0_pay262 (k0_pay261 (k0_pay414 i x0 x1) (k0_pay437 i x0 x1))⟩,
    ⟨r0_158, k0_pay260 (k0_pay414 i x0 x1) (k0_pay437 i x0 x1)⟩,
    ⟨r0_157, k0_pay257 (k0_pay437 i x0 x1) (k0_pay252 (k0_pay414 i x0 x1))⟩,
    ⟨r0_156, k0_pay256 (k0_pay437 i x0 x1) (k0_pay251 (k0_pay414 i x0 x1))⟩,
    ⟨r0_155, k0_pay255 (k0_pay437 i x0 x1) (k0_pay250 (k0_pay414 i x0 x1))⟩,
    ⟨r0_154, k0_pay254 (k0_pay253 (k0_pay414 i x0 x1) (k0_pay417 i x0 x1))⟩,
    ⟨r0_153, k0_pay248 (k0_pay414 i x0 x1) (k0_pay436 i x0 x1)⟩,
    ⟨r0_152, k0_pay247 (k0_pay414 i x0 x1) (k0_pay436 i x0 x1)⟩,
    ⟨r0_151, k0_pay246 (k0_pay414 i x0 x1) (k0_pay436 i x0 x1)⟩,
    ⟨r0_150, k0_pay245 (k0_pay436 i x0 x1) (k0_pay244 (k0_pay414 i x0 x1))⟩,
    ⟨r0_149, k0_pay243 (k0_pay414 i x0 x1) (k0_pay417 i x0 x1)⟩,
    ⟨r0_148, k0_pay242 (k0_pay414 i x0 x1) (k0_pay417 i x0 x1)⟩,
    ⟨r0_147, k0_pay241 (k0_pay414 i x0 x1) (k0_pay417 i x0 x1)⟩,
    ⟨r0_146, k0_pay240 (k0_pay414 i x0 x1) (k0_pay417 i x0 x1)⟩,
    ⟨r0_145, k0_pay238 (k0_pay435 i x0 x1) (k0_pay234 (k0_pay414 i x0 x1))⟩,
    ⟨r0_144, k0_pay237 (k0_pay414 i x0 x1) (k0_pay435 i x0 x1)⟩,
    ⟨r0_143, k0_pay236 (k0_pay414 i x0 x1) (k0_pay435 i x0 x1)⟩,
    ⟨r0_142, k0_pay235 (k0_pay414 i x0 x1) (k0_pay435 i x0 x1)⟩,
    ⟨r0_141, k0_pay233 (k0_pay435 i x0 x1) (k0_pay228 (k0_pay414 i x0 x1))⟩,
    ⟨r0_140, k0_pay232 (k0_pay435 i x0 x1) (k0_pay227 (k0_pay414 i x0 x1))⟩,
    ⟨r0_139, k0_pay231 (k0_pay230 (k0_pay414 i x0 x1) (k0_pay417 i x0 x1))⟩,
    ⟨r0_138, k0_pay229 (k0_pay414 i x0 x1) (k0_pay417 i x0 x1)⟩,
    ⟨r0_137, k0_pay225 (k0_pay434 i x0 x1) (k0_pay220 (k0_pay414 i x0 x1))⟩,
    ⟨r0_136, k0_pay224 (k0_pay434 i x0 x1) (k0_pay219 (k0_pay414 i x0 x1))⟩,
    ⟨r0_135, k0_pay223 (k0_pay434 i x0 x1) (k0_pay218 (k0_pay414 i x0 x1))⟩,
    ⟨r0_134, k0_pay222 (k0_pay221 (k0_pay414 i x0 x1) (k0_pay434 i x0 x1))⟩,
    ⟨r0_133, k0_pay217 (k0_pay414 i x0 x1) (k0_pay434 i x0 x1)⟩,
    ⟨r0_132, k0_pay216 (k0_pay414 i x0 x1) (k0_pay434 i x0 x1)⟩,
    ⟨r0_131, k0_pay215 (k0_pay434 i x0 x1) (k0_pay213 (k0_pay414 i x0 x1))⟩,
    ⟨r0_130, k0_pay214 (k0_pay434 i x0 x1) (k0_pay212 (k0_pay414 i x0 x1))⟩,
    ⟨r0_129, k0_pay210 (k0_pay414 i x0 x1) (k0_pay433 i x0 x1)⟩,
    ⟨r0_128, k0_pay209 (k0_pay414 i x0 x1) (k0_pay433 i x0 x1)⟩,
    ⟨r0_127, k0_pay208 (k0_pay414 i x0 x1) (k0_pay433 i x0 x1)⟩,
    ⟨r0_126, k0_pay207 (k0_pay414 i x0 x1) (k0_pay433 i x0 x1)⟩,
    ⟨r0_125, k0_pay206 (k0_pay205 (k0_pay414 i x0 x1) (k0_pay417 i x0 x1))⟩,
    ⟨r0_124, k0_pay204 (k0_pay414 i x0 x1) (k0_pay417 i x0 x1)⟩,
    ⟨r0_123, k0_pay203 (k0_pay414 i x0 x1) (k0_pay417 i x0 x1)⟩,
    ⟨r0_122, k0_pay202 (k0_pay414 i x0 x1) (k0_pay417 i x0 x1)⟩,
    ⟨r0_121, k0_pay200 (k0_pay432 i x0 x1) (k0_pay195 (k0_pay414 i x0 x1))⟩,
    ⟨r0_120, k0_pay199 (k0_pay432 i x0 x1) (k0_pay198 (k0_pay414 i x0 x1))⟩,
    ⟨r0_119, k0_pay197 (k0_pay414 i x0 x1) (k0_pay432 i x0 x1)⟩,
    ⟨r0_118, k0_pay196 (k0_pay414 i x0 x1) (k0_pay432 i x0 x1)⟩,
    ⟨r0_117, k0_pay194 (k0_pay432 i x0 x1) (k0_pay190 (k0_pay414 i x0 x1))⟩,
    ⟨r0_116, k0_pay193 (k0_pay432 i x0 x1) (k0_pay189 (k0_pay414 i x0 x1))⟩,
    ⟨r0_115, k0_pay192 (k0_pay432 i x0 x1) (k0_pay188 (k0_pay414 i x0 x1))⟩,
    ⟨r0_114, k0_pay191 (k0_pay414 i x0 x1) (k0_pay417 i x0 x1)⟩,
    ⟨r0_113, k0_pay186 (k0_pay414 i x0 x1) (k0_pay431 i x0 x1)⟩,
    ⟨r0_112, k0_pay185 (k0_pay431 i x0 x1) (k0_pay182 (k0_pay414 i x0 x1))⟩,
    ⟨r0_111, k0_pay184 (k0_pay431 i x0 x1) (k0_pay181 (k0_pay414 i x0 x1))⟩,
    ⟨r0_110, k0_pay183 (k0_pay431 i x0 x1) (k0_pay180 (k0_pay414 i x0 x1))⟩,
    ⟨r0_109, k0_pay179 (k0_pay414 i x0 x1) (k0_pay417 i x0 x1)⟩,
    ⟨r0_108, k0_pay178 (k0_pay414 i x0 x1) (k0_pay417 i x0 x1)⟩,
    ⟨r0_107, k0_pay177 (k0_pay414 i x0 x1) (k0_pay417 i x0 x1)⟩,
    ⟨r0_106, k0_pay176 (k0_pay414 i x0 x1) (k0_pay417 i x0 x1)⟩,
    ⟨r0_105, k0_pay174 (k0_pay173 (k0_pay414 i x0 x1) (k0_pay430 i x0 x1))⟩,
    ⟨r0_104, k0_pay172 (k0_pay414 i x0 x1) (k0_pay430 i x0 x1)⟩,
    ⟨r0_103, k0_pay171 (k0_pay414 i x0 x1) (k0_pay430 i x0 x1)⟩,
    ⟨r0_102, k0_pay170 (k0_pay414 i x0 x1) (k0_pay430 i x0 x1)⟩,
    ⟨r0_101, k0_pay169 (k0_pay430 i x0 x1) (k0_pay164 (k0_pay414 i x0 x1))⟩,
    ⟨r0_100, k0_pay168 (k0_pay167 (k0_pay414 i x0 x1) (k0_pay417 i x0 x1))⟩,
    ⟨r0_99, k0_pay166 (k0_pay414 i x0 x1) (k0_pay417 i x0 x1)⟩,
    ⟨r0_98, k0_pay165 (k0_pay414 i x0 x1) (k0_pay417 i x0 x1)⟩,
    ⟨r0_97, k0_pay162 (k0_pay429 i x0 x1) (k0_pay157 (k0_pay414 i x0 x1))⟩,
    ⟨r0_96, k0_pay161 (k0_pay429 i x0 x1) (k0_pay156 (k0_pay414 i x0 x1))⟩,
    ⟨r0_95, k0_pay160 (k0_pay159 (k0_pay414 i x0 x1) (k0_pay429 i x0 x1))⟩,
    ⟨r0_94, k0_pay158 (k0_pay414 i x0 x1) (k0_pay429 i x0 x1)⟩,
    ⟨r0_93, k0_pay155 (k0_pay429 i x0 x1) (k0_pay151 (k0_pay414 i x0 x1))⟩,
    ⟨r0_92, k0_pay154 (k0_pay429 i x0 x1) (k0_pay150 (k0_pay414 i x0 x1))⟩,
    ⟨r0_91, k0_pay153 (k0_pay429 i x0 x1) (k0_pay149 (k0_pay414 i x0 x1))⟩,
    ⟨r0_90, k0_pay152 (k0_pay429 i x0 x1) (k0_pay148 (k0_pay414 i x0 x1))⟩,
    ⟨r0_89, k0_pay146 (k0_pay414 i x0 x1) (k0_pay428 i x0 x1)⟩,
    ⟨r0_88, k0_pay145 (k0_pay414 i x0 x1) (k0_pay428 i x0 x1)⟩,
    ⟨r0_87, k0_pay144 (k0_pay414 i x0 x1) (k0_pay428 i x0 x1)⟩,
    ⟨r0_86, k0_pay143 (k0_pay414 i x0 x1) (k0_pay428 i x0 x1)⟩,
    ⟨r0_85, k0_pay142 (k0_pay141 (k0_pay414 i x0 x1) (k0_pay417 i x0 x1))⟩,
    ⟨r0_84, k0_pay140 (k0_pay414 i x0 x1) (k0_pay417 i x0 x1)⟩,
    ⟨r0_83, k0_pay139 (k0_pay414 i x0 x1) (k0_pay417 i x0 x1)⟩,
    ⟨r0_82, k0_pay138 (k0_pay414 i x0 x1) (k0_pay417 i x0 x1)⟩,
    ⟨r0_81, k0_pay136 (k0_pay427 i x0 x1) (k0_pay131 (k0_pay414 i x0 x1))⟩,
    ⟨r0_80, k0_pay135 (k0_pay134 (k0_pay414 i x0 x1) (k0_pay427 i x0 x1))⟩,
    ⟨r0_79, k0_pay133 (k0_pay414 i x0 x1) (k0_pay427 i x0 x1)⟩,
    ⟨r0_78, k0_pay132 (k0_pay414 i x0 x1) (k0_pay427 i x0 x1)⟩,
    ⟨r0_77, k0_pay130 (k0_pay427 i x0 x1) (k0_pay125 (k0_pay414 i x0 x1))⟩,
    ⟨r0_76, k0_pay129 (k0_pay427 i x0 x1) (k0_pay124 (k0_pay414 i x0 x1))⟩,
    ⟨r0_75, k0_pay128 (k0_pay127 (k0_pay414 i x0 x1) (k0_pay417 i x0 x1))⟩,
    ⟨r0_74, k0_pay126 (k0_pay414 i x0 x1) (k0_pay417 i x0 x1)⟩,
    ⟨r0_73, k0_pay122 (k0_pay426 i x0 x1) (k0_pay117 (k0_pay414 i x0 x1))⟩,
    ⟨r0_72, k0_pay121 (k0_pay426 i x0 x1) (k0_pay116 (k0_pay414 i x0 x1))⟩,
    ⟨r0_71, k0_pay120 (k0_pay426 i x0 x1) (k0_pay115 (k0_pay414 i x0 x1))⟩,
    ⟨r0_70, k0_pay119 (k0_pay118 (k0_pay414 i x0 x1) (k0_pay417 i x0 x1))⟩,
    ⟨r0_69, k0_pay114 (k0_pay414 i x0 x1) (k0_pay417 i x0 x1)⟩,
    ⟨r0_68, k0_pay113 (k0_pay414 i x0 x1) (k0_pay417 i x0 x1)⟩,
    ⟨r0_67, k0_pay112 (k0_pay414 i x0 x1) (k0_pay417 i x0 x1)⟩,
    ⟨r0_66, k0_pay111 (k0_pay414 i x0 x1) (k0_pay417 i x0 x1)⟩,
    ⟨r0_65, k0_pay109 (k0_pay414 i x0 x1) (k0_pay425 i x0 x1)⟩,
    ⟨r0_64, k0_pay108 (k0_pay414 i x0 x1) (k0_pay425 i x0 x1)⟩,
    ⟨r0_63, k0_pay107 (k0_pay414 i x0 x1) (k0_pay425 i x0 x1)⟩,
    ⟨r0_62, k0_pay106 (k0_pay414 i x0 x1) (k0_pay425 i x0 x1)⟩,
    ⟨r0_61, k0_pay105 (k0_pay425 i x0 x1) (k0_pay100 (k0_pay414 i x0 x1))⟩,
    ⟨r0_60, k0_pay104 (k0_pay103 (k0_pay414 i x0 x1) (k0_pay417 i x0 x1))⟩,
    ⟨r0_59, k0_pay102 (k0_pay414 i x0 x1) (k0_pay417 i x0 x1)⟩,
    ⟨r0_58, k0_pay101 (k0_pay414 i x0 x1) (k0_pay417 i x0 x1)⟩,
    ⟨r0_57, k0_pay98 (k0_pay424 i x0 x1) (k0_pay93 (k0_pay414 i x0 x1))⟩,
    ⟨r0_56, k0_pay97 (k0_pay424 i x0 x1) (k0_pay92 (k0_pay414 i x0 x1))⟩,
    ⟨r0_55, k0_pay96 (k0_pay95 (k0_pay414 i x0 x1) (k0_pay424 i x0 x1))⟩,
    ⟨r0_54, k0_pay94 (k0_pay414 i x0 x1) (k0_pay424 i x0 x1)⟩,
    ⟨r0_53, k0_pay91 (k0_pay424 i x0 x1) (k0_pay86 (k0_pay414 i x0 x1))⟩,
    ⟨r0_52, k0_pay90 (k0_pay424 i x0 x1) (k0_pay85 (k0_pay414 i x0 x1))⟩,
    ⟨r0_51, k0_pay89 (k0_pay424 i x0 x1) (k0_pay84 (k0_pay414 i x0 x1))⟩,
    ⟨r0_50, k0_pay88 (k0_pay87 (k0_pay414 i x0 x1) (k0_pay417 i x0 x1))⟩,
    ⟨r0_49, k0_pay82 (k0_pay414 i x0 x1) (k0_pay423 i x0 x1)⟩,
    ⟨r0_48, k0_pay81 (k0_pay414 i x0 x1) (k0_pay423 i x0 x1)⟩,
    ⟨r0_47, k0_pay80 (k0_pay414 i x0 x1) (k0_pay423 i x0 x1)⟩,
    ⟨r0_46, k0_pay79 (k0_pay423 i x0 x1) (k0_pay78 (k0_pay414 i x0 x1))⟩,
    ⟨r0_45, k0_pay77 (k0_pay414 i x0 x1) (k0_pay417 i x0 x1)⟩,
    ⟨r0_44, k0_pay76 (k0_pay414 i x0 x1) (k0_pay417 i x0 x1)⟩,
    ⟨r0_43, k0_pay75 (k0_pay414 i x0 x1) (k0_pay417 i x0 x1)⟩,
    ⟨r0_42, k0_pay74 (k0_pay414 i x0 x1) (k0_pay417 i x0 x1)⟩,
    ⟨r0_41, k0_pay72 (k0_pay422 i x0 x1) (k0_pay71 (k0_pay414 i x0 x1))⟩,
    ⟨r0_40, k0_pay70 (k0_pay414 i x0 x1) (k0_pay422 i x0 x1)⟩,
    ⟨r0_39, k0_pay69 (k0_pay414 i x0 x1) (k0_pay422 i x0 x1)⟩,
    ⟨r0_38, k0_pay68 (k0_pay414 i x0 x1) (k0_pay422 i x0 x1)⟩,
    ⟨r0_37, k0_pay67 (k0_pay422 i x0 x1) (k0_pay63 (k0_pay414 i x0 x1))⟩,
    ⟨r0_36, k0_pay66 (k0_pay422 i x0 x1) (k0_pay62 (k0_pay414 i x0 x1))⟩,
    ⟨r0_35, k0_pay65 (k0_pay414 i x0 x1) (k0_pay417 i x0 x1)⟩,
    ⟨r0_34, k0_pay64 (k0_pay414 i x0 x1) (k0_pay417 i x0 x1)⟩,
    ⟨r0_33, k0_pay60 (k0_pay421 i x0 x1) (k0_pay55 (k0_pay414 i x0 x1))⟩,
    ⟨r0_32, k0_pay59 (k0_pay421 i x0 x1) (k0_pay54 (k0_pay414 i x0 x1))⟩,
    ⟨r0_31, k0_pay58 (k0_pay421 i x0 x1) (k0_pay53 (k0_pay414 i x0 x1))⟩,
    ⟨r0_30, k0_pay57 (k0_pay56 (k0_pay414 i x0 x1) (k0_pay421 i x0 x1))⟩,
    ⟨r0_29, k0_pay52 (k0_pay414 i x0 x1) (k0_pay421 i x0 x1)⟩,
    ⟨r0_28, k0_pay51 (k0_pay414 i x0 x1) (k0_pay421 i x0 x1)⟩,
    ⟨r0_27, k0_pay50 (k0_pay421 i x0 x1) (k0_pay48 (k0_pay414 i x0 x1))⟩,
    ⟨r0_26, k0_pay49 (k0_pay421 i x0 x1) (k0_pay47 (k0_pay414 i x0 x1))⟩,
    ⟨r0_25, k0_pay45 (k0_pay414 i x0 x1) (k0_pay420 i x0 x1)⟩,
    ⟨r0_24, k0_pay44 (k0_pay414 i x0 x1) (k0_pay420 i x0 x1)⟩,
    ⟨r0_23, k0_pay43 (k0_pay414 i x0 x1) (k0_pay420 i x0 x1)⟩,
    ⟨r0_22, k0_pay42 (k0_pay414 i x0 x1) (k0_pay420 i x0 x1)⟩,
    ⟨r0_21, k0_pay41 (k0_pay40 (k0_pay414 i x0 x1) (k0_pay417 i x0 x1))⟩,
    ⟨r0_20, k0_pay39 (k0_pay414 i x0 x1) (k0_pay417 i x0 x1)⟩,
    ⟨r0_19, k0_pay38 (k0_pay414 i x0 x1) (k0_pay417 i x0 x1)⟩,
    ⟨r0_18, k0_pay37 (k0_pay414 i x0 x1) (k0_pay417 i x0 x1)⟩,
    ⟨r0_17, k0_pay35 (k0_pay419 i x0 x1) (k0_pay30 (k0_pay414 i x0 x1))⟩,
    ⟨r0_16, k0_pay34 (k0_pay33 (k0_pay414 i x0 x1) (k0_pay419 i x0 x1))⟩,
    ⟨r0_15, k0_pay32 (k0_pay414 i x0 x1) (k0_pay419 i x0 x1)⟩,
    ⟨r0_14, k0_pay31 (k0_pay414 i x0 x1) (k0_pay419 i x0 x1)⟩,
    ⟨r0_13, k0_pay29 (k0_pay419 i x0 x1) (k0_pay25 (k0_pay414 i x0 x1))⟩,
    ⟨r0_12, k0_pay28 (k0_pay419 i x0 x1) (k0_pay24 (k0_pay414 i x0 x1))⟩,
    ⟨r0_11, k0_pay27 (k0_pay419 i x0 x1) (k0_pay23 (k0_pay414 i x0 x1))⟩,
    ⟨r0_10, k0_pay26 (k0_pay414 i x0 x1) (k0_pay417 i x0 x1)⟩,
    ⟨r0_9, k0_pay21 (k0_pay418 i x0 x1) (k0_pay17 (k0_pay414 i x0 x1))⟩,
    ⟨r0_8, k0_pay20 (k0_pay418 i x0 x1) (k0_pay16 (k0_pay414 i x0 x1))⟩,
    ⟨r0_7, k0_pay19 (k0_pay418 i x0 x1) (k0_pay15 (k0_pay414 i x0 x1))⟩,
    ⟨r0_6, k0_pay18 (k0_pay418 i x0 x1) (k0_pay14 (k0_pay414 i x0 x1))⟩,
    ⟨r0_5, k0_pay13 (k0_pay414 i x0 x1) (k0_pay415 i x0 x1) (k0_pay416 i x0 x1)⟩,
    ⟨r0_4, k0_pay12 (k0_pay414 i x0 x1) (k0_pay415 i x0 x1) (k0_pay416 i x0 x1)⟩,
    ⟨r0_3, k0_pay11 (k0_pay414 i x0 x1) (k0_pay415 i x0 x1) (k0_pay416 i x0 x1)⟩,
    ⟨r0_2, k0_pay10 (k0_pay414 i x0 x1) (k0_pay415 i x0 x1) (k0_pay416 i x0 x1)⟩]

/-- What the body leaves in the output's staging buffer: its stores put together. -/
def out0_2 (i : grid0.Coords) (x0 : Vec F S1x8192x128 .fp8e5m2) (x1 : Vec F S1x1024x56 .f32) : Vec F S1x8x1024x128 .bf16 :=
  View.canon (pieces0 i x0 x1)

/-- The 256 stores tile the buffer (checked by evaluation), so they cover it. -/
theorem cover0_2 (i : grid0.Coords) (x0 : Vec F S1x8192x128 .fp8e5m2) (x1 : Vec F S1x1024x56 .f32) (y : S1x8x1024x128.Idx) :
    ∃ pc ∈ pieces0 i x0 x1, y ∈ pc.1.set :=
  View.cover_of_tiledL (pieces0 i x0 x1) S1x1x32x128.size (by sl_kernel_rfl) y

/-! ## The body's triple -/

set_option maxHeartbeats 3516000 in
/-- The kernel body on whole staging memrefs, the inputs' at read contents `xW` and the outputs' at anything, runs to
    the continuation holding the inputs' as they were and each output's at `out0_W` of the inputs': the printed functions
    are their skeletons (`*_eq_skeleton`), which `sl_exec` runs , through every part call. -/
theorem sound_kernel0 (c : Dev nD) (E : Set ℕ) (i : grid0.Coords) (arg3 : Memref sig .tc .vmem S1x8192x128 .fp8e5m2) (harg3 : arg3.IsWhole) (arg4 : Memref sig .tc .vmem S1x1024x56 .f32) (harg4 : arg4.IsWhole) (arg5 : Memref sig .tc .vmem S1x8x1024x128 .bf16) (harg5 : arg5.IsWhole)
    (x0 : Vec F S1x8192x128 .fp8e5m2) (x1 : Vec F S1x1024x56 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out0_2 i x0 x1)) -∗ K ⟨⟩))
      ⊢ wp frame (wpE (defs₀ (F := F)) Variants.none c none) E (cc0_expand i arg3 harg3 arg4 harg4 arg5 harg5) K := by
  simp only [cc0_expand_eq_skeleton]; unfold cc0_expand_skel
  simp only [k0_part53_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 i _ _)).trans ?_
  rfl

/-! ## The pipeline's proof data -/

/-- The proof data of pipeline 0 on core `c`: the arrays as the region finds them (`V`); after the body at
    point `t` each input's buffer at its block and each output's at `out0_W` of the input blocks; the invariant the
    class's (`ΦA`); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through the host program up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
/-- Window 1 after a grid point. -/
theorem after0_1 (c : Dev nD) (t : Fin cfg0.N) : (dat0 V c).after 1 t = iblk0 V c 1 t := by dsimp only [dat0]
/-- Window 2 after a grid point. -/
theorem after0_2 (c : Dev nD) (t : Fin cfg0.N) : (dat0 V c).after 2 t = out0_2 (grid0.coords t) (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Window 1 before a grid point. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (`BodyObligation`), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Whole

end
-- ==== Proof.KernelDx.lean ====
/- The second call, `dx`, as entered with the buffer contents `V`: three cases of the grid point (first, middle and last
   class of the eight), what each leaves in the two running sums and in the output block, and the body's obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`), by
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 168 := Nat.lt_of_lt_of_eq t.isLt N_1
    have e0 : (grid1.coords t 0).val = t.val / 56 % 3 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond1_0, e0, e1, e2]
    word_cmp
   : ∀ t : Fin grid1.N, cond1_0 (grid1.coords t) ↔ t.val % 8 = 0)

/-- The condition of the body's `scf.if` 1 (`k1_h2`), from the grid coordinates (the skeleton's scalar
    chain substituted). -/
abbrev cond1_1 (i : grid1.Coords) : Prop := k1_cond2 i = 1#1
/-- It holds at the points ≡ 7 (mod 8) — by arithmetic of the point. -/
theorem hcond1_1 : ∀ t : Fin cfg1.N, cond1_1 (grid1.coords t) ↔ t.val % 8 = 7 :=
  (fun t => by
    have ht : t.val < 168 := Nat.lt_of_lt_of_eq t.isLt N_1
    have e0 : (grid1.coords t 0).val = t.val / 56 % 3 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond1_1, k1_cond2, e0, e1, e2]
    word_cmp
   : ∀ t : Fin grid1.N, cond1_1 (grid1.coords t) ↔ t.val % 8 = 7)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1x2048x512 .bf16 := (Memref.whole cc1_stg3_0 : Memref sig .tc .vmem S1x2048x512 .bf16).view
/-- Each window's current staging memref at point `t`, spelled as the pipeline passes it (`bodyAt1`), and its wholeness. -/
abbrev ms1_0 (t : Fin cfg1.N) : Memref sig .tc .vmem S1x1x2048x1792 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x1x512x1792 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1792 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x512 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S2048x512 .f32 := Memref.whole cc1_scratch0
abbrev scM1_1 : Memref sig .tc .vmem S2048x512 .f32 := Memref.whole cc1_scratch1
/-- The scratch `arg7` the kernel carries between points, as a view: what it holds is stated through it. -/
abbrev VS1_0 : View sig .tc .vmem S2048x512 .f32 := scM1_0.view
/-- The scratch `arg8` the kernel carries between points, as a view: what it holds is stated through it. -/
abbrev VS1_1 : View sig .tc .vmem S2048x512 .f32 := scM1_1.view

/-- A whole scoped buffer at some contents. -/
abbrev anyBuf (c : Dev nD) (b : Ref sig .tc) : sProp 𝕄 :=
  iprop(∃ f : Buf (Elt F) ((c : Thread nD τ).loc b), ((c : Thread nD τ).loc b) ↦{fullShare} f)

/-- What the body does not touch: the other calls' staging buffers at some contents and the generator register. -/
def Rest1 (c : Dev nD) : sProp 𝕄 :=
  iprop((anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc2_stg0_0 ∗ anyBuf (F := F) c cc2_stg0_1 ∗ anyBuf (F := F) c cc2_stg1_0 ∗ anyBuf (F := F) c cc2_stg1_1 ∗ anyBuf (F := F) c cc2_stg2_0 ∗ anyBuf (F := F) c cc2_stg2_1) ∗ (∃ r, prngReg c r))

/-- The invariant before the first point: both running sums at anything. -/
def PhiH (c : Dev nD) : sProp 𝕄 :=
  iprop(iprop((∃ d, owns (c : Thread nD τ) (scM1_0 : Memref sig .tc .vmem S2048x512 .f32) fullShare (d : Vec F S2048x512 .f32)) ∗ (∃ d, owns (c : Thread nD τ) (scM1_1 : Memref sig .tc .vmem S2048x512 .f32) fullShare (d : Vec F S2048x512 .f32))) ∗ Rest1 (F := F) c)

/-- The invariant before the first point, out of what the launch hands the call. -/
theorem PhiH_of (c : Dev nD) : (Pipeline.ΦA spec1 c : sProp 𝕄) ⊢ PhiH (F := F) c := by
  unfold Pipeline.ΦA PhiH Rest1; rw [scopedRest1_eq]; simp only [scM1_0, scM1_1, owns_whole]
  iintro ⟨⟨A0, A1, A2, A3, A4, A5, S0, S1, C0, C1, C2, C3, C4, C5⟩, Hg⟩
  isplitl [S0 S1]
  · isplitl [S0]; · iexact S0
    iexact S1
  isplitr [Hg]
  · isplitl [A0]; · iexact A0
    isplitl [A1]; · iexact A1
    isplitl [A2]; · iexact A2
    isplitl [A3]; · iexact A3
    isplitl [A4]; · iexact A4
    isplitl [A5]; · iexact A5
    isplitl [C0]; · iexact C0
    isplitl [C1]; · iexact C1
    isplitl [C2]; · iexact C2
    isplitl [C3]; · iexact C3
    isplitl [C4]; · iexact C4
    iexact C5
  iexact Hg

/-- and back. -/
theorem of_PhiH (c : Dev nD) : PhiH (F := F) c ⊢ (Pipeline.ΦA spec1 c : sProp 𝕄) := by
  unfold Pipeline.ΦA PhiH Rest1; rw [scopedRest1_eq]; simp only [scM1_0, scM1_1, owns_whole]
  iintro ⟨⟨S0, S1⟩, ⟨A0, A1, A2, A3, A4, A5, C0, C1, C2, C3, C4, C5⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [S0]; · iexact S0
    isplitl [S1]; · iexact S1
    isplitl [C0]; · iexact C0
    isplitl [C1]; · iexact C1
    isplitl [C2]; · iexact C2
    isplitl [C3]; · iexact C3
    isplitl [C4]; · iexact C4
    iexact C5
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 160: 21 of 168), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun1_A (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) :
    Σ' (L3 : List (View.Piece (Elt F) S1x2048x512 .bf16)), Σ' (LS0 : List (View.Piece (Elt F) S2048x512 .f32)), { LS1 : List (View.Piece (Elt F) S2048x512 .f32) //
      ∀ (xi3 : Vec F S1x2048x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_dx i arg3 harg3 arg4 harg4 arg5 harg5 arg6 harg6 arg7 harg7 arg8 harg8) K } := by
  refine ⟨[], ?_, ?_, fun xi3 E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 166: 126 of 168), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun1_B (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) :
    Σ' (L3 : List (View.Piece (Elt F) S1x2048x512 .bf16)), Σ' (LS0 : List (View.Piece (Elt F) S2048x512 .f32)), { LS1 : List (View.Piece (Elt F) S2048x512 .f32) //
      ∀ (xi3 : Vec F S1x2048x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_dx i arg3 harg3 arg4 harg4 arg5 harg5 arg6 harg6 arg7 harg7 arg8 harg8) K } := by
  refine ⟨[], ?_, ?_, fun xi3 E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7, 15, … 167: 21 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun1_C (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) :
    Σ' (L3 : List (View.Piece (Elt F) S1x2048x512 .bf16)), Σ' (LS0 : List (View.Piece (Elt F) S2048x512 .f32)), { LS1 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_dx i arg3 harg3 arg4 harg4 arg5 harg5 arg6 harg6 arg7 harg7 arg8 harg8) K } := by
  refine ⟨?_, ?_, ?_, fun E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

/-- Case A stores nothing into output 3 (the window is idle at its points and not written back there):
    no pieces — a placeholder (junk read back) that nothing consults, since at these points the window is neither
    written back nor read at the next point ("Idle points"). -/
def out1_A_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) : Vec F S1x2048x512 .bf16 :=
  VO1_3.read (Elt F) (VO1_3.writes (Elt F) VO1_3.junk (kernelRun1_A c i arg3 harg3 arg4 harg4 arg5 harg5 arg6 harg6 arg7 harg7 arg8 harg8 hc0 hc1 x0 x1 x2).1)

/-- Case A's pieces for scratch `arg7`, which the kernel carries between points, cover it: 2 pieces of `S2048x512` tiling it (`Piece.tiledL`). -/
theorem scover1_A_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) (y : S2048x512.Idx) :
    ∃ pc ∈ (kernelRun1_A c i arg3 harg3 arg4 harg4 arg5 harg5 arg6 harg6 arg7 harg7 arg8 harg8 hc0 hc1 x0 x1 x2).2.1, y ∈ pc.1.set :=
  View.cover_of_tiledL (kernelRun1_A c i arg3 harg3 arg4 harg4 arg5 harg5 arg6 harg6 arg7 harg7 arg8 harg8 hc0 hc1 x0 x1 x2).2.1 S2048x512.size (by sl_kernel_rfl) y

/-- What case A leaves in scratch `arg7`: its pieces read back over junk. -/
def sout1_A_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) : Vec F S2048x512 .f32 :=
  VS1_0.read (Elt F) (VS1_0.writes (Elt F) VS1_0.junk (kernelRun1_A c i arg3 harg3 arg4 harg4 arg5 harg5 arg6 harg6 arg7 harg7 arg8 harg8 hc0 hc1 x0 x1 x2).2.1)

/-- Case A's pieces for scratch `arg8`, which the kernel carries between points, cover it: 2 pieces of `S2048x512` tiling it (`Piece.tiledL`). -/
theorem scover1_A_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) (y : S2048x512.Idx) :
    ∃ pc ∈ (kernelRun1_A c i arg3 harg3 arg4 harg4 arg5 harg5 arg6 harg6 arg7 harg7 arg8 harg8 hc0 hc1 x0 x1 x2).2.2.1, y ∈ pc.1.set :=
  View.cover_of_tiledL (kernelRun1_A c i arg3 harg3 arg4 harg4 arg5 harg5 arg6 harg6 arg7 harg7 arg8 harg8 hc0 hc1 x0 x1 x2).2.2.1 S2048x512.size (by sl_kernel_rfl) y

/-- What case A leaves in scratch `arg8`: its pieces read back over junk. -/
def sout1_A_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) : Vec F S2048x512 .f32 :=
  VS1_1.read (Elt F) (VS1_1.writes (Elt F) VS1_1.junk (kernelRun1_A c i arg3 harg3 arg4 harg4 arg5 harg5 arg6 harg6 arg7 harg7 arg8 harg8 hc0 hc1 x0 x1 x2).2.2.1)

/-- Case B stores nothing into output 3 (the window is idle at its points and not written back there):
    no pieces — a placeholder (junk read back) that nothing consults, since at these points the window is neither
    written back nor read at the next point ("Idle points"). -/
def out1_B_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S1x2048x512 .bf16 :=
  VO1_3.read (Elt F) (VO1_3.writes (Elt F) VO1_3.junk (kernelRun1_B c i arg3 harg3 arg4 harg4 arg5 harg5 arg6 harg6 arg7 harg7 arg8 harg8 hc0 hc1 x0 x1 x2 xs0 xs1).1)

/-- Case B's pieces for scratch `arg7`, which the kernel carries between points, cover it: 1 piece of `S2048x512` tiling it (`Piece.tiledL`). -/
theorem scover1_B_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_B c i arg3 harg3 arg4 harg4 arg5 harg5 arg6 harg6 arg7 harg7 arg8 harg8 hc0 hc1 x0 x1 x2 xs0 xs1).2.1, y ∈ pc.1.set :=
  View.cover_of_tiledL (kernelRun1_B c i arg3 harg3 arg4 harg4 arg5 harg5 arg6 harg6 arg7 harg7 arg8 harg8 hc0 hc1 x0 x1 x2 xs0 xs1).2.1 S2048x512.size (by sl_kernel_rfl) y

/-- What case B leaves in scratch `arg7`: its pieces read back over junk. -/
def sout1_B_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_0.read (Elt F) (VS1_0.writes (Elt F) VS1_0.junk (kernelRun1_B c i arg3 harg3 arg4 harg4 arg5 harg5 arg6 harg6 arg7 harg7 arg8 harg8 hc0 hc1 x0 x1 x2 xs0 xs1).2.1)

/-- Case B's pieces for scratch `arg8`, which the kernel carries between points, cover it: 1 piece of `S2048x512` tiling it (`Piece.tiledL`). -/
theorem scover1_B_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_B c i arg3 harg3 arg4 harg4 arg5 harg5 arg6 harg6 arg7 harg7 arg8 harg8 hc0 hc1 x0 x1 x2 xs0 xs1).2.2.1, y ∈ pc.1.set :=
  View.cover_of_tiledL (kernelRun1_B c i arg3 harg3 arg4 harg4 arg5 harg5 arg6 harg6 arg7 harg7 arg8 harg8 hc0 hc1 x0 x1 x2 xs0 xs1).2.2.1 S2048x512.size (by sl_kernel_rfl) y

/-- What case B leaves in scratch `arg8`: its pieces read back over junk. -/
def sout1_B_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_1.read (Elt F) (VS1_1.writes (Elt F) VS1_1.junk (kernelRun1_B c i arg3 harg3 arg4 harg4 arg5 harg5 arg6 harg6 arg7 harg7 arg8 harg8 hc0 hc1 x0 x1 x2 xs0 xs1).2.2.1)

/-- Case C's pieces for output 3 tile its block (1 store of `S1x2048x512`, checked by the kernel's evaluation: `Piece.tiledL`, linear in the pieces, through a loop's `@[irreducible]` trip theorem too), so they cover it. -/
theorem cover1_C_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S1x2048x512.Idx) :
    ∃ pc ∈ (kernelRun1_C c i arg3 harg3 arg4 harg4 arg5 harg5 arg6 harg6 arg7 harg7 arg8 harg8 hc0 hc1 x0 x1 x2 xs0 xs1).1, y ∈ pc.1.set :=
  View.cover_of_tiledL (kernelRun1_C c i arg3 harg3 arg4 harg4 arg5 harg5 arg6 harg6 arg7 harg7 arg8 harg8 hc0 hc1 x0 x1 x2 xs0 xs1).1 S1x2048x512.size (by sl_kernel_rfl) y

/-- What case C leaves in output 3's staging buffer: its pieces read back over junk. -/
def out1_C_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S1x2048x512 .bf16 :=
  VO1_3.read (Elt F) (VO1_3.writes (Elt F) VO1_3.junk (kernelRun1_C c i arg3 harg3 arg4 harg4 arg5 harg5 arg6 harg6 arg7 harg7 arg8 harg8 hc0 hc1 x0 x1 x2 xs0 xs1).1)

/-- Case C's pieces for scratch `arg7`, which the kernel carries between points, cover it: 1 piece of `S2048x512` tiling it (`Piece.tiledL`). -/
theorem scover1_C_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_C c i arg3 harg3 arg4 harg4 arg5 harg5 arg6 harg6 arg7 harg7 arg8 harg8 hc0 hc1 x0 x1 x2 xs0 xs1).2.1, y ∈ pc.1.set :=
  View.cover_of_tiledL (kernelRun1_C c i arg3 harg3 arg4 harg4 arg5 harg5 arg6 harg6 arg7 harg7 arg8 harg8 hc0 hc1 x0 x1 x2 xs0 xs1).2.1 S2048x512.size (by sl_kernel_rfl) y

/-- What case C leaves in scratch `arg7`: its pieces read back over junk. -/
def sout1_C_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_0.read (Elt F) (VS1_0.writes (Elt F) VS1_0.junk (kernelRun1_C c i arg3 harg3 arg4 harg4 arg5 harg5 arg6 harg6 arg7 harg7 arg8 harg8 hc0 hc1 x0 x1 x2 xs0 xs1).2.1)

/-- Case C's pieces for scratch `arg8`, which the kernel carries between points, cover it: 1 piece of `S2048x512` tiling it (`Piece.tiledL`). -/
theorem scover1_C_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_C c i arg3 harg3 arg4 harg4 arg5 harg5 arg6 harg6 arg7 harg7 arg8 harg8 hc0 hc1 x0 x1 x2 xs0 xs1).2.2.1, y ∈ pc.1.set :=
  View.cover_of_tiledL (kernelRun1_C c i arg3 harg3 arg4 harg4 arg5 harg5 arg6 harg6 arg7 harg7 arg8 harg8 hc0 hc1 x0 x1 x2 xs0 xs1).2.2.1 S2048x512.size (by sl_kernel_rfl) y

/-- What case C leaves in scratch `arg8`: its pieces read back over junk. -/
def sout1_C_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_1.read (Elt F) (VS1_1.writes (Elt F) VS1_1.junk (kernelRun1_C c i arg3 harg3 arg4 harg4 arg5 harg5 arg6 harg6 arg7 harg7 arg8 harg8 hc0 hc1 x0 x1 x2 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x2048x512 .bf16 × Vec F S2048x512 .f32 × Vec F S2048x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by have hN : n + 1 < 168 := lt_of_lt_of_eq hn (show cfg1.N = 168 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a point of case A: that case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (`ΦA`); afterwards the scoped rest with each carried scratch
    at what the point before left in it (`outsAt1`'s scratch components), the others at anything, and the generator register
    at some state. -/
def PhiS (c : Dev nD) : (n : ℕ) → n ≤ cfg1.N → sProp 𝕄
  | 0, _ => PhiH (F := F) c
  | n + 1, hn => iprop(iprop(owns (c : Thread nD τ) scM1_0 fullShare ((outsAt1 V c n hn).2.1) ∗ owns (c : Thread nD τ) scM1_1 fullShare ((outsAt1 V c n hn).2.2)) ∗ Rest1 (F := F) c)

/-- At the first grid point the scratch buffers are as the call found them. -/
theorem PhiS_zero (c : Dev nD) (n : ℕ) (h : n ≤ cfg1.N) (hz : n = 0) : PhiS V c n h = PhiH (F := F) c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2)) ∗ Rest1 (F := F) c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2)) ∗ Rest1 (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over the host program's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
/-- Window 1 after a grid point. -/
theorem after1_1 (c : Dev nD) (t : Fin cfg1.N) : (dat1 V c).after 1 t = iblk1 V c 1 t := by dsimp only [dat1]
/-- Window 2 after a grid point. -/
theorem after1_2 (c : Dev nD) (t : Fin cfg1.N) : (dat1 V c).after 2 t = iblk1 V c 2 t := by dsimp only [dat1]
/-- Window 3 after a grid point. -/
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Window 1 before a grid point. -/
theorem before1_1 (c : Dev nD) (t : Fin cfg1.N) (d) : (dat1 V c).before 1 t d = iblk1 V c 1 t :=
  before1_1_of V (dat1 V c) (A_eq1 V c 1) (after1_1 V c) t d
/-- Window 2 before a grid point. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (`BodyObligation`), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 168 := lt_of_lt_of_eq t.isLt (show cfg1.N = 168 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS_castSucc V c t, PhiS_zero V c _ _ hz]; unfold PhiH
        rw [outsAt1_A V c t h0 h1]
        unfold sout1_A_0 sout1_A_1; (try dsimp only)
        iintro ⟨⟨⟨HS0, HS1⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        rw [outsAt1_A V c t h0 h1]
        unfold sout1_A_0 sout1_A_1; (try dsimp only)
        iintro ⟨⟨⟨HS0, HS1⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      by_cases hz : t.val = 0
      · exfalso; have hN : t.val < 168 := lt_of_lt_of_eq t.isLt (show cfg1.N = 168 from N_1); omega
      · rw [PhiS_castSucc V c t, PhiS_pos V c _ _ hz]
        rw [outsAt1_C V c t h0 h1]
        unfold out1_C_3 sout1_C_0 sout1_C_1; (try dsimp only)
        iintro ⟨⟨⟨HS0, HS1⟩, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 168 := lt_of_lt_of_eq t.isLt (show cfg1.N = 168 from N_1); omega
      · rw [PhiS_castSucc V c t, PhiS_pos V c _ _ hz]
        rw [outsAt1_B V c t h0 h1]
        unfold sout1_B_0 sout1_B_1; (try dsimp only)
        iintro ⟨⟨⟨HS0, HS1⟩, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  exact PhiH_of c

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (of_PhiH c)
  unfold PhiH
  iintro ⟨⟨HS0, HS1⟩, Hg⟩
  isplitl [HS0 HS1]
  · isplitl [HS0]
    · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 168 := N_1; omega)

end Cert.Kernel.Whole

end
-- ==== Proof.KernelDw.lean ====
/- The third call, `dw`, as entered with the buffer contents `V`: what one body run leaves, and its obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 2: custom_call 2, `cc2_dw` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S3x1x2048x256 := Rect.unit (s := S3x1x2048x256) ![0, 0, 0, 0] S3x1x2048x256.size inb_S3x1x2048x256_S3x1x2048x256_0_0_0_0
abbrev r2_1 : Rect S896x6144 := Rect.unit (s := S896x6144) ![0, 0] S896x6144.size inb_S896x6144_S896x6144_0_0
abbrev r2_2 : Rect S1x896x256 := Rect.unit (s := S1x896x256) ![0, 0, 0] S1x896x256.size inb_S1x896x256_S1x896x256_0_0_0

/-! ## What the body leaves in each output window's buffer -/

/-- Window 2's staging buffer after the body, from the input windows' blocks: its 1 store as pieces, LAST
    FIRST (`View.canon`). -/
def out2_2 (x0 : Vec F S896x6144 .bf16) (x1 : Vec F S3x1x2048x256 .bf16) : Vec F S1x896x256 .f32 :=
  View.canon [⟨r2_2, k2_pay1 (View.ld x1 r2_0) (View.ld x0 r2_1)⟩]

/-- Its stores tile the buffer (checked by evaluation), so they cover it. -/
theorem cover2_2 (p0 : Vec F S1x896x256 .f32) (y : S1x896x256.Idx) :
    ∃ pc ∈ ([⟨r2_2, p0⟩] : List (View.Piece (Elt F) S1x896x256 .f32)), y ∈ pc.1.set :=
  View.cover_of_tiled [⟨r2_2, p0⟩] S1x896x256.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`*_eq_skeleton`), which `sl_exec` runs , through every part call. -/
theorem sound_kernel2 (c : Dev nD) (E : Set ℕ) (i : grid2.Coords) (arg2 : Memref sig .tc .vmem S896x6144 .bf16) (harg2 : arg2.IsWhole) (arg3 : Memref sig .tc .vmem S3x1x2048x256 .bf16) (harg3 : arg3.IsWhole) (arg4 : Memref sig .tc .vmem S1x896x256 .f32) (harg4 : arg4.IsWhole)
    (x0 : Vec F S896x6144 .bf16) (x1 : Vec F S3x1x2048x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2_dw i arg2 harg2 arg3 harg3 arg4 harg4) K := by
  simp only [cc2_dw_eq_skeleton]; unfold cc2_dw_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's (`ΦA`); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through the host program up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: `Dat`). -/
theorem after2_0 (c : Dev nD) (t : Fin cfg2.N) : (dat2 V c).after 0 t = iblk2 V c 0 t := by dsimp only [dat2]
/-- Window 1 after a grid point. -/
theorem after2_1 (c : Dev nD) (t : Fin cfg2.N) : (dat2 V c).after 1 t = iblk2 V c 1 t := by dsimp only [dat2]
/-- Window 2 after a grid point. -/
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- Window 1 before a grid point. -/
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (`BodyObligation`), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (`triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Whole

end
-- ==== Proof.KernelRun.lean ====
/- The whole program: the buffer contents at each boundary between host stretches and calls (`W0` … `W7`), each call
   entered from one boundary and left at the next, and the run of the three calls in order. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.RegionsLoop
public import Idealize.ShloMosaic.Lib.Pipeline.FrameSuffix
public import proofs.«01_k».proof.Proof.KernelExpand
public import proofs.«01_k».proof.Proof.KernelDx
public import proofs.«01_k».proof.Proof.KernelDw

@[expose] public section

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: the host program's segments from the launch to the return (`θ_run_regions_kit`) -/

/-- the host program's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2]
/-- The buffers this host stretch writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_c]
/-- The buffers this host stretch writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call0_v0, main_v7]
/-- The buffers this host stretch writes. -/
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v8, main_v9, main_v10]
/-- The buffers this host stretch writes. -/
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-! ## The buffer contents at each segment boundary: a fold through the host program, and what each item leaves unchanged -/

/-- Core `c`'s buffers at launch (region 0's entry). -/
abbrev W0 : Dev nD → Valuation τ sig (Elt F) := fun c b => (s₀ m ρ).mem ((c : Dev nD), b)
/-- At this boundary the arguments still hold what the launch gave them. -/
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (`withArrays`). -/
def W1 (c : Dev nD) : Valuation τ sig (Elt F) :=
  Pipeline.withArrays spec0 c (W0 m ρ c) fun w => (dat0 (V0 m ρ) c).arrAt w cfg0.N
/-- At this boundary a call's array holds what the call leaves in it. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- At this boundary a buffer that is no array of the call is as before it. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- At this boundary the arguments still hold what the launch gave them. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V0 m ρ) c).arrAt w cfg0.N = V1 m ρ c (Pipeline.arrRef spec0 w) :=
  (W1_arr m ρ c w).symm
/-- The call's buffers that are no window's array are as at its entry. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- At this boundary the arguments still hold what the launch gave them. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (`withArrays`). -/
def W3 (c : Dev nD) : Valuation τ sig (Elt F) :=
  Pipeline.withArrays spec1 c (W2 m ρ c) fun w => (dat1 (V2 m ρ) c).arrAt w cfg1.N
/-- At this boundary a call's array holds what the call leaves in it. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- At this boundary a buffer that is no array of the call is as before it. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At this boundary the arguments still hold what the launch gave them. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The call's buffers that are no window's array are as at its entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At this boundary the arguments still hold what the launch gave them. -/
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- After `hostOps2_1`. -/
abbrev W5 : Dev nD → Valuation τ sig (Elt F) := fun c => StableHlo.after hostOps2_1 (W4 m ρ c)
/-- A reference `hostOps2_1` does not write keeps its contents across it. -/
theorem W5_of (c : Dev nD) (r : Ref sig .tc) (h : r ∉ hostOps2_1_W) : W5 m ρ c (Proc.devRef .tc r) = W4 m ρ c (Proc.devRef .tc r) :=
  StableHlo.after_of_writes_sub hostOps2_1 _ hostOps2_1_writes h
/-- At this boundary the arguments still hold what the launch gave them. -/
theorem W5_args (c : Dev nD) : ∀ a ∈ argRefs, W5 m ρ c (Proc.devRef .tc a) = m ((c : Thread nD τ).loc a) :=
  fun a ha => (W5_of m ρ c a (hostOps2_1_args a ha)).trans (W4_args m ρ c a ha)
/-- After `hostOps2_2` (region 2's entry). -/
abbrev W6 : Dev nD → Valuation τ sig (Elt F) := fun c => StableHlo.after hostOps2_2 (W5 m ρ c)
/-- A reference `hostOps2_2` does not write keeps its contents across it. -/
theorem W6_of (c : Dev nD) (r : Ref sig .tc) (h : r ∉ hostOps2_2_W) : W6 m ρ c (Proc.devRef .tc r) = W5 m ρ c (Proc.devRef .tc r) :=
  StableHlo.after_of_writes_sub hostOps2_2 _ hostOps2_2_writes h
/-- At this boundary the arguments still hold what the launch gave them. -/
theorem W6_args (c : Dev nD) : ∀ a ∈ argRefs, W6 m ρ c (Proc.devRef .tc a) = m ((c : Thread nD τ).loc a) :=
  fun a ha => (W6_of m ρ c a (hostOps2_2_args a ha)).trans (W5_args m ρ c a ha)
/-- The same read at the TensorCore's references (what region 2's proof data take). -/
abbrev V6 : (c : Dev nD) → (b : Ref sig .tc) → Buf (Elt F) ((c : Thread nD τ).loc b) := fun c b => W6 m ρ c b
/-- At region 2's exit: its arrays at what the pipeline leaves (the inputs as entered, each output's write-backs
    folded: `Dat.arrAt … N`), every other buffer as entered (`withArrays`). -/
def W7 (c : Dev nD) : Valuation τ sig (Elt F) :=
  Pipeline.withArrays spec2 c (W6 m ρ c) fun w => (dat2 (V6 m ρ) c).arrAt w cfg2.N
/-- At this boundary a call's array holds what the call leaves in it. -/
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
/-- At this boundary a buffer that is no array of the call is as before it. -/
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- At this boundary the arguments still hold what the launch gave them. -/
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V6 m ρ) c).arrAt w cfg2.N = V7 m ρ c (Pipeline.arrRef spec2 w) :=
  (W7_arr m ρ c w).symm
/-- The call's buffers that are no window's array are as at its entry. -/
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ### The arguments end as launched: no host stretch writes one and no region may change one (a region reads it
    through an input window or bypasses it) -/

/-- Argument 0 is unchanged at the end. -/
theorem W7_main_arg0 (c : Dev nD) : W7 m ρ c (Proc.devRef .tc main_arg0) = m ((c : Thread nD τ).loc main_arg0) :=
  W7_args m ρ c main_arg0 (by decide)
/-- Argument 1 is unchanged at the end. -/
theorem W7_main_arg1 (c : Dev nD) : W7 m ρ c (Proc.devRef .tc main_arg1) = m ((c : Thread nD τ).loc main_arg1) :=
  W7_args m ρ c main_arg1 (by decide)
/-- Argument 2 is unchanged at the end. -/
theorem W7_main_arg2 (c : Dev nD) : W7 m ρ c (Proc.devRef .tc main_arg2) = m ((c : Thread nD τ).loc main_arg2) :=
  W7_args m ρ c main_arg2 (by decide)
/-- Argument 3 is unchanged at the end. -/
theorem W7_main_arg3 (c : Dev nD) : W7 m ρ c (Proc.devRef .tc main_arg3) = m ((c : Thread nD τ).loc main_arg3) :=
  W7_args m ρ c main_arg3 (by decide)
/-- Argument 4 is unchanged at the end. -/
theorem W7_main_arg4 (c : Dev nD) : W7 m ρ c (Proc.devRef .tc main_arg4) = m ((c : Thread nD τ).loc main_arg4) :=
  W7_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## the host program as segments, and the launch -/

/-- the host program's 7 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .region (reg2 m ρ) ]
/-- the host program IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every execution ends, with every unscoped buffer at the last boundary's
    contents `W7` and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c => h c, funext fun g => hz g (.inr (no_unscoped g.2))⟩)

/-- The frame: every argument array ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩, h.2⟩) (run m ρ)

end Cert.Kernel.Whole

end
-- ==== Proof.KernelIdealExpand.lean ====
/- The first call, `expand`, as entered with the buffer contents `V`: what one body run stores (256 blocks of
   32 frames, pieced together), that the stores cover the output block, and that the body meets its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 0: custom_call 0, `cc0_expand` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x8192x128 := Rect.unit (s := S1x8192x128) ![0, 0, 0] S1x8192x128.size inb_S1x8192x128_S1x8192x128_0_0_0
abbrev r0_1 : Rect S1x1024x56 := Rect.unit (s := S1x1024x56) ![0, 0, 0] S1x1024x56.size inb_S1x1024x56_S1x1024x56_0_0_0
abbrev r0_2 : Rect S1x8x1024x128 := Rect.unit (s := S1x8x1024x128) ![0, 0, 0, 0] S1x1x32x128.size inb_S1x8x1024x128_S1x1x32x128_0_0_0_0
abbrev r0_3 : Rect S1x8x1024x128 := Rect.unit (s := S1x8x1024x128) ![0, 1, 0, 0] S1x1x32x128.size inb_S1x8x1024x128_S1x1x32x128_0_1_0_0
abbrev r0_4 : Rect S1x8x1024x128 := Rect.unit (s := S1x8x1024x128) ![0, 2, 0, 0] S1x1x32x128.size inb_S1x8x1024x128_S1x1x32x128_0_2_0_0
abbrev r0_5 : Rect S1x8x1024x128 := Rect.unit (s := S1x8x1024x128) ![0, 3, 0, 0] S1x1x32x128.size inb_S1x8x1024x128_S1x1x32x128_0_3_0_0
abbrev r0_6 : Rect S1x8x1024x128 := Rect.unit (s := S1x8x1024x128) ![0, 4, 0, 0] S1x1x32x128.size inb_S1x8x1024x128_S1x1x32x128_0_4_0_0
abbrev r0_7 : Rect S1x8x1024x128 := Rect.unit (s := S1x8x1024x128) ![0, 5, 0, 0] S1x1x32x128.size inb_S1x8x1024x128_S1x1x32x128_0_5_0_0
abbrev r0_8 : Rect S1x8x1024x128 := Rect.unit (s := S1x8x1024x128) ![0, 6, 0, 0] S1x1x32x128.size inb_S1x8x1024x128_S1x1x32x128_0_6_0_0
abbrev r0_9 : Rect S1x8x1024x128 := Rect.unit (s := S1x8x1024x128) ![0, 7, 0, 0] S1x1x32x128.size inb_S1x8x1024x128_S1x1x32x128_0_7_0_0
abbrev r0_10 : Rect S1x8x1024x128 := Rect.unit (s := S1x8x1024x128) ![0, 0, 32, 0] S1x1x32x128.size inb_S1x8x1024x128_S1x1x32x128_0_0_32_0
abbrev r0_11 : Rect S1x8x1024x128 := Rect.unit (s := S1x8x1024x128) ![0, 1, 32, 0] S1x1x32x128.size inb_S1x8x1024x128_S1x1x32x128_0_1_32_0
abbrev r0_12 : Rect S1x8x1024x128 := Rect.unit (s := S1x8x1024x128) ![0, 2, 32, 0] S1x1x32x128.size inb_S1x8x1024x128_S1x1x32x128_0_2_32_0
abbrev r0_13 : Rect S1x8x1024x128 := Rect.unit (s := S1x8x1024x128) ![0, 3, 32, 0] S1x1x32x128.size inb_S1x8x1024x128_S1x1x32x128_0_3_32_0
abbrev r0_14 : Rect S1x8x1024x128 := Rect.unit (s := S1x8x1024x128) ![0, 4, 32, 0] S1x1x32x128.size inb_S1x8x1024x128_S1x1x32x128_0_4_32_0
abbrev r0_15 : Rect S1x8x1024x128 := Rect.unit (s := S1x8x1024x128) ![0, 5, 32, 0] S1x1x32x128.size inb_S1x8x1024x128_S1x1x32x128_0_5_32_0
abbrev r0_16 : Rect S1x8x1024x128 := Rect.unit (s := S1x8x1024x128) ![0, 6, 32, 0] S1x1x32x128.size inb_S1x8x1024x128_S1x1x32x128_0_6_32_0
abbrev r0_17 : Rect S1x8x1024x128 := Rect.unit (s := S1x8x1024x128) ![0, 7, 32, 0] S1x1x32x128.size inb_S1x8x1024x128_S1x1x32x128_0_7_32_0
abbrev r0_18 : Rect S1x8x1024x128 := Rect.unit (s := S1x8x1024x128) ![0, 0, 64, 0] S1x1x32x128.size inb_S1x8x1024x128_S1x1x32x128_0_0_64_0
abbrev r0_19 : Rect S1x8x1024x128 := Rect.unit (s := S1x8x1024x128) ![0, 1, 64, 0] S1x1x32x128.size inb_S1x8x1024x128_S1x1x32x128_0_1_64_0
abbrev r0_20 : Rect S1x8x1024x128 := Rect.unit (s := S1x8x1024x128) ![0, 2, 64, 0] S1x1x32x128.size inb_S1x8x1024x128_S1x1x32x128_0_2_64_0
abbrev r0_21 : Rect S1x8x1024x128 := Rect.unit (s := S1x8x1024x128) ![0, 3, 64, 0] S1x1x32x128.size inb_S1x8x1024x128_S1x1x32x128_0_3_64_0
abbrev r0_22 : Rect S1x8x1024x128 := Rect.unit (s := S1x8x1024x128) ![0, 4, 64, 0] S1x1x32x128.size inb_S1x8x1024x128_S1x1x32x128_0_4_64_0
abbrev r0_23 : Rect S1x8x1024x128 := Rect.unit (s := S1x8x1024x128) ![0, 5, 64, 0] S1x1x32x128.size inb_S1x8x1024x128_S1x1x32x128_0_5_64_0
abbrev r0_24 : Rect S1x8x1024x128 := Rect.unit (s := S1x8x1024x128) ![0, 6, 64, 0] S1x1x32x128.size inb_S1x8x1024x128_S1x1x32x128_0_6_64_0
abbrev r0_25 : Rect S1x8x1024x128 := Rect.unit (s := S1x8x1024x128) ![0, 7, 64, 0] S1x1x32x128.size inb_S1x8x1024x128_S1x1x32x128_0_7_64_0
abbrev r0_26 : Rect S1x8x1024x128 := Rect.unit (s := S1x8x1024x128) ![0, 0, 96, 0] S1x1x32x128.size inb_S1x8x1024x128_S1x1x32x128_0_0_96_0
abbrev r0_27 : Rect S1x8x1024x128 := Rect.unit (s := S1x8x1024x128) ![0, 1, 96, 0] S1x1x32x128.size inb_S1x8x1024x128_S1x1x32x128_0_1_96_0
abbrev r0_28 : Rect S1x8x1024x128 := Rect.unit (s := S1x8x1024x128) ![0, 2, 96, 0] S1x1x32x128.size inb_S1x8x1024x128_S1x1x32x128_0_2_96_0
abbrev r0_29 : Rect S1x8x1024x128 := Rect.unit (s := S1x8x1024x128) ![0, 3, 96, 0] S1x1x32x128.size inb_S1x8x1024x128_S1x1x32x128_0_3_96_0
abbrev r0_30 : Rect S1x8x1024x128 := Rect.unit (s := S1x8x1024x128) ![0, 4, 96, 0] S1x1x32x128.size inb_S1x8x1024x128_S1x1x32x128_0_4_96_0
abbrev r0_31 : Rect S1x8x1024x128 := Rect.unit (s := S1x8x1024x128) ![0, 5, 96, 0] S1x1x32x128.size inb_S1x8x1024x128_S1x1x32x128_0_5_96_0
abbrev r0_32 : Rect S1x8x1024x128 := Rect.unit (s := S1x8x1024x128) ![0, 6, 96, 0] S1x1x32x128.size inb_S1x8x1024x128_S1x1x32x128_0_6_96_0
abbrev r0_33 : Rect S1x8x1024x128 := Rect.unit (s := S1x8x1024x128) ![0, 7, 96, 0] S1x1x32x128.size inb_S1x8x1024x128_S1x1x32x128_0_7_96_0
abbrev r0_34 : Rect S1x8x1024x128 := Rect.unit (s := S1x8x1024x128) ![0, 0, 128, 0] S1x1x32x128.size inb_S1x8x1024x128_S1x1x32x128_0_0_128_0
abbrev r0_35 : Rect S1x8x1024x128 := Rect.unit (s := S1x8x1024x128) ![0, 1, 128, 0] S1x1x32x128.size inb_S1x8x1024x128_S1x1x32x128_0_1_128_0
abbrev r0_36 : Rect S1x8x1024x128 := Rect.unit (s := S1x8x1024x128) ![0, 2, 128, 0] S1x1x32x128.size inb_S1x8x1024x128_S1x1x32x128_0_2_128_0
abbrev r0_37 : Rect S1x8x1024x128 := Rect.unit (s := S1x8x1024x128) ![0, 3, 128, 0] S1x1x32x128.size inb_S1x8x1024x128_S1x1x32x128_0_3_128_0
abbrev r0_38 : Rect S1x8x1024x128 := Rect.unit (s := S1x8x1024x128) ![0, 4, 128, 0] S1x1x32x128.size inb_S1x8x1024x128_S1x1x32x128_0_4_128_0
abbrev r0_39 : Rect S1x8x1024x128 := Rect.unit (s := S1x8x1024x128) ![0, 5, 128, 0] S1x1x32x128.size inb_S1x8x1024x128_S1x1x32x128_0_5_128_0
abbrev r0_40 : Rect S1x8x1024x128 := Rect.unit (s := S1x8x1024x128) ![0, 6, 128, 0] S1x1x32x128.size inb_S1x8x1024x128_S1x1x32x128_0_6_128_0
abbrev r0_41 : Rect S1x8x1024x128 := Rect.unit (s := S1x8x1024x128) ![0, 7, 128, 0] S1x1x32x128.size inb_S1x8x1024x128_S1x1x32x128_0_7_128_0
abbrev r0_42 : Rect S1x8x1024x128 := Rect.unit (s := S1x8x1024x128) ![0, 0, 160, 0] S1x1x32x128.size inb_S1x8x1024x128_S1x1x32x128_0_0_160_0
abbrev r0_43 : Rect S1x8x1024x128 := Rect.unit (s := S1x8x1024x128) ![0, 1, 160, 0] S1x1x32x128.size inb_S1x8x1024x128_S1x1x32x128_0_1_160_0
abbrev r0_44 : Rect S1x8x1024x128 := Rect.unit (s := S1x8x1024x128) ![0, 2, 160, 0] S1x1x32x128.size inb_S1x8x1024x128_S1x1x32x128_0_2_160_0
abbrev r0_45 : Rect S1x8x1024x128 := Rect.unit (s := S1x8x1024x128) ![0, 3, 160, 0] S1x1x32x128.size inb_S1x8x1024x128_S1x1x32x128_0_3_160_0
abbrev r0_46 : Rect S1x8x1024x128 := Rect.unit (s := S1x8x1024x128) ![0, 4, 160, 0] S1x1x32x128.size inb_S1x8x1024x128_S1x1x32x128_0_4_160_0
abbrev r0_47 : Rect S1x8x1024x128 := Rect.unit (s := S1x8x1024x128) ![0, 5, 160, 0] S1x1x32x128.size inb_S1x8x1024x128_S1x1x32x128_0_5_160_0
abbrev r0_48 : Rect S1x8x1024x128 := Rect.unit (s := S1x8x1024x128) ![0, 6, 160, 0] S1x1x32x128.size inb_S1x8x1024x128_S1x1x32x128_0_6_160_0
abbrev r0_49 : Rect S1x8x1024x128 := Rect.unit (s := S1x8x1024x128) ![0, 7, 160, 0] S1x1x32x128.size inb_S1x8x1024x128_S1x1x32x128_0_7_160_0
abbrev r0_50 : Rect S1x8x1024x128 := Rect.unit (s := S1x8x1024x128) ![0, 0, 192, 0] S1x1x32x128.size inb_S1x8x1024x128_S1x1x32x128_0_0_192_0
abbrev r0_51 : Rect S1x8x1024x128 := Rect.unit (s := S1x8x1024x128) ![0, 1, 192, 0] S1x1x32x128.size inb_S1x8x1024x128_S1x1x32x128_0_1_192_0
abbrev r0_52 : Rect S1x8x1024x128 := Rect.unit (s := S1x8x1024x128) ![0, 2, 192, 0] S1x1x32x128.size inb_S1x8x1024x128_S1x1x32x128_0_2_192_0
abbrev r0_53 : Rect S1x8x1024x128 := Rect.unit (s := S1x8x1024x128) ![0, 3, 192, 0] S1x1x32x128.size inb_S1x8x1024x128_S1x1x32x128_0_3_192_0
abbrev r0_54 : Rect S1x8x1024x128 := Rect.unit (s := S1x8x1024x128) ![0, 4, 192, 0] S1x1x32x128.size inb_S1x8x1024x128_S1x1x32x128_0_4_192_0
abbrev r0_55 : Rect S1x8x1024x128 := Rect.unit (s := S1x8x1024x128) ![0, 5, 192, 0] S1x1x32x128.size inb_S1x8x1024x128_S1x1x32x128_0_5_192_0
abbrev r0_56 : Rect S1x8x1024x128 := Rect.unit (s := S1x8x1024x128) ![0, 6, 192, 0] S1x1x32x128.size inb_S1x8x1024x128_S1x1x32x128_0_6_192_0
abbrev r0_57 : Rect S1x8x1024x128 := Rect.unit (s := S1x8x1024x128) ![0, 7, 192, 0] S1x1x32x128.size inb_S1x8x1024x128_S1x1x32x128_0_7_192_0
abbrev r0_58 : Rect S1x8x1024x128 := Rect.unit (s := S1x8x1024x128) ![0, 0, 224, 0] S1x1x32x128.size inb_S1x8x1024x128_S1x1x32x128_0_0_224_0
abbrev r0_59 : Rect S1x8x1024x128 := Rect.unit (s := S1x8x1024x128) ![0, 1, 224, 0] S1x1x32x128.size inb_S1x8x1024x128_S1x1x32x128_0_1_224_0
abbrev r0_60 : Rect S1x8x1024x128 := Rect.unit (s := S1x8x1024x128) ![0, 2, 224, 0] S1x1x32x128.size inb_S1x8x1024x128_S1x1x32x128_0_2_224_0
abbrev r0_61 : Rect S1x8x1024x128 := Rect.unit (s := S1x8x1024x128) ![0, 3, 224, 0] S1x1x32x128.size inb_S1x8x1024x128_S1x1x32x128_0_3_224_0
abbrev r0_62 : Rect S1x8x1024x128 := Rect.unit (s := S1x8x1024x128) ![0, 4, 224, 0] S1x1x32x128.size inb_S1x8x1024x128_S1x1x32x128_0_4_224_0
abbrev r0_63 : Rect S1x8x1024x128 := Rect.unit (s := S1x8x1024x128) ![0, 5, 224, 0] S1x1x32x128.size inb_S1x8x1024x128_S1x1x32x128_0_5_224_0
abbrev r0_64 : Rect S1x8x1024x128 := Rect.unit (s := S1x8x1024x128) ![0, 6, 224, 0] S1x1x32x128.size inb_S1x8x1024x128_S1x1x32x128_0_6_224_0
abbrev r0_65 : Rect S1x8x1024x128 := Rect.unit (s := S1x8x1024x128) ![0, 7, 224, 0] S1x1x32x128.size inb_S1x8x1024x128_S1x1x32x128_0_7_224_0
abbrev r0_66 : Rect S1x8x1024x128 := Rect.unit (s := S1x8x1024x128) ![0, 0, 256, 0] S1x1x32x128.size inb_S1x8x1024x128_S1x1x32x128_0_0_256_0
abbrev r0_67 : Rect S1x8x1024x128 := Rect.unit (s := S1x8x1024x128) ![0, 1, 256, 0] S1x1x32x128.size inb_S1x8x1024x128_S1x1x32x128_0_1_256_0
abbrev r0_68 : Rect S1x8x1024x128 := Rect.unit (s := S1x8x1024x128) ![0, 2, 256, 0] S1x1x32x128.size inb_S1x8x1024x128_S1x1x32x128_0_2_256_0
abbrev r0_69 : Rect S1x8x1024x128 := Rect.unit (s := S1x8x1024x128) ![0, 3, 256, 0] S1x1x32x128.size inb_S1x8x1024x128_S1x1x32x128_0_3_256_0
abbrev r0_70 : Rect S1x8x1024x128 := Rect.unit (s := S1x8x1024x128) ![0, 4, 256, 0] S1x1x32x128.size inb_S1x8x1024x128_S1x1x32x128_0_4_256_0
abbrev r0_71 : Rect S1x8x1024x128 := Rect.unit (s := S1x8x1024x128) ![0, 5, 256, 0] S1x1x32x128.size inb_S1x8x1024x128_S1x1x32x128_0_5_256_0
abbrev r0_72 : Rect S1x8x1024x128 := Rect.unit (s := S1x8x1024x128) ![0, 6, 256, 0] S1x1x32x128.size inb_S1x8x1024x128_S1x1x32x128_0_6_256_0
abbrev r0_73 : Rect S1x8x1024x128 := Rect.unit (s := S1x8x1024x128) ![0, 7, 256, 0] S1x1x32x128.size inb_S1x8x1024x128_S1x1x32x128_0_7_256_0
abbrev r0_74 : Rect S1x8x1024x128 := Rect.unit (s := S1x8x1024x128) ![0, 0, 288, 0] S1x1x32x128.size inb_S1x8x1024x128_S1x1x32x128_0_0_288_0
abbrev r0_75 : Rect S1x8x1024x128 := Rect.unit (s := S1x8x1024x128) ![0, 1, 288, 0] S1x1x32x128.size inb_S1x8x1024x128_S1x1x32x128_0_1_288_0
abbrev r0_76 : Rect S1x8x1024x128 := Rect.unit (s := S1x8x1024x128) ![0, 2, 288, 0] S1x1x32x128.size inb_S1x8x1024x128_S1x1x32x128_0_2_288_0
abbrev r0_77 : Rect S1x8x1024x128 := Rect.unit (s := S1x8x1024x128) ![0, 3, 288, 0] S1x1x32x128.size inb_S1x8x1024x128_S1x1x32x128_0_3_288_0
abbrev r0_78 : Rect S1x8x1024x128 := Rect.unit (s := S1x8x1024x128) ![0, 4, 288, 0] S1x1x32x128.size inb_S1x8x1024x128_S1x1x32x128_0_4_288_0
abbrev r0_79 : Rect S1x8x1024x128 := Rect.unit (s := S1x8x1024x128) ![0, 5, 288, 0] S1x1x32x128.size inb_S1x8x1024x128_S1x1x32x128_0_5_288_0
abbrev r0_80 : Rect S1x8x1024x128 := Rect.unit (s := S1x8x1024x128) ![0, 6, 288, 0] S1x1x32x128.size inb_S1x8x1024x128_S1x1x32x128_0_6_288_0
abbrev r0_81 : Rect S1x8x1024x128 := Rect.unit (s := S1x8x1024x128) ![0, 7, 288, 0] S1x1x32x128.size inb_S1x8x1024x128_S1x1x32x128_0_7_288_0
abbrev r0_82 : Rect S1x8x1024x128 := Rect.unit (s := S1x8x1024x128) ![0, 0, 320, 0] S1x1x32x128.size inb_S1x8x1024x128_S1x1x32x128_0_0_320_0
abbrev r0_83 : Rect S1x8x1024x128 := Rect.unit (s := S1x8x1024x128) ![0, 1, 320, 0] S1x1x32x128.size inb_S1x8x1024x128_S1x1x32x128_0_1_320_0
abbrev r0_84 : Rect S1x8x1024x128 := Rect.unit (s := S1x8x1024x128) ![0, 2, 320, 0] S1x1x32x128.size inb_S1x8x1024x128_S1x1x32x128_0_2_320_0
abbrev r0_85 : Rect S1x8x1024x128 := Rect.unit (s := S1x8x1024x128) ![0, 3, 320, 0] S1x1x32x128.size inb_S1x8x1024x128_S1x1x32x128_0_3_320_0
abbrev r0_86 : Rect S1x8x1024x128 := Rect.unit (s := S1x8x1024x128) ![0, 4, 320, 0] S1x1x32x128.size inb_S1x8x1024x128_S1x1x32x128_0_4_320_0
abbrev r0_87 : Rect S1x8x1024x128 := Rect.unit (s := S1x8x1024x128) ![0, 5, 320, 0] S1x1x32x128.size inb_S1x8x1024x128_S1x1x32x128_0_5_320_0
abbrev r0_88 : Rect S1x8x1024x128 := Rect.unit (s := S1x8x1024x128) ![0, 6, 320, 0] S1x1x32x128.size inb_S1x8x1024x128_S1x1x32x128_0_6_320_0
abbrev r0_89 : Rect S1x8x1024x128 := Rect.unit (s := S1x8x1024x128) ![0, 7, 320, 0] S1x1x32x128.size inb_S1x8x1024x128_S1x1x32x128_0_7_320_0
abbrev r0_90 : Rect S1x8x1024x128 := Rect.unit (s := S1x8x1024x128) ![0, 0, 352, 0] S1x1x32x128.size inb_S1x8x1024x128_S1x1x32x128_0_0_352_0
abbrev r0_91 : Rect S1x8x1024x128 := Rect.unit (s := S1x8x1024x128) ![0, 1, 352, 0] S1x1x32x128.size inb_S1x8x1024x128_S1x1x32x128_0_1_352_0
abbrev r0_92 : Rect S1x8x1024x128 := Rect.unit (s := S1x8x1024x128) ![0, 2, 352, 0] S1x1x32x128.size inb_S1x8x1024x128_S1x1x32x128_0_2_352_0
abbrev r0_93 : Rect S1x8x1024x128 := Rect.unit (s := S1x8x1024x128) ![0, 3, 352, 0] S1x1x32x128.size inb_S1x8x1024x128_S1x1x32x128_0_3_352_0
abbrev r0_94 : Rect S1x8x1024x128 := Rect.unit (s := S1x8x1024x128) ![0, 4, 352, 0] S1x1x32x128.size inb_S1x8x1024x128_S1x1x32x128_0_4_352_0
abbrev r0_95 : Rect S1x8x1024x128 := Rect.unit (s := S1x8x1024x128) ![0, 5, 352, 0] S1x1x32x128.size inb_S1x8x1024x128_S1x1x32x128_0_5_352_0
abbrev r0_96 : Rect S1x8x1024x128 := Rect.unit (s := S1x8x1024x128) ![0, 6, 352, 0] S1x1x32x128.size inb_S1x8x1024x128_S1x1x32x128_0_6_352_0
abbrev r0_97 : Rect S1x8x1024x128 := Rect.unit (s := S1x8x1024x128) ![0, 7, 352, 0] S1x1x32x128.size inb_S1x8x1024x128_S1x1x32x128_0_7_352_0
abbrev r0_98 : Rect S1x8x1024x128 := Rect.unit (s := S1x8x1024x128) ![0, 0, 384, 0] S1x1x32x128.size inb_S1x8x1024x128_S1x1x32x128_0_0_384_0
abbrev r0_99 : Rect S1x8x1024x128 := Rect.unit (s := S1x8x1024x128) ![0, 1, 384, 0] S1x1x32x128.size inb_S1x8x1024x128_S1x1x32x128_0_1_384_0
abbrev r0_100 : Rect S1x8x1024x128 := Rect.unit (s := S1x8x1024x128) ![0, 2, 384, 0] S1x1x32x128.size inb_S1x8x1024x128_S1x1x32x128_0_2_384_0
abbrev r0_101 : Rect S1x8x1024x128 := Rect.unit (s := S1x8x1024x128) ![0, 3, 384, 0] S1x1x32x128.size inb_S1x8x1024x128_S1x1x32x128_0_3_384_0
abbrev r0_102 : Rect S1x8x1024x128 := Rect.unit (s := S1x8x1024x128) ![0, 4, 384, 0] S1x1x32x128.size inb_S1x8x1024x128_S1x1x32x128_0_4_384_0
abbrev r0_103 : Rect S1x8x1024x128 := Rect.unit (s := S1x8x1024x128) ![0, 5, 384, 0] S1x1x32x128.size inb_S1x8x1024x128_S1x1x32x128_0_5_384_0
abbrev r0_104 : Rect S1x8x1024x128 := Rect.unit (s := S1x8x1024x128) ![0, 6, 384, 0] S1x1x32x128.size inb_S1x8x1024x128_S1x1x32x128_0_6_384_0
abbrev r0_105 : Rect S1x8x1024x128 := Rect.unit (s := S1x8x1024x128) ![0, 7, 384, 0] S1x1x32x128.size inb_S1x8x1024x128_S1x1x32x128_0_7_384_0
abbrev r0_106 : Rect S1x8x1024x128 := Rect.unit (s := S1x8x1024x128) ![0, 0, 416, 0] S1x1x32x128.size inb_S1x8x1024x128_S1x1x32x128_0_0_416_0
abbrev r0_107 : Rect S1x8x1024x128 := Rect.unit (s := S1x8x1024x128) ![0, 1, 416, 0] S1x1x32x128.size inb_S1x8x1024x128_S1x1x32x128_0_1_416_0
abbrev r0_108 : Rect S1x8x1024x128 := Rect.unit (s := S1x8x1024x128) ![0, 2, 416, 0] S1x1x32x128.size inb_S1x8x1024x128_S1x1x32x128_0_2_416_0
abbrev r0_109 : Rect S1x8x1024x128 := Rect.unit (s := S1x8x1024x128) ![0, 3, 416, 0] S1x1x32x128.size inb_S1x8x1024x128_S1x1x32x128_0_3_416_0
abbrev r0_110 : Rect S1x8x1024x128 := Rect.unit (s := S1x8x1024x128) ![0, 4, 416, 0] S1x1x32x128.size inb_S1x8x1024x128_S1x1x32x128_0_4_416_0
abbrev r0_111 : Rect S1x8x1024x128 := Rect.unit (s := S1x8x1024x128) ![0, 5, 416, 0] S1x1x32x128.size inb_S1x8x1024x128_S1x1x32x128_0_5_416_0
abbrev r0_112 : Rect S1x8x1024x128 := Rect.unit (s := S1x8x1024x128) ![0, 6, 416, 0] S1x1x32x128.size inb_S1x8x1024x128_S1x1x32x128_0_6_416_0
abbrev r0_113 : Rect S1x8x1024x128 := Rect.unit (s := S1x8x1024x128) ![0, 7, 416, 0] S1x1x32x128.size inb_S1x8x1024x128_S1x1x32x128_0_7_416_0
abbrev r0_114 : Rect S1x8x1024x128 := Rect.unit (s := S1x8x1024x128) ![0, 0, 448, 0] S1x1x32x128.size inb_S1x8x1024x128_S1x1x32x128_0_0_448_0
abbrev r0_115 : Rect S1x8x1024x128 := Rect.unit (s := S1x8x1024x128) ![0, 1, 448, 0] S1x1x32x128.size inb_S1x8x1024x128_S1x1x32x128_0_1_448_0
abbrev r0_116 : Rect S1x8x1024x128 := Rect.unit (s := S1x8x1024x128) ![0, 2, 448, 0] S1x1x32x128.size inb_S1x8x1024x128_S1x1x32x128_0_2_448_0
abbrev r0_117 : Rect S1x8x1024x128 := Rect.unit (s := S1x8x1024x128) ![0, 3, 448, 0] S1x1x32x128.size inb_S1x8x1024x128_S1x1x32x128_0_3_448_0
abbrev r0_118 : Rect S1x8x1024x128 := Rect.unit (s := S1x8x1024x128) ![0, 4, 448, 0] S1x1x32x128.size inb_S1x8x1024x128_S1x1x32x128_0_4_448_0
abbrev r0_119 : Rect S1x8x1024x128 := Rect.unit (s := S1x8x1024x128) ![0, 5, 448, 0] S1x1x32x128.size inb_S1x8x1024x128_S1x1x32x128_0_5_448_0
abbrev r0_120 : Rect S1x8x1024x128 := Rect.unit (s := S1x8x1024x128) ![0, 6, 448, 0] S1x1x32x128.size inb_S1x8x1024x128_S1x1x32x128_0_6_448_0
abbrev r0_121 : Rect S1x8x1024x128 := Rect.unit (s := S1x8x1024x128) ![0, 7, 448, 0] S1x1x32x128.size inb_S1x8x1024x128_S1x1x32x128_0_7_448_0
abbrev r0_122 : Rect S1x8x1024x128 := Rect.unit (s := S1x8x1024x128) ![0, 0, 480, 0] S1x1x32x128.size inb_S1x8x1024x128_S1x1x32x128_0_0_480_0
abbrev r0_123 : Rect S1x8x1024x128 := Rect.unit (s := S1x8x1024x128) ![0, 1, 480, 0] S1x1x32x128.size inb_S1x8x1024x128_S1x1x32x128_0_1_480_0
abbrev r0_124 : Rect S1x8x1024x128 := Rect.unit (s := S1x8x1024x128) ![0, 2, 480, 0] S1x1x32x128.size inb_S1x8x1024x128_S1x1x32x128_0_2_480_0
abbrev r0_125 : Rect S1x8x1024x128 := Rect.unit (s := S1x8x1024x128) ![0, 3, 480, 0] S1x1x32x128.size inb_S1x8x1024x128_S1x1x32x128_0_3_480_0
abbrev r0_126 : Rect S1x8x1024x128 := Rect.unit (s := S1x8x1024x128) ![0, 4, 480, 0] S1x1x32x128.size inb_S1x8x1024x128_S1x1x32x128_0_4_480_0
abbrev r0_127 : Rect S1x8x1024x128 := Rect.unit (s := S1x8x1024x128) ![0, 5, 480, 0] S1x1x32x128.size inb_S1x8x1024x128_S1x1x32x128_0_5_480_0
abbrev r0_128 : Rect S1x8x1024x128 := Rect.unit (s := S1x8x1024x128) ![0, 6, 480, 0] S1x1x32x128.size inb_S1x8x1024x128_S1x1x32x128_0_6_480_0
abbrev r0_129 : Rect S1x8x1024x128 := Rect.unit (s := S1x8x1024x128) ![0, 7, 480, 0] S1x1x32x128.size inb_S1x8x1024x128_S1x1x32x128_0_7_480_0
abbrev r0_130 : Rect S1x8x1024x128 := Rect.unit (s := S1x8x1024x128) ![0, 0, 512, 0] S1x1x32x128.size inb_S1x8x1024x128_S1x1x32x128_0_0_512_0
abbrev r0_131 : Rect S1x8x1024x128 := Rect.unit (s := S1x8x1024x128) ![0, 1, 512, 0] S1x1x32x128.size inb_S1x8x1024x128_S1x1x32x128_0_1_512_0
abbrev r0_132 : Rect S1x8x1024x128 := Rect.unit (s := S1x8x1024x128) ![0, 2, 512, 0] S1x1x32x128.size inb_S1x8x1024x128_S1x1x32x128_0_2_512_0
abbrev r0_133 : Rect S1x8x1024x128 := Rect.unit (s := S1x8x1024x128) ![0, 3, 512, 0] S1x1x32x128.size inb_S1x8x1024x128_S1x1x32x128_0_3_512_0
abbrev r0_134 : Rect S1x8x1024x128 := Rect.unit (s := S1x8x1024x128) ![0, 4, 512, 0] S1x1x32x128.size inb_S1x8x1024x128_S1x1x32x128_0_4_512_0
abbrev r0_135 : Rect S1x8x1024x128 := Rect.unit (s := S1x8x1024x128) ![0, 5, 512, 0] S1x1x32x128.size inb_S1x8x1024x128_S1x1x32x128_0_5_512_0
abbrev r0_136 : Rect S1x8x1024x128 := Rect.unit (s := S1x8x1024x128) ![0, 6, 512, 0] S1x1x32x128.size inb_S1x8x1024x128_S1x1x32x128_0_6_512_0
abbrev r0_137 : Rect S1x8x1024x128 := Rect.unit (s := S1x8x1024x128) ![0, 7, 512, 0] S1x1x32x128.size inb_S1x8x1024x128_S1x1x32x128_0_7_512_0
abbrev r0_138 : Rect S1x8x1024x128 := Rect.unit (s := S1x8x1024x128) ![0, 0, 544, 0] S1x1x32x128.size inb_S1x8x1024x128_S1x1x32x128_0_0_544_0
abbrev r0_139 : Rect S1x8x1024x128 := Rect.unit (s := S1x8x1024x128) ![0, 1, 544, 0] S1x1x32x128.size inb_S1x8x1024x128_S1x1x32x128_0_1_544_0
abbrev r0_140 : Rect S1x8x1024x128 := Rect.unit (s := S1x8x1024x128) ![0, 2, 544, 0] S1x1x32x128.size inb_S1x8x1024x128_S1x1x32x128_0_2_544_0
abbrev r0_141 : Rect S1x8x1024x128 := Rect.unit (s := S1x8x1024x128) ![0, 3, 544, 0] S1x1x32x128.size inb_S1x8x1024x128_S1x1x32x128_0_3_544_0
abbrev r0_142 : Rect S1x8x1024x128 := Rect.unit (s := S1x8x1024x128) ![0, 4, 544, 0] S1x1x32x128.size inb_S1x8x1024x128_S1x1x32x128_0_4_544_0
abbrev r0_143 : Rect S1x8x1024x128 := Rect.unit (s := S1x8x1024x128) ![0, 5, 544, 0] S1x1x32x128.size inb_S1x8x1024x128_S1x1x32x128_0_5_544_0
abbrev r0_144 : Rect S1x8x1024x128 := Rect.unit (s := S1x8x1024x128) ![0, 6, 544, 0] S1x1x32x128.size inb_S1x8x1024x128_S1x1x32x128_0_6_544_0
abbrev r0_145 : Rect S1x8x1024x128 := Rect.unit (s := S1x8x1024x128) ![0, 7, 544, 0] S1x1x32x128.size inb_S1x8x1024x128_S1x1x32x128_0_7_544_0
abbrev r0_146 : Rect S1x8x1024x128 := Rect.unit (s := S1x8x1024x128) ![0, 0, 576, 0] S1x1x32x128.size inb_S1x8x1024x128_S1x1x32x128_0_0_576_0
abbrev r0_147 : Rect S1x8x1024x128 := Rect.unit (s := S1x8x1024x128) ![0, 1, 576, 0] S1x1x32x128.size inb_S1x8x1024x128_S1x1x32x128_0_1_576_0
abbrev r0_148 : Rect S1x8x1024x128 := Rect.unit (s := S1x8x1024x128) ![0, 2, 576, 0] S1x1x32x128.size inb_S1x8x1024x128_S1x1x32x128_0_2_576_0
abbrev r0_149 : Rect S1x8x1024x128 := Rect.unit (s := S1x8x1024x128) ![0, 3, 576, 0] S1x1x32x128.size inb_S1x8x1024x128_S1x1x32x128_0_3_576_0
abbrev r0_150 : Rect S1x8x1024x128 := Rect.unit (s := S1x8x1024x128) ![0, 4, 576, 0] S1x1x32x128.size inb_S1x8x1024x128_S1x1x32x128_0_4_576_0
abbrev r0_151 : Rect S1x8x1024x128 := Rect.unit (s := S1x8x1024x128) ![0, 5, 576, 0] S1x1x32x128.size inb_S1x8x1024x128_S1x1x32x128_0_5_576_0
abbrev r0_152 : Rect S1x8x1024x128 := Rect.unit (s := S1x8x1024x128) ![0, 6, 576, 0] S1x1x32x128.size inb_S1x8x1024x128_S1x1x32x128_0_6_576_0
abbrev r0_153 : Rect S1x8x1024x128 := Rect.unit (s := S1x8x1024x128) ![0, 7, 576, 0] S1x1x32x128.size inb_S1x8x1024x128_S1x1x32x128_0_7_576_0
abbrev r0_154 : Rect S1x8x1024x128 := Rect.unit (s := S1x8x1024x128) ![0, 0, 608, 0] S1x1x32x128.size inb_S1x8x1024x128_S1x1x32x128_0_0_608_0
abbrev r0_155 : Rect S1x8x1024x128 := Rect.unit (s := S1x8x1024x128) ![0, 1, 608, 0] S1x1x32x128.size inb_S1x8x1024x128_S1x1x32x128_0_1_608_0
abbrev r0_156 : Rect S1x8x1024x128 := Rect.unit (s := S1x8x1024x128) ![0, 2, 608, 0] S1x1x32x128.size inb_S1x8x1024x128_S1x1x32x128_0_2_608_0
abbrev r0_157 : Rect S1x8x1024x128 := Rect.unit (s := S1x8x1024x128) ![0, 3, 608, 0] S1x1x32x128.size inb_S1x8x1024x128_S1x1x32x128_0_3_608_0
abbrev r0_158 : Rect S1x8x1024x128 := Rect.unit (s := S1x8x1024x128) ![0, 4, 608, 0] S1x1x32x128.size inb_S1x8x1024x128_S1x1x32x128_0_4_608_0
abbrev r0_159 : Rect S1x8x1024x128 := Rect.unit (s := S1x8x1024x128) ![0, 5, 608, 0] S1x1x32x128.size inb_S1x8x1024x128_S1x1x32x128_0_5_608_0
abbrev r0_160 : Rect S1x8x1024x128 := Rect.unit (s := S1x8x1024x128) ![0, 6, 608, 0] S1x1x32x128.size inb_S1x8x1024x128_S1x1x32x128_0_6_608_0
abbrev r0_161 : Rect S1x8x1024x128 := Rect.unit (s := S1x8x1024x128) ![0, 7, 608, 0] S1x1x32x128.size inb_S1x8x1024x128_S1x1x32x128_0_7_608_0
abbrev r0_162 : Rect S1x8x1024x128 := Rect.unit (s := S1x8x1024x128) ![0, 0, 640, 0] S1x1x32x128.size inb_S1x8x1024x128_S1x1x32x128_0_0_640_0
abbrev r0_163 : Rect S1x8x1024x128 := Rect.unit (s := S1x8x1024x128) ![0, 1, 640, 0] S1x1x32x128.size inb_S1x8x1024x128_S1x1x32x128_0_1_640_0
abbrev r0_164 : Rect S1x8x1024x128 := Rect.unit (s := S1x8x1024x128) ![0, 2, 640, 0] S1x1x32x128.size inb_S1x8x1024x128_S1x1x32x128_0_2_640_0
abbrev r0_165 : Rect S1x8x1024x128 := Rect.unit (s := S1x8x1024x128) ![0, 3, 640, 0] S1x1x32x128.size inb_S1x8x1024x128_S1x1x32x128_0_3_640_0
abbrev r0_166 : Rect S1x8x1024x128 := Rect.unit (s := S1x8x1024x128) ![0, 4, 640, 0] S1x1x32x128.size inb_S1x8x1024x128_S1x1x32x128_0_4_640_0
abbrev r0_167 : Rect S1x8x1024x128 := Rect.unit (s := S1x8x1024x128) ![0, 5, 640, 0] S1x1x32x128.size inb_S1x8x1024x128_S1x1x32x128_0_5_640_0
abbrev r0_168 : Rect S1x8x1024x128 := Rect.unit (s := S1x8x1024x128) ![0, 6, 640, 0] S1x1x32x128.size inb_S1x8x1024x128_S1x1x32x128_0_6_640_0
abbrev r0_169 : Rect S1x8x1024x128 := Rect.unit (s := S1x8x1024x128) ![0, 7, 640, 0] S1x1x32x128.size inb_S1x8x1024x128_S1x1x32x128_0_7_640_0
abbrev r0_170 : Rect S1x8x1024x128 := Rect.unit (s := S1x8x1024x128) ![0, 0, 672, 0] S1x1x32x128.size inb_S1x8x1024x128_S1x1x32x128_0_0_672_0
abbrev r0_171 : Rect S1x8x1024x128 := Rect.unit (s := S1x8x1024x128) ![0, 1, 672, 0] S1x1x32x128.size inb_S1x8x1024x128_S1x1x32x128_0_1_672_0
abbrev r0_172 : Rect S1x8x1024x128 := Rect.unit (s := S1x8x1024x128) ![0, 2, 672, 0] S1x1x32x128.size inb_S1x8x1024x128_S1x1x32x128_0_2_672_0
abbrev r0_173 : Rect S1x8x1024x128 := Rect.unit (s := S1x8x1024x128) ![0, 3, 672, 0] S1x1x32x128.size inb_S1x8x1024x128_S1x1x32x128_0_3_672_0
abbrev r0_174 : Rect S1x8x1024x128 := Rect.unit (s := S1x8x1024x128) ![0, 4, 672, 0] S1x1x32x128.size inb_S1x8x1024x128_S1x1x32x128_0_4_672_0
abbrev r0_175 : Rect S1x8x1024x128 := Rect.unit (s := S1x8x1024x128) ![0, 5, 672, 0] S1x1x32x128.size inb_S1x8x1024x128_S1x1x32x128_0_5_672_0
abbrev r0_176 : Rect S1x8x1024x128 := Rect.unit (s := S1x8x1024x128) ![0, 6, 672, 0] S1x1x32x128.size inb_S1x8x1024x128_S1x1x32x128_0_6_672_0
abbrev r0_177 : Rect S1x8x1024x128 := Rect.unit (s := S1x8x1024x128) ![0, 7, 672, 0] S1x1x32x128.size inb_S1x8x1024x128_S1x1x32x128_0_7_672_0
abbrev r0_178 : Rect S1x8x1024x128 := Rect.unit (s := S1x8x1024x128) ![0, 0, 704, 0] S1x1x32x128.size inb_S1x8x1024x128_S1x1x32x128_0_0_704_0
abbrev r0_179 : Rect S1x8x1024x128 := Rect.unit (s := S1x8x1024x128) ![0, 1, 704, 0] S1x1x32x128.size inb_S1x8x1024x128_S1x1x32x128_0_1_704_0
abbrev r0_180 : Rect S1x8x1024x128 := Rect.unit (s := S1x8x1024x128) ![0, 2, 704, 0] S1x1x32x128.size inb_S1x8x1024x128_S1x1x32x128_0_2_704_0
abbrev r0_181 : Rect S1x8x1024x128 := Rect.unit (s := S1x8x1024x128) ![0, 3, 704, 0] S1x1x32x128.size inb_S1x8x1024x128_S1x1x32x128_0_3_704_0
abbrev r0_182 : Rect S1x8x1024x128 := Rect.unit (s := S1x8x1024x128) ![0, 4, 704, 0] S1x1x32x128.size inb_S1x8x1024x128_S1x1x32x128_0_4_704_0
abbrev r0_183 : Rect S1x8x1024x128 := Rect.unit (s := S1x8x1024x128) ![0, 5, 704, 0] S1x1x32x128.size inb_S1x8x1024x128_S1x1x32x128_0_5_704_0
abbrev r0_184 : Rect S1x8x1024x128 := Rect.unit (s := S1x8x1024x128) ![0, 6, 704, 0] S1x1x32x128.size inb_S1x8x1024x128_S1x1x32x128_0_6_704_0
abbrev r0_185 : Rect S1x8x1024x128 := Rect.unit (s := S1x8x1024x128) ![0, 7, 704, 0] S1x1x32x128.size inb_S1x8x1024x128_S1x1x32x128_0_7_704_0
abbrev r0_186 : Rect S1x8x1024x128 := Rect.unit (s := S1x8x1024x128) ![0, 0, 736, 0] S1x1x32x128.size inb_S1x8x1024x128_S1x1x32x128_0_0_736_0
abbrev r0_187 : Rect S1x8x1024x128 := Rect.unit (s := S1x8x1024x128) ![0, 1, 736, 0] S1x1x32x128.size inb_S1x8x1024x128_S1x1x32x128_0_1_736_0
abbrev r0_188 : Rect S1x8x1024x128 := Rect.unit (s := S1x8x1024x128) ![0, 2, 736, 0] S1x1x32x128.size inb_S1x8x1024x128_S1x1x32x128_0_2_736_0
abbrev r0_189 : Rect S1x8x1024x128 := Rect.unit (s := S1x8x1024x128) ![0, 3, 736, 0] S1x1x32x128.size inb_S1x8x1024x128_S1x1x32x128_0_3_736_0
abbrev r0_190 : Rect S1x8x1024x128 := Rect.unit (s := S1x8x1024x128) ![0, 4, 736, 0] S1x1x32x128.size inb_S1x8x1024x128_S1x1x32x128_0_4_736_0
abbrev r0_191 : Rect S1x8x1024x128 := Rect.unit (s := S1x8x1024x128) ![0, 5, 736, 0] S1x1x32x128.size inb_S1x8x1024x128_S1x1x32x128_0_5_736_0
abbrev r0_192 : Rect S1x8x1024x128 := Rect.unit (s := S1x8x1024x128) ![0, 6, 736, 0] S1x1x32x128.size inb_S1x8x1024x128_S1x1x32x128_0_6_736_0
abbrev r0_193 : Rect S1x8x1024x128 := Rect.unit (s := S1x8x1024x128) ![0, 7, 736, 0] S1x1x32x128.size inb_S1x8x1024x128_S1x1x32x128_0_7_736_0
abbrev r0_194 : Rect S1x8x1024x128 := Rect.unit (s := S1x8x1024x128) ![0, 0, 768, 0] S1x1x32x128.size inb_S1x8x1024x128_S1x1x32x128_0_0_768_0
abbrev r0_195 : Rect S1x8x1024x128 := Rect.unit (s := S1x8x1024x128) ![0, 1, 768, 0] S1x1x32x128.size inb_S1x8x1024x128_S1x1x32x128_0_1_768_0
abbrev r0_196 : Rect S1x8x1024x128 := Rect.unit (s := S1x8x1024x128) ![0, 2, 768, 0] S1x1x32x128.size inb_S1x8x1024x128_S1x1x32x128_0_2_768_0
abbrev r0_197 : Rect S1x8x1024x128 := Rect.unit (s := S1x8x1024x128) ![0, 3, 768, 0] S1x1x32x128.size inb_S1x8x1024x128_S1x1x32x128_0_3_768_0
abbrev r0_198 : Rect S1x8x1024x128 := Rect.unit (s := S1x8x1024x128) ![0, 4, 768, 0] S1x1x32x128.size inb_S1x8x1024x128_S1x1x32x128_0_4_768_0
abbrev r0_199 : Rect S1x8x1024x128 := Rect.unit (s := S1x8x1024x128) ![0, 5, 768, 0] S1x1x32x128.size inb_S1x8x1024x128_S1x1x32x128_0_5_768_0
abbrev r0_200 : Rect S1x8x1024x128 := Rect.unit (s := S1x8x1024x128) ![0, 6, 768, 0] S1x1x32x128.size inb_S1x8x1024x128_S1x1x32x128_0_6_768_0
abbrev r0_201 : Rect S1x8x1024x128 := Rect.unit (s := S1x8x1024x128) ![0, 7, 768, 0] S1x1x32x128.size inb_S1x8x1024x128_S1x1x32x128_0_7_768_0
abbrev r0_202 : Rect S1x8x1024x128 := Rect.unit (s := S1x8x1024x128) ![0, 0, 800, 0] S1x1x32x128.size inb_S1x8x1024x128_S1x1x32x128_0_0_800_0
abbrev r0_203 : Rect S1x8x1024x128 := Rect.unit (s := S1x8x1024x128) ![0, 1, 800, 0] S1x1x32x128.size inb_S1x8x1024x128_S1x1x32x128_0_1_800_0
abbrev r0_204 : Rect S1x8x1024x128 := Rect.unit (s := S1x8x1024x128) ![0, 2, 800, 0] S1x1x32x128.size inb_S1x8x1024x128_S1x1x32x128_0_2_800_0
abbrev r0_205 : Rect S1x8x1024x128 := Rect.unit (s := S1x8x1024x128) ![0, 3, 800, 0] S1x1x32x128.size inb_S1x8x1024x128_S1x1x32x128_0_3_800_0
abbrev r0_206 : Rect S1x8x1024x128 := Rect.unit (s := S1x8x1024x128) ![0, 4, 800, 0] S1x1x32x128.size inb_S1x8x1024x128_S1x1x32x128_0_4_800_0
abbrev r0_207 : Rect S1x8x1024x128 := Rect.unit (s := S1x8x1024x128) ![0, 5, 800, 0] S1x1x32x128.size inb_S1x8x1024x128_S1x1x32x128_0_5_800_0
abbrev r0_208 : Rect S1x8x1024x128 := Rect.unit (s := S1x8x1024x128) ![0, 6, 800, 0] S1x1x32x128.size inb_S1x8x1024x128_S1x1x32x128_0_6_800_0
abbrev r0_209 : Rect S1x8x1024x128 := Rect.unit (s := S1x8x1024x128) ![0, 7, 800, 0] S1x1x32x128.size inb_S1x8x1024x128_S1x1x32x128_0_7_800_0
abbrev r0_210 : Rect S1x8x1024x128 := Rect.unit (s := S1x8x1024x128) ![0, 0, 832, 0] S1x1x32x128.size inb_S1x8x1024x128_S1x1x32x128_0_0_832_0
abbrev r0_211 : Rect S1x8x1024x128 := Rect.unit (s := S1x8x1024x128) ![0, 1, 832, 0] S1x1x32x128.size inb_S1x8x1024x128_S1x1x32x128_0_1_832_0
abbrev r0_212 : Rect S1x8x1024x128 := Rect.unit (s := S1x8x1024x128) ![0, 2, 832, 0] S1x1x32x128.size inb_S1x8x1024x128_S1x1x32x128_0_2_832_0
abbrev r0_213 : Rect S1x8x1024x128 := Rect.unit (s := S1x8x1024x128) ![0, 3, 832, 0] S1x1x32x128.size inb_S1x8x1024x128_S1x1x32x128_0_3_832_0
abbrev r0_214 : Rect S1x8x1024x128 := Rect.unit (s := S1x8x1024x128) ![0, 4, 832, 0] S1x1x32x128.size inb_S1x8x1024x128_S1x1x32x128_0_4_832_0
abbrev r0_215 : Rect S1x8x1024x128 := Rect.unit (s := S1x8x1024x128) ![0, 5, 832, 0] S1x1x32x128.size inb_S1x8x1024x128_S1x1x32x128_0_5_832_0
abbrev r0_216 : Rect S1x8x1024x128 := Rect.unit (s := S1x8x1024x128) ![0, 6, 832, 0] S1x1x32x128.size inb_S1x8x1024x128_S1x1x32x128_0_6_832_0
abbrev r0_217 : Rect S1x8x1024x128 := Rect.unit (s := S1x8x1024x128) ![0, 7, 832, 0] S1x1x32x128.size inb_S1x8x1024x128_S1x1x32x128_0_7_832_0
abbrev r0_218 : Rect S1x8x1024x128 := Rect.unit (s := S1x8x1024x128) ![0, 0, 864, 0] S1x1x32x128.size inb_S1x8x1024x128_S1x1x32x128_0_0_864_0
abbrev r0_219 : Rect S1x8x1024x128 := Rect.unit (s := S1x8x1024x128) ![0, 1, 864, 0] S1x1x32x128.size inb_S1x8x1024x128_S1x1x32x128_0_1_864_0
abbrev r0_220 : Rect S1x8x1024x128 := Rect.unit (s := S1x8x1024x128) ![0, 2, 864, 0] S1x1x32x128.size inb_S1x8x1024x128_S1x1x32x128_0_2_864_0
abbrev r0_221 : Rect S1x8x1024x128 := Rect.unit (s := S1x8x1024x128) ![0, 3, 864, 0] S1x1x32x128.size inb_S1x8x1024x128_S1x1x32x128_0_3_864_0
abbrev r0_222 : Rect S1x8x1024x128 := Rect.unit (s := S1x8x1024x128) ![0, 4, 864, 0] S1x1x32x128.size inb_S1x8x1024x128_S1x1x32x128_0_4_864_0
abbrev r0_223 : Rect S1x8x1024x128 := Rect.unit (s := S1x8x1024x128) ![0, 5, 864, 0] S1x1x32x128.size inb_S1x8x1024x128_S1x1x32x128_0_5_864_0
abbrev r0_224 : Rect S1x8x1024x128 := Rect.unit (s := S1x8x1024x128) ![0, 6, 864, 0] S1x1x32x128.size inb_S1x8x1024x128_S1x1x32x128_0_6_864_0
abbrev r0_225 : Rect S1x8x1024x128 := Rect.unit (s := S1x8x1024x128) ![0, 7, 864, 0] S1x1x32x128.size inb_S1x8x1024x128_S1x1x32x128_0_7_864_0
abbrev r0_226 : Rect S1x8x1024x128 := Rect.unit (s := S1x8x1024x128) ![0, 0, 896, 0] S1x1x32x128.size inb_S1x8x1024x128_S1x1x32x128_0_0_896_0
abbrev r0_227 : Rect S1x8x1024x128 := Rect.unit (s := S1x8x1024x128) ![0, 1, 896, 0] S1x1x32x128.size inb_S1x8x1024x128_S1x1x32x128_0_1_896_0
abbrev r0_228 : Rect S1x8x1024x128 := Rect.unit (s := S1x8x1024x128) ![0, 2, 896, 0] S1x1x32x128.size inb_S1x8x1024x128_S1x1x32x128_0_2_896_0
abbrev r0_229 : Rect S1x8x1024x128 := Rect.unit (s := S1x8x1024x128) ![0, 3, 896, 0] S1x1x32x128.size inb_S1x8x1024x128_S1x1x32x128_0_3_896_0
abbrev r0_230 : Rect S1x8x1024x128 := Rect.unit (s := S1x8x1024x128) ![0, 4, 896, 0] S1x1x32x128.size inb_S1x8x1024x128_S1x1x32x128_0_4_896_0
abbrev r0_231 : Rect S1x8x1024x128 := Rect.unit (s := S1x8x1024x128) ![0, 5, 896, 0] S1x1x32x128.size inb_S1x8x1024x128_S1x1x32x128_0_5_896_0
abbrev r0_232 : Rect S1x8x1024x128 := Rect.unit (s := S1x8x1024x128) ![0, 6, 896, 0] S1x1x32x128.size inb_S1x8x1024x128_S1x1x32x128_0_6_896_0
abbrev r0_233 : Rect S1x8x1024x128 := Rect.unit (s := S1x8x1024x128) ![0, 7, 896, 0] S1x1x32x128.size inb_S1x8x1024x128_S1x1x32x128_0_7_896_0
abbrev r0_234 : Rect S1x8x1024x128 := Rect.unit (s := S1x8x1024x128) ![0, 0, 928, 0] S1x1x32x128.size inb_S1x8x1024x128_S1x1x32x128_0_0_928_0
abbrev r0_235 : Rect S1x8x1024x128 := Rect.unit (s := S1x8x1024x128) ![0, 1, 928, 0] S1x1x32x128.size inb_S1x8x1024x128_S1x1x32x128_0_1_928_0
abbrev r0_236 : Rect S1x8x1024x128 := Rect.unit (s := S1x8x1024x128) ![0, 2, 928, 0] S1x1x32x128.size inb_S1x8x1024x128_S1x1x32x128_0_2_928_0
abbrev r0_237 : Rect S1x8x1024x128 := Rect.unit (s := S1x8x1024x128) ![0, 3, 928, 0] S1x1x32x128.size inb_S1x8x1024x128_S1x1x32x128_0_3_928_0
abbrev r0_238 : Rect S1x8x1024x128 := Rect.unit (s := S1x8x1024x128) ![0, 4, 928, 0] S1x1x32x128.size inb_S1x8x1024x128_S1x1x32x128_0_4_928_0
abbrev r0_239 : Rect S1x8x1024x128 := Rect.unit (s := S1x8x1024x128) ![0, 5, 928, 0] S1x1x32x128.size inb_S1x8x1024x128_S1x1x32x128_0_5_928_0
abbrev r0_240 : Rect S1x8x1024x128 := Rect.unit (s := S1x8x1024x128) ![0, 6, 928, 0] S1x1x32x128.size inb_S1x8x1024x128_S1x1x32x128_0_6_928_0
abbrev r0_241 : Rect S1x8x1024x128 := Rect.unit (s := S1x8x1024x128) ![0, 7, 928, 0] S1x1x32x128.size inb_S1x8x1024x128_S1x1x32x128_0_7_928_0
abbrev r0_242 : Rect S1x8x1024x128 := Rect.unit (s := S1x8x1024x128) ![0, 0, 960, 0] S1x1x32x128.size inb_S1x8x1024x128_S1x1x32x128_0_0_960_0
abbrev r0_243 : Rect S1x8x1024x128 := Rect.unit (s := S1x8x1024x128) ![0, 1, 960, 0] S1x1x32x128.size inb_S1x8x1024x128_S1x1x32x128_0_1_960_0
abbrev r0_244 : Rect S1x8x1024x128 := Rect.unit (s := S1x8x1024x128) ![0, 2, 960, 0] S1x1x32x128.size inb_S1x8x1024x128_S1x1x32x128_0_2_960_0
abbrev r0_245 : Rect S1x8x1024x128 := Rect.unit (s := S1x8x1024x128) ![0, 3, 960, 0] S1x1x32x128.size inb_S1x8x1024x128_S1x1x32x128_0_3_960_0
abbrev r0_246 : Rect S1x8x1024x128 := Rect.unit (s := S1x8x1024x128) ![0, 4, 960, 0] S1x1x32x128.size inb_S1x8x1024x128_S1x1x32x128_0_4_960_0
abbrev r0_247 : Rect S1x8x1024x128 := Rect.unit (s := S1x8x1024x128) ![0, 5, 960, 0] S1x1x32x128.size inb_S1x8x1024x128_S1x1x32x128_0_5_960_0
abbrev r0_248 : Rect S1x8x1024x128 := Rect.unit (s := S1x8x1024x128) ![0, 6, 960, 0] S1x1x32x128.size inb_S1x8x1024x128_S1x1x32x128_0_6_960_0
abbrev r0_249 : Rect S1x8x1024x128 := Rect.unit (s := S1x8x1024x128) ![0, 7, 960, 0] S1x1x32x128.size inb_S1x8x1024x128_S1x1x32x128_0_7_960_0
abbrev r0_250 : Rect S1x8x1024x128 := Rect.unit (s := S1x8x1024x128) ![0, 0, 992, 0] S1x1x32x128.size inb_S1x8x1024x128_S1x1x32x128_0_0_992_0
abbrev r0_251 : Rect S1x8x1024x128 := Rect.unit (s := S1x8x1024x128) ![0, 1, 992, 0] S1x1x32x128.size inb_S1x8x1024x128_S1x1x32x128_0_1_992_0
abbrev r0_252 : Rect S1x8x1024x128 := Rect.unit (s := S1x8x1024x128) ![0, 2, 992, 0] S1x1x32x128.size inb_S1x8x1024x128_S1x1x32x128_0_2_992_0
abbrev r0_253 : Rect S1x8x1024x128 := Rect.unit (s := S1x8x1024x128) ![0, 3, 992, 0] S1x1x32x128.size inb_S1x8x1024x128_S1x1x32x128_0_3_992_0
abbrev r0_254 : Rect S1x8x1024x128 := Rect.unit (s := S1x8x1024x128) ![0, 4, 992, 0] S1x1x32x128.size inb_S1x8x1024x128_S1x1x32x128_0_4_992_0
abbrev r0_255 : Rect S1x8x1024x128 := Rect.unit (s := S1x8x1024x128) ![0, 5, 992, 0] S1x1x32x128.size inb_S1x8x1024x128_S1x1x32x128_0_5_992_0
abbrev r0_256 : Rect S1x8x1024x128 := Rect.unit (s := S1x8x1024x128) ![0, 6, 992, 0] S1x1x32x128.size inb_S1x8x1024x128_S1x1x32x128_0_6_992_0
abbrev r0_257 : Rect S1x8x1024x128 := Rect.unit (s := S1x8x1024x128) ![0, 7, 992, 0] S1x1x32x128.size inb_S1x8x1024x128_S1x1x32x128_0_7_992_0

/-! ## What the body leaves in each output window's buffer -/

/-! ### Values of the body that the stores' payloads, spelt out, would write more than once

    Each is a vector the body binds (often a part call's result), stated over the input windows' blocks and
    numbered on from the skeleton's payload functions (`k0_pay414` …, after `k0_pay413`), so that
    `out0_W` and the values after it name it instead of spelling it out (`unfold_out out0_W` opens a canon
    with them, `unfold_payloads` opens them with the payloads); the comment after each is the printed function's
    name for the value (a count appended where that name is bound again). -/

def k0_pay414 (i : grid0.Coords) (x0 : Vec F S1x8192x128 .fp8e5m2) (x1 : Vec F S1x1024x56 .f32) : FVec F S1024x8x128 .fp8e5m2 :=
  k0_pay5 (View.ld x0 r0_0) -- `v2`
def k0_pay415 (i : grid0.Coords) (x0 : Vec F S1x8192x128 .fp8e5m2) (x1 : Vec F S1x1024x56 .f32) : FVec F S1024x128 .f32 :=
  k0_pay6 (View.ld x1 r0_1) -- `v6`
def k0_pay416 (i : grid0.Coords) (x0 : Vec F S1x8192x128 .fp8e5m2) (x1 : Vec F S1x1024x56 .f32) : IVec S1024x128 32 :=
  k0_pay7 i -- `v39`
def k0_pay417 (i : grid0.Coords) (x0 : Vec F S1x8192x128 .fp8e5m2) (x1 : Vec F S1x1024x56 .f32) : FVec F S1024x128 .bf16 :=
  k0_pay8 (k0_pay415 i x0 x1) (k0_pay416 i x0 x1) -- `v43`
def k0_pay418 (i : grid0.Coords) (x0 : Vec F S1x8192x128 .fp8e5m2) (x1 : Vec F S1x1024x56 .f32) : FVec F S32x128 .bf16 :=
  k0_pay9 (k0_pay415 i x0 x1) (k0_pay416 i x0 x1) -- `v44`
def k0_pay419 (i : grid0.Coords) (x0 : Vec F S1x8192x128 .fp8e5m2) (x1 : Vec F S1x1024x56 .f32) : FVec F S32x128 .bf16 :=
  k0_pay22 (k0_pay417 i x0 x1) -- `v101`
def k0_pay420 (i : grid0.Coords) (x0 : Vec F S1x8192x128 .fp8e5m2) (x1 : Vec F S1x1024x56 .f32) : FVec F S32x128 .bf16 :=
  k0_pay36 (k0_pay417 i x0 x1) -- `v158`
def k0_pay421 (i : grid0.Coords) (x0 : Vec F S1x8192x128 .fp8e5m2) (x1 : Vec F S1x1024x56 .f32) : FVec F S32x128 .bf16 :=
  k0_pay46 (k0_pay417 i x0 x1) -- `v215`
def k0_pay422 (i : grid0.Coords) (x0 : Vec F S1x8192x128 .fp8e5m2) (x1 : Vec F S1x1024x56 .f32) : FVec F S32x128 .bf16 :=
  k0_pay61 (k0_pay417 i x0 x1) -- `v272`
def k0_pay423 (i : grid0.Coords) (x0 : Vec F S1x8192x128 .fp8e5m2) (x1 : Vec F S1x1024x56 .f32) : FVec F S32x128 .bf16 :=
  k0_pay73 (k0_pay417 i x0 x1) -- `v329`
def k0_pay424 (i : grid0.Coords) (x0 : Vec F S1x8192x128 .fp8e5m2) (x1 : Vec F S1x1024x56 .f32) : FVec F S32x128 .bf16 :=
  k0_pay83 (k0_pay417 i x0 x1) -- `v386`
def k0_pay425 (i : grid0.Coords) (x0 : Vec F S1x8192x128 .fp8e5m2) (x1 : Vec F S1x1024x56 .f32) : FVec F S32x128 .bf16 :=
  k0_pay99 (k0_pay417 i x0 x1) -- `v443`
def k0_pay426 (i : grid0.Coords) (x0 : Vec F S1x8192x128 .fp8e5m2) (x1 : Vec F S1x1024x56 .f32) : FVec F S32x128 .bf16 :=
  k0_pay110 (k0_pay417 i x0 x1) -- `v500`
def k0_pay427 (i : grid0.Coords) (x0 : Vec F S1x8192x128 .fp8e5m2) (x1 : Vec F S1x1024x56 .f32) : FVec F S32x128 .bf16 :=
  k0_pay123 (k0_pay417 i x0 x1) -- `v557`
def k0_pay428 (i : grid0.Coords) (x0 : Vec F S1x8192x128 .fp8e5m2) (x1 : Vec F S1x1024x56 .f32) : FVec F S32x128 .bf16 :=
  k0_pay137 (k0_pay417 i x0 x1) -- `v614`
def k0_pay429 (i : grid0.Coords) (x0 : Vec F S1x8192x128 .fp8e5m2) (x1 : Vec F S1x1024x56 .f32) : FVec F S32x128 .bf16 :=
  k0_pay147 (k0_pay417 i x0 x1) -- `v671`
def k0_pay430 (i : grid0.Coords) (x0 : Vec F S1x8192x128 .fp8e5m2) (x1 : Vec F S1x1024x56 .f32) : FVec F S32x128 .bf16 :=
  k0_pay163 (k0_pay417 i x0 x1) -- `v728`
def k0_pay431 (i : grid0.Coords) (x0 : Vec F S1x8192x128 .fp8e5m2) (x1 : Vec F S1x1024x56 .f32) : FVec F S32x128 .bf16 :=
  k0_pay175 (k0_pay417 i x0 x1) -- `v785`
def k0_pay432 (i : grid0.Coords) (x0 : Vec F S1x8192x128 .fp8e5m2) (x1 : Vec F S1x1024x56 .f32) : FVec F S32x128 .bf16 :=
  k0_pay187 (k0_pay417 i x0 x1) -- `v842`
def k0_pay433 (i : grid0.Coords) (x0 : Vec F S1x8192x128 .fp8e5m2) (x1 : Vec F S1x1024x56 .f32) : FVec F S32x128 .bf16 :=
  k0_pay201 (k0_pay417 i x0 x1) -- `v899`
def k0_pay434 (i : grid0.Coords) (x0 : Vec F S1x8192x128 .fp8e5m2) (x1 : Vec F S1x1024x56 .f32) : FVec F S32x128 .bf16 :=
  k0_pay211 (k0_pay417 i x0 x1) -- `v956`
def k0_pay435 (i : grid0.Coords) (x0 : Vec F S1x8192x128 .fp8e5m2) (x1 : Vec F S1x1024x56 .f32) : FVec F S32x128 .bf16 :=
  k0_pay226 (k0_pay417 i x0 x1) -- `v1013`
def k0_pay436 (i : grid0.Coords) (x0 : Vec F S1x8192x128 .fp8e5m2) (x1 : Vec F S1x1024x56 .f32) : FVec F S32x128 .bf16 :=
  k0_pay239 (k0_pay417 i x0 x1) -- `v1070`
def k0_pay437 (i : grid0.Coords) (x0 : Vec F S1x8192x128 .fp8e5m2) (x1 : Vec F S1x1024x56 .f32) : FVec F S32x128 .bf16 :=
  k0_pay249 (k0_pay417 i x0 x1) -- `v1127`
def k0_pay438 (i : grid0.Coords) (x0 : Vec F S1x8192x128 .fp8e5m2) (x1 : Vec F S1x1024x56 .f32) : FVec F S32x128 .bf16 :=
  k0_pay265 (k0_pay417 i x0 x1) -- `v1184`
def k0_pay439 (i : grid0.Coords) (x0 : Vec F S1x8192x128 .fp8e5m2) (x1 : Vec F S1x1024x56 .f32) : FVec F S32x128 .bf16 :=
  k0_pay276 (k0_pay417 i x0 x1) -- `v1241`
def k0_pay440 (i : grid0.Coords) (x0 : Vec F S1x8192x128 .fp8e5m2) (x1 : Vec F S1x1024x56 .f32) : FVec F S32x128 .bf16 :=
  k0_pay289 (k0_pay417 i x0 x1) -- `v1298`
def k0_pay441 (i : grid0.Coords) (x0 : Vec F S1x8192x128 .fp8e5m2) (x1 : Vec F S1x1024x56 .f32) : FVec F S32x128 .bf16 :=
  k0_pay303 (k0_pay417 i x0 x1) -- `v1355`
def k0_pay442 (i : grid0.Coords) (x0 : Vec F S1x8192x128 .fp8e5m2) (x1 : Vec F S1x1024x56 .f32) : FVec F S32x128 .bf16 :=
  k0_pay313 (k0_pay417 i x0 x1) -- `v1412`
def k0_pay443 (i : grid0.Coords) (x0 : Vec F S1x8192x128 .fp8e5m2) (x1 : Vec F S1x1024x56 .f32) : FVec F S32x128 .bf16 :=
  k0_pay329 (k0_pay417 i x0 x1) -- `v1469`
def k0_pay444 (i : grid0.Coords) (x0 : Vec F S1x8192x128 .fp8e5m2) (x1 : Vec F S1x1024x56 .f32) : FVec F S32x128 .bf16 :=
  k0_pay341 (k0_pay417 i x0 x1) -- `v1526`
def k0_pay445 (i : grid0.Coords) (x0 : Vec F S1x8192x128 .fp8e5m2) (x1 : Vec F S1x1024x56 .f32) : FVec F S32x128 .bf16 :=
  k0_pay353 (k0_pay417 i x0 x1) -- `v1583`
def k0_pay446 (i : grid0.Coords) (x0 : Vec F S1x8192x128 .fp8e5m2) (x1 : Vec F S1x1024x56 .f32) : FVec F S32x128 .bf16 :=
  k0_pay368 (k0_pay417 i x0 x1) -- `v1640`
def k0_pay447 (i : grid0.Coords) (x0 : Vec F S1x8192x128 .fp8e5m2) (x1 : Vec F S1x1024x56 .f32) : FVec F S32x128 .bf16 :=
  k0_pay378 (k0_pay417 i x0 x1) -- `v1697`
def k0_pay448 (i : grid0.Coords) (x0 : Vec F S1x8192x128 .fp8e5m2) (x1 : Vec F S1x1024x56 .f32) : FVec F S32x128 .bf16 :=
  k0_pay392 (k0_pay417 i x0 x1) -- `v1754`
def k0_pay449 (i : grid0.Coords) (x0 : Vec F S1x8192x128 .fp8e5m2) (x1 : Vec F S1x1024x56 .f32) : FVec F S32x128 .bf16 :=
  k0_pay405 (k0_pay417 i x0 x1) -- `v1811`

/-- Window 2's staging buffer after the body, from the input windows' blocks: its 256 stores as pieces, LAST
    FIRST (`View.canon`). -/
def pieces0 (i : grid0.Coords) (x0 : Vec F S1x8192x128 .fp8e5m2) (x1 : Vec F S1x1024x56 .f32) : List (View.Piece (Elt F) S1x8x1024x128 .bf16) :=
  [⟨r0_257, k0_pay4 (k0_pay449 i x0 x1) (k0_pay413 (k0_pay414 i x0 x1))⟩,
    ⟨r0_256, k0_pay3 (k0_pay449 i x0 x1) (k0_pay412 (k0_pay414 i x0 x1))⟩,
    ⟨r0_255, k0_pay2 (k0_pay449 i x0 x1) (k0_pay411 (k0_pay414 i x0 x1))⟩,
    ⟨r0_254, k0_pay1 (k0_pay449 i x0 x1) (k0_pay410 (k0_pay414 i x0 x1))⟩,
    ⟨r0_253, k0_pay409 (k0_pay414 i x0 x1) (k0_pay417 i x0 x1)⟩,
    ⟨r0_252, k0_pay408 (k0_pay414 i x0 x1) (k0_pay417 i x0 x1)⟩,
    ⟨r0_251, k0_pay407 (k0_pay414 i x0 x1) (k0_pay417 i x0 x1)⟩,
    ⟨r0_250, k0_pay406 (k0_pay414 i x0 x1) (k0_pay417 i x0 x1)⟩,
    ⟨r0_249, k0_pay404 (k0_pay448 i x0 x1) (k0_pay400 (k0_pay414 i x0 x1))⟩,
    ⟨r0_248, k0_pay403 (k0_pay414 i x0 x1) (k0_pay448 i x0 x1)⟩,
    ⟨r0_247, k0_pay402 (k0_pay414 i x0 x1) (k0_pay448 i x0 x1)⟩,
    ⟨r0_246, k0_pay401 (k0_pay414 i x0 x1) (k0_pay448 i x0 x1)⟩,
    ⟨r0_245, k0_pay399 (k0_pay448 i x0 x1) (k0_pay394 (k0_pay414 i x0 x1))⟩,
    ⟨r0_244, k0_pay398 (k0_pay448 i x0 x1) (k0_pay393 (k0_pay414 i x0 x1))⟩,
    ⟨r0_243, k0_pay397 (k0_pay396 (k0_pay414 i x0 x1) (k0_pay417 i x0 x1))⟩,
    ⟨r0_242, k0_pay395 (k0_pay414 i x0 x1) (k0_pay417 i x0 x1)⟩,
    ⟨r0_241, k0_pay391 (k0_pay447 i x0 x1) (k0_pay386 (k0_pay414 i x0 x1))⟩,
    ⟨r0_240, k0_pay390 (k0_pay447 i x0 x1) (k0_pay385 (k0_pay414 i x0 x1))⟩,
    ⟨r0_239, k0_pay389 (k0_pay447 i x0 x1) (k0_pay384 (k0_pay414 i x0 x1))⟩,
    ⟨r0_238, k0_pay388 (k0_pay387 (k0_pay414 i x0 x1) (k0_pay447 i x0 x1))⟩,
    ⟨r0_237, k0_pay383 (k0_pay414 i x0 x1) (k0_pay447 i x0 x1)⟩,
    ⟨r0_236, k0_pay382 (k0_pay414 i x0 x1) (k0_pay447 i x0 x1)⟩,
    ⟨r0_235, k0_pay381 (k0_pay414 i x0 x1) (k0_pay447 i x0 x1)⟩,
    ⟨r0_234, k0_pay380 (k0_pay447 i x0 x1) (k0_pay379 (k0_pay414 i x0 x1))⟩,
    ⟨r0_233, k0_pay377 (k0_pay414 i x0 x1) (k0_pay446 i x0 x1)⟩,
    ⟨r0_232, k0_pay376 (k0_pay414 i x0 x1) (k0_pay446 i x0 x1)⟩,
    ⟨r0_231, k0_pay375 (k0_pay414 i x0 x1) (k0_pay446 i x0 x1)⟩,
    ⟨r0_230, k0_pay374 (k0_pay414 i x0 x1) (k0_pay446 i x0 x1)⟩,
    ⟨r0_229, k0_pay373 (k0_pay446 i x0 x1) (k0_pay372 (k0_pay414 i x0 x1))⟩,
    ⟨r0_228, k0_pay371 (k0_pay414 i x0 x1) (k0_pay417 i x0 x1)⟩,
    ⟨r0_227, k0_pay370 (k0_pay414 i x0 x1) (k0_pay417 i x0 x1)⟩,
    ⟨r0_226, k0_pay369 (k0_pay414 i x0 x1) (k0_pay417 i x0 x1)⟩,
    ⟨r0_225, k0_pay367 (k0_pay445 i x0 x1) (k0_pay363 (k0_pay414 i x0 x1))⟩,
    ⟨r0_224, k0_pay366 (k0_pay445 i x0 x1) (k0_pay362 (k0_pay414 i x0 x1))⟩,
    ⟨r0_223, k0_pay365 (k0_pay414 i x0 x1) (k0_pay445 i x0 x1)⟩,
    ⟨r0_222, k0_pay364 (k0_pay414 i x0 x1) (k0_pay445 i x0 x1)⟩,
    ⟨r0_221, k0_pay361 (k0_pay445 i x0 x1) (k0_pay356 (k0_pay414 i x0 x1))⟩,
    ⟨r0_220, k0_pay360 (k0_pay445 i x0 x1) (k0_pay355 (k0_pay414 i x0 x1))⟩,
    ⟨r0_219, k0_pay359 (k0_pay445 i x0 x1) (k0_pay354 (k0_pay414 i x0 x1))⟩,
    ⟨r0_218, k0_pay358 (k0_pay357 (k0_pay414 i x0 x1) (k0_pay417 i x0 x1))⟩,
    ⟨r0_217, k0_pay352 (k0_pay414 i x0 x1) (k0_pay444 i x0 x1)⟩,
    ⟨r0_216, k0_pay351 (k0_pay444 i x0 x1) (k0_pay348 (k0_pay414 i x0 x1))⟩,
    ⟨r0_215, k0_pay350 (k0_pay444 i x0 x1) (k0_pay347 (k0_pay414 i x0 x1))⟩,
    ⟨r0_214, k0_pay349 (k0_pay444 i x0 x1) (k0_pay346 (k0_pay414 i x0 x1))⟩,
    ⟨r0_213, k0_pay345 (k0_pay414 i x0 x1) (k0_pay417 i x0 x1)⟩,
    ⟨r0_212, k0_pay344 (k0_pay414 i x0 x1) (k0_pay417 i x0 x1)⟩,
    ⟨r0_211, k0_pay343 (k0_pay414 i x0 x1) (k0_pay417 i x0 x1)⟩,
    ⟨r0_210, k0_pay342 (k0_pay414 i x0 x1) (k0_pay417 i x0 x1)⟩,
    ⟨r0_209, k0_pay340 (k0_pay339 (k0_pay414 i x0 x1) (k0_pay443 i x0 x1))⟩,
    ⟨r0_208, k0_pay338 (k0_pay414 i x0 x1) (k0_pay443 i x0 x1)⟩,
    ⟨r0_207, k0_pay337 (k0_pay414 i x0 x1) (k0_pay443 i x0 x1)⟩,
    ⟨r0_206, k0_pay336 (k0_pay414 i x0 x1) (k0_pay443 i x0 x1)⟩,
    ⟨r0_205, k0_pay335 (k0_pay443 i x0 x1) (k0_pay330 (k0_pay414 i x0 x1))⟩,
    ⟨r0_204, k0_pay334 (k0_pay333 (k0_pay414 i x0 x1) (k0_pay417 i x0 x1))⟩,
    ⟨r0_203, k0_pay332 (k0_pay414 i x0 x1) (k0_pay417 i x0 x1)⟩,
    ⟨r0_202, k0_pay331 (k0_pay414 i x0 x1) (k0_pay417 i x0 x1)⟩,
    ⟨r0_201, k0_pay328 (k0_pay442 i x0 x1) (k0_pay323 (k0_pay414 i x0 x1))⟩,
    ⟨r0_200, k0_pay327 (k0_pay442 i x0 x1) (k0_pay322 (k0_pay414 i x0 x1))⟩,
    ⟨r0_199, k0_pay326 (k0_pay442 i x0 x1) (k0_pay325 (k0_pay414 i x0 x1))⟩,
    ⟨r0_198, k0_pay324 (k0_pay414 i x0 x1) (k0_pay442 i x0 x1)⟩,
    ⟨r0_197, k0_pay321 (k0_pay442 i x0 x1) (k0_pay317 (k0_pay414 i x0 x1))⟩,
    ⟨r0_196, k0_pay320 (k0_pay442 i x0 x1) (k0_pay316 (k0_pay414 i x0 x1))⟩,
    ⟨r0_195, k0_pay319 (k0_pay442 i x0 x1) (k0_pay315 (k0_pay414 i x0 x1))⟩,
    ⟨r0_194, k0_pay318 (k0_pay442 i x0 x1) (k0_pay314 (k0_pay414 i x0 x1))⟩,
    ⟨r0_193, k0_pay312 (k0_pay414 i x0 x1) (k0_pay441 i x0 x1)⟩,
    ⟨r0_192, k0_pay311 (k0_pay414 i x0 x1) (k0_pay441 i x0 x1)⟩,
    ⟨r0_191, k0_pay310 (k0_pay414 i x0 x1) (k0_pay441 i x0 x1)⟩,
    ⟨r0_190, k0_pay309 (k0_pay414 i x0 x1) (k0_pay441 i x0 x1)⟩,
    ⟨r0_189, k0_pay308 (k0_pay307 (k0_pay414 i x0 x1) (k0_pay417 i x0 x1))⟩,
    ⟨r0_188, k0_pay306 (k0_pay414 i x0 x1) (k0_pay417 i x0 x1)⟩,
    ⟨r0_187, k0_pay305 (k0_pay414 i x0 x1) (k0_pay417 i x0 x1)⟩,
    ⟨r0_186, k0_pay304 (k0_pay414 i x0 x1) (k0_pay417 i x0 x1)⟩,
    ⟨r0_185, k0_pay302 (k0_pay440 i x0 x1) (k0_pay297 (k0_pay414 i x0 x1))⟩,
    ⟨r0_184, k0_pay301 (k0_pay300 (k0_pay414 i x0 x1) (k0_pay440 i x0 x1))⟩,
    ⟨r0_183, k0_pay299 (k0_pay414 i x0 x1) (k0_pay440 i x0 x1)⟩,
    ⟨r0_182, k0_pay298 (k0_pay414 i x0 x1) (k0_pay440 i x0 x1)⟩,
    ⟨r0_181, k0_pay296 (k0_pay440 i x0 x1) (k0_pay291 (k0_pay414 i x0 x1))⟩,
    ⟨r0_180, k0_pay295 (k0_pay440 i x0 x1) (k0_pay290 (k0_pay414 i x0 x1))⟩,
    ⟨r0_179, k0_pay294 (k0_pay293 (k0_pay414 i x0 x1) (k0_pay417 i x0 x1))⟩,
    ⟨r0_178, k0_pay292 (k0_pay414 i x0 x1) (k0_pay417 i x0 x1)⟩,
    ⟨r0_177, k0_pay288 (k0_pay439 i x0 x1) (k0_pay283 (k0_pay414 i x0 x1))⟩,
    ⟨r0_176, k0_pay287 (k0_pay439 i x0 x1) (k0_pay282 (k0_pay414 i x0 x1))⟩,
    ⟨r0_175, k0_pay286 (k0_pay439 i x0 x1) (k0_pay281 (k0_pay414 i x0 x1))⟩,
    ⟨r0_174, k0_pay285 (k0_pay284 (k0_pay414 i x0 x1) (k0_pay417 i x0 x1))⟩,
    ⟨r0_173, k0_pay280 (k0_pay414 i x0 x1) (k0_pay417 i x0 x1)⟩,
    ⟨r0_172, k0_pay279 (k0_pay414 i x0 x1) (k0_pay417 i x0 x1)⟩,
    ⟨r0_171, k0_pay278 (k0_pay414 i x0 x1) (k0_pay417 i x0 x1)⟩,
    ⟨r0_170, k0_pay277 (k0_pay414 i x0 x1) (k0_pay417 i x0 x1)⟩,
    ⟨r0_169, k0_pay275 (k0_pay414 i x0 x1) (k0_pay438 i x0 x1)⟩,
    ⟨r0_168, k0_pay274 (k0_pay414 i x0 x1) (k0_pay438 i x0 x1)⟩,
    ⟨r0_167, k0_pay273 (k0_pay414 i x0 x1) (k0_pay438 i x0 x1)⟩,
    ⟨r0_166, k0_pay272 (k0_pay414 i x0 x1) (k0_pay438 i x0 x1)⟩,
    ⟨r0_165, k0_pay271 (k0_pay438 i x0 x1) (k0_pay266 (k0_pay414 i x0 x1))⟩,
    ⟨r0_164, k0_pay270 (k0_pay269 (k0_pay414 i x0 x1) (k0_pay417 i x0 x1))⟩,
    ⟨r0_163, k0_pay268 (k0_pay414 i x0 x1) (k0_pay417 i x0 x1)⟩,
    ⟨r0_162, k0_pay267 (k0_pay414 i x0 x1) (k0_pay417 i x0 x1)⟩,
    ⟨r0_161, k0_pay264 (k0_pay437 i x0 x1) (k0_pay259 (k0_pay414 i x0 x1))⟩,
    ⟨r0_160, k0_pay263 (k0_pay437 i x0 x1) (k0_pay258 (k0_pay414 i x0 x1))⟩,
    ⟨r0_159, k0_pay262 (k0_pay261 (k0_pay414 i x0 x1) (k0_pay437 i x0 x1))⟩,
    ⟨r0_158, k0_pay260 (k0_pay414 i x0 x1) (k0_pay437 i x0 x1)⟩,
    ⟨r0_157, k0_pay257 (k0_pay437 i x0 x1) (k0_pay252 (k0_pay414 i x0 x1))⟩,
    ⟨r0_156, k0_pay256 (k0_pay437 i x0 x1) (k0_pay251 (k0_pay414 i x0 x1))⟩,
    ⟨r0_155, k0_pay255 (k0_pay437 i x0 x1) (k0_pay250 (k0_pay414 i x0 x1))⟩,
    ⟨r0_154, k0_pay254 (k0_pay253 (k0_pay414 i x0 x1) (k0_pay417 i x0 x1))⟩,
    ⟨r0_153, k0_pay248 (k0_pay414 i x0 x1) (k0_pay436 i x0 x1)⟩,
    ⟨r0_152, k0_pay247 (k0_pay414 i x0 x1) (k0_pay436 i x0 x1)⟩,
    ⟨r0_151, k0_pay246 (k0_pay414 i x0 x1) (k0_pay436 i x0 x1)⟩,
    ⟨r0_150, k0_pay245 (k0_pay436 i x0 x1) (k0_pay244 (k0_pay414 i x0 x1))⟩,
    ⟨r0_149, k0_pay243 (k0_pay414 i x0 x1) (k0_pay417 i x0 x1)⟩,
    ⟨r0_148, k0_pay242 (k0_pay414 i x0 x1) (k0_pay417 i x0 x1)⟩,
    ⟨r0_147, k0_pay241 (k0_pay414 i x0 x1) (k0_pay417 i x0 x1)⟩,
    ⟨r0_146, k0_pay240 (k0_pay414 i x0 x1) (k0_pay417 i x0 x1)⟩,
    ⟨r0_145, k0_pay238 (k0_pay435 i x0 x1) (k0_pay234 (k0_pay414 i x0 x1))⟩,
    ⟨r0_144, k0_pay237 (k0_pay414 i x0 x1) (k0_pay435 i x0 x1)⟩,
    ⟨r0_143, k0_pay236 (k0_pay414 i x0 x1) (k0_pay435 i x0 x1)⟩,
    ⟨r0_142, k0_pay235 (k0_pay414 i x0 x1) (k0_pay435 i x0 x1)⟩,
    ⟨r0_141, k0_pay233 (k0_pay435 i x0 x1) (k0_pay228 (k0_pay414 i x0 x1))⟩,
    ⟨r0_140, k0_pay232 (k0_pay435 i x0 x1) (k0_pay227 (k0_pay414 i x0 x1))⟩,
    ⟨r0_139, k0_pay231 (k0_pay230 (k0_pay414 i x0 x1) (k0_pay417 i x0 x1))⟩,
    ⟨r0_138, k0_pay229 (k0_pay414 i x0 x1) (k0_pay417 i x0 x1)⟩,
    ⟨r0_137, k0_pay225 (k0_pay434 i x0 x1) (k0_pay220 (k0_pay414 i x0 x1))⟩,
    ⟨r0_136, k0_pay224 (k0_pay434 i x0 x1) (k0_pay219 (k0_pay414 i x0 x1))⟩,
    ⟨r0_135, k0_pay223 (k0_pay434 i x0 x1) (k0_pay218 (k0_pay414 i x0 x1))⟩,
    ⟨r0_134, k0_pay222 (k0_pay221 (k0_pay414 i x0 x1) (k0_pay434 i x0 x1))⟩,
    ⟨r0_133, k0_pay217 (k0_pay414 i x0 x1) (k0_pay434 i x0 x1)⟩,
    ⟨r0_132, k0_pay216 (k0_pay414 i x0 x1) (k0_pay434 i x0 x1)⟩,
    ⟨r0_131, k0_pay215 (k0_pay434 i x0 x1) (k0_pay213 (k0_pay414 i x0 x1))⟩,
    ⟨r0_130, k0_pay214 (k0_pay434 i x0 x1) (k0_pay212 (k0_pay414 i x0 x1))⟩,
    ⟨r0_129, k0_pay210 (k0_pay414 i x0 x1) (k0_pay433 i x0 x1)⟩,
    ⟨r0_128, k0_pay209 (k0_pay414 i x0 x1) (k0_pay433 i x0 x1)⟩,
    ⟨r0_127, k0_pay208 (k0_pay414 i x0 x1) (k0_pay433 i x0 x1)⟩,
    ⟨r0_126, k0_pay207 (k0_pay414 i x0 x1) (k0_pay433 i x0 x1)⟩,
    ⟨r0_125, k0_pay206 (k0_pay205 (k0_pay414 i x0 x1) (k0_pay417 i x0 x1))⟩,
    ⟨r0_124, k0_pay204 (k0_pay414 i x0 x1) (k0_pay417 i x0 x1)⟩,
    ⟨r0_123, k0_pay203 (k0_pay414 i x0 x1) (k0_pay417 i x0 x1)⟩,
    ⟨r0_122, k0_pay202 (k0_pay414 i x0 x1) (k0_pay417 i x0 x1)⟩,
    ⟨r0_121, k0_pay200 (k0_pay432 i x0 x1) (k0_pay195 (k0_pay414 i x0 x1))⟩,
    ⟨r0_120, k0_pay199 (k0_pay432 i x0 x1) (k0_pay198 (k0_pay414 i x0 x1))⟩,
    ⟨r0_119, k0_pay197 (k0_pay414 i x0 x1) (k0_pay432 i x0 x1)⟩,
    ⟨r0_118, k0_pay196 (k0_pay414 i x0 x1) (k0_pay432 i x0 x1)⟩,
    ⟨r0_117, k0_pay194 (k0_pay432 i x0 x1) (k0_pay190 (k0_pay414 i x0 x1))⟩,
    ⟨r0_116, k0_pay193 (k0_pay432 i x0 x1) (k0_pay189 (k0_pay414 i x0 x1))⟩,
    ⟨r0_115, k0_pay192 (k0_pay432 i x0 x1) (k0_pay188 (k0_pay414 i x0 x1))⟩,
    ⟨r0_114, k0_pay191 (k0_pay414 i x0 x1) (k0_pay417 i x0 x1)⟩,
    ⟨r0_113, k0_pay186 (k0_pay414 i x0 x1) (k0_pay431 i x0 x1)⟩,
    ⟨r0_112, k0_pay185 (k0_pay431 i x0 x1) (k0_pay182 (k0_pay414 i x0 x1))⟩,
    ⟨r0_111, k0_pay184 (k0_pay431 i x0 x1) (k0_pay181 (k0_pay414 i x0 x1))⟩,
    ⟨r0_110, k0_pay183 (k0_pay431 i x0 x1) (k0_pay180 (k0_pay414 i x0 x1))⟩,
    ⟨r0_109, k0_pay179 (k0_pay414 i x0 x1) (k0_pay417 i x0 x1)⟩,
    ⟨r0_108, k0_pay178 (k0_pay414 i x0 x1) (k0_pay417 i x0 x1)⟩,
    ⟨r0_107, k0_pay177 (k0_pay414 i x0 x1) (k0_pay417 i x0 x1)⟩,
    ⟨r0_106, k0_pay176 (k0_pay414 i x0 x1) (k0_pay417 i x0 x1)⟩,
    ⟨r0_105, k0_pay174 (k0_pay173 (k0_pay414 i x0 x1) (k0_pay430 i x0 x1))⟩,
    ⟨r0_104, k0_pay172 (k0_pay414 i x0 x1) (k0_pay430 i x0 x1)⟩,
    ⟨r0_103, k0_pay171 (k0_pay414 i x0 x1) (k0_pay430 i x0 x1)⟩,
    ⟨r0_102, k0_pay170 (k0_pay414 i x0 x1) (k0_pay430 i x0 x1)⟩,
    ⟨r0_101, k0_pay169 (k0_pay430 i x0 x1) (k0_pay164 (k0_pay414 i x0 x1))⟩,
    ⟨r0_100, k0_pay168 (k0_pay167 (k0_pay414 i x0 x1) (k0_pay417 i x0 x1))⟩,
    ⟨r0_99, k0_pay166 (k0_pay414 i x0 x1) (k0_pay417 i x0 x1)⟩,
    ⟨r0_98, k0_pay165 (k0_pay414 i x0 x1) (k0_pay417 i x0 x1)⟩,
    ⟨r0_97, k0_pay162 (k0_pay429 i x0 x1) (k0_pay157 (k0_pay414 i x0 x1))⟩,
    ⟨r0_96, k0_pay161 (k0_pay429 i x0 x1) (k0_pay156 (k0_pay414 i x0 x1))⟩,
    ⟨r0_95, k0_pay160 (k0_pay159 (k0_pay414 i x0 x1) (k0_pay429 i x0 x1))⟩,
    ⟨r0_94, k0_pay158 (k0_pay414 i x0 x1) (k0_pay429 i x0 x1)⟩,
    ⟨r0_93, k0_pay155 (k0_pay429 i x0 x1) (k0_pay151 (k0_pay414 i x0 x1))⟩,
    ⟨r0_92, k0_pay154 (k0_pay429 i x0 x1) (k0_pay150 (k0_pay414 i x0 x1))⟩,
    ⟨r0_91, k0_pay153 (k0_pay429 i x0 x1) (k0_pay149 (k0_pay414 i x0 x1))⟩,
    ⟨r0_90, k0_pay152 (k0_pay429 i x0 x1) (k0_pay148 (k0_pay414 i x0 x1))⟩,
    ⟨r0_89, k0_pay146 (k0_pay414 i x0 x1) (k0_pay428 i x0 x1)⟩,
    ⟨r0_88, k0_pay145 (k0_pay414 i x0 x1) (k0_pay428 i x0 x1)⟩,
    ⟨r0_87, k0_pay144 (k0_pay414 i x0 x1) (k0_pay428 i x0 x1)⟩,
    ⟨r0_86, k0_pay143 (k0_pay414 i x0 x1) (k0_pay428 i x0 x1)⟩,
    ⟨r0_85, k0_pay142 (k0_pay141 (k0_pay414 i x0 x1) (k0_pay417 i x0 x1))⟩,
    ⟨r0_84, k0_pay140 (k0_pay414 i x0 x1) (k0_pay417 i x0 x1)⟩,
    ⟨r0_83, k0_pay139 (k0_pay414 i x0 x1) (k0_pay417 i x0 x1)⟩,
    ⟨r0_82, k0_pay138 (k0_pay414 i x0 x1) (k0_pay417 i x0 x1)⟩,
    ⟨r0_81, k0_pay136 (k0_pay427 i x0 x1) (k0_pay131 (k0_pay414 i x0 x1))⟩,
    ⟨r0_80, k0_pay135 (k0_pay134 (k0_pay414 i x0 x1) (k0_pay427 i x0 x1))⟩,
    ⟨r0_79, k0_pay133 (k0_pay414 i x0 x1) (k0_pay427 i x0 x1)⟩,
    ⟨r0_78, k0_pay132 (k0_pay414 i x0 x1) (k0_pay427 i x0 x1)⟩,
    ⟨r0_77, k0_pay130 (k0_pay427 i x0 x1) (k0_pay125 (k0_pay414 i x0 x1))⟩,
    ⟨r0_76, k0_pay129 (k0_pay427 i x0 x1) (k0_pay124 (k0_pay414 i x0 x1))⟩,
    ⟨r0_75, k0_pay128 (k0_pay127 (k0_pay414 i x0 x1) (k0_pay417 i x0 x1))⟩,
    ⟨r0_74, k0_pay126 (k0_pay414 i x0 x1) (k0_pay417 i x0 x1)⟩,
    ⟨r0_73, k0_pay122 (k0_pay426 i x0 x1) (k0_pay117 (k0_pay414 i x0 x1))⟩,
    ⟨r0_72, k0_pay121 (k0_pay426 i x0 x1) (k0_pay116 (k0_pay414 i x0 x1))⟩,
    ⟨r0_71, k0_pay120 (k0_pay426 i x0 x1) (k0_pay115 (k0_pay414 i x0 x1))⟩,
    ⟨r0_70, k0_pay119 (k0_pay118 (k0_pay414 i x0 x1) (k0_pay417 i x0 x1))⟩,
    ⟨r0_69, k0_pay114 (k0_pay414 i x0 x1) (k0_pay417 i x0 x1)⟩,
    ⟨r0_68, k0_pay113 (k0_pay414 i x0 x1) (k0_pay417 i x0 x1)⟩,
    ⟨r0_67, k0_pay112 (k0_pay414 i x0 x1) (k0_pay417 i x0 x1)⟩,
    ⟨r0_66, k0_pay111 (k0_pay414 i x0 x1) (k0_pay417 i x0 x1)⟩,
    ⟨r0_65, k0_pay109 (k0_pay414 i x0 x1) (k0_pay425 i x0 x1)⟩,
    ⟨r0_64, k0_pay108 (k0_pay414 i x0 x1) (k0_pay425 i x0 x1)⟩,
    ⟨r0_63, k0_pay107 (k0_pay414 i x0 x1) (k0_pay425 i x0 x1)⟩,
    ⟨r0_62, k0_pay106 (k0_pay414 i x0 x1) (k0_pay425 i x0 x1)⟩,
    ⟨r0_61, k0_pay105 (k0_pay425 i x0 x1) (k0_pay100 (k0_pay414 i x0 x1))⟩,
    ⟨r0_60, k0_pay104 (k0_pay103 (k0_pay414 i x0 x1) (k0_pay417 i x0 x1))⟩,
    ⟨r0_59, k0_pay102 (k0_pay414 i x0 x1) (k0_pay417 i x0 x1)⟩,
    ⟨r0_58, k0_pay101 (k0_pay414 i x0 x1) (k0_pay417 i x0 x1)⟩,
    ⟨r0_57, k0_pay98 (k0_pay424 i x0 x1) (k0_pay93 (k0_pay414 i x0 x1))⟩,
    ⟨r0_56, k0_pay97 (k0_pay424 i x0 x1) (k0_pay92 (k0_pay414 i x0 x1))⟩,
    ⟨r0_55, k0_pay96 (k0_pay95 (k0_pay414 i x0 x1) (k0_pay424 i x0 x1))⟩,
    ⟨r0_54, k0_pay94 (k0_pay414 i x0 x1) (k0_pay424 i x0 x1)⟩,
    ⟨r0_53, k0_pay91 (k0_pay424 i x0 x1) (k0_pay86 (k0_pay414 i x0 x1))⟩,
    ⟨r0_52, k0_pay90 (k0_pay424 i x0 x1) (k0_pay85 (k0_pay414 i x0 x1))⟩,
    ⟨r0_51, k0_pay89 (k0_pay424 i x0 x1) (k0_pay84 (k0_pay414 i x0 x1))⟩,
    ⟨r0_50, k0_pay88 (k0_pay87 (k0_pay414 i x0 x1) (k0_pay417 i x0 x1))⟩,
    ⟨r0_49, k0_pay82 (k0_pay414 i x0 x1) (k0_pay423 i x0 x1)⟩,
    ⟨r0_48, k0_pay81 (k0_pay414 i x0 x1) (k0_pay423 i x0 x1)⟩,
    ⟨r0_47, k0_pay80 (k0_pay414 i x0 x1) (k0_pay423 i x0 x1)⟩,
    ⟨r0_46, k0_pay79 (k0_pay423 i x0 x1) (k0_pay78 (k0_pay414 i x0 x1))⟩,
    ⟨r0_45, k0_pay77 (k0_pay414 i x0 x1) (k0_pay417 i x0 x1)⟩,
    ⟨r0_44, k0_pay76 (k0_pay414 i x0 x1) (k0_pay417 i x0 x1)⟩,
    ⟨r0_43, k0_pay75 (k0_pay414 i x0 x1) (k0_pay417 i x0 x1)⟩,
    ⟨r0_42, k0_pay74 (k0_pay414 i x0 x1) (k0_pay417 i x0 x1)⟩,
    ⟨r0_41, k0_pay72 (k0_pay422 i x0 x1) (k0_pay71 (k0_pay414 i x0 x1))⟩,
    ⟨r0_40, k0_pay70 (k0_pay414 i x0 x1) (k0_pay422 i x0 x1)⟩,
    ⟨r0_39, k0_pay69 (k0_pay414 i x0 x1) (k0_pay422 i x0 x1)⟩,
    ⟨r0_38, k0_pay68 (k0_pay414 i x0 x1) (k0_pay422 i x0 x1)⟩,
    ⟨r0_37, k0_pay67 (k0_pay422 i x0 x1) (k0_pay63 (k0_pay414 i x0 x1))⟩,
    ⟨r0_36, k0_pay66 (k0_pay422 i x0 x1) (k0_pay62 (k0_pay414 i x0 x1))⟩,
    ⟨r0_35, k0_pay65 (k0_pay414 i x0 x1) (k0_pay417 i x0 x1)⟩,
    ⟨r0_34, k0_pay64 (k0_pay414 i x0 x1) (k0_pay417 i x0 x1)⟩,
    ⟨r0_33, k0_pay60 (k0_pay421 i x0 x1) (k0_pay55 (k0_pay414 i x0 x1))⟩,
    ⟨r0_32, k0_pay59 (k0_pay421 i x0 x1) (k0_pay54 (k0_pay414 i x0 x1))⟩,
    ⟨r0_31, k0_pay58 (k0_pay421 i x0 x1) (k0_pay53 (k0_pay414 i x0 x1))⟩,
    ⟨r0_30, k0_pay57 (k0_pay56 (k0_pay414 i x0 x1) (k0_pay421 i x0 x1))⟩,
    ⟨r0_29, k0_pay52 (k0_pay414 i x0 x1) (k0_pay421 i x0 x1)⟩,
    ⟨r0_28, k0_pay51 (k0_pay414 i x0 x1) (k0_pay421 i x0 x1)⟩,
    ⟨r0_27, k0_pay50 (k0_pay421 i x0 x1) (k0_pay48 (k0_pay414 i x0 x1))⟩,
    ⟨r0_26, k0_pay49 (k0_pay421 i x0 x1) (k0_pay47 (k0_pay414 i x0 x1))⟩,
    ⟨r0_25, k0_pay45 (k0_pay414 i x0 x1) (k0_pay420 i x0 x1)⟩,
    ⟨r0_24, k0_pay44 (k0_pay414 i x0 x1) (k0_pay420 i x0 x1)⟩,
    ⟨r0_23, k0_pay43 (k0_pay414 i x0 x1) (k0_pay420 i x0 x1)⟩,
    ⟨r0_22, k0_pay42 (k0_pay414 i x0 x1) (k0_pay420 i x0 x1)⟩,
    ⟨r0_21, k0_pay41 (k0_pay40 (k0_pay414 i x0 x1) (k0_pay417 i x0 x1))⟩,
    ⟨r0_20, k0_pay39 (k0_pay414 i x0 x1) (k0_pay417 i x0 x1)⟩,
    ⟨r0_19, k0_pay38 (k0_pay414 i x0 x1) (k0_pay417 i x0 x1)⟩,
    ⟨r0_18, k0_pay37 (k0_pay414 i x0 x1) (k0_pay417 i x0 x1)⟩,
    ⟨r0_17, k0_pay35 (k0_pay419 i x0 x1) (k0_pay30 (k0_pay414 i x0 x1))⟩,
    ⟨r0_16, k0_pay34 (k0_pay33 (k0_pay414 i x0 x1) (k0_pay419 i x0 x1))⟩,
    ⟨r0_15, k0_pay32 (k0_pay414 i x0 x1) (k0_pay419 i x0 x1)⟩,
    ⟨r0_14, k0_pay31 (k0_pay414 i x0 x1) (k0_pay419 i x0 x1)⟩,
    ⟨r0_13, k0_pay29 (k0_pay419 i x0 x1) (k0_pay25 (k0_pay414 i x0 x1))⟩,
    ⟨r0_12, k0_pay28 (k0_pay419 i x0 x1) (k0_pay24 (k0_pay414 i x0 x1))⟩,
    ⟨r0_11, k0_pay27 (k0_pay419 i x0 x1) (k0_pay23 (k0_pay414 i x0 x1))⟩,
    ⟨r0_10, k0_pay26 (k0_pay414 i x0 x1) (k0_pay417 i x0 x1)⟩,
    ⟨r0_9, k0_pay21 (k0_pay418 i x0 x1) (k0_pay17 (k0_pay414 i x0 x1))⟩,
    ⟨r0_8, k0_pay20 (k0_pay418 i x0 x1) (k0_pay16 (k0_pay414 i x0 x1))⟩,
    ⟨r0_7, k0_pay19 (k0_pay418 i x0 x1) (k0_pay15 (k0_pay414 i x0 x1))⟩,
    ⟨r0_6, k0_pay18 (k0_pay418 i x0 x1) (k0_pay14 (k0_pay414 i x0 x1))⟩,
    ⟨r0_5, k0_pay13 (k0_pay414 i x0 x1) (k0_pay415 i x0 x1) (k0_pay416 i x0 x1)⟩,
    ⟨r0_4, k0_pay12 (k0_pay414 i x0 x1) (k0_pay415 i x0 x1) (k0_pay416 i x0 x1)⟩,
    ⟨r0_3, k0_pay11 (k0_pay414 i x0 x1) (k0_pay415 i x0 x1) (k0_pay416 i x0 x1)⟩,
    ⟨r0_2, k0_pay10 (k0_pay414 i x0 x1) (k0_pay415 i x0 x1) (k0_pay416 i x0 x1)⟩]

/-- What the body leaves in the output's staging buffer: its stores put together. -/
def out0_2 (i : grid0.Coords) (x0 : Vec F S1x8192x128 .fp8e5m2) (x1 : Vec F S1x1024x56 .f32) : Vec F S1x8x1024x128 .bf16 :=
  View.canon (pieces0 i x0 x1)

/-- The 256 stores tile the buffer (checked by evaluation), so they cover it. -/
theorem cover0_2 (i : grid0.Coords) (x0 : Vec F S1x8192x128 .fp8e5m2) (x1 : Vec F S1x1024x56 .f32) (y : S1x8x1024x128.Idx) :
    ∃ pc ∈ pieces0 i x0 x1, y ∈ pc.1.set :=
  View.cover_of_tiledL (pieces0 i x0 x1) S1x1x32x128.size (by sl_kernel_rfl) y

/-! ## The body's triple -/

set_option maxHeartbeats 3516000 in
/-- The kernel body on whole staging memrefs, the inputs' at read contents `xW` and the outputs' at anything, runs to
    the continuation holding the inputs' as they were and each output's at `out0_W` of the inputs': the printed functions
    are their skeletons (`*_eq_skeleton`), which `sl_exec` runs , through every part call. -/
theorem sound_kernel0 (c : Dev nD) (E : Set ℕ) (i : grid0.Coords) (arg3 : Memref sig .tc .vmem S1x8192x128 .fp8e5m2) (harg3 : arg3.IsWhole) (arg4 : Memref sig .tc .vmem S1x1024x56 .f32) (harg4 : arg4.IsWhole) (arg5 : Memref sig .tc .vmem S1x8x1024x128 .bf16) (harg5 : arg5.IsWhole)
    (x0 : Vec F S1x8192x128 .fp8e5m2) (x1 : Vec F S1x1024x56 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out0_2 i x0 x1)) -∗ K ⟨⟩))
      ⊢ wp frame (wpE (defs₀ (F := F)) Variants.none c none) E (cc0_expand i arg3 harg3 arg4 harg4 arg5 harg5) K := by
  simp only [cc0_expand_eq_skeleton]; unfold cc0_expand_skel
  simp only [k0_part53_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 i _ _)).trans ?_
  rfl

/-! ## The pipeline's proof data -/

/-- The proof data of pipeline 0 on core `c`: the arrays as the region finds them (`V`); after the body at
    point `t` each input's buffer at its block and each output's at `out0_W` of the input blocks; the invariant the
    class's (`ΦA`); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through the host program up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
/-- Window 1 after a grid point. -/
theorem after0_1 (c : Dev nD) (t : Fin cfg0.N) : (dat0 V c).after 1 t = iblk0 V c 1 t := by dsimp only [dat0]
/-- Window 2 after a grid point. -/
theorem after0_2 (c : Dev nD) (t : Fin cfg0.N) : (dat0 V c).after 2 t = out0_2 (grid0.coords t) (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Window 1 before a grid point. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (`BodyObligation`), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdealDx.lean ====
/- The second call, `dx`, as entered with the buffer contents `V`: three cases of the grid point (first, middle and last
   class of the eight), what each leaves in the two running sums and in the output block, and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`), by
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 168 := Nat.lt_of_lt_of_eq t.isLt N_1
    have e0 : (grid1.coords t 0).val = t.val / 56 % 3 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond1_0, e0, e1, e2]
    word_cmp
   : ∀ t : Fin grid1.N, cond1_0 (grid1.coords t) ↔ t.val % 8 = 0)

/-- The condition of the body's `scf.if` 1 (`k1_h2`), from the grid coordinates (the skeleton's scalar
    chain substituted). -/
abbrev cond1_1 (i : grid1.Coords) : Prop := k1_cond2 i = 1#1
/-- It holds at the points ≡ 7 (mod 8) — by arithmetic of the point. -/
theorem hcond1_1 : ∀ t : Fin cfg1.N, cond1_1 (grid1.coords t) ↔ t.val % 8 = 7 :=
  (fun t => by
    have ht : t.val < 168 := Nat.lt_of_lt_of_eq t.isLt N_1
    have e0 : (grid1.coords t 0).val = t.val / 56 % 3 := Pipeline.Grid.coords_val t 0 (by decide) rfl
    have e1 : (grid1.coords t 1).val = t.val / 8 % 7 := Pipeline.Grid.coords_val t 1 (by decide) rfl
    have e2 : (grid1.coords t 2).val = t.val / 1 % 8 := Pipeline.Grid.coords_val t 2 (by decide) rfl
    simp only [cond1_1, k1_cond2, e0, e1, e2]
    word_cmp
   : ∀ t : Fin grid1.N, cond1_1 (grid1.coords t) ↔ t.val % 8 = 7)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1x2048x512 .bf16 := (Memref.whole cc1_stg3_0 : Memref sig .tc .vmem S1x2048x512 .bf16).view
/-- Each window's current staging memref at point `t`, spelled as the pipeline passes it (`bodyAt1`), and its wholeness. -/
abbrev ms1_0 (t : Fin cfg1.N) : Memref sig .tc .vmem S1x1x2048x1792 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x1x512x1792 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1792 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x512 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S2048x512 .f32 := Memref.whole cc1_scratch0
abbrev scM1_1 : Memref sig .tc .vmem S2048x512 .f32 := Memref.whole cc1_scratch1
/-- The scratch `arg7` the kernel carries between points, as a view: what it holds is stated through it. -/
abbrev VS1_0 : View sig .tc .vmem S2048x512 .f32 := scM1_0.view
/-- The scratch `arg8` the kernel carries between points, as a view: what it holds is stated through it. -/
abbrev VS1_1 : View sig .tc .vmem S2048x512 .f32 := scM1_1.view

/-- A whole scoped buffer at some contents. -/
abbrev anyBuf (c : Dev nD) (b : Ref sig .tc) : sProp 𝕄 :=
  iprop(∃ f : Buf (Elt F) ((c : Thread nD τ).loc b), ((c : Thread nD τ).loc b) ↦{fullShare} f)

/-- What the body does not touch: the other calls' staging buffers at some contents and the generator register. -/
def Rest1 (c : Dev nD) : sProp 𝕄 :=
  iprop((anyBuf (F := F) c cc0_stg0_0 ∗ anyBuf (F := F) c cc0_stg0_1 ∗ anyBuf (F := F) c cc0_stg1_0 ∗ anyBuf (F := F) c cc0_stg1_1 ∗ anyBuf (F := F) c cc0_stg2_0 ∗ anyBuf (F := F) c cc0_stg2_1 ∗ anyBuf (F := F) c cc2_stg0_0 ∗ anyBuf (F := F) c cc2_stg0_1 ∗ anyBuf (F := F) c cc2_stg1_0 ∗ anyBuf (F := F) c cc2_stg1_1 ∗ anyBuf (F := F) c cc2_stg2_0 ∗ anyBuf (F := F) c cc2_stg2_1) ∗ (∃ r, prngReg c r))

/-- The invariant before the first point: both running sums at anything. -/
def PhiH (c : Dev nD) : sProp 𝕄 :=
  iprop(iprop((∃ d, owns (c : Thread nD τ) (scM1_0 : Memref sig .tc .vmem S2048x512 .f32) fullShare (d : Vec F S2048x512 .f32)) ∗ (∃ d, owns (c : Thread nD τ) (scM1_1 : Memref sig .tc .vmem S2048x512 .f32) fullShare (d : Vec F S2048x512 .f32))) ∗ Rest1 (F := F) c)

/-- The invariant before the first point, out of what the launch hands the call. -/
theorem PhiH_of (c : Dev nD) : (Pipeline.ΦA spec1 c : sProp 𝕄) ⊢ PhiH (F := F) c := by
  unfold Pipeline.ΦA PhiH Rest1; rw [scopedRest1_eq]; simp only [scM1_0, scM1_1, owns_whole]
  iintro ⟨⟨A0, A1, A2, A3, A4, A5, S0, S1, C0, C1, C2, C3, C4, C5⟩, Hg⟩
  isplitl [S0 S1]
  · isplitl [S0]; · iexact S0
    iexact S1
  isplitr [Hg]
  · isplitl [A0]; · iexact A0
    isplitl [A1]; · iexact A1
    isplitl [A2]; · iexact A2
    isplitl [A3]; · iexact A3
    isplitl [A4]; · iexact A4
    isplitl [A5]; · iexact A5
    isplitl [C0]; · iexact C0
    isplitl [C1]; · iexact C1
    isplitl [C2]; · iexact C2
    isplitl [C3]; · iexact C3
    isplitl [C4]; · iexact C4
    iexact C5
  iexact Hg

/-- and back. -/
theorem of_PhiH (c : Dev nD) : PhiH (F := F) c ⊢ (Pipeline.ΦA spec1 c : sProp 𝕄) := by
  unfold Pipeline.ΦA PhiH Rest1; rw [scopedRest1_eq]; simp only [scM1_0, scM1_1, owns_whole]
  iintro ⟨⟨S0, S1⟩, ⟨A0, A1, A2, A3, A4, A5, C0, C1, C2, C3, C4, C5⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [S0]; · iexact S0
    isplitl [S1]; · iexact S1
    isplitl [C0]; · iexact C0
    isplitl [C1]; · iexact C1
    isplitl [C2]; · iexact C2
    isplitl [C3]; · iexact C3
    isplitl [C4]; · iexact C4
    iexact C5
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 160: 21 of 168), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun1_A (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) :
    Σ' (L3 : List (View.Piece (Elt F) S1x2048x512 .bf16)), Σ' (LS0 : List (View.Piece (Elt F) S2048x512 .f32)), { LS1 : List (View.Piece (Elt F) S2048x512 .f32) //
      ∀ (xi3 : Vec F S1x2048x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_dx i arg3 harg3 arg4 harg4 arg5 harg5 arg6 harg6 arg7 harg7 arg8 harg8) K } := by
  refine ⟨[], ?_, ?_, fun xi3 E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 166: 126 of 168), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun1_B (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) :
    Σ' (L3 : List (View.Piece (Elt F) S1x2048x512 .bf16)), Σ' (LS0 : List (View.Piece (Elt F) S2048x512 .f32)), { LS1 : List (View.Piece (Elt F) S2048x512 .f32) //
      ∀ (xi3 : Vec F S1x2048x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_dx i arg3 harg3 arg4 harg4 arg5 harg5 arg6 harg6 arg7 harg7 arg8 harg8) K } := by
  refine ⟨[], ?_, ?_, fun xi3 E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7, 15, … 167: 21 of 168), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs  — each `scf.if` decided by the case's hypotheses `hc·`; the pieces are
    the witness that run finds (assigned when `iexact` hands the buffer to the continuation). -/
noncomputable def kernelRun1_C (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) :
    Σ' (L3 : List (View.Piece (Elt F) S1x2048x512 .bf16)), Σ' (LS0 : List (View.Piece (Elt F) S2048x512 .f32)), { LS1 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1_dx i arg3 harg3 arg4 harg4 arg5 harg5 arg6 harg6 arg7 harg7 arg8 harg8) K } := by
  refine ⟨?_, ?_, ?_, fun E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

/-- Case A stores nothing into output 3 (the window is idle at its points and not written back there):
    no pieces — a placeholder (junk read back) that nothing consults, since at these points the window is neither
    written back nor read at the next point ("Idle points"). -/
def out1_A_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) : Vec F S1x2048x512 .bf16 :=
  VO1_3.read (Elt F) (VO1_3.writes (Elt F) VO1_3.junk (kernelRun1_A c i arg3 harg3 arg4 harg4 arg5 harg5 arg6 harg6 arg7 harg7 arg8 harg8 hc0 hc1 x0 x1 x2).1)

/-- Case A's pieces for scratch `arg7`, which the kernel carries between points, cover it: 2 pieces of `S2048x512` tiling it (`Piece.tiledL`). -/
theorem scover1_A_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) (y : S2048x512.Idx) :
    ∃ pc ∈ (kernelRun1_A c i arg3 harg3 arg4 harg4 arg5 harg5 arg6 harg6 arg7 harg7 arg8 harg8 hc0 hc1 x0 x1 x2).2.1, y ∈ pc.1.set :=
  View.cover_of_tiledL (kernelRun1_A c i arg3 harg3 arg4 harg4 arg5 harg5 arg6 harg6 arg7 harg7 arg8 harg8 hc0 hc1 x0 x1 x2).2.1 S2048x512.size (by sl_kernel_rfl) y

/-- What case A leaves in scratch `arg7`: its pieces read back over junk. -/
def sout1_A_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) : Vec F S2048x512 .f32 :=
  VS1_0.read (Elt F) (VS1_0.writes (Elt F) VS1_0.junk (kernelRun1_A c i arg3 harg3 arg4 harg4 arg5 harg5 arg6 harg6 arg7 harg7 arg8 harg8 hc0 hc1 x0 x1 x2).2.1)

/-- Case A's pieces for scratch `arg8`, which the kernel carries between points, cover it: 2 pieces of `S2048x512` tiling it (`Piece.tiledL`). -/
theorem scover1_A_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) (y : S2048x512.Idx) :
    ∃ pc ∈ (kernelRun1_A c i arg3 harg3 arg4 harg4 arg5 harg5 arg6 harg6 arg7 harg7 arg8 harg8 hc0 hc1 x0 x1 x2).2.2.1, y ∈ pc.1.set :=
  View.cover_of_tiledL (kernelRun1_A c i arg3 harg3 arg4 harg4 arg5 harg5 arg6 harg6 arg7 harg7 arg8 harg8 hc0 hc1 x0 x1 x2).2.2.1 S2048x512.size (by sl_kernel_rfl) y

/-- What case A leaves in scratch `arg8`: its pieces read back over junk. -/
def sout1_A_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : cond1_0 i) (hc1 : ¬cond1_1 i)
    (x0 : Vec F S1x1x2048x1792 .bf16) (x1 : Vec F S2x1x512x1792 .fp8e4m3) (x2 : Vec F S1x1792 .f32) : Vec F S2048x512 .f32 :=
  VS1_1.read (Elt F) (VS1_1.writes (Elt F) VS1_1.junk (kernelRun1_A c i arg3 harg3 arg4 harg4 arg5 harg5 arg6 harg6 arg7 harg7 arg8 harg8 hc0 hc1 x0 x1 x2).2.2.1)

/-- Case B stores nothing into output 3 (the window is idle at its points and not written back there):
    no pieces — a placeholder (junk read back) that nothing consults, since at these points the window is neither
    written back nor read at the next point ("Idle points"). -/
def out1_B_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S1x2048x512 .bf16 :=
  VO1_3.read (Elt F) (VO1_3.writes (Elt F) VO1_3.junk (kernelRun1_B c i arg3 harg3 arg4 harg4 arg5 harg5 arg6 harg6 arg7 harg7 arg8 harg8 hc0 hc1 x0 x1 x2 xs0 xs1).1)

/-- Case B's pieces for scratch `arg7`, which the kernel carries between points, cover it: 1 piece of `S2048x512` tiling it (`Piece.tiledL`). -/
theorem scover1_B_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_B c i arg3 harg3 arg4 harg4 arg5 harg5 arg6 harg6 arg7 harg7 arg8 harg8 hc0 hc1 x0 x1 x2 xs0 xs1).2.1, y ∈ pc.1.set :=
  View.cover_of_tiledL (kernelRun1_B c i arg3 harg3 arg4 harg4 arg5 harg5 arg6 harg6 arg7 harg7 arg8 harg8 hc0 hc1 x0 x1 x2 xs0 xs1).2.1 S2048x512.size (by sl_kernel_rfl) y

/-- What case B leaves in scratch `arg7`: its pieces read back over junk. -/
def sout1_B_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_0.read (Elt F) (VS1_0.writes (Elt F) VS1_0.junk (kernelRun1_B c i arg3 harg3 arg4 harg4 arg5 harg5 arg6 harg6 arg7 harg7 arg8 harg8 hc0 hc1 x0 x1 x2 xs0 xs1).2.1)

/-- Case B's pieces for scratch `arg8`, which the kernel carries between points, cover it: 1 piece of `S2048x512` tiling it (`Piece.tiledL`). -/
theorem scover1_B_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_B c i arg3 harg3 arg4 harg4 arg5 harg5 arg6 harg6 arg7 harg7 arg8 harg8 hc0 hc1 x0 x1 x2 xs0 xs1).2.2.1, y ∈ pc.1.set :=
  View.cover_of_tiledL (kernelRun1_B c i arg3 harg3 arg4 harg4 arg5 harg5 arg6 harg6 arg7 harg7 arg8 harg8 hc0 hc1 x0 x1 x2 xs0 xs1).2.2.1 S2048x512.size (by sl_kernel_rfl) y

/-- What case B leaves in scratch `arg8`: its pieces read back over junk. -/
def sout1_B_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : ¬cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_1.read (Elt F) (VS1_1.writes (Elt F) VS1_1.junk (kernelRun1_B c i arg3 harg3 arg4 harg4 arg5 harg5 arg6 harg6 arg7 harg7 arg8 harg8 hc0 hc1 x0 x1 x2 xs0 xs1).2.2.1)

/-- Case C's pieces for output 3 tile its block (1 store of `S1x2048x512`, checked by the kernel's evaluation: `Piece.tiledL`, linear in the pieces, through a loop's `@[irreducible]` trip theorem too), so they cover it. -/
theorem cover1_C_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S1x2048x512.Idx) :
    ∃ pc ∈ (kernelRun1_C c i arg3 harg3 arg4 harg4 arg5 harg5 arg6 harg6 arg7 harg7 arg8 harg8 hc0 hc1 x0 x1 x2 xs0 xs1).1, y ∈ pc.1.set :=
  View.cover_of_tiledL (kernelRun1_C c i arg3 harg3 arg4 harg4 arg5 harg5 arg6 harg6 arg7 harg7 arg8 harg8 hc0 hc1 x0 x1 x2 xs0 xs1).1 S1x2048x512.size (by sl_kernel_rfl) y

/-- What case C leaves in output 3's staging buffer: its pieces read back over junk. -/
def out1_C_3 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S1x2048x512 .bf16 :=
  VO1_3.read (Elt F) (VO1_3.writes (Elt F) VO1_3.junk (kernelRun1_C c i arg3 harg3 arg4 harg4 arg5 harg5 arg6 harg6 arg7 harg7 arg8 harg8 hc0 hc1 x0 x1 x2 xs0 xs1).1)

/-- Case C's pieces for scratch `arg7`, which the kernel carries between points, cover it: 1 piece of `S2048x512` tiling it (`Piece.tiledL`). -/
theorem scover1_C_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_C c i arg3 harg3 arg4 harg4 arg5 harg5 arg6 harg6 arg7 harg7 arg8 harg8 hc0 hc1 x0 x1 x2 xs0 xs1).2.1, y ∈ pc.1.set :=
  View.cover_of_tiledL (kernelRun1_C c i arg3 harg3 arg4 harg4 arg5 harg5 arg6 harg6 arg7 harg7 arg8 harg8 hc0 hc1 x0 x1 x2 xs0 xs1).2.1 S2048x512.size (by sl_kernel_rfl) y

/-- What case C leaves in scratch `arg7`: its pieces read back over junk. -/
def sout1_C_0 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_0.read (Elt F) (VS1_0.writes (Elt F) VS1_0.junk (kernelRun1_C c i arg3 harg3 arg4 harg4 arg5 harg5 arg6 harg6 arg7 harg7 arg8 harg8 hc0 hc1 x0 x1 x2 xs0 xs1).2.1)

/-- Case C's pieces for scratch `arg8`, which the kernel carries between points, cover it: 1 piece of `S2048x512` tiling it (`Piece.tiledL`). -/
theorem scover1_C_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) (y : S2048x512.Idx) :
    ∃ pc ∈ (kernelRun1_C c i arg3 harg3 arg4 harg4 arg5 harg5 arg6 harg6 arg7 harg7 arg8 harg8 hc0 hc1 x0 x1 x2 xs0 xs1).2.2.1, y ∈ pc.1.set :=
  View.cover_of_tiledL (kernelRun1_C c i arg3 harg3 arg4 harg4 arg5 harg5 arg6 harg6 arg7 harg7 arg8 harg8 hc0 hc1 x0 x1 x2 xs0 xs1).2.2.1 S2048x512.size (by sl_kernel_rfl) y

/-- What case C leaves in scratch `arg8`: its pieces read back over junk. -/
def sout1_C_1 (c : Dev nD) (i : grid1.Coords) (arg3 : Memref sig .tc .vmem S1x1x2048x1792 .bf16) (harg3 : arg3.IsWhole) (arg4 : Memref sig .tc .vmem S2x1x512x1792 .fp8e4m3) (harg4 : arg4.IsWhole) (arg5 : Memref sig .tc .vmem S1x1792 .f32) (harg5 : arg5.IsWhole) (arg6 : Memref sig .tc .vmem S1x2048x512 .bf16) (harg6 : arg6.IsWhole) (arg7 : Memref sig .tc .vmem S2048x512 .f32) (harg7 : arg7.IsWhole) (arg8 : Memref sig .tc .vmem S2048x512 .f32) (harg8 : arg8.IsWhole) (hc0 : ¬cond1_0 i) (hc1 : cond1_1 i)
    (x0 : Vec F S1x1x2048x1792 .bf16) (x1 : Vec F S2x1x512x1792 .fp8e4m3) (x2 : Vec F S1x1792 .f32) (xs0 : Vec F S2048x512 .f32) (xs1 : Vec F S2048x512 .f32) : Vec F S2048x512 .f32 :=
  VS1_1.read (Elt F) (VS1_1.writes (Elt F) VS1_1.junk (kernelRun1_C c i arg3 harg3 arg4 harg4 arg5 harg5 arg6 harg6 arg7 harg7 arg8 harg8 hc0 hc1 x0 x1 x2 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x2048x512 .bf16 × Vec F S2048x512 .f32 × Vec F S2048x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by have hN : n + 1 < 168 := lt_of_lt_of_eq hn (show cfg1.N = 168 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a point of case A: that case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (`ΦA`); afterwards the scoped rest with each carried scratch
    at what the point before left in it (`outsAt1`'s scratch components), the others at anything, and the generator register
    at some state. -/
def PhiS (c : Dev nD) : (n : ℕ) → n ≤ cfg1.N → sProp 𝕄
  | 0, _ => PhiH (F := F) c
  | n + 1, hn => iprop(iprop(owns (c : Thread nD τ) scM1_0 fullShare ((outsAt1 V c n hn).2.1) ∗ owns (c : Thread nD τ) scM1_1 fullShare ((outsAt1 V c n hn).2.2)) ∗ Rest1 (F := F) c)

/-- At the first grid point the scratch buffers are as the call found them. -/
theorem PhiS_zero (c : Dev nD) (n : ℕ) (h : n ≤ cfg1.N) (hz : n = 0) : PhiS V c n h = PhiH (F := F) c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.1) ∗ owns (c : Thread nD τ) scM1_1 fullShare ((outsAt1 V c n hn).2.2)) ∗ Rest1 (F := F) c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.1) ∗ owns (c : Thread nD τ) scM1_1 fullShare ((outsAt1 V c (n - 1) (by omega)).2.2)) ∗ Rest1 (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over the host program's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
/-- Window 1 after a grid point. -/
theorem after1_1 (c : Dev nD) (t : Fin cfg1.N) : (dat1 V c).after 1 t = iblk1 V c 1 t := by dsimp only [dat1]
/-- Window 2 after a grid point. -/
theorem after1_2 (c : Dev nD) (t : Fin cfg1.N) : (dat1 V c).after 2 t = iblk1 V c 2 t := by dsimp only [dat1]
/-- Window 3 after a grid point. -/
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Window 1 before a grid point. -/
theorem before1_1 (c : Dev nD) (t : Fin cfg1.N) (d) : (dat1 V c).before 1 t d = iblk1 V c 1 t :=
  before1_1_of V (dat1 V c) (A_eq1 V c 1) (after1_1 V c) t d
/-- Window 2 before a grid point. -/
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (`BodyObligation`), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 168 := lt_of_lt_of_eq t.isLt (show cfg1.N = 168 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS_castSucc V c t, PhiS_zero V c _ _ hz]; unfold PhiH
        rw [outsAt1_A V c t h0 h1]
        unfold sout1_A_0 sout1_A_1; (try dsimp only)
        iintro ⟨⟨⟨HS0, HS1⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        rw [outsAt1_A V c t h0 h1]
        unfold sout1_A_0 sout1_A_1; (try dsimp only)
        iintro ⟨⟨⟨HS0, HS1⟩, Hg⟩, Ho, ⟨%d0, H0⟩, ⟨%d1, H1⟩, ⟨%d2, H2⟩, ⟨%d3, H3⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            unfold owns; iexists _; isplitr
            swap; · iexact HS1
            ipureintro; exact View.read_writes_of_cover _ _ _ _ _ (scover1_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      by_cases hz : t.val = 0
      · exfalso; have hN : t.val < 168 := lt_of_lt_of_eq t.isLt (show cfg1.N = 168 from N_1); omega
      · rw [PhiS_castSucc V c t, PhiS_pos V c _ _ hz]
        rw [outsAt1_C V c t h0 h1]
        unfold out1_C_3 sout1_C_0 sout1_C_1; (try dsimp only)
        iintro ⟨⟨⟨HS0, HS1⟩, Hg⟩, Ho, ⟨%d0, H0⟩, ⟨%d1, H1⟩, ⟨%d2, H2⟩, ⟨%d3, H3⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 168 := lt_of_lt_of_eq t.isLt (show cfg1.N = 168 from N_1); omega
      · rw [PhiS_castSucc V c t, PhiS_pos V c _ _ hz]
        rw [outsAt1_B V c t h0 h1]
        unfold sout1_B_0 sout1_B_1; (try dsimp only)
        iintro ⟨⟨⟨HS0, HS1⟩, Hg⟩, Ho, ⟨%d0, H0⟩, ⟨%d1, H1⟩, ⟨%d2, H2⟩, ⟨%d3, H3⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  exact PhiH_of c

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (of_PhiH c)
  unfold PhiH
  iintro ⟨⟨HS0, HS1⟩, Hg⟩
  isplitl [HS0 HS1]
  · isplitl [HS0]
    · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 168 := N_1; omega)

end Cert.KernelIdeal.Whole

end
-- ==== Proof.KernelIdealDw.lean ====
/- The third call, `dw`, as entered with the buffer contents `V`: what one body run leaves, and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 2: custom_call 2, `cc2_dw` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`), by
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`), by
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S3x1x2048x256 := Rect.unit (s := S3x1x2048x256) ![0, 0, 0, 0] S3x1x2048x256.size inb_S3x1x2048x256_S3x1x2048x256_0_0_0_0
abbrev r2_1 : Rect S896x6144 := Rect.unit (s := S896x6144) ![0, 0] S896x6144.size inb_S896x6144_S896x6144_0_0
abbrev r2_2 : Rect S1x896x256 := Rect.unit (s := S1x896x256) ![0, 0, 0] S1x896x256.size inb_S1x896x256_S1x896x256_0_0_0

/-! ## What the body leaves in each output window's buffer -/

/-- Window 2's staging buffer after the body, from the input windows' blocks: its 1 store as pieces, LAST
    FIRST (`View.canon`). -/
def out2_2 (x0 : Vec F S896x6144 .bf16) (x1 : Vec F S3x1x2048x256 .bf16) : Vec F S1x896x256 .f32 :=
  View.canon [⟨r2_2, k2_pay1 (View.ld x1 r2_0) (View.ld x0 r2_1)⟩]

/-- Its stores tile the buffer (checked by evaluation), so they cover it. -/
theorem cover2_2 (p0 : Vec F S1x896x256 .f32) (y : S1x896x256.Idx) :
    ∃ pc ∈ ([⟨r2_2, p0⟩] : List (View.Piece (Elt F) S1x896x256 .f32)), y ∈ pc.1.set :=
  View.cover_of_tiled [⟨r2_2, p0⟩] S1x896x256.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`*_eq_skeleton`), which `sl_exec` runs , through every part call. -/
theorem sound_kernel2 (c : Dev nD) (E : Set ℕ) (i : grid2.Coords) (arg2 : Memref sig .tc .vmem S896x6144 .bf16) (harg2 : arg2.IsWhole) (arg3 : Memref sig .tc .vmem S3x1x2048x256 .bf16) (harg3 : arg3.IsWhole) (arg4 : Memref sig .tc .vmem S1x896x256 .f32) (harg4 : arg4.IsWhole)
    (x0 : Vec F S896x6144 .bf16) (x1 : Vec F S3x1x2048x256 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2_dw i arg2 harg2 arg3 harg3 arg4 harg4) K := by
  simp only [cc2_dw_eq_skeleton]; unfold cc2_dw_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's (`ΦA`); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through the host program up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: `Dat`). -/
theorem after2_0 (c : Dev nD) (t : Fin cfg2.N) : (dat2 V c).after 0 t = iblk2 V c 0 t := by dsimp only [dat2]
/-- Window 1 after a grid point. -/
theorem after2_1 (c : Dev nD) (t : Fin cfg2.N) : (dat2 V c).after 1 t = iblk2 V c 1 t := by dsimp only [dat2]
/-- Window 2 after a grid point. -/
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- Window 1 before a grid point. -/
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (`BodyObligation`), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (`triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.KernelIdealRun.lean ====
/- The whole program: the buffer contents at each boundary between host stretches and calls (`W0` … `W7`), each call
   entered from one boundary and left at the next, and the run of the three calls in order. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.RegionsLoop
public import Idealize.ShloMosaic.Lib.Pipeline.FrameSuffix
public import proofs.«01_k».proof.Proof.KernelIdealExpand
public import proofs.«01_k».proof.Proof.KernelIdealDx
public import proofs.«01_k».proof.Proof.KernelIdealDw

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: the host program's segments from the launch to the return (`θ_run_regions_kit`) -/

/-- the host program's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2]
/-- The buffers this host stretch writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_c]
/-- The buffers this host stretch writes. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call0_v0, main_v7]
/-- The buffers this host stretch writes. -/
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v8, main_v9, main_v10]
/-- The buffers this host stretch writes. -/
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-! ## The buffer contents at each segment boundary: a fold through the host program, and what each item leaves unchanged -/

/-- Core `c`'s buffers at launch (region 0's entry). -/
abbrev W0 : Dev nD → Valuation τ sig (Elt F) := fun c b => (s₀ m ρ).mem ((c : Dev nD), b)
/-- At this boundary the arguments still hold what the launch gave them. -/
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (`withArrays`). -/
def W1 (c : Dev nD) : Valuation τ sig (Elt F) :=
  Pipeline.withArrays spec0 c (W0 m ρ c) fun w => (dat0 (V0 m ρ) c).arrAt w cfg0.N
/-- At this boundary a call's array holds what the call leaves in it. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- At this boundary a buffer that is no array of the call is as before it. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- At this boundary the arguments still hold what the launch gave them. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V0 m ρ) c).arrAt w cfg0.N = V1 m ρ c (Pipeline.arrRef spec0 w) :=
  (W1_arr m ρ c w).symm
/-- The call's buffers that are no window's array are as at its entry. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- At this boundary the arguments still hold what the launch gave them. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (`withArrays`). -/
def W3 (c : Dev nD) : Valuation τ sig (Elt F) :=
  Pipeline.withArrays spec1 c (W2 m ρ c) fun w => (dat1 (V2 m ρ) c).arrAt w cfg1.N
/-- At this boundary a call's array holds what the call leaves in it. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- At this boundary a buffer that is no array of the call is as before it. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At this boundary the arguments still hold what the launch gave them. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The call's buffers that are no window's array are as at its entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At this boundary the arguments still hold what the launch gave them. -/
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- After `hostOps2_1`. -/
abbrev W5 : Dev nD → Valuation τ sig (Elt F) := fun c => StableHlo.after hostOps2_1 (W4 m ρ c)
/-- A reference `hostOps2_1` does not write keeps its contents across it. -/
theorem W5_of (c : Dev nD) (r : Ref sig .tc) (h : r ∉ hostOps2_1_W) : W5 m ρ c (Proc.devRef .tc r) = W4 m ρ c (Proc.devRef .tc r) :=
  StableHlo.after_of_writes_sub hostOps2_1 _ hostOps2_1_writes h
/-- At this boundary the arguments still hold what the launch gave them. -/
theorem W5_args (c : Dev nD) : ∀ a ∈ argRefs, W5 m ρ c (Proc.devRef .tc a) = m ((c : Thread nD τ).loc a) :=
  fun a ha => (W5_of m ρ c a (hostOps2_1_args a ha)).trans (W4_args m ρ c a ha)
/-- After `hostOps2_2` (region 2's entry). -/
abbrev W6 : Dev nD → Valuation τ sig (Elt F) := fun c => StableHlo.after hostOps2_2 (W5 m ρ c)
/-- A reference `hostOps2_2` does not write keeps its contents across it. -/
theorem W6_of (c : Dev nD) (r : Ref sig .tc) (h : r ∉ hostOps2_2_W) : W6 m ρ c (Proc.devRef .tc r) = W5 m ρ c (Proc.devRef .tc r) :=
  StableHlo.after_of_writes_sub hostOps2_2 _ hostOps2_2_writes h
/-- At this boundary the arguments still hold what the launch gave them. -/
theorem W6_args (c : Dev nD) : ∀ a ∈ argRefs, W6 m ρ c (Proc.devRef .tc a) = m ((c : Thread nD τ).loc a) :=
  fun a ha => (W6_of m ρ c a (hostOps2_2_args a ha)).trans (W5_args m ρ c a ha)
/-- The same read at the TensorCore's references (what region 2's proof data take). -/
abbrev V6 : (c : Dev nD) → (b : Ref sig .tc) → Buf (Elt F) ((c : Thread nD τ).loc b) := fun c b => W6 m ρ c b
/-- At region 2's exit: its arrays at what the pipeline leaves (the inputs as entered, each output's write-backs
    folded: `Dat.arrAt … N`), every other buffer as entered (`withArrays`). -/
def W7 (c : Dev nD) : Valuation τ sig (Elt F) :=
  Pipeline.withArrays spec2 c (W6 m ρ c) fun w => (dat2 (V6 m ρ) c).arrAt w cfg2.N
/-- At this boundary a call's array holds what the call leaves in it. -/
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
/-- At this boundary a buffer that is no array of the call is as before it. -/
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- At this boundary the arguments still hold what the launch gave them. -/
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V6 m ρ) c).arrAt w cfg2.N = V7 m ρ c (Pipeline.arrRef spec2 w) :=
  (W7_arr m ρ c w).symm
/-- The call's buffers that are no window's array are as at its entry. -/
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ### The arguments end as launched: no host stretch writes one and no region may change one (a region reads it
    through an input window or bypasses it) -/

/-- Argument 0 is unchanged at the end. -/
theorem W7_main_arg0 (c : Dev nD) : W7 m ρ c (Proc.devRef .tc main_arg0) = m ((c : Thread nD τ).loc main_arg0) :=
  W7_args m ρ c main_arg0 (by decide)
/-- Argument 1 is unchanged at the end. -/
theorem W7_main_arg1 (c : Dev nD) : W7 m ρ c (Proc.devRef .tc main_arg1) = m ((c : Thread nD τ).loc main_arg1) :=
  W7_args m ρ c main_arg1 (by decide)
/-- Argument 2 is unchanged at the end. -/
theorem W7_main_arg2 (c : Dev nD) : W7 m ρ c (Proc.devRef .tc main_arg2) = m ((c : Thread nD τ).loc main_arg2) :=
  W7_args m ρ c main_arg2 (by decide)
/-- Argument 3 is unchanged at the end. -/
theorem W7_main_arg3 (c : Dev nD) : W7 m ρ c (Proc.devRef .tc main_arg3) = m ((c : Thread nD τ).loc main_arg3) :=
  W7_args m ρ c main_arg3 (by decide)
/-- Argument 4 is unchanged at the end. -/
theorem W7_main_arg4 (c : Dev nD) : W7 m ρ c (Proc.devRef .tc main_arg4) = m ((c : Thread nD τ).loc main_arg4) :=
  W7_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## the host program as segments, and the launch -/

/-- the host program's 7 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .region (reg2 m ρ) ]
/-- the host program IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every execution ends, with every unscoped buffer at the last boundary's
    contents `W7` and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c => h c, funext fun g => hz g (.inr (no_unscoped g.2))⟩)

/-- The frame: every argument array ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩, h.2⟩) (run m ρ)

end Cert.KernelIdeal.Whole

end
-- ==== Proof.ExpandValue.lean ====
/- What the first call leaves in its result array, read over the reals, for any contents `V` of the arrays it is entered
   with: every element is a code times the scale of its frame and group. The 256 stores of one grid point are taken one by
   one: store `(p, t)` holds phase `p` of the 32 frames from `t` on. -/
module

public import proofs.«01_k».proof.Proof.KernelIdealExpand
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelIdeal.WholeExpand

open Cert.KernelIdeal Cert.KernelIdeal.Gen Cert.KernelIdeal.Whole Idealize.ShloMosaic Idealize.ShloMosaic.TcCoe Idealize.SL.Sem
open Idealize.ShloMosaic.Pipeline (Dat)

/-- The kernel's spelling of lane `l` divided by 32, rounded down, plus four times the column tile `q`, on 32-bit words. -/
def WORD (l q : ℕ) : BitVec 32 :=
  let d := Scalar.select
    (IntOp.andi
      (IntOp.cmpi CmpIPredicate.ne
        (IntOp.subi (BitVec.setWidth 32 (IntOp.cmpi CmpIPredicate.sgt (BitVec.ofNat 32 l) 0#32))
          (BitVec.setWidth 32 (IntOp.cmpi CmpIPredicate.slt (BitVec.ofNat 32 l) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 l) 32#32) 0#32))
    (IntOp.subi (IntOp.divsi ArithUnit.vector (BitVec.ofNat 32 l) 32#32) 1#32)
    (IntOp.divsi ArithUnit.vector (BitVec.ofNat 32 l) 32#32)
  let k := IntOp.addi d (Scalar.muli (BitVec.ofNat 32 q) 4#32)
  Scalar.select (IntOp.cmpi CmpIPredicate.slt k 0#32) (IntOp.addi k 128#32) k

/-- That word is the group of the lane. -/
theorem word_val : ∀ (l : Fin 128) (q : Fin 14), (WORD l.val q.val).toNat % 128 = l.val / 32 + 4 * q.val := by
  decide +kernel

/-- The index words the kernel gathers with. -/
theorem index_at (i : grid0.Coords) (r : Fin 1024) (l : Fin 128) : k0_pay7 i (ix2 r l) = WORD l.val (i 2).val := by
  pointwise [k0_pay7]
  rfl

/-- The expanded scales of one grid point: lane `l` of column tile `q` has the scale of group `l / 32 + 4 q`. -/
theorem scale_at (i : grid0.Coords) (q : Fin 14) (hq : (i 2).val = q.val) (x1 : FVec Ideal S1x1024x56 .f32) (r : Fin 1024) (l : Fin 128) :
    k0_pay8 (F := Ideal) (k0_pay6 x1) (k0_pay7 i) (ix2 r l) = x1 (ix3 0 r ⟨l.val / 32 + 4 * q.val, by omega⟩) := by
  have hw : (k0_pay7 i (ix2 r l)).toNat % 128 = l.val / 32 + 4 * q.val := by
    rw [index_at, hq, word_val]
  pointwise [k0_pay8, k0_pay6]
  rw [dif_pos (by rw [hw]; omega)]
  exact congrArg x1 ((ix3_inj ..).2 ⟨rfl, rfl, Fin.ext hw⟩)

/-- The expanded scales of one grid point, of its block of scales. -/
def SC (i : grid0.Coords) (x1 : FVec Ideal S1x1024x56 .f32) : FVec Ideal S1024x128 .bf16 := k0_pay8 (F := Ideal) (k0_pay6 x1) (k0_pay7 i)

/-- The scales that every store reads are those. -/
theorem sc (i : grid0.Coords) (x0 : FVec Ideal S1x8192x128 .fp8e5m2) (x1 : FVec Ideal S1x1024x56 .f32) :
    k0_pay8 (F := Ideal) (k0_pay415 (F := Ideal) i x0 x1) (k0_pay416 (F := Ideal) i x0 x1) = SC i x1 := by
  unfold SC k0_pay415 k0_pay416
  rw [View.ld_unit_zero (by funext a; fin_cases a <;> rfl)]

/-- One grid point's result block: the code of frame `y 2`, phase `y 1`, times the expanded scale. -/
def BLK (i : grid0.Coords) (x0 : FVec Ideal S1x8192x128 .fp8e5m2) (x1 : FVec Ideal S1x1024x56 .f32) : S1x8x1024x128.Idx → Elt Ideal .bf16 := fun y =>
  (x0 (ix3 0 ⟨(y 2).val * 8 + (y 1).val, by have h1 : (y 1).val < 8 := (y 1).isLt; have h2 : (y 2).val < 1024 := (y 2).isLt; omega⟩ (y 3))
    * SC i x1 (ix2 (y 2) (y 3)) : EReal)

/-- Store `(p, t)` of the block: phase `p`, the 32 frames from `t` on. -/
def TILE (i : grid0.Coords) (x0 : FVec Ideal S1x8192x128 .fp8e5m2) (x1 : FVec Ideal S1x1024x56 .f32) (p t : ℕ) (hp : p < 8) (ht : t + 32 ≤ 1024) : S1x1x32x128.Idx → Elt Ideal .bf16 := fun y =>
  (x0 (ix3 0 ⟨(t + (y 2).val) * 8 + p, by have h2 : (y 2).val < 32 := (y 2).isLt; omega⟩ (y 3))
    * SC i x1 (ix2 ⟨t + (y 2).val, by have h2 : (y 2).val < 32 := (y 2).isLt; omega⟩ (y 3)) : EReal)

/-- A store whose payload is its tile agrees with the block where it lies. -/
theorem at_emb (i : grid0.Coords) (x0 : FVec Ideal S1x8192x128 .fp8e5m2) (x1 : FVec Ideal S1x1024x56 .f32) (p t : ℕ) (hp : p < 8) (ht : t + 32 ≤ 1024)
    (inb : ∀ a, (![0, p, t, 0] : Fin 4 → ℕ) a + S1x1x32x128.size a ≤ S1x8x1024x128.size a) (w : S1x1x32x128.Idx → Elt Ideal .bf16)
    (h : ∀ y, w y = TILE i x0 x1 p t hp ht y) (y : S1x1x32x128.Idx) :
    w y = BLK i x0 x1 ((Rect.unit (s := S1x8x1024x128) ![0, p, t, 0] S1x1x32x128.size inb).emb y) := by
  rw [h]
  have h1 : (y 1).val < 1 := (y 1).isLt
  refine congrArg₂ (fun a b : EReal => a * b) (congrArg x0 ((ix3_inj ..).2 ⟨rfl, Fin.ext ?_, Fin.ext ?_⟩)) (congrArg _ ((ix2_inj ..).2 ⟨Fin.ext ?_, Fin.ext ?_⟩))
  · show (t + (y 2).val) * 8 + p = (t + 1 * (y 2).val) * 8 + (p + 1 * (y 1).val)
    omega
  · show (y 3).val = 0 + 1 * (y 3).val
    omega
  · show t + (y 2).val = t + 1 * (y 2).val
    omega
  · show (y 3).val = 0 + 1 * (y 3).val
    omega

section Stores
variable (i : grid0.Coords) (x0 : FVec Ideal S1x8192x128 .fp8e5m2) (x1 : FVec Ideal S1x1024x56 .f32) (y : S1x1x32x128.Idx)

/-! The 256 stores of one body run, last first: `s{p}_{t}` says that the value stored for phase `p` and the frames `32 t` to
`32 t + 31` is that rectangle of the block `BLK`. -/

theorem s7_31 : (k0_pay4 (k0_pay449 i x0 x1) (k0_pay413 (k0_pay414 i x0 x1)) : FVec Ideal S1x1x32x128 .bf16) y = TILE i x0 x1 7 992 (by decide) (by decide) y := by
  pointwise [k0_pay4, k0_pay449, k0_pay413, k0_pay414, k0_pay405, k0_pay417, k0_pay5, sc]
  rfl
theorem s6_31 : (k0_pay3 (k0_pay449 i x0 x1) (k0_pay412 (k0_pay414 i x0 x1)) : FVec Ideal S1x1x32x128 .bf16) y = TILE i x0 x1 6 992 (by decide) (by decide) y := by
  pointwise [k0_pay3, k0_pay449, k0_pay412, k0_pay414, k0_pay405, k0_pay417, k0_pay5, sc]
  rfl
theorem s5_31 : (k0_pay2 (k0_pay449 i x0 x1) (k0_pay411 (k0_pay414 i x0 x1)) : FVec Ideal S1x1x32x128 .bf16) y = TILE i x0 x1 5 992 (by decide) (by decide) y := by
  pointwise [k0_pay2, k0_pay449, k0_pay411, k0_pay414, k0_pay405, k0_pay417, k0_pay5, sc]
  rfl
theorem s4_31 : (k0_pay1 (k0_pay449 i x0 x1) (k0_pay410 (k0_pay414 i x0 x1)) : FVec Ideal S1x1x32x128 .bf16) y = TILE i x0 x1 4 992 (by decide) (by decide) y := by
  pointwise [k0_pay1, k0_pay449, k0_pay410, k0_pay414, k0_pay405, k0_pay417, k0_pay5, sc]
  rfl
theorem s3_31 : (k0_pay409 (k0_pay414 i x0 x1) (k0_pay417 i x0 x1) : FVec Ideal S1x1x32x128 .bf16) y = TILE i x0 x1 3 992 (by decide) (by decide) y := by
  pointwise [k0_pay409, k0_pay414, k0_pay417, k0_pay405, k0_pay5, sc]
  rfl
theorem s2_31 : (k0_pay408 (k0_pay414 i x0 x1) (k0_pay417 i x0 x1) : FVec Ideal S1x1x32x128 .bf16) y = TILE i x0 x1 2 992 (by decide) (by decide) y := by
  pointwise [k0_pay408, k0_pay414, k0_pay417, k0_pay405, k0_pay5, sc]
  rfl
theorem s1_31 : (k0_pay407 (k0_pay414 i x0 x1) (k0_pay417 i x0 x1) : FVec Ideal S1x1x32x128 .bf16) y = TILE i x0 x1 1 992 (by decide) (by decide) y := by
  pointwise [k0_pay407, k0_pay414, k0_pay417, k0_pay405, k0_pay5, sc]
  rfl
theorem s0_31 : (k0_pay406 (k0_pay414 i x0 x1) (k0_pay417 i x0 x1) : FVec Ideal S1x1x32x128 .bf16) y = TILE i x0 x1 0 992 (by decide) (by decide) y := by
  pointwise [k0_pay406, k0_pay414, k0_pay417, k0_pay405, k0_pay5, sc]
  rfl
theorem s7_30 : (k0_pay404 (k0_pay448 i x0 x1) (k0_pay400 (k0_pay414 i x0 x1)) : FVec Ideal S1x1x32x128 .bf16) y = TILE i x0 x1 7 960 (by decide) (by decide) y := by
  pointwise [k0_pay404, k0_pay448, k0_pay400, k0_pay414, k0_pay392, k0_pay417, k0_pay5, sc]
  rfl
theorem s6_30 : (k0_pay403 (k0_pay414 i x0 x1) (k0_pay448 i x0 x1) : FVec Ideal S1x1x32x128 .bf16) y = TILE i x0 x1 6 960 (by decide) (by decide) y := by
  pointwise [k0_pay403, k0_pay414, k0_pay448, k0_pay5, k0_pay392, k0_pay417, sc]
  rfl
theorem s5_30 : (k0_pay402 (k0_pay414 i x0 x1) (k0_pay448 i x0 x1) : FVec Ideal S1x1x32x128 .bf16) y = TILE i x0 x1 5 960 (by decide) (by decide) y := by
  pointwise [k0_pay402, k0_pay414, k0_pay448, k0_pay5, k0_pay392, k0_pay417, sc]
  rfl
theorem s4_30 : (k0_pay401 (k0_pay414 i x0 x1) (k0_pay448 i x0 x1) : FVec Ideal S1x1x32x128 .bf16) y = TILE i x0 x1 4 960 (by decide) (by decide) y := by
  pointwise [k0_pay401, k0_pay414, k0_pay448, k0_pay5, k0_pay392, k0_pay417, sc]
  rfl
theorem s3_30 : (k0_pay399 (k0_pay448 i x0 x1) (k0_pay394 (k0_pay414 i x0 x1)) : FVec Ideal S1x1x32x128 .bf16) y = TILE i x0 x1 3 960 (by decide) (by decide) y := by
  pointwise [k0_pay399, k0_pay448, k0_pay394, k0_pay414, k0_pay392, k0_pay417, k0_pay5, sc]
  rfl
theorem s2_30 : (k0_pay398 (k0_pay448 i x0 x1) (k0_pay393 (k0_pay414 i x0 x1)) : FVec Ideal S1x1x32x128 .bf16) y = TILE i x0 x1 2 960 (by decide) (by decide) y := by
  pointwise [k0_pay398, k0_pay448, k0_pay393, k0_pay414, k0_pay392, k0_pay417, k0_pay5, sc]
  rfl
theorem s1_30 : (k0_pay397 (k0_pay396 (k0_pay414 i x0 x1) (k0_pay417 i x0 x1)) : FVec Ideal S1x1x32x128 .bf16) y = TILE i x0 x1 1 960 (by decide) (by decide) y := by
  pointwise [k0_pay397, k0_pay396, k0_pay414, k0_pay417, k0_pay392, k0_pay5, sc]
  rfl
theorem s0_30 : (k0_pay395 (k0_pay414 i x0 x1) (k0_pay417 i x0 x1) : FVec Ideal S1x1x32x128 .bf16) y = TILE i x0 x1 0 960 (by decide) (by decide) y := by
  pointwise [k0_pay395, k0_pay414, k0_pay417, k0_pay392, k0_pay5, sc]
  rfl
theorem s7_29 : (k0_pay391 (k0_pay447 i x0 x1) (k0_pay386 (k0_pay414 i x0 x1)) : FVec Ideal S1x1x32x128 .bf16) y = TILE i x0 x1 7 928 (by decide) (by decide) y := by
  pointwise [k0_pay391, k0_pay447, k0_pay386, k0_pay414, k0_pay378, k0_pay417, k0_pay5, sc]
  rfl
theorem s6_29 : (k0_pay390 (k0_pay447 i x0 x1) (k0_pay385 (k0_pay414 i x0 x1)) : FVec Ideal S1x1x32x128 .bf16) y = TILE i x0 x1 6 928 (by decide) (by decide) y := by
  pointwise [k0_pay390, k0_pay447, k0_pay385, k0_pay414, k0_pay378, k0_pay417, k0_pay5, sc]
  rfl
theorem s5_29 : (k0_pay389 (k0_pay447 i x0 x1) (k0_pay384 (k0_pay414 i x0 x1)) : FVec Ideal S1x1x32x128 .bf16) y = TILE i x0 x1 5 928 (by decide) (by decide) y := by
  pointwise [k0_pay389, k0_pay447, k0_pay384, k0_pay414, k0_pay378, k0_pay417, k0_pay5, sc]
  rfl
theorem s4_29 : (k0_pay388 (k0_pay387 (k0_pay414 i x0 x1) (k0_pay447 i x0 x1)) : FVec Ideal S1x1x32x128 .bf16) y = TILE i x0 x1 4 928 (by decide) (by decide) y := by
  pointwise [k0_pay388, k0_pay387, k0_pay414, k0_pay447, k0_pay5, k0_pay378, k0_pay417, sc]
  rfl
theorem s3_29 : (k0_pay383 (k0_pay414 i x0 x1) (k0_pay447 i x0 x1) : FVec Ideal S1x1x32x128 .bf16) y = TILE i x0 x1 3 928 (by decide) (by decide) y := by
  pointwise [k0_pay383, k0_pay414, k0_pay447, k0_pay5, k0_pay378, k0_pay417, sc]
  rfl
theorem s2_29 : (k0_pay382 (k0_pay414 i x0 x1) (k0_pay447 i x0 x1) : FVec Ideal S1x1x32x128 .bf16) y = TILE i x0 x1 2 928 (by decide) (by decide) y := by
  pointwise [k0_pay382, k0_pay414, k0_pay447, k0_pay5, k0_pay378, k0_pay417, sc]
  rfl
theorem s1_29 : (k0_pay381 (k0_pay414 i x0 x1) (k0_pay447 i x0 x1) : FVec Ideal S1x1x32x128 .bf16) y = TILE i x0 x1 1 928 (by decide) (by decide) y := by
  pointwise [k0_pay381, k0_pay414, k0_pay447, k0_pay5, k0_pay378, k0_pay417, sc]
  rfl
theorem s0_29 : (k0_pay380 (k0_pay447 i x0 x1) (k0_pay379 (k0_pay414 i x0 x1)) : FVec Ideal S1x1x32x128 .bf16) y = TILE i x0 x1 0 928 (by decide) (by decide) y := by
  pointwise [k0_pay380, k0_pay447, k0_pay379, k0_pay414, k0_pay378, k0_pay417, k0_pay5, sc]
  rfl
theorem s7_28 : (k0_pay377 (k0_pay414 i x0 x1) (k0_pay446 i x0 x1) : FVec Ideal S1x1x32x128 .bf16) y = TILE i x0 x1 7 896 (by decide) (by decide) y := by
  pointwise [k0_pay377, k0_pay414, k0_pay446, k0_pay5, k0_pay368, k0_pay417, sc]
  rfl
theorem s6_28 : (k0_pay376 (k0_pay414 i x0 x1) (k0_pay446 i x0 x1) : FVec Ideal S1x1x32x128 .bf16) y = TILE i x0 x1 6 896 (by decide) (by decide) y := by
  pointwise [k0_pay376, k0_pay414, k0_pay446, k0_pay5, k0_pay368, k0_pay417, sc]
  rfl
theorem s5_28 : (k0_pay375 (k0_pay414 i x0 x1) (k0_pay446 i x0 x1) : FVec Ideal S1x1x32x128 .bf16) y = TILE i x0 x1 5 896 (by decide) (by decide) y := by
  pointwise [k0_pay375, k0_pay414, k0_pay446, k0_pay5, k0_pay368, k0_pay417, sc]
  rfl
theorem s4_28 : (k0_pay374 (k0_pay414 i x0 x1) (k0_pay446 i x0 x1) : FVec Ideal S1x1x32x128 .bf16) y = TILE i x0 x1 4 896 (by decide) (by decide) y := by
  pointwise [k0_pay374, k0_pay414, k0_pay446, k0_pay5, k0_pay368, k0_pay417, sc]
  rfl
theorem s3_28 : (k0_pay373 (k0_pay446 i x0 x1) (k0_pay372 (k0_pay414 i x0 x1)) : FVec Ideal S1x1x32x128 .bf16) y = TILE i x0 x1 3 896 (by decide) (by decide) y := by
  pointwise [k0_pay373, k0_pay446, k0_pay372, k0_pay414, k0_pay368, k0_pay417, k0_pay5, sc]
  rfl
theorem s2_28 : (k0_pay371 (k0_pay414 i x0 x1) (k0_pay417 i x0 x1) : FVec Ideal S1x1x32x128 .bf16) y = TILE i x0 x1 2 896 (by decide) (by decide) y := by
  pointwise [k0_pay371, k0_pay414, k0_pay417, k0_pay368, k0_pay5, sc]
  rfl
theorem s1_28 : (k0_pay370 (k0_pay414 i x0 x1) (k0_pay417 i x0 x1) : FVec Ideal S1x1x32x128 .bf16) y = TILE i x0 x1 1 896 (by decide) (by decide) y := by
  pointwise [k0_pay370, k0_pay414, k0_pay417, k0_pay368, k0_pay5, sc]
  rfl
theorem s0_28 : (k0_pay369 (k0_pay414 i x0 x1) (k0_pay417 i x0 x1) : FVec Ideal S1x1x32x128 .bf16) y = TILE i x0 x1 0 896 (by decide) (by decide) y := by
  pointwise [k0_pay369, k0_pay414, k0_pay417, k0_pay368, k0_pay5, sc]
  rfl
theorem s7_27 : (k0_pay367 (k0_pay445 i x0 x1) (k0_pay363 (k0_pay414 i x0 x1)) : FVec Ideal S1x1x32x128 .bf16) y = TILE i x0 x1 7 864 (by decide) (by decide) y := by
  pointwise [k0_pay367, k0_pay445, k0_pay363, k0_pay414, k0_pay353, k0_pay417, k0_pay5, sc]
  rfl
theorem s6_27 : (k0_pay366 (k0_pay445 i x0 x1) (k0_pay362 (k0_pay414 i x0 x1)) : FVec Ideal S1x1x32x128 .bf16) y = TILE i x0 x1 6 864 (by decide) (by decide) y := by
  pointwise [k0_pay366, k0_pay445, k0_pay362, k0_pay414, k0_pay353, k0_pay417, k0_pay5, sc]
  rfl
theorem s5_27 : (k0_pay365 (k0_pay414 i x0 x1) (k0_pay445 i x0 x1) : FVec Ideal S1x1x32x128 .bf16) y = TILE i x0 x1 5 864 (by decide) (by decide) y := by
  pointwise [k0_pay365, k0_pay414, k0_pay445, k0_pay5, k0_pay353, k0_pay417, sc]
  rfl
theorem s4_27 : (k0_pay364 (k0_pay414 i x0 x1) (k0_pay445 i x0 x1) : FVec Ideal S1x1x32x128 .bf16) y = TILE i x0 x1 4 864 (by decide) (by decide) y := by
  pointwise [k0_pay364, k0_pay414, k0_pay445, k0_pay5, k0_pay353, k0_pay417, sc]
  rfl
theorem s3_27 : (k0_pay361 (k0_pay445 i x0 x1) (k0_pay356 (k0_pay414 i x0 x1)) : FVec Ideal S1x1x32x128 .bf16) y = TILE i x0 x1 3 864 (by decide) (by decide) y := by
  pointwise [k0_pay361, k0_pay445, k0_pay356, k0_pay414, k0_pay353, k0_pay417, k0_pay5, sc]
  rfl
theorem s2_27 : (k0_pay360 (k0_pay445 i x0 x1) (k0_pay355 (k0_pay414 i x0 x1)) : FVec Ideal S1x1x32x128 .bf16) y = TILE i x0 x1 2 864 (by decide) (by decide) y := by
  pointwise [k0_pay360, k0_pay445, k0_pay355, k0_pay414, k0_pay353, k0_pay417, k0_pay5, sc]
  rfl
theorem s1_27 : (k0_pay359 (k0_pay445 i x0 x1) (k0_pay354 (k0_pay414 i x0 x1)) : FVec Ideal S1x1x32x128 .bf16) y = TILE i x0 x1 1 864 (by decide) (by decide) y := by
  pointwise [k0_pay359, k0_pay445, k0_pay354, k0_pay414, k0_pay353, k0_pay417, k0_pay5, sc]
  rfl
theorem s0_27 : (k0_pay358 (k0_pay357 (k0_pay414 i x0 x1) (k0_pay417 i x0 x1)) : FVec Ideal S1x1x32x128 .bf16) y = TILE i x0 x1 0 864 (by decide) (by decide) y := by
  pointwise [k0_pay358, k0_pay357, k0_pay414, k0_pay417, k0_pay353, k0_pay5, sc]
  rfl
theorem s7_26 : (k0_pay352 (k0_pay414 i x0 x1) (k0_pay444 i x0 x1) : FVec Ideal S1x1x32x128 .bf16) y = TILE i x0 x1 7 832 (by decide) (by decide) y := by
  pointwise [k0_pay352, k0_pay414, k0_pay444, k0_pay5, k0_pay341, k0_pay417, sc]
  rfl
theorem s6_26 : (k0_pay351 (k0_pay444 i x0 x1) (k0_pay348 (k0_pay414 i x0 x1)) : FVec Ideal S1x1x32x128 .bf16) y = TILE i x0 x1 6 832 (by decide) (by decide) y := by
  pointwise [k0_pay351, k0_pay444, k0_pay348, k0_pay414, k0_pay341, k0_pay417, k0_pay5, sc]
  rfl
theorem s5_26 : (k0_pay350 (k0_pay444 i x0 x1) (k0_pay347 (k0_pay414 i x0 x1)) : FVec Ideal S1x1x32x128 .bf16) y = TILE i x0 x1 5 832 (by decide) (by decide) y := by
  pointwise [k0_pay350, k0_pay444, k0_pay347, k0_pay414, k0_pay341, k0_pay417, k0_pay5, sc]
  rfl
theorem s4_26 : (k0_pay349 (k0_pay444 i x0 x1) (k0_pay346 (k0_pay414 i x0 x1)) : FVec Ideal S1x1x32x128 .bf16) y = TILE i x0 x1 4 832 (by decide) (by decide) y := by
  pointwise [k0_pay349, k0_pay444, k0_pay346, k0_pay414, k0_pay341, k0_pay417, k0_pay5, sc]
  rfl
theorem s3_26 : (k0_pay345 (k0_pay414 i x0 x1) (k0_pay417 i x0 x1) : FVec Ideal S1x1x32x128 .bf16) y = TILE i x0 x1 3 832 (by decide) (by decide) y := by
  pointwise [k0_pay345, k0_pay414, k0_pay417, k0_pay341, k0_pay5, sc]
  rfl
theorem s2_26 : (k0_pay344 (k0_pay414 i x0 x1) (k0_pay417 i x0 x1) : FVec Ideal S1x1x32x128 .bf16) y = TILE i x0 x1 2 832 (by decide) (by decide) y := by
  pointwise [k0_pay344, k0_pay414, k0_pay417, k0_pay341, k0_pay5, sc]
  rfl
theorem s1_26 : (k0_pay343 (k0_pay414 i x0 x1) (k0_pay417 i x0 x1) : FVec Ideal S1x1x32x128 .bf16) y = TILE i x0 x1 1 832 (by decide) (by decide) y := by
  pointwise [k0_pay343, k0_pay414, k0_pay417, k0_pay341, k0_pay5, sc]
  rfl
theorem s0_26 : (k0_pay342 (k0_pay414 i x0 x1) (k0_pay417 i x0 x1) : FVec Ideal S1x1x32x128 .bf16) y = TILE i x0 x1 0 832 (by decide) (by decide) y := by
  pointwise [k0_pay342, k0_pay414, k0_pay417, k0_pay341, k0_pay5, sc]
  rfl
theorem s7_25 : (k0_pay340 (k0_pay339 (k0_pay414 i x0 x1) (k0_pay443 i x0 x1)) : FVec Ideal S1x1x32x128 .bf16) y = TILE i x0 x1 7 800 (by decide) (by decide) y := by
  pointwise [k0_pay340, k0_pay339, k0_pay414, k0_pay443, k0_pay5, k0_pay329, k0_pay417, sc]
  rfl
theorem s6_25 : (k0_pay338 (k0_pay414 i x0 x1) (k0_pay443 i x0 x1) : FVec Ideal S1x1x32x128 .bf16) y = TILE i x0 x1 6 800 (by decide) (by decide) y := by
  pointwise [k0_pay338, k0_pay414, k0_pay443, k0_pay5, k0_pay329, k0_pay417, sc]
  rfl
theorem s5_25 : (k0_pay337 (k0_pay414 i x0 x1) (k0_pay443 i x0 x1) : FVec Ideal S1x1x32x128 .bf16) y = TILE i x0 x1 5 800 (by decide) (by decide) y := by
  pointwise [k0_pay337, k0_pay414, k0_pay443, k0_pay5, k0_pay329, k0_pay417, sc]
  rfl
theorem s4_25 : (k0_pay336 (k0_pay414 i x0 x1) (k0_pay443 i x0 x1) : FVec Ideal S1x1x32x128 .bf16) y = TILE i x0 x1 4 800 (by decide) (by decide) y := by
  pointwise [k0_pay336, k0_pay414, k0_pay443, k0_pay5, k0_pay329, k0_pay417, sc]
  rfl
theorem s3_25 : (k0_pay335 (k0_pay443 i x0 x1) (k0_pay330 (k0_pay414 i x0 x1)) : FVec Ideal S1x1x32x128 .bf16) y = TILE i x0 x1 3 800 (by decide) (by decide) y := by
  pointwise [k0_pay335, k0_pay443, k0_pay330, k0_pay414, k0_pay329, k0_pay417, k0_pay5, sc]
  rfl
theorem s2_25 : (k0_pay334 (k0_pay333 (k0_pay414 i x0 x1) (k0_pay417 i x0 x1)) : FVec Ideal S1x1x32x128 .bf16) y = TILE i x0 x1 2 800 (by decide) (by decide) y := by
  pointwise [k0_pay334, k0_pay333, k0_pay414, k0_pay417, k0_pay329, k0_pay5, sc]
  rfl
theorem s1_25 : (k0_pay332 (k0_pay414 i x0 x1) (k0_pay417 i x0 x1) : FVec Ideal S1x1x32x128 .bf16) y = TILE i x0 x1 1 800 (by decide) (by decide) y := by
  pointwise [k0_pay332, k0_pay414, k0_pay417, k0_pay329, k0_pay5, sc]
  rfl
theorem s0_25 : (k0_pay331 (k0_pay414 i x0 x1) (k0_pay417 i x0 x1) : FVec Ideal S1x1x32x128 .bf16) y = TILE i x0 x1 0 800 (by decide) (by decide) y := by
  pointwise [k0_pay331, k0_pay414, k0_pay417, k0_pay329, k0_pay5, sc]
  rfl
theorem s7_24 : (k0_pay328 (k0_pay442 i x0 x1) (k0_pay323 (k0_pay414 i x0 x1)) : FVec Ideal S1x1x32x128 .bf16) y = TILE i x0 x1 7 768 (by decide) (by decide) y := by
  pointwise [k0_pay328, k0_pay442, k0_pay323, k0_pay414, k0_pay313, k0_pay417, k0_pay5, sc]
  rfl
theorem s6_24 : (k0_pay327 (k0_pay442 i x0 x1) (k0_pay322 (k0_pay414 i x0 x1)) : FVec Ideal S1x1x32x128 .bf16) y = TILE i x0 x1 6 768 (by decide) (by decide) y := by
  pointwise [k0_pay327, k0_pay442, k0_pay322, k0_pay414, k0_pay313, k0_pay417, k0_pay5, sc]
  rfl
theorem s5_24 : (k0_pay326 (k0_pay442 i x0 x1) (k0_pay325 (k0_pay414 i x0 x1)) : FVec Ideal S1x1x32x128 .bf16) y = TILE i x0 x1 5 768 (by decide) (by decide) y := by
  pointwise [k0_pay326, k0_pay442, k0_pay325, k0_pay414, k0_pay313, k0_pay417, k0_pay5, sc]
  rfl
theorem s4_24 : (k0_pay324 (k0_pay414 i x0 x1) (k0_pay442 i x0 x1) : FVec Ideal S1x1x32x128 .bf16) y = TILE i x0 x1 4 768 (by decide) (by decide) y := by
  pointwise [k0_pay324, k0_pay414, k0_pay442, k0_pay5, k0_pay313, k0_pay417, sc]
  rfl
theorem s3_24 : (k0_pay321 (k0_pay442 i x0 x1) (k0_pay317 (k0_pay414 i x0 x1)) : FVec Ideal S1x1x32x128 .bf16) y = TILE i x0 x1 3 768 (by decide) (by decide) y := by
  pointwise [k0_pay321, k0_pay442, k0_pay317, k0_pay414, k0_pay313, k0_pay417, k0_pay5, sc]
  rfl
theorem s2_24 : (k0_pay320 (k0_pay442 i x0 x1) (k0_pay316 (k0_pay414 i x0 x1)) : FVec Ideal S1x1x32x128 .bf16) y = TILE i x0 x1 2 768 (by decide) (by decide) y := by
  pointwise [k0_pay320, k0_pay442, k0_pay316, k0_pay414, k0_pay313, k0_pay417, k0_pay5, sc]
  rfl
theorem s1_24 : (k0_pay319 (k0_pay442 i x0 x1) (k0_pay315 (k0_pay414 i x0 x1)) : FVec Ideal S1x1x32x128 .bf16) y = TILE i x0 x1 1 768 (by decide) (by decide) y := by
  pointwise [k0_pay319, k0_pay442, k0_pay315, k0_pay414, k0_pay313, k0_pay417, k0_pay5, sc]
  rfl
theorem s0_24 : (k0_pay318 (k0_pay442 i x0 x1) (k0_pay314 (k0_pay414 i x0 x1)) : FVec Ideal S1x1x32x128 .bf16) y = TILE i x0 x1 0 768 (by decide) (by decide) y := by
  pointwise [k0_pay318, k0_pay442, k0_pay314, k0_pay414, k0_pay313, k0_pay417, k0_pay5, sc]
  rfl
theorem s7_23 : (k0_pay312 (k0_pay414 i x0 x1) (k0_pay441 i x0 x1) : FVec Ideal S1x1x32x128 .bf16) y = TILE i x0 x1 7 736 (by decide) (by decide) y := by
  pointwise [k0_pay312, k0_pay414, k0_pay441, k0_pay5, k0_pay303, k0_pay417, sc]
  rfl
theorem s6_23 : (k0_pay311 (k0_pay414 i x0 x1) (k0_pay441 i x0 x1) : FVec Ideal S1x1x32x128 .bf16) y = TILE i x0 x1 6 736 (by decide) (by decide) y := by
  pointwise [k0_pay311, k0_pay414, k0_pay441, k0_pay5, k0_pay303, k0_pay417, sc]
  rfl
theorem s5_23 : (k0_pay310 (k0_pay414 i x0 x1) (k0_pay441 i x0 x1) : FVec Ideal S1x1x32x128 .bf16) y = TILE i x0 x1 5 736 (by decide) (by decide) y := by
  pointwise [k0_pay310, k0_pay414, k0_pay441, k0_pay5, k0_pay303, k0_pay417, sc]
  rfl
theorem s4_23 : (k0_pay309 (k0_pay414 i x0 x1) (k0_pay441 i x0 x1) : FVec Ideal S1x1x32x128 .bf16) y = TILE i x0 x1 4 736 (by decide) (by decide) y := by
  pointwise [k0_pay309, k0_pay414, k0_pay441, k0_pay5, k0_pay303, k0_pay417, sc]
  rfl
theorem s3_23 : (k0_pay308 (k0_pay307 (k0_pay414 i x0 x1) (k0_pay417 i x0 x1)) : FVec Ideal S1x1x32x128 .bf16) y = TILE i x0 x1 3 736 (by decide) (by decide) y := by
  pointwise [k0_pay308, k0_pay307, k0_pay414, k0_pay417, k0_pay303, k0_pay5, sc]
  rfl
theorem s2_23 : (k0_pay306 (k0_pay414 i x0 x1) (k0_pay417 i x0 x1) : FVec Ideal S1x1x32x128 .bf16) y = TILE i x0 x1 2 736 (by decide) (by decide) y := by
  pointwise [k0_pay306, k0_pay414, k0_pay417, k0_pay303, k0_pay5, sc]
  rfl
theorem s1_23 : (k0_pay305 (k0_pay414 i x0 x1) (k0_pay417 i x0 x1) : FVec Ideal S1x1x32x128 .bf16) y = TILE i x0 x1 1 736 (by decide) (by decide) y := by
  pointwise [k0_pay305, k0_pay414, k0_pay417, k0_pay303, k0_pay5, sc]
  rfl
theorem s0_23 : (k0_pay304 (k0_pay414 i x0 x1) (k0_pay417 i x0 x1) : FVec Ideal S1x1x32x128 .bf16) y = TILE i x0 x1 0 736 (by decide) (by decide) y := by
  pointwise [k0_pay304, k0_pay414, k0_pay417, k0_pay303, k0_pay5, sc]
  rfl
theorem s7_22 : (k0_pay302 (k0_pay440 i x0 x1) (k0_pay297 (k0_pay414 i x0 x1)) : FVec Ideal S1x1x32x128 .bf16) y = TILE i x0 x1 7 704 (by decide) (by decide) y := by
  pointwise [k0_pay302, k0_pay440, k0_pay297, k0_pay414, k0_pay289, k0_pay417, k0_pay5, sc]
  rfl
theorem s6_22 : (k0_pay301 (k0_pay300 (k0_pay414 i x0 x1) (k0_pay440 i x0 x1)) : FVec Ideal S1x1x32x128 .bf16) y = TILE i x0 x1 6 704 (by decide) (by decide) y := by
  pointwise [k0_pay301, k0_pay300, k0_pay414, k0_pay440, k0_pay5, k0_pay289, k0_pay417, sc]
  rfl
theorem s5_22 : (k0_pay299 (k0_pay414 i x0 x1) (k0_pay440 i x0 x1) : FVec Ideal S1x1x32x128 .bf16) y = TILE i x0 x1 5 704 (by decide) (by decide) y := by
  pointwise [k0_pay299, k0_pay414, k0_pay440, k0_pay5, k0_pay289, k0_pay417, sc]
  rfl
theorem s4_22 : (k0_pay298 (k0_pay414 i x0 x1) (k0_pay440 i x0 x1) : FVec Ideal S1x1x32x128 .bf16) y = TILE i x0 x1 4 704 (by decide) (by decide) y := by
  pointwise [k0_pay298, k0_pay414, k0_pay440, k0_pay5, k0_pay289, k0_pay417, sc]
  rfl
theorem s3_22 : (k0_pay296 (k0_pay440 i x0 x1) (k0_pay291 (k0_pay414 i x0 x1)) : FVec Ideal S1x1x32x128 .bf16) y = TILE i x0 x1 3 704 (by decide) (by decide) y := by
  pointwise [k0_pay296, k0_pay440, k0_pay291, k0_pay414, k0_pay289, k0_pay417, k0_pay5, sc]
  rfl
theorem s2_22 : (k0_pay295 (k0_pay440 i x0 x1) (k0_pay290 (k0_pay414 i x0 x1)) : FVec Ideal S1x1x32x128 .bf16) y = TILE i x0 x1 2 704 (by decide) (by decide) y := by
  pointwise [k0_pay295, k0_pay440, k0_pay290, k0_pay414, k0_pay289, k0_pay417, k0_pay5, sc]
  rfl
theorem s1_22 : (k0_pay294 (k0_pay293 (k0_pay414 i x0 x1) (k0_pay417 i x0 x1)) : FVec Ideal S1x1x32x128 .bf16) y = TILE i x0 x1 1 704 (by decide) (by decide) y := by
  pointwise [k0_pay294, k0_pay293, k0_pay414, k0_pay417, k0_pay289, k0_pay5, sc]
  rfl
theorem s0_22 : (k0_pay292 (k0_pay414 i x0 x1) (k0_pay417 i x0 x1) : FVec Ideal S1x1x32x128 .bf16) y = TILE i x0 x1 0 704 (by decide) (by decide) y := by
  pointwise [k0_pay292, k0_pay414, k0_pay417, k0_pay289, k0_pay5, sc]
  rfl
theorem s7_21 : (k0_pay288 (k0_pay439 i x0 x1) (k0_pay283 (k0_pay414 i x0 x1)) : FVec Ideal S1x1x32x128 .bf16) y = TILE i x0 x1 7 672 (by decide) (by decide) y := by
  pointwise [k0_pay288, k0_pay439, k0_pay283, k0_pay414, k0_pay276, k0_pay417, k0_pay5, sc]
  rfl
theorem s6_21 : (k0_pay287 (k0_pay439 i x0 x1) (k0_pay282 (k0_pay414 i x0 x1)) : FVec Ideal S1x1x32x128 .bf16) y = TILE i x0 x1 6 672 (by decide) (by decide) y := by
  pointwise [k0_pay287, k0_pay439, k0_pay282, k0_pay414, k0_pay276, k0_pay417, k0_pay5, sc]
  rfl
theorem s5_21 : (k0_pay286 (k0_pay439 i x0 x1) (k0_pay281 (k0_pay414 i x0 x1)) : FVec Ideal S1x1x32x128 .bf16) y = TILE i x0 x1 5 672 (by decide) (by decide) y := by
  pointwise [k0_pay286, k0_pay439, k0_pay281, k0_pay414, k0_pay276, k0_pay417, k0_pay5, sc]
  rfl
theorem s4_21 : (k0_pay285 (k0_pay284 (k0_pay414 i x0 x1) (k0_pay417 i x0 x1)) : FVec Ideal S1x1x32x128 .bf16) y = TILE i x0 x1 4 672 (by decide) (by decide) y := by
  pointwise [k0_pay285, k0_pay284, k0_pay414, k0_pay417, k0_pay276, k0_pay5, sc]
  rfl
theorem s3_21 : (k0_pay280 (k0_pay414 i x0 x1) (k0_pay417 i x0 x1) : FVec Ideal S1x1x32x128 .bf16) y = TILE i x0 x1 3 672 (by decide) (by decide) y := by
  pointwise [k0_pay280, k0_pay414, k0_pay417, k0_pay276, k0_pay5, sc]
  rfl
theorem s2_21 : (k0_pay279 (k0_pay414 i x0 x1) (k0_pay417 i x0 x1) : FVec Ideal S1x1x32x128 .bf16) y = TILE i x0 x1 2 672 (by decide) (by decide) y := by
  pointwise [k0_pay279, k0_pay414, k0_pay417, k0_pay276, k0_pay5, sc]
  rfl
theorem s1_21 : (k0_pay278 (k0_pay414 i x0 x1) (k0_pay417 i x0 x1) : FVec Ideal S1x1x32x128 .bf16) y = TILE i x0 x1 1 672 (by decide) (by decide) y := by
  pointwise [k0_pay278, k0_pay414, k0_pay417, k0_pay276, k0_pay5, sc]
  rfl
theorem s0_21 : (k0_pay277 (k0_pay414 i x0 x1) (k0_pay417 i x0 x1) : FVec Ideal S1x1x32x128 .bf16) y = TILE i x0 x1 0 672 (by decide) (by decide) y := by
  pointwise [k0_pay277, k0_pay414, k0_pay417, k0_pay276, k0_pay5, sc]
  rfl
theorem s7_20 : (k0_pay275 (k0_pay414 i x0 x1) (k0_pay438 i x0 x1) : FVec Ideal S1x1x32x128 .bf16) y = TILE i x0 x1 7 640 (by decide) (by decide) y := by
  pointwise [k0_pay275, k0_pay414, k0_pay438, k0_pay5, k0_pay265, k0_pay417, sc]
  rfl
theorem s6_20 : (k0_pay274 (k0_pay414 i x0 x1) (k0_pay438 i x0 x1) : FVec Ideal S1x1x32x128 .bf16) y = TILE i x0 x1 6 640 (by decide) (by decide) y := by
  pointwise [k0_pay274, k0_pay414, k0_pay438, k0_pay5, k0_pay265, k0_pay417, sc]
  rfl
theorem s5_20 : (k0_pay273 (k0_pay414 i x0 x1) (k0_pay438 i x0 x1) : FVec Ideal S1x1x32x128 .bf16) y = TILE i x0 x1 5 640 (by decide) (by decide) y := by
  pointwise [k0_pay273, k0_pay414, k0_pay438, k0_pay5, k0_pay265, k0_pay417, sc]
  rfl
theorem s4_20 : (k0_pay272 (k0_pay414 i x0 x1) (k0_pay438 i x0 x1) : FVec Ideal S1x1x32x128 .bf16) y = TILE i x0 x1 4 640 (by decide) (by decide) y := by
  pointwise [k0_pay272, k0_pay414, k0_pay438, k0_pay5, k0_pay265, k0_pay417, sc]
  rfl
theorem s3_20 : (k0_pay271 (k0_pay438 i x0 x1) (k0_pay266 (k0_pay414 i x0 x1)) : FVec Ideal S1x1x32x128 .bf16) y = TILE i x0 x1 3 640 (by decide) (by decide) y := by
  pointwise [k0_pay271, k0_pay438, k0_pay266, k0_pay414, k0_pay265, k0_pay417, k0_pay5, sc]
  rfl
theorem s2_20 : (k0_pay270 (k0_pay269 (k0_pay414 i x0 x1) (k0_pay417 i x0 x1)) : FVec Ideal S1x1x32x128 .bf16) y = TILE i x0 x1 2 640 (by decide) (by decide) y := by
  pointwise [k0_pay270, k0_pay269, k0_pay414, k0_pay417, k0_pay265, k0_pay5, sc]
  rfl
theorem s1_20 : (k0_pay268 (k0_pay414 i x0 x1) (k0_pay417 i x0 x1) : FVec Ideal S1x1x32x128 .bf16) y = TILE i x0 x1 1 640 (by decide) (by decide) y := by
  pointwise [k0_pay268, k0_pay414, k0_pay417, k0_pay265, k0_pay5, sc]
  rfl
theorem s0_20 : (k0_pay267 (k0_pay414 i x0 x1) (k0_pay417 i x0 x1) : FVec Ideal S1x1x32x128 .bf16) y = TILE i x0 x1 0 640 (by decide) (by decide) y := by
  pointwise [k0_pay267, k0_pay414, k0_pay417, k0_pay265, k0_pay5, sc]
  rfl
theorem s7_19 : (k0_pay264 (k0_pay437 i x0 x1) (k0_pay259 (k0_pay414 i x0 x1)) : FVec Ideal S1x1x32x128 .bf16) y = TILE i x0 x1 7 608 (by decide) (by decide) y := by
  pointwise [k0_pay264, k0_pay437, k0_pay259, k0_pay414, k0_pay249, k0_pay417, k0_pay5, sc]
  rfl
theorem s6_19 : (k0_pay263 (k0_pay437 i x0 x1) (k0_pay258 (k0_pay414 i x0 x1)) : FVec Ideal S1x1x32x128 .bf16) y = TILE i x0 x1 6 608 (by decide) (by decide) y := by
  pointwise [k0_pay263, k0_pay437, k0_pay258, k0_pay414, k0_pay249, k0_pay417, k0_pay5, sc]
  rfl
theorem s5_19 : (k0_pay262 (k0_pay261 (k0_pay414 i x0 x1) (k0_pay437 i x0 x1)) : FVec Ideal S1x1x32x128 .bf16) y = TILE i x0 x1 5 608 (by decide) (by decide) y := by
  pointwise [k0_pay262, k0_pay261, k0_pay414, k0_pay437, k0_pay5, k0_pay249, k0_pay417, sc]
  rfl
theorem s4_19 : (k0_pay260 (k0_pay414 i x0 x1) (k0_pay437 i x0 x1) : FVec Ideal S1x1x32x128 .bf16) y = TILE i x0 x1 4 608 (by decide) (by decide) y := by
  pointwise [k0_pay260, k0_pay414, k0_pay437, k0_pay5, k0_pay249, k0_pay417, sc]
  rfl
theorem s3_19 : (k0_pay257 (k0_pay437 i x0 x1) (k0_pay252 (k0_pay414 i x0 x1)) : FVec Ideal S1x1x32x128 .bf16) y = TILE i x0 x1 3 608 (by decide) (by decide) y := by
  pointwise [k0_pay257, k0_pay437, k0_pay252, k0_pay414, k0_pay249, k0_pay417, k0_pay5, sc]
  rfl
theorem s2_19 : (k0_pay256 (k0_pay437 i x0 x1) (k0_pay251 (k0_pay414 i x0 x1)) : FVec Ideal S1x1x32x128 .bf16) y = TILE i x0 x1 2 608 (by decide) (by decide) y := by
  pointwise [k0_pay256, k0_pay437, k0_pay251, k0_pay414, k0_pay249, k0_pay417, k0_pay5, sc]
  rfl
theorem s1_19 : (k0_pay255 (k0_pay437 i x0 x1) (k0_pay250 (k0_pay414 i x0 x1)) : FVec Ideal S1x1x32x128 .bf16) y = TILE i x0 x1 1 608 (by decide) (by decide) y := by
  pointwise [k0_pay255, k0_pay437, k0_pay250, k0_pay414, k0_pay249, k0_pay417, k0_pay5, sc]
  rfl
theorem s0_19 : (k0_pay254 (k0_pay253 (k0_pay414 i x0 x1) (k0_pay417 i x0 x1)) : FVec Ideal S1x1x32x128 .bf16) y = TILE i x0 x1 0 608 (by decide) (by decide) y := by
  pointwise [k0_pay254, k0_pay253, k0_pay414, k0_pay417, k0_pay249, k0_pay5, sc]
  rfl
theorem s7_18 : (k0_pay248 (k0_pay414 i x0 x1) (k0_pay436 i x0 x1) : FVec Ideal S1x1x32x128 .bf16) y = TILE i x0 x1 7 576 (by decide) (by decide) y := by
  pointwise [k0_pay248, k0_pay414, k0_pay436, k0_pay5, k0_pay239, k0_pay417, sc]
  rfl
theorem s6_18 : (k0_pay247 (k0_pay414 i x0 x1) (k0_pay436 i x0 x1) : FVec Ideal S1x1x32x128 .bf16) y = TILE i x0 x1 6 576 (by decide) (by decide) y := by
  pointwise [k0_pay247, k0_pay414, k0_pay436, k0_pay5, k0_pay239, k0_pay417, sc]
  rfl
theorem s5_18 : (k0_pay246 (k0_pay414 i x0 x1) (k0_pay436 i x0 x1) : FVec Ideal S1x1x32x128 .bf16) y = TILE i x0 x1 5 576 (by decide) (by decide) y := by
  pointwise [k0_pay246, k0_pay414, k0_pay436, k0_pay5, k0_pay239, k0_pay417, sc]
  rfl
theorem s4_18 : (k0_pay245 (k0_pay436 i x0 x1) (k0_pay244 (k0_pay414 i x0 x1)) : FVec Ideal S1x1x32x128 .bf16) y = TILE i x0 x1 4 576 (by decide) (by decide) y := by
  pointwise [k0_pay245, k0_pay436, k0_pay244, k0_pay414, k0_pay239, k0_pay417, k0_pay5, sc]
  rfl
theorem s3_18 : (k0_pay243 (k0_pay414 i x0 x1) (k0_pay417 i x0 x1) : FVec Ideal S1x1x32x128 .bf16) y = TILE i x0 x1 3 576 (by decide) (by decide) y := by
  pointwise [k0_pay243, k0_pay414, k0_pay417, k0_pay239, k0_pay5, sc]
  rfl
theorem s2_18 : (k0_pay242 (k0_pay414 i x0 x1) (k0_pay417 i x0 x1) : FVec Ideal S1x1x32x128 .bf16) y = TILE i x0 x1 2 576 (by decide) (by decide) y := by
  pointwise [k0_pay242, k0_pay414, k0_pay417, k0_pay239, k0_pay5, sc]
  rfl
theorem s1_18 : (k0_pay241 (k0_pay414 i x0 x1) (k0_pay417 i x0 x1) : FVec Ideal S1x1x32x128 .bf16) y = TILE i x0 x1 1 576 (by decide) (by decide) y := by
  pointwise [k0_pay241, k0_pay414, k0_pay417, k0_pay239, k0_pay5, sc]
  rfl
theorem s0_18 : (k0_pay240 (k0_pay414 i x0 x1) (k0_pay417 i x0 x1) : FVec Ideal S1x1x32x128 .bf16) y = TILE i x0 x1 0 576 (by decide) (by decide) y := by
  pointwise [k0_pay240, k0_pay414, k0_pay417, k0_pay239, k0_pay5, sc]
  rfl
theorem s7_17 : (k0_pay238 (k0_pay435 i x0 x1) (k0_pay234 (k0_pay414 i x0 x1)) : FVec Ideal S1x1x32x128 .bf16) y = TILE i x0 x1 7 544 (by decide) (by decide) y := by
  pointwise [k0_pay238, k0_pay435, k0_pay234, k0_pay414, k0_pay226, k0_pay417, k0_pay5, sc]
  rfl
theorem s6_17 : (k0_pay237 (k0_pay414 i x0 x1) (k0_pay435 i x0 x1) : FVec Ideal S1x1x32x128 .bf16) y = TILE i x0 x1 6 544 (by decide) (by decide) y := by
  pointwise [k0_pay237, k0_pay414, k0_pay435, k0_pay5, k0_pay226, k0_pay417, sc]
  rfl
theorem s5_17 : (k0_pay236 (k0_pay414 i x0 x1) (k0_pay435 i x0 x1) : FVec Ideal S1x1x32x128 .bf16) y = TILE i x0 x1 5 544 (by decide) (by decide) y := by
  pointwise [k0_pay236, k0_pay414, k0_pay435, k0_pay5, k0_pay226, k0_pay417, sc]
  rfl
theorem s4_17 : (k0_pay235 (k0_pay414 i x0 x1) (k0_pay435 i x0 x1) : FVec Ideal S1x1x32x128 .bf16) y = TILE i x0 x1 4 544 (by decide) (by decide) y := by
  pointwise [k0_pay235, k0_pay414, k0_pay435, k0_pay5, k0_pay226, k0_pay417, sc]
  rfl
theorem s3_17 : (k0_pay233 (k0_pay435 i x0 x1) (k0_pay228 (k0_pay414 i x0 x1)) : FVec Ideal S1x1x32x128 .bf16) y = TILE i x0 x1 3 544 (by decide) (by decide) y := by
  pointwise [k0_pay233, k0_pay435, k0_pay228, k0_pay414, k0_pay226, k0_pay417, k0_pay5, sc]
  rfl
theorem s2_17 : (k0_pay232 (k0_pay435 i x0 x1) (k0_pay227 (k0_pay414 i x0 x1)) : FVec Ideal S1x1x32x128 .bf16) y = TILE i x0 x1 2 544 (by decide) (by decide) y := by
  pointwise [k0_pay232, k0_pay435, k0_pay227, k0_pay414, k0_pay226, k0_pay417, k0_pay5, sc]
  rfl
theorem s1_17 : (k0_pay231 (k0_pay230 (k0_pay414 i x0 x1) (k0_pay417 i x0 x1)) : FVec Ideal S1x1x32x128 .bf16) y = TILE i x0 x1 1 544 (by decide) (by decide) y := by
  pointwise [k0_pay231, k0_pay230, k0_pay414, k0_pay417, k0_pay226, k0_pay5, sc]
  rfl
theorem s0_17 : (k0_pay229 (k0_pay414 i x0 x1) (k0_pay417 i x0 x1) : FVec Ideal S1x1x32x128 .bf16) y = TILE i x0 x1 0 544 (by decide) (by decide) y := by
  pointwise [k0_pay229, k0_pay414, k0_pay417, k0_pay226, k0_pay5, sc]
  rfl
theorem s7_16 : (k0_pay225 (k0_pay434 i x0 x1) (k0_pay220 (k0_pay414 i x0 x1)) : FVec Ideal S1x1x32x128 .bf16) y = TILE i x0 x1 7 512 (by decide) (by decide) y := by
  pointwise [k0_pay225, k0_pay434, k0_pay220, k0_pay414, k0_pay211, k0_pay417, k0_pay5, sc]
  rfl
theorem s6_16 : (k0_pay224 (k0_pay434 i x0 x1) (k0_pay219 (k0_pay414 i x0 x1)) : FVec Ideal S1x1x32x128 .bf16) y = TILE i x0 x1 6 512 (by decide) (by decide) y := by
  pointwise [k0_pay224, k0_pay434, k0_pay219, k0_pay414, k0_pay211, k0_pay417, k0_pay5, sc]
  rfl
theorem s5_16 : (k0_pay223 (k0_pay434 i x0 x1) (k0_pay218 (k0_pay414 i x0 x1)) : FVec Ideal S1x1x32x128 .bf16) y = TILE i x0 x1 5 512 (by decide) (by decide) y := by
  pointwise [k0_pay223, k0_pay434, k0_pay218, k0_pay414, k0_pay211, k0_pay417, k0_pay5, sc]
  rfl
theorem s4_16 : (k0_pay222 (k0_pay221 (k0_pay414 i x0 x1) (k0_pay434 i x0 x1)) : FVec Ideal S1x1x32x128 .bf16) y = TILE i x0 x1 4 512 (by decide) (by decide) y := by
  pointwise [k0_pay222, k0_pay221, k0_pay414, k0_pay434, k0_pay5, k0_pay211, k0_pay417, sc]
  rfl
theorem s3_16 : (k0_pay217 (k0_pay414 i x0 x1) (k0_pay434 i x0 x1) : FVec Ideal S1x1x32x128 .bf16) y = TILE i x0 x1 3 512 (by decide) (by decide) y := by
  pointwise [k0_pay217, k0_pay414, k0_pay434, k0_pay5, k0_pay211, k0_pay417, sc]
  rfl
theorem s2_16 : (k0_pay216 (k0_pay414 i x0 x1) (k0_pay434 i x0 x1) : FVec Ideal S1x1x32x128 .bf16) y = TILE i x0 x1 2 512 (by decide) (by decide) y := by
  pointwise [k0_pay216, k0_pay414, k0_pay434, k0_pay5, k0_pay211, k0_pay417, sc]
  rfl
theorem s1_16 : (k0_pay215 (k0_pay434 i x0 x1) (k0_pay213 (k0_pay414 i x0 x1)) : FVec Ideal S1x1x32x128 .bf16) y = TILE i x0 x1 1 512 (by decide) (by decide) y := by
  pointwise [k0_pay215, k0_pay434, k0_pay213, k0_pay414, k0_pay211, k0_pay417, k0_pay5, sc]
  rfl
theorem s0_16 : (k0_pay214 (k0_pay434 i x0 x1) (k0_pay212 (k0_pay414 i x0 x1)) : FVec Ideal S1x1x32x128 .bf16) y = TILE i x0 x1 0 512 (by decide) (by decide) y := by
  pointwise [k0_pay214, k0_pay434, k0_pay212, k0_pay414, k0_pay211, k0_pay417, k0_pay5, sc]
  rfl
theorem s7_15 : (k0_pay210 (k0_pay414 i x0 x1) (k0_pay433 i x0 x1) : FVec Ideal S1x1x32x128 .bf16) y = TILE i x0 x1 7 480 (by decide) (by decide) y := by
  pointwise [k0_pay210, k0_pay414, k0_pay433, k0_pay5, k0_pay201, k0_pay417, sc]
  rfl
theorem s6_15 : (k0_pay209 (k0_pay414 i x0 x1) (k0_pay433 i x0 x1) : FVec Ideal S1x1x32x128 .bf16) y = TILE i x0 x1 6 480 (by decide) (by decide) y := by
  pointwise [k0_pay209, k0_pay414, k0_pay433, k0_pay5, k0_pay201, k0_pay417, sc]
  rfl
theorem s5_15 : (k0_pay208 (k0_pay414 i x0 x1) (k0_pay433 i x0 x1) : FVec Ideal S1x1x32x128 .bf16) y = TILE i x0 x1 5 480 (by decide) (by decide) y := by
  pointwise [k0_pay208, k0_pay414, k0_pay433, k0_pay5, k0_pay201, k0_pay417, sc]
  rfl
theorem s4_15 : (k0_pay207 (k0_pay414 i x0 x1) (k0_pay433 i x0 x1) : FVec Ideal S1x1x32x128 .bf16) y = TILE i x0 x1 4 480 (by decide) (by decide) y := by
  pointwise [k0_pay207, k0_pay414, k0_pay433, k0_pay5, k0_pay201, k0_pay417, sc]
  rfl
theorem s3_15 : (k0_pay206 (k0_pay205 (k0_pay414 i x0 x1) (k0_pay417 i x0 x1)) : FVec Ideal S1x1x32x128 .bf16) y = TILE i x0 x1 3 480 (by decide) (by decide) y := by
  pointwise [k0_pay206, k0_pay205, k0_pay414, k0_pay417, k0_pay201, k0_pay5, sc]
  rfl
theorem s2_15 : (k0_pay204 (k0_pay414 i x0 x1) (k0_pay417 i x0 x1) : FVec Ideal S1x1x32x128 .bf16) y = TILE i x0 x1 2 480 (by decide) (by decide) y := by
  pointwise [k0_pay204, k0_pay414, k0_pay417, k0_pay201, k0_pay5, sc]
  rfl
theorem s1_15 : (k0_pay203 (k0_pay414 i x0 x1) (k0_pay417 i x0 x1) : FVec Ideal S1x1x32x128 .bf16) y = TILE i x0 x1 1 480 (by decide) (by decide) y := by
  pointwise [k0_pay203, k0_pay414, k0_pay417, k0_pay201, k0_pay5, sc]
  rfl
theorem s0_15 : (k0_pay202 (k0_pay414 i x0 x1) (k0_pay417 i x0 x1) : FVec Ideal S1x1x32x128 .bf16) y = TILE i x0 x1 0 480 (by decide) (by decide) y := by
  pointwise [k0_pay202, k0_pay414, k0_pay417, k0_pay201, k0_pay5, sc]
  rfl
theorem s7_14 : (k0_pay200 (k0_pay432 i x0 x1) (k0_pay195 (k0_pay414 i x0 x1)) : FVec Ideal S1x1x32x128 .bf16) y = TILE i x0 x1 7 448 (by decide) (by decide) y := by
  pointwise [k0_pay200, k0_pay432, k0_pay195, k0_pay414, k0_pay187, k0_pay417, k0_pay5, sc]
  rfl
theorem s6_14 : (k0_pay199 (k0_pay432 i x0 x1) (k0_pay198 (k0_pay414 i x0 x1)) : FVec Ideal S1x1x32x128 .bf16) y = TILE i x0 x1 6 448 (by decide) (by decide) y := by
  pointwise [k0_pay199, k0_pay432, k0_pay198, k0_pay414, k0_pay187, k0_pay417, k0_pay5, sc]
  rfl
theorem s5_14 : (k0_pay197 (k0_pay414 i x0 x1) (k0_pay432 i x0 x1) : FVec Ideal S1x1x32x128 .bf16) y = TILE i x0 x1 5 448 (by decide) (by decide) y := by
  pointwise [k0_pay197, k0_pay414, k0_pay432, k0_pay5, k0_pay187, k0_pay417, sc]
  rfl
theorem s4_14 : (k0_pay196 (k0_pay414 i x0 x1) (k0_pay432 i x0 x1) : FVec Ideal S1x1x32x128 .bf16) y = TILE i x0 x1 4 448 (by decide) (by decide) y := by
  pointwise [k0_pay196, k0_pay414, k0_pay432, k0_pay5, k0_pay187, k0_pay417, sc]
  rfl
theorem s3_14 : (k0_pay194 (k0_pay432 i x0 x1) (k0_pay190 (k0_pay414 i x0 x1)) : FVec Ideal S1x1x32x128 .bf16) y = TILE i x0 x1 3 448 (by decide) (by decide) y := by
  pointwise [k0_pay194, k0_pay432, k0_pay190, k0_pay414, k0_pay187, k0_pay417, k0_pay5, sc]
  rfl
theorem s2_14 : (k0_pay193 (k0_pay432 i x0 x1) (k0_pay189 (k0_pay414 i x0 x1)) : FVec Ideal S1x1x32x128 .bf16) y = TILE i x0 x1 2 448 (by decide) (by decide) y := by
  pointwise [k0_pay193, k0_pay432, k0_pay189, k0_pay414, k0_pay187, k0_pay417, k0_pay5, sc]
  rfl
theorem s1_14 : (k0_pay192 (k0_pay432 i x0 x1) (k0_pay188 (k0_pay414 i x0 x1)) : FVec Ideal S1x1x32x128 .bf16) y = TILE i x0 x1 1 448 (by decide) (by decide) y := by
  pointwise [k0_pay192, k0_pay432, k0_pay188, k0_pay414, k0_pay187, k0_pay417, k0_pay5, sc]
  rfl
theorem s0_14 : (k0_pay191 (k0_pay414 i x0 x1) (k0_pay417 i x0 x1) : FVec Ideal S1x1x32x128 .bf16) y = TILE i x0 x1 0 448 (by decide) (by decide) y := by
  pointwise [k0_pay191, k0_pay414, k0_pay417, k0_pay187, k0_pay5, sc]
  rfl
theorem s7_13 : (k0_pay186 (k0_pay414 i x0 x1) (k0_pay431 i x0 x1) : FVec Ideal S1x1x32x128 .bf16) y = TILE i x0 x1 7 416 (by decide) (by decide) y := by
  pointwise [k0_pay186, k0_pay414, k0_pay431, k0_pay5, k0_pay175, k0_pay417, sc]
  rfl
theorem s6_13 : (k0_pay185 (k0_pay431 i x0 x1) (k0_pay182 (k0_pay414 i x0 x1)) : FVec Ideal S1x1x32x128 .bf16) y = TILE i x0 x1 6 416 (by decide) (by decide) y := by
  pointwise [k0_pay185, k0_pay431, k0_pay182, k0_pay414, k0_pay175, k0_pay417, k0_pay5, sc]
  rfl
theorem s5_13 : (k0_pay184 (k0_pay431 i x0 x1) (k0_pay181 (k0_pay414 i x0 x1)) : FVec Ideal S1x1x32x128 .bf16) y = TILE i x0 x1 5 416 (by decide) (by decide) y := by
  pointwise [k0_pay184, k0_pay431, k0_pay181, k0_pay414, k0_pay175, k0_pay417, k0_pay5, sc]
  rfl
theorem s4_13 : (k0_pay183 (k0_pay431 i x0 x1) (k0_pay180 (k0_pay414 i x0 x1)) : FVec Ideal S1x1x32x128 .bf16) y = TILE i x0 x1 4 416 (by decide) (by decide) y := by
  pointwise [k0_pay183, k0_pay431, k0_pay180, k0_pay414, k0_pay175, k0_pay417, k0_pay5, sc]
  rfl
theorem s3_13 : (k0_pay179 (k0_pay414 i x0 x1) (k0_pay417 i x0 x1) : FVec Ideal S1x1x32x128 .bf16) y = TILE i x0 x1 3 416 (by decide) (by decide) y := by
  pointwise [k0_pay179, k0_pay414, k0_pay417, k0_pay175, k0_pay5, sc]
  rfl
theorem s2_13 : (k0_pay178 (k0_pay414 i x0 x1) (k0_pay417 i x0 x1) : FVec Ideal S1x1x32x128 .bf16) y = TILE i x0 x1 2 416 (by decide) (by decide) y := by
  pointwise [k0_pay178, k0_pay414, k0_pay417, k0_pay175, k0_pay5, sc]
  rfl
theorem s1_13 : (k0_pay177 (k0_pay414 i x0 x1) (k0_pay417 i x0 x1) : FVec Ideal S1x1x32x128 .bf16) y = TILE i x0 x1 1 416 (by decide) (by decide) y := by
  pointwise [k0_pay177, k0_pay414, k0_pay417, k0_pay175, k0_pay5, sc]
  rfl
theorem s0_13 : (k0_pay176 (k0_pay414 i x0 x1) (k0_pay417 i x0 x1) : FVec Ideal S1x1x32x128 .bf16) y = TILE i x0 x1 0 416 (by decide) (by decide) y := by
  pointwise [k0_pay176, k0_pay414, k0_pay417, k0_pay175, k0_pay5, sc]
  rfl
theorem s7_12 : (k0_pay174 (k0_pay173 (k0_pay414 i x0 x1) (k0_pay430 i x0 x1)) : FVec Ideal S1x1x32x128 .bf16) y = TILE i x0 x1 7 384 (by decide) (by decide) y := by
  pointwise [k0_pay174, k0_pay173, k0_pay414, k0_pay430, k0_pay5, k0_pay163, k0_pay417, sc]
  rfl
theorem s6_12 : (k0_pay172 (k0_pay414 i x0 x1) (k0_pay430 i x0 x1) : FVec Ideal S1x1x32x128 .bf16) y = TILE i x0 x1 6 384 (by decide) (by decide) y := by
  pointwise [k0_pay172, k0_pay414, k0_pay430, k0_pay5, k0_pay163, k0_pay417, sc]
  rfl
theorem s5_12 : (k0_pay171 (k0_pay414 i x0 x1) (k0_pay430 i x0 x1) : FVec Ideal S1x1x32x128 .bf16) y = TILE i x0 x1 5 384 (by decide) (by decide) y := by
  pointwise [k0_pay171, k0_pay414, k0_pay430, k0_pay5, k0_pay163, k0_pay417, sc]
  rfl
theorem s4_12 : (k0_pay170 (k0_pay414 i x0 x1) (k0_pay430 i x0 x1) : FVec Ideal S1x1x32x128 .bf16) y = TILE i x0 x1 4 384 (by decide) (by decide) y := by
  pointwise [k0_pay170, k0_pay414, k0_pay430, k0_pay5, k0_pay163, k0_pay417, sc]
  rfl
theorem s3_12 : (k0_pay169 (k0_pay430 i x0 x1) (k0_pay164 (k0_pay414 i x0 x1)) : FVec Ideal S1x1x32x128 .bf16) y = TILE i x0 x1 3 384 (by decide) (by decide) y := by
  pointwise [k0_pay169, k0_pay430, k0_pay164, k0_pay414, k0_pay163, k0_pay417, k0_pay5, sc]
  rfl
theorem s2_12 : (k0_pay168 (k0_pay167 (k0_pay414 i x0 x1) (k0_pay417 i x0 x1)) : FVec Ideal S1x1x32x128 .bf16) y = TILE i x0 x1 2 384 (by decide) (by decide) y := by
  pointwise [k0_pay168, k0_pay167, k0_pay414, k0_pay417, k0_pay163, k0_pay5, sc]
  rfl
theorem s1_12 : (k0_pay166 (k0_pay414 i x0 x1) (k0_pay417 i x0 x1) : FVec Ideal S1x1x32x128 .bf16) y = TILE i x0 x1 1 384 (by decide) (by decide) y := by
  pointwise [k0_pay166, k0_pay414, k0_pay417, k0_pay163, k0_pay5, sc]
  rfl
theorem s0_12 : (k0_pay165 (k0_pay414 i x0 x1) (k0_pay417 i x0 x1) : FVec Ideal S1x1x32x128 .bf16) y = TILE i x0 x1 0 384 (by decide) (by decide) y := by
  pointwise [k0_pay165, k0_pay414, k0_pay417, k0_pay163, k0_pay5, sc]
  rfl
theorem s7_11 : (k0_pay162 (k0_pay429 i x0 x1) (k0_pay157 (k0_pay414 i x0 x1)) : FVec Ideal S1x1x32x128 .bf16) y = TILE i x0 x1 7 352 (by decide) (by decide) y := by
  pointwise [k0_pay162, k0_pay429, k0_pay157, k0_pay414, k0_pay147, k0_pay417, k0_pay5, sc]
  rfl
theorem s6_11 : (k0_pay161 (k0_pay429 i x0 x1) (k0_pay156 (k0_pay414 i x0 x1)) : FVec Ideal S1x1x32x128 .bf16) y = TILE i x0 x1 6 352 (by decide) (by decide) y := by
  pointwise [k0_pay161, k0_pay429, k0_pay156, k0_pay414, k0_pay147, k0_pay417, k0_pay5, sc]
  rfl
theorem s5_11 : (k0_pay160 (k0_pay159 (k0_pay414 i x0 x1) (k0_pay429 i x0 x1)) : FVec Ideal S1x1x32x128 .bf16) y = TILE i x0 x1 5 352 (by decide) (by decide) y := by
  pointwise [k0_pay160, k0_pay159, k0_pay414, k0_pay429, k0_pay5, k0_pay147, k0_pay417, sc]
  rfl
theorem s4_11 : (k0_pay158 (k0_pay414 i x0 x1) (k0_pay429 i x0 x1) : FVec Ideal S1x1x32x128 .bf16) y = TILE i x0 x1 4 352 (by decide) (by decide) y := by
  pointwise [k0_pay158, k0_pay414, k0_pay429, k0_pay5, k0_pay147, k0_pay417, sc]
  rfl
theorem s3_11 : (k0_pay155 (k0_pay429 i x0 x1) (k0_pay151 (k0_pay414 i x0 x1)) : FVec Ideal S1x1x32x128 .bf16) y = TILE i x0 x1 3 352 (by decide) (by decide) y := by
  pointwise [k0_pay155, k0_pay429, k0_pay151, k0_pay414, k0_pay147, k0_pay417, k0_pay5, sc]
  rfl
theorem s2_11 : (k0_pay154 (k0_pay429 i x0 x1) (k0_pay150 (k0_pay414 i x0 x1)) : FVec Ideal S1x1x32x128 .bf16) y = TILE i x0 x1 2 352 (by decide) (by decide) y := by
  pointwise [k0_pay154, k0_pay429, k0_pay150, k0_pay414, k0_pay147, k0_pay417, k0_pay5, sc]
  rfl
theorem s1_11 : (k0_pay153 (k0_pay429 i x0 x1) (k0_pay149 (k0_pay414 i x0 x1)) : FVec Ideal S1x1x32x128 .bf16) y = TILE i x0 x1 1 352 (by decide) (by decide) y := by
  pointwise [k0_pay153, k0_pay429, k0_pay149, k0_pay414, k0_pay147, k0_pay417, k0_pay5, sc]
  rfl
theorem s0_11 : (k0_pay152 (k0_pay429 i x0 x1) (k0_pay148 (k0_pay414 i x0 x1)) : FVec Ideal S1x1x32x128 .bf16) y = TILE i x0 x1 0 352 (by decide) (by decide) y := by
  pointwise [k0_pay152, k0_pay429, k0_pay148, k0_pay414, k0_pay147, k0_pay417, k0_pay5, sc]
  rfl
theorem s7_10 : (k0_pay146 (k0_pay414 i x0 x1) (k0_pay428 i x0 x1) : FVec Ideal S1x1x32x128 .bf16) y = TILE i x0 x1 7 320 (by decide) (by decide) y := by
  pointwise [k0_pay146, k0_pay414, k0_pay428, k0_pay5, k0_pay137, k0_pay417, sc]
  rfl
theorem s6_10 : (k0_pay145 (k0_pay414 i x0 x1) (k0_pay428 i x0 x1) : FVec Ideal S1x1x32x128 .bf16) y = TILE i x0 x1 6 320 (by decide) (by decide) y := by
  pointwise [k0_pay145, k0_pay414, k0_pay428, k0_pay5, k0_pay137, k0_pay417, sc]
  rfl
theorem s5_10 : (k0_pay144 (k0_pay414 i x0 x1) (k0_pay428 i x0 x1) : FVec Ideal S1x1x32x128 .bf16) y = TILE i x0 x1 5 320 (by decide) (by decide) y := by
  pointwise [k0_pay144, k0_pay414, k0_pay428, k0_pay5, k0_pay137, k0_pay417, sc]
  rfl
theorem s4_10 : (k0_pay143 (k0_pay414 i x0 x1) (k0_pay428 i x0 x1) : FVec Ideal S1x1x32x128 .bf16) y = TILE i x0 x1 4 320 (by decide) (by decide) y := by
  pointwise [k0_pay143, k0_pay414, k0_pay428, k0_pay5, k0_pay137, k0_pay417, sc]
  rfl
theorem s3_10 : (k0_pay142 (k0_pay141 (k0_pay414 i x0 x1) (k0_pay417 i x0 x1)) : FVec Ideal S1x1x32x128 .bf16) y = TILE i x0 x1 3 320 (by decide) (by decide) y := by
  pointwise [k0_pay142, k0_pay141, k0_pay414, k0_pay417, k0_pay137, k0_pay5, sc]
  rfl
theorem s2_10 : (k0_pay140 (k0_pay414 i x0 x1) (k0_pay417 i x0 x1) : FVec Ideal S1x1x32x128 .bf16) y = TILE i x0 x1 2 320 (by decide) (by decide) y := by
  pointwise [k0_pay140, k0_pay414, k0_pay417, k0_pay137, k0_pay5, sc]
  rfl
theorem s1_10 : (k0_pay139 (k0_pay414 i x0 x1) (k0_pay417 i x0 x1) : FVec Ideal S1x1x32x128 .bf16) y = TILE i x0 x1 1 320 (by decide) (by decide) y := by
  pointwise [k0_pay139, k0_pay414, k0_pay417, k0_pay137, k0_pay5, sc]
  rfl
theorem s0_10 : (k0_pay138 (k0_pay414 i x0 x1) (k0_pay417 i x0 x1) : FVec Ideal S1x1x32x128 .bf16) y = TILE i x0 x1 0 320 (by decide) (by decide) y := by
  pointwise [k0_pay138, k0_pay414, k0_pay417, k0_pay137, k0_pay5, sc]
  rfl
theorem s7_9 : (k0_pay136 (k0_pay427 i x0 x1) (k0_pay131 (k0_pay414 i x0 x1)) : FVec Ideal S1x1x32x128 .bf16) y = TILE i x0 x1 7 288 (by decide) (by decide) y := by
  pointwise [k0_pay136, k0_pay427, k0_pay131, k0_pay414, k0_pay123, k0_pay417, k0_pay5, sc]
  rfl
theorem s6_9 : (k0_pay135 (k0_pay134 (k0_pay414 i x0 x1) (k0_pay427 i x0 x1)) : FVec Ideal S1x1x32x128 .bf16) y = TILE i x0 x1 6 288 (by decide) (by decide) y := by
  pointwise [k0_pay135, k0_pay134, k0_pay414, k0_pay427, k0_pay5, k0_pay123, k0_pay417, sc]
  rfl
theorem s5_9 : (k0_pay133 (k0_pay414 i x0 x1) (k0_pay427 i x0 x1) : FVec Ideal S1x1x32x128 .bf16) y = TILE i x0 x1 5 288 (by decide) (by decide) y := by
  pointwise [k0_pay133, k0_pay414, k0_pay427, k0_pay5, k0_pay123, k0_pay417, sc]
  rfl
theorem s4_9 : (k0_pay132 (k0_pay414 i x0 x1) (k0_pay427 i x0 x1) : FVec Ideal S1x1x32x128 .bf16) y = TILE i x0 x1 4 288 (by decide) (by decide) y := by
  pointwise [k0_pay132, k0_pay414, k0_pay427, k0_pay5, k0_pay123, k0_pay417, sc]
  rfl
theorem s3_9 : (k0_pay130 (k0_pay427 i x0 x1) (k0_pay125 (k0_pay414 i x0 x1)) : FVec Ideal S1x1x32x128 .bf16) y = TILE i x0 x1 3 288 (by decide) (by decide) y := by
  pointwise [k0_pay130, k0_pay427, k0_pay125, k0_pay414, k0_pay123, k0_pay417, k0_pay5, sc]
  rfl
theorem s2_9 : (k0_pay129 (k0_pay427 i x0 x1) (k0_pay124 (k0_pay414 i x0 x1)) : FVec Ideal S1x1x32x128 .bf16) y = TILE i x0 x1 2 288 (by decide) (by decide) y := by
  pointwise [k0_pay129, k0_pay427, k0_pay124, k0_pay414, k0_pay123, k0_pay417, k0_pay5, sc]
  rfl
theorem s1_9 : (k0_pay128 (k0_pay127 (k0_pay414 i x0 x1) (k0_pay417 i x0 x1)) : FVec Ideal S1x1x32x128 .bf16) y = TILE i x0 x1 1 288 (by decide) (by decide) y := by
  pointwise [k0_pay128, k0_pay127, k0_pay414, k0_pay417, k0_pay123, k0_pay5, sc]
  rfl
theorem s0_9 : (k0_pay126 (k0_pay414 i x0 x1) (k0_pay417 i x0 x1) : FVec Ideal S1x1x32x128 .bf16) y = TILE i x0 x1 0 288 (by decide) (by decide) y := by
  pointwise [k0_pay126, k0_pay414, k0_pay417, k0_pay123, k0_pay5, sc]
  rfl
theorem s7_8 : (k0_pay122 (k0_pay426 i x0 x1) (k0_pay117 (k0_pay414 i x0 x1)) : FVec Ideal S1x1x32x128 .bf16) y = TILE i x0 x1 7 256 (by decide) (by decide) y := by
  pointwise [k0_pay122, k0_pay426, k0_pay117, k0_pay414, k0_pay110, k0_pay417, k0_pay5, sc]
  rfl
theorem s6_8 : (k0_pay121 (k0_pay426 i x0 x1) (k0_pay116 (k0_pay414 i x0 x1)) : FVec Ideal S1x1x32x128 .bf16) y = TILE i x0 x1 6 256 (by decide) (by decide) y := by
  pointwise [k0_pay121, k0_pay426, k0_pay116, k0_pay414, k0_pay110, k0_pay417, k0_pay5, sc]
  rfl
theorem s5_8 : (k0_pay120 (k0_pay426 i x0 x1) (k0_pay115 (k0_pay414 i x0 x1)) : FVec Ideal S1x1x32x128 .bf16) y = TILE i x0 x1 5 256 (by decide) (by decide) y := by
  pointwise [k0_pay120, k0_pay426, k0_pay115, k0_pay414, k0_pay110, k0_pay417, k0_pay5, sc]
  rfl
theorem s4_8 : (k0_pay119 (k0_pay118 (k0_pay414 i x0 x1) (k0_pay417 i x0 x1)) : FVec Ideal S1x1x32x128 .bf16) y = TILE i x0 x1 4 256 (by decide) (by decide) y := by
  pointwise [k0_pay119, k0_pay118, k0_pay414, k0_pay417, k0_pay110, k0_pay5, sc]
  rfl
theorem s3_8 : (k0_pay114 (k0_pay414 i x0 x1) (k0_pay417 i x0 x1) : FVec Ideal S1x1x32x128 .bf16) y = TILE i x0 x1 3 256 (by decide) (by decide) y := by
  pointwise [k0_pay114, k0_pay414, k0_pay417, k0_pay110, k0_pay5, sc]
  rfl
theorem s2_8 : (k0_pay113 (k0_pay414 i x0 x1) (k0_pay417 i x0 x1) : FVec Ideal S1x1x32x128 .bf16) y = TILE i x0 x1 2 256 (by decide) (by decide) y := by
  pointwise [k0_pay113, k0_pay414, k0_pay417, k0_pay110, k0_pay5, sc]
  rfl
theorem s1_8 : (k0_pay112 (k0_pay414 i x0 x1) (k0_pay417 i x0 x1) : FVec Ideal S1x1x32x128 .bf16) y = TILE i x0 x1 1 256 (by decide) (by decide) y := by
  pointwise [k0_pay112, k0_pay414, k0_pay417, k0_pay110, k0_pay5, sc]
  rfl
theorem s0_8 : (k0_pay111 (k0_pay414 i x0 x1) (k0_pay417 i x0 x1) : FVec Ideal S1x1x32x128 .bf16) y = TILE i x0 x1 0 256 (by decide) (by decide) y := by
  pointwise [k0_pay111, k0_pay414, k0_pay417, k0_pay110, k0_pay5, sc]
  rfl
theorem s7_7 : (k0_pay109 (k0_pay414 i x0 x1) (k0_pay425 i x0 x1) : FVec Ideal S1x1x32x128 .bf16) y = TILE i x0 x1 7 224 (by decide) (by decide) y := by
  pointwise [k0_pay109, k0_pay414, k0_pay425, k0_pay5, k0_pay417, k0_pay99, sc]
  rfl
theorem s6_7 : (k0_pay108 (k0_pay414 i x0 x1) (k0_pay425 i x0 x1) : FVec Ideal S1x1x32x128 .bf16) y = TILE i x0 x1 6 224 (by decide) (by decide) y := by
  pointwise [k0_pay108, k0_pay414, k0_pay425, k0_pay5, k0_pay417, k0_pay99, sc]
  rfl
theorem s5_7 : (k0_pay107 (k0_pay414 i x0 x1) (k0_pay425 i x0 x1) : FVec Ideal S1x1x32x128 .bf16) y = TILE i x0 x1 5 224 (by decide) (by decide) y := by
  pointwise [k0_pay107, k0_pay414, k0_pay425, k0_pay5, k0_pay417, k0_pay99, sc]
  rfl
theorem s4_7 : (k0_pay106 (k0_pay414 i x0 x1) (k0_pay425 i x0 x1) : FVec Ideal S1x1x32x128 .bf16) y = TILE i x0 x1 4 224 (by decide) (by decide) y := by
  pointwise [k0_pay106, k0_pay414, k0_pay425, k0_pay5, k0_pay417, k0_pay99, sc]
  rfl
theorem s3_7 : (k0_pay105 (k0_pay425 i x0 x1) (k0_pay100 (k0_pay414 i x0 x1)) : FVec Ideal S1x1x32x128 .bf16) y = TILE i x0 x1 3 224 (by decide) (by decide) y := by
  pointwise [k0_pay105, k0_pay425, k0_pay100, k0_pay414, k0_pay417, k0_pay99, k0_pay5, sc]
  rfl
theorem s2_7 : (k0_pay104 (k0_pay103 (k0_pay414 i x0 x1) (k0_pay417 i x0 x1)) : FVec Ideal S1x1x32x128 .bf16) y = TILE i x0 x1 2 224 (by decide) (by decide) y := by
  pointwise [k0_pay104, k0_pay103, k0_pay414, k0_pay417, k0_pay99, k0_pay5, sc]
  rfl
theorem s1_7 : (k0_pay102 (k0_pay414 i x0 x1) (k0_pay417 i x0 x1) : FVec Ideal S1x1x32x128 .bf16) y = TILE i x0 x1 1 224 (by decide) (by decide) y := by
  pointwise [k0_pay102, k0_pay414, k0_pay417, k0_pay99, k0_pay5, sc]
  rfl
theorem s0_7 : (k0_pay101 (k0_pay414 i x0 x1) (k0_pay417 i x0 x1) : FVec Ideal S1x1x32x128 .bf16) y = TILE i x0 x1 0 224 (by decide) (by decide) y := by
  pointwise [k0_pay101, k0_pay414, k0_pay417, k0_pay99, k0_pay5, sc]
  rfl
theorem s7_6 : (k0_pay98 (k0_pay424 i x0 x1) (k0_pay93 (k0_pay414 i x0 x1)) : FVec Ideal S1x1x32x128 .bf16) y = TILE i x0 x1 7 192 (by decide) (by decide) y := by
  pointwise [k0_pay98, k0_pay424, k0_pay93, k0_pay414, k0_pay417, k0_pay83, k0_pay5, sc]
  rfl
theorem s6_6 : (k0_pay97 (k0_pay424 i x0 x1) (k0_pay92 (k0_pay414 i x0 x1)) : FVec Ideal S1x1x32x128 .bf16) y = TILE i x0 x1 6 192 (by decide) (by decide) y := by
  pointwise [k0_pay97, k0_pay424, k0_pay92, k0_pay414, k0_pay417, k0_pay83, k0_pay5, sc]
  rfl
theorem s5_6 : (k0_pay96 (k0_pay95 (k0_pay414 i x0 x1) (k0_pay424 i x0 x1)) : FVec Ideal S1x1x32x128 .bf16) y = TILE i x0 x1 5 192 (by decide) (by decide) y := by
  pointwise [k0_pay96, k0_pay95, k0_pay414, k0_pay424, k0_pay5, k0_pay417, k0_pay83, sc]
  rfl
theorem s4_6 : (k0_pay94 (k0_pay414 i x0 x1) (k0_pay424 i x0 x1) : FVec Ideal S1x1x32x128 .bf16) y = TILE i x0 x1 4 192 (by decide) (by decide) y := by
  pointwise [k0_pay94, k0_pay414, k0_pay424, k0_pay5, k0_pay417, k0_pay83, sc]
  rfl
theorem s3_6 : (k0_pay91 (k0_pay424 i x0 x1) (k0_pay86 (k0_pay414 i x0 x1)) : FVec Ideal S1x1x32x128 .bf16) y = TILE i x0 x1 3 192 (by decide) (by decide) y := by
  pointwise [k0_pay91, k0_pay424, k0_pay86, k0_pay414, k0_pay417, k0_pay83, k0_pay5, sc]
  rfl
theorem s2_6 : (k0_pay90 (k0_pay424 i x0 x1) (k0_pay85 (k0_pay414 i x0 x1)) : FVec Ideal S1x1x32x128 .bf16) y = TILE i x0 x1 2 192 (by decide) (by decide) y := by
  pointwise [k0_pay90, k0_pay424, k0_pay85, k0_pay414, k0_pay417, k0_pay83, k0_pay5, sc]
  rfl
theorem s1_6 : (k0_pay89 (k0_pay424 i x0 x1) (k0_pay84 (k0_pay414 i x0 x1)) : FVec Ideal S1x1x32x128 .bf16) y = TILE i x0 x1 1 192 (by decide) (by decide) y := by
  pointwise [k0_pay89, k0_pay424, k0_pay84, k0_pay414, k0_pay417, k0_pay83, k0_pay5, sc]
  rfl
theorem s0_6 : (k0_pay88 (k0_pay87 (k0_pay414 i x0 x1) (k0_pay417 i x0 x1)) : FVec Ideal S1x1x32x128 .bf16) y = TILE i x0 x1 0 192 (by decide) (by decide) y := by
  pointwise [k0_pay88, k0_pay87, k0_pay414, k0_pay417, k0_pay83, k0_pay5, sc]
  rfl
theorem s7_5 : (k0_pay82 (k0_pay414 i x0 x1) (k0_pay423 i x0 x1) : FVec Ideal S1x1x32x128 .bf16) y = TILE i x0 x1 7 160 (by decide) (by decide) y := by
  pointwise [k0_pay82, k0_pay414, k0_pay423, k0_pay5, k0_pay417, k0_pay73, sc]
  rfl
theorem s6_5 : (k0_pay81 (k0_pay414 i x0 x1) (k0_pay423 i x0 x1) : FVec Ideal S1x1x32x128 .bf16) y = TILE i x0 x1 6 160 (by decide) (by decide) y := by
  pointwise [k0_pay81, k0_pay414, k0_pay423, k0_pay5, k0_pay417, k0_pay73, sc]
  rfl
theorem s5_5 : (k0_pay80 (k0_pay414 i x0 x1) (k0_pay423 i x0 x1) : FVec Ideal S1x1x32x128 .bf16) y = TILE i x0 x1 5 160 (by decide) (by decide) y := by
  pointwise [k0_pay80, k0_pay414, k0_pay423, k0_pay5, k0_pay417, k0_pay73, sc]
  rfl
theorem s4_5 : (k0_pay79 (k0_pay423 i x0 x1) (k0_pay78 (k0_pay414 i x0 x1)) : FVec Ideal S1x1x32x128 .bf16) y = TILE i x0 x1 4 160 (by decide) (by decide) y := by
  pointwise [k0_pay79, k0_pay423, k0_pay78, k0_pay414, k0_pay417, k0_pay73, k0_pay5, sc]
  rfl
theorem s3_5 : (k0_pay77 (k0_pay414 i x0 x1) (k0_pay417 i x0 x1) : FVec Ideal S1x1x32x128 .bf16) y = TILE i x0 x1 3 160 (by decide) (by decide) y := by
  pointwise [k0_pay77, k0_pay414, k0_pay417, k0_pay73, k0_pay5, sc]
  rfl
theorem s2_5 : (k0_pay76 (k0_pay414 i x0 x1) (k0_pay417 i x0 x1) : FVec Ideal S1x1x32x128 .bf16) y = TILE i x0 x1 2 160 (by decide) (by decide) y := by
  pointwise [k0_pay76, k0_pay414, k0_pay417, k0_pay73, k0_pay5, sc]
  rfl
theorem s1_5 : (k0_pay75 (k0_pay414 i x0 x1) (k0_pay417 i x0 x1) : FVec Ideal S1x1x32x128 .bf16) y = TILE i x0 x1 1 160 (by decide) (by decide) y := by
  pointwise [k0_pay75, k0_pay414, k0_pay417, k0_pay73, k0_pay5, sc]
  rfl
theorem s0_5 : (k0_pay74 (k0_pay414 i x0 x1) (k0_pay417 i x0 x1) : FVec Ideal S1x1x32x128 .bf16) y = TILE i x0 x1 0 160 (by decide) (by decide) y := by
  pointwise [k0_pay74, k0_pay414, k0_pay417, k0_pay73, k0_pay5, sc]
  rfl
theorem s7_4 : (k0_pay72 (k0_pay422 i x0 x1) (k0_pay71 (k0_pay414 i x0 x1)) : FVec Ideal S1x1x32x128 .bf16) y = TILE i x0 x1 7 128 (by decide) (by decide) y := by
  pointwise [k0_pay72, k0_pay422, k0_pay71, k0_pay414, k0_pay417, k0_pay61, k0_pay5, sc]
  rfl
theorem s6_4 : (k0_pay70 (k0_pay414 i x0 x1) (k0_pay422 i x0 x1) : FVec Ideal S1x1x32x128 .bf16) y = TILE i x0 x1 6 128 (by decide) (by decide) y := by
  pointwise [k0_pay70, k0_pay414, k0_pay422, k0_pay5, k0_pay417, k0_pay61, sc]
  rfl
theorem s5_4 : (k0_pay69 (k0_pay414 i x0 x1) (k0_pay422 i x0 x1) : FVec Ideal S1x1x32x128 .bf16) y = TILE i x0 x1 5 128 (by decide) (by decide) y := by
  pointwise [k0_pay69, k0_pay414, k0_pay422, k0_pay5, k0_pay417, k0_pay61, sc]
  rfl
theorem s4_4 : (k0_pay68 (k0_pay414 i x0 x1) (k0_pay422 i x0 x1) : FVec Ideal S1x1x32x128 .bf16) y = TILE i x0 x1 4 128 (by decide) (by decide) y := by
  pointwise [k0_pay68, k0_pay414, k0_pay422, k0_pay5, k0_pay417, k0_pay61, sc]
  rfl
theorem s3_4 : (k0_pay67 (k0_pay422 i x0 x1) (k0_pay63 (k0_pay414 i x0 x1)) : FVec Ideal S1x1x32x128 .bf16) y = TILE i x0 x1 3 128 (by decide) (by decide) y := by
  pointwise [k0_pay67, k0_pay422, k0_pay63, k0_pay414, k0_pay417, k0_pay61, k0_pay5, sc]
  rfl
theorem s2_4 : (k0_pay66 (k0_pay422 i x0 x1) (k0_pay62 (k0_pay414 i x0 x1)) : FVec Ideal S1x1x32x128 .bf16) y = TILE i x0 x1 2 128 (by decide) (by decide) y := by
  pointwise [k0_pay66, k0_pay422, k0_pay62, k0_pay414, k0_pay417, k0_pay61, k0_pay5, sc]
  rfl
theorem s1_4 : (k0_pay65 (k0_pay414 i x0 x1) (k0_pay417 i x0 x1) : FVec Ideal S1x1x32x128 .bf16) y = TILE i x0 x1 1 128 (by decide) (by decide) y := by
  pointwise [k0_pay65, k0_pay414, k0_pay417, k0_pay61, k0_pay5, sc]
  rfl
theorem s0_4 : (k0_pay64 (k0_pay414 i x0 x1) (k0_pay417 i x0 x1) : FVec Ideal S1x1x32x128 .bf16) y = TILE i x0 x1 0 128 (by decide) (by decide) y := by
  pointwise [k0_pay64, k0_pay414, k0_pay417, k0_pay61, k0_pay5, sc]
  rfl
theorem s7_3 : (k0_pay60 (k0_pay421 i x0 x1) (k0_pay55 (k0_pay414 i x0 x1)) : FVec Ideal S1x1x32x128 .bf16) y = TILE i x0 x1 7 96 (by decide) (by decide) y := by
  pointwise [k0_pay60, k0_pay421, k0_pay55, k0_pay414, k0_pay417, k0_pay46, k0_pay5, sc]
  rfl
theorem s6_3 : (k0_pay59 (k0_pay421 i x0 x1) (k0_pay54 (k0_pay414 i x0 x1)) : FVec Ideal S1x1x32x128 .bf16) y = TILE i x0 x1 6 96 (by decide) (by decide) y := by
  pointwise [k0_pay59, k0_pay421, k0_pay54, k0_pay414, k0_pay417, k0_pay46, k0_pay5, sc]
  rfl
theorem s5_3 : (k0_pay58 (k0_pay421 i x0 x1) (k0_pay53 (k0_pay414 i x0 x1)) : FVec Ideal S1x1x32x128 .bf16) y = TILE i x0 x1 5 96 (by decide) (by decide) y := by
  pointwise [k0_pay58, k0_pay421, k0_pay53, k0_pay414, k0_pay417, k0_pay46, k0_pay5, sc]
  rfl
theorem s4_3 : (k0_pay57 (k0_pay56 (k0_pay414 i x0 x1) (k0_pay421 i x0 x1)) : FVec Ideal S1x1x32x128 .bf16) y = TILE i x0 x1 4 96 (by decide) (by decide) y := by
  pointwise [k0_pay57, k0_pay56, k0_pay414, k0_pay421, k0_pay5, k0_pay417, k0_pay46, sc]
  rfl
theorem s3_3 : (k0_pay52 (k0_pay414 i x0 x1) (k0_pay421 i x0 x1) : FVec Ideal S1x1x32x128 .bf16) y = TILE i x0 x1 3 96 (by decide) (by decide) y := by
  pointwise [k0_pay52, k0_pay414, k0_pay421, k0_pay5, k0_pay417, k0_pay46, sc]
  rfl
theorem s2_3 : (k0_pay51 (k0_pay414 i x0 x1) (k0_pay421 i x0 x1) : FVec Ideal S1x1x32x128 .bf16) y = TILE i x0 x1 2 96 (by decide) (by decide) y := by
  pointwise [k0_pay51, k0_pay414, k0_pay421, k0_pay5, k0_pay417, k0_pay46, sc]
  rfl
theorem s1_3 : (k0_pay50 (k0_pay421 i x0 x1) (k0_pay48 (k0_pay414 i x0 x1)) : FVec Ideal S1x1x32x128 .bf16) y = TILE i x0 x1 1 96 (by decide) (by decide) y := by
  pointwise [k0_pay50, k0_pay421, k0_pay48, k0_pay414, k0_pay417, k0_pay46, k0_pay5, sc]
  rfl
theorem s0_3 : (k0_pay49 (k0_pay421 i x0 x1) (k0_pay47 (k0_pay414 i x0 x1)) : FVec Ideal S1x1x32x128 .bf16) y = TILE i x0 x1 0 96 (by decide) (by decide) y := by
  pointwise [k0_pay49, k0_pay421, k0_pay47, k0_pay414, k0_pay417, k0_pay46, k0_pay5, sc]
  rfl
theorem s7_2 : (k0_pay45 (k0_pay414 i x0 x1) (k0_pay420 i x0 x1) : FVec Ideal S1x1x32x128 .bf16) y = TILE i x0 x1 7 64 (by decide) (by decide) y := by
  pointwise [k0_pay45, k0_pay414, k0_pay420, k0_pay5, k0_pay36, k0_pay417, sc]
  rfl
theorem s6_2 : (k0_pay44 (k0_pay414 i x0 x1) (k0_pay420 i x0 x1) : FVec Ideal S1x1x32x128 .bf16) y = TILE i x0 x1 6 64 (by decide) (by decide) y := by
  pointwise [k0_pay44, k0_pay414, k0_pay420, k0_pay5, k0_pay36, k0_pay417, sc]
  rfl
theorem s5_2 : (k0_pay43 (k0_pay414 i x0 x1) (k0_pay420 i x0 x1) : FVec Ideal S1x1x32x128 .bf16) y = TILE i x0 x1 5 64 (by decide) (by decide) y := by
  pointwise [k0_pay43, k0_pay414, k0_pay420, k0_pay5, k0_pay36, k0_pay417, sc]
  rfl
theorem s4_2 : (k0_pay42 (k0_pay414 i x0 x1) (k0_pay420 i x0 x1) : FVec Ideal S1x1x32x128 .bf16) y = TILE i x0 x1 4 64 (by decide) (by decide) y := by
  pointwise [k0_pay42, k0_pay414, k0_pay420, k0_pay5, k0_pay36, k0_pay417, sc]
  rfl
theorem s3_2 : (k0_pay41 (k0_pay40 (k0_pay414 i x0 x1) (k0_pay417 i x0 x1)) : FVec Ideal S1x1x32x128 .bf16) y = TILE i x0 x1 3 64 (by decide) (by decide) y := by
  pointwise [k0_pay41, k0_pay40, k0_pay414, k0_pay417, k0_pay36, k0_pay5, sc]
  rfl
theorem s2_2 : (k0_pay39 (k0_pay414 i x0 x1) (k0_pay417 i x0 x1) : FVec Ideal S1x1x32x128 .bf16) y = TILE i x0 x1 2 64 (by decide) (by decide) y := by
  pointwise [k0_pay39, k0_pay414, k0_pay417, k0_pay36, k0_pay5, sc]
  rfl
theorem s1_2 : (k0_pay38 (k0_pay414 i x0 x1) (k0_pay417 i x0 x1) : FVec Ideal S1x1x32x128 .bf16) y = TILE i x0 x1 1 64 (by decide) (by decide) y := by
  pointwise [k0_pay38, k0_pay414, k0_pay417, k0_pay36, k0_pay5, sc]
  rfl
theorem s0_2 : (k0_pay37 (k0_pay414 i x0 x1) (k0_pay417 i x0 x1) : FVec Ideal S1x1x32x128 .bf16) y = TILE i x0 x1 0 64 (by decide) (by decide) y := by
  pointwise [k0_pay37, k0_pay414, k0_pay417, k0_pay36, k0_pay5, sc]
  rfl
theorem s7_1 : (k0_pay35 (k0_pay419 i x0 x1) (k0_pay30 (k0_pay414 i x0 x1)) : FVec Ideal S1x1x32x128 .bf16) y = TILE i x0 x1 7 32 (by decide) (by decide) y := by
  pointwise [k0_pay35, k0_pay419, k0_pay30, k0_pay414, k0_pay22, k0_pay417, k0_pay5, sc]
  rfl
theorem s6_1 : (k0_pay34 (k0_pay33 (k0_pay414 i x0 x1) (k0_pay419 i x0 x1)) : FVec Ideal S1x1x32x128 .bf16) y = TILE i x0 x1 6 32 (by decide) (by decide) y := by
  pointwise [k0_pay34, k0_pay33, k0_pay414, k0_pay419, k0_pay5, k0_pay22, k0_pay417, sc]
  rfl
theorem s5_1 : (k0_pay32 (k0_pay414 i x0 x1) (k0_pay419 i x0 x1) : FVec Ideal S1x1x32x128 .bf16) y = TILE i x0 x1 5 32 (by decide) (by decide) y := by
  pointwise [k0_pay32, k0_pay414, k0_pay419, k0_pay5, k0_pay22, k0_pay417, sc]
  rfl
theorem s4_1 : (k0_pay31 (k0_pay414 i x0 x1) (k0_pay419 i x0 x1) : FVec Ideal S1x1x32x128 .bf16) y = TILE i x0 x1 4 32 (by decide) (by decide) y := by
  pointwise [k0_pay31, k0_pay414, k0_pay419, k0_pay5, k0_pay22, k0_pay417, sc]
  rfl
theorem s3_1 : (k0_pay29 (k0_pay419 i x0 x1) (k0_pay25 (k0_pay414 i x0 x1)) : FVec Ideal S1x1x32x128 .bf16) y = TILE i x0 x1 3 32 (by decide) (by decide) y := by
  pointwise [k0_pay29, k0_pay419, k0_pay25, k0_pay414, k0_pay22, k0_pay417, k0_pay5, sc]
  rfl
theorem s2_1 : (k0_pay28 (k0_pay419 i x0 x1) (k0_pay24 (k0_pay414 i x0 x1)) : FVec Ideal S1x1x32x128 .bf16) y = TILE i x0 x1 2 32 (by decide) (by decide) y := by
  pointwise [k0_pay28, k0_pay419, k0_pay24, k0_pay414, k0_pay22, k0_pay417, k0_pay5, sc]
  rfl
theorem s1_1 : (k0_pay27 (k0_pay419 i x0 x1) (k0_pay23 (k0_pay414 i x0 x1)) : FVec Ideal S1x1x32x128 .bf16) y = TILE i x0 x1 1 32 (by decide) (by decide) y := by
  pointwise [k0_pay27, k0_pay419, k0_pay23, k0_pay414, k0_pay22, k0_pay417, k0_pay5, sc]
  rfl
theorem s0_1 : (k0_pay26 (k0_pay414 i x0 x1) (k0_pay417 i x0 x1) : FVec Ideal S1x1x32x128 .bf16) y = TILE i x0 x1 0 32 (by decide) (by decide) y := by
  pointwise [k0_pay26, k0_pay414, k0_pay417, k0_pay22, k0_pay5, sc]
  rfl
theorem s7_0 : (k0_pay21 (k0_pay418 i x0 x1) (k0_pay17 (k0_pay414 i x0 x1)) : FVec Ideal S1x1x32x128 .bf16) y = TILE i x0 x1 7 0 (by decide) (by decide) y := by
  pointwise [k0_pay21, k0_pay418, k0_pay17, k0_pay414, k0_pay9, k0_pay5, TILE, sc]
theorem s6_0 : (k0_pay20 (k0_pay418 i x0 x1) (k0_pay16 (k0_pay414 i x0 x1)) : FVec Ideal S1x1x32x128 .bf16) y = TILE i x0 x1 6 0 (by decide) (by decide) y := by
  pointwise [k0_pay20, k0_pay418, k0_pay16, k0_pay414, k0_pay9, k0_pay5, TILE, sc]
theorem s5_0 : (k0_pay19 (k0_pay418 i x0 x1) (k0_pay15 (k0_pay414 i x0 x1)) : FVec Ideal S1x1x32x128 .bf16) y = TILE i x0 x1 5 0 (by decide) (by decide) y := by
  pointwise [k0_pay19, k0_pay418, k0_pay15, k0_pay414, k0_pay9, k0_pay5, TILE, sc]
theorem s4_0 : (k0_pay18 (k0_pay418 i x0 x1) (k0_pay14 (k0_pay414 i x0 x1)) : FVec Ideal S1x1x32x128 .bf16) y = TILE i x0 x1 4 0 (by decide) (by decide) y := by
  pointwise [k0_pay18, k0_pay418, k0_pay14, k0_pay414, k0_pay9, k0_pay5, TILE, sc]
theorem s3_0 : (k0_pay13 (F := Ideal) (k0_pay414 (F := Ideal) i x0 x1) (k0_pay415 (F := Ideal) i x0 x1) (k0_pay416 (F := Ideal) i x0 x1) : FVec Ideal S1x1x32x128 .bf16) y = TILE i x0 x1 3 0 (by decide) (by decide) y := by
  pointwise [k0_pay13, k0_pay414, k0_pay9, k0_pay5, TILE, sc]
theorem s2_0 : (k0_pay12 (F := Ideal) (k0_pay414 (F := Ideal) i x0 x1) (k0_pay415 (F := Ideal) i x0 x1) (k0_pay416 (F := Ideal) i x0 x1) : FVec Ideal S1x1x32x128 .bf16) y = TILE i x0 x1 2 0 (by decide) (by decide) y := by
  pointwise [k0_pay12, k0_pay414, k0_pay9, k0_pay5, TILE, sc]
theorem s1_0 : (k0_pay11 (F := Ideal) (k0_pay414 (F := Ideal) i x0 x1) (k0_pay415 (F := Ideal) i x0 x1) (k0_pay416 (F := Ideal) i x0 x1) : FVec Ideal S1x1x32x128 .bf16) y = TILE i x0 x1 1 0 (by decide) (by decide) y := by
  pointwise [k0_pay11, k0_pay414, k0_pay9, k0_pay5, TILE, sc]
theorem s0_0 : (k0_pay10 (F := Ideal) (k0_pay414 (F := Ideal) i x0 x1) (k0_pay415 (F := Ideal) i x0 x1) (k0_pay416 (F := Ideal) i x0 x1) : FVec Ideal S1x1x32x128 .bf16) y = TILE i x0 x1 0 0 (by decide) (by decide) y := by
  pointwise [k0_pay10, k0_pay414, k0_pay9, k0_pay5, TILE, sc]
end Stores

/-- Every store of one grid point agrees with the block. -/
theorem stores (i : grid0.Coords) (x0 : FVec Ideal S1x8192x128 .fp8e5m2) (x1 : FVec Ideal S1x1024x56 .f32) :
    View.PiecesOf (BLK i x0 x1) (pieces0 (F := Ideal) i x0 x1) :=
  ⟨at_emb i x0 x1 7 992 (by decide) (by decide) inb_S1x8x1024x128_S1x1x32x128_0_7_992_0 _ (s7_31 i x0 x1),
    at_emb i x0 x1 6 992 (by decide) (by decide) inb_S1x8x1024x128_S1x1x32x128_0_6_992_0 _ (s6_31 i x0 x1),
    at_emb i x0 x1 5 992 (by decide) (by decide) inb_S1x8x1024x128_S1x1x32x128_0_5_992_0 _ (s5_31 i x0 x1),
    at_emb i x0 x1 4 992 (by decide) (by decide) inb_S1x8x1024x128_S1x1x32x128_0_4_992_0 _ (s4_31 i x0 x1),
    at_emb i x0 x1 3 992 (by decide) (by decide) inb_S1x8x1024x128_S1x1x32x128_0_3_992_0 _ (s3_31 i x0 x1),
    at_emb i x0 x1 2 992 (by decide) (by decide) inb_S1x8x1024x128_S1x1x32x128_0_2_992_0 _ (s2_31 i x0 x1),
    at_emb i x0 x1 1 992 (by decide) (by decide) inb_S1x8x1024x128_S1x1x32x128_0_1_992_0 _ (s1_31 i x0 x1),
    at_emb i x0 x1 0 992 (by decide) (by decide) inb_S1x8x1024x128_S1x1x32x128_0_0_992_0 _ (s0_31 i x0 x1),
    at_emb i x0 x1 7 960 (by decide) (by decide) inb_S1x8x1024x128_S1x1x32x128_0_7_960_0 _ (s7_30 i x0 x1),
    at_emb i x0 x1 6 960 (by decide) (by decide) inb_S1x8x1024x128_S1x1x32x128_0_6_960_0 _ (s6_30 i x0 x1),
    at_emb i x0 x1 5 960 (by decide) (by decide) inb_S1x8x1024x128_S1x1x32x128_0_5_960_0 _ (s5_30 i x0 x1),
    at_emb i x0 x1 4 960 (by decide) (by decide) inb_S1x8x1024x128_S1x1x32x128_0_4_960_0 _ (s4_30 i x0 x1),
    at_emb i x0 x1 3 960 (by decide) (by decide) inb_S1x8x1024x128_S1x1x32x128_0_3_960_0 _ (s3_30 i x0 x1),
    at_emb i x0 x1 2 960 (by decide) (by decide) inb_S1x8x1024x128_S1x1x32x128_0_2_960_0 _ (s2_30 i x0 x1),
    at_emb i x0 x1 1 960 (by decide) (by decide) inb_S1x8x1024x128_S1x1x32x128_0_1_960_0 _ (s1_30 i x0 x1),
    at_emb i x0 x1 0 960 (by decide) (by decide) inb_S1x8x1024x128_S1x1x32x128_0_0_960_0 _ (s0_30 i x0 x1),
    at_emb i x0 x1 7 928 (by decide) (by decide) inb_S1x8x1024x128_S1x1x32x128_0_7_928_0 _ (s7_29 i x0 x1),
    at_emb i x0 x1 6 928 (by decide) (by decide) inb_S1x8x1024x128_S1x1x32x128_0_6_928_0 _ (s6_29 i x0 x1),
    at_emb i x0 x1 5 928 (by decide) (by decide) inb_S1x8x1024x128_S1x1x32x128_0_5_928_0 _ (s5_29 i x0 x1),
    at_emb i x0 x1 4 928 (by decide) (by decide) inb_S1x8x1024x128_S1x1x32x128_0_4_928_0 _ (s4_29 i x0 x1),
    at_emb i x0 x1 3 928 (by decide) (by decide) inb_S1x8x1024x128_S1x1x32x128_0_3_928_0 _ (s3_29 i x0 x1),
    at_emb i x0 x1 2 928 (by decide) (by decide) inb_S1x8x1024x128_S1x1x32x128_0_2_928_0 _ (s2_29 i x0 x1),
    at_emb i x0 x1 1 928 (by decide) (by decide) inb_S1x8x1024x128_S1x1x32x128_0_1_928_0 _ (s1_29 i x0 x1),
    at_emb i x0 x1 0 928 (by decide) (by decide) inb_S1x8x1024x128_S1x1x32x128_0_0_928_0 _ (s0_29 i x0 x1),
    at_emb i x0 x1 7 896 (by decide) (by decide) inb_S1x8x1024x128_S1x1x32x128_0_7_896_0 _ (s7_28 i x0 x1),
    at_emb i x0 x1 6 896 (by decide) (by decide) inb_S1x8x1024x128_S1x1x32x128_0_6_896_0 _ (s6_28 i x0 x1),
    at_emb i x0 x1 5 896 (by decide) (by decide) inb_S1x8x1024x128_S1x1x32x128_0_5_896_0 _ (s5_28 i x0 x1),
    at_emb i x0 x1 4 896 (by decide) (by decide) inb_S1x8x1024x128_S1x1x32x128_0_4_896_0 _ (s4_28 i x0 x1),
    at_emb i x0 x1 3 896 (by decide) (by decide) inb_S1x8x1024x128_S1x1x32x128_0_3_896_0 _ (s3_28 i x0 x1),
    at_emb i x0 x1 2 896 (by decide) (by decide) inb_S1x8x1024x128_S1x1x32x128_0_2_896_0 _ (s2_28 i x0 x1),
    at_emb i x0 x1 1 896 (by decide) (by decide) inb_S1x8x1024x128_S1x1x32x128_0_1_896_0 _ (s1_28 i x0 x1),
    at_emb i x0 x1 0 896 (by decide) (by decide) inb_S1x8x1024x128_S1x1x32x128_0_0_896_0 _ (s0_28 i x0 x1),
    at_emb i x0 x1 7 864 (by decide) (by decide) inb_S1x8x1024x128_S1x1x32x128_0_7_864_0 _ (s7_27 i x0 x1),
    at_emb i x0 x1 6 864 (by decide) (by decide) inb_S1x8x1024x128_S1x1x32x128_0_6_864_0 _ (s6_27 i x0 x1),
    at_emb i x0 x1 5 864 (by decide) (by decide) inb_S1x8x1024x128_S1x1x32x128_0_5_864_0 _ (s5_27 i x0 x1),
    at_emb i x0 x1 4 864 (by decide) (by decide) inb_S1x8x1024x128_S1x1x32x128_0_4_864_0 _ (s4_27 i x0 x1),
    at_emb i x0 x1 3 864 (by decide) (by decide) inb_S1x8x1024x128_S1x1x32x128_0_3_864_0 _ (s3_27 i x0 x1),
    at_emb i x0 x1 2 864 (by decide) (by decide) inb_S1x8x1024x128_S1x1x32x128_0_2_864_0 _ (s2_27 i x0 x1),
    at_emb i x0 x1 1 864 (by decide) (by decide) inb_S1x8x1024x128_S1x1x32x128_0_1_864_0 _ (s1_27 i x0 x1),
    at_emb i x0 x1 0 864 (by decide) (by decide) inb_S1x8x1024x128_S1x1x32x128_0_0_864_0 _ (s0_27 i x0 x1),
    at_emb i x0 x1 7 832 (by decide) (by decide) inb_S1x8x1024x128_S1x1x32x128_0_7_832_0 _ (s7_26 i x0 x1),
    at_emb i x0 x1 6 832 (by decide) (by decide) inb_S1x8x1024x128_S1x1x32x128_0_6_832_0 _ (s6_26 i x0 x1),
    at_emb i x0 x1 5 832 (by decide) (by decide) inb_S1x8x1024x128_S1x1x32x128_0_5_832_0 _ (s5_26 i x0 x1),
    at_emb i x0 x1 4 832 (by decide) (by decide) inb_S1x8x1024x128_S1x1x32x128_0_4_832_0 _ (s4_26 i x0 x1),
    at_emb i x0 x1 3 832 (by decide) (by decide) inb_S1x8x1024x128_S1x1x32x128_0_3_832_0 _ (s3_26 i x0 x1),
    at_emb i x0 x1 2 832 (by decide) (by decide) inb_S1x8x1024x128_S1x1x32x128_0_2_832_0 _ (s2_26 i x0 x1),
    at_emb i x0 x1 1 832 (by decide) (by decide) inb_S1x8x1024x128_S1x1x32x128_0_1_832_0 _ (s1_26 i x0 x1),
    at_emb i x0 x1 0 832 (by decide) (by decide) inb_S1x8x1024x128_S1x1x32x128_0_0_832_0 _ (s0_26 i x0 x1),
    at_emb i x0 x1 7 800 (by decide) (by decide) inb_S1x8x1024x128_S1x1x32x128_0_7_800_0 _ (s7_25 i x0 x1),
    at_emb i x0 x1 6 800 (by decide) (by decide) inb_S1x8x1024x128_S1x1x32x128_0_6_800_0 _ (s6_25 i x0 x1),
    at_emb i x0 x1 5 800 (by decide) (by decide) inb_S1x8x1024x128_S1x1x32x128_0_5_800_0 _ (s5_25 i x0 x1),
    at_emb i x0 x1 4 800 (by decide) (by decide) inb_S1x8x1024x128_S1x1x32x128_0_4_800_0 _ (s4_25 i x0 x1),
    at_emb i x0 x1 3 800 (by decide) (by decide) inb_S1x8x1024x128_S1x1x32x128_0_3_800_0 _ (s3_25 i x0 x1),
    at_emb i x0 x1 2 800 (by decide) (by decide) inb_S1x8x1024x128_S1x1x32x128_0_2_800_0 _ (s2_25 i x0 x1),
    at_emb i x0 x1 1 800 (by decide) (by decide) inb_S1x8x1024x128_S1x1x32x128_0_1_800_0 _ (s1_25 i x0 x1),
    at_emb i x0 x1 0 800 (by decide) (by decide) inb_S1x8x1024x128_S1x1x32x128_0_0_800_0 _ (s0_25 i x0 x1),
    at_emb i x0 x1 7 768 (by decide) (by decide) inb_S1x8x1024x128_S1x1x32x128_0_7_768_0 _ (s7_24 i x0 x1),
    at_emb i x0 x1 6 768 (by decide) (by decide) inb_S1x8x1024x128_S1x1x32x128_0_6_768_0 _ (s6_24 i x0 x1),
    at_emb i x0 x1 5 768 (by decide) (by decide) inb_S1x8x1024x128_S1x1x32x128_0_5_768_0 _ (s5_24 i x0 x1),
    at_emb i x0 x1 4 768 (by decide) (by decide) inb_S1x8x1024x128_S1x1x32x128_0_4_768_0 _ (s4_24 i x0 x1),
    at_emb i x0 x1 3 768 (by decide) (by decide) inb_S1x8x1024x128_S1x1x32x128_0_3_768_0 _ (s3_24 i x0 x1),
    at_emb i x0 x1 2 768 (by decide) (by decide) inb_S1x8x1024x128_S1x1x32x128_0_2_768_0 _ (s2_24 i x0 x1),
    at_emb i x0 x1 1 768 (by decide) (by decide) inb_S1x8x1024x128_S1x1x32x128_0_1_768_0 _ (s1_24 i x0 x1),
    at_emb i x0 x1 0 768 (by decide) (by decide) inb_S1x8x1024x128_S1x1x32x128_0_0_768_0 _ (s0_24 i x0 x1),
    at_emb i x0 x1 7 736 (by decide) (by decide) inb_S1x8x1024x128_S1x1x32x128_0_7_736_0 _ (s7_23 i x0 x1),
    at_emb i x0 x1 6 736 (by decide) (by decide) inb_S1x8x1024x128_S1x1x32x128_0_6_736_0 _ (s6_23 i x0 x1),
    at_emb i x0 x1 5 736 (by decide) (by decide) inb_S1x8x1024x128_S1x1x32x128_0_5_736_0 _ (s5_23 i x0 x1),
    at_emb i x0 x1 4 736 (by decide) (by decide) inb_S1x8x1024x128_S1x1x32x128_0_4_736_0 _ (s4_23 i x0 x1),
    at_emb i x0 x1 3 736 (by decide) (by decide) inb_S1x8x1024x128_S1x1x32x128_0_3_736_0 _ (s3_23 i x0 x1),
    at_emb i x0 x1 2 736 (by decide) (by decide) inb_S1x8x1024x128_S1x1x32x128_0_2_736_0 _ (s2_23 i x0 x1),
    at_emb i x0 x1 1 736 (by decide) (by decide) inb_S1x8x1024x128_S1x1x32x128_0_1_736_0 _ (s1_23 i x0 x1),
    at_emb i x0 x1 0 736 (by decide) (by decide) inb_S1x8x1024x128_S1x1x32x128_0_0_736_0 _ (s0_23 i x0 x1),
    at_emb i x0 x1 7 704 (by decide) (by decide) inb_S1x8x1024x128_S1x1x32x128_0_7_704_0 _ (s7_22 i x0 x1),
    at_emb i x0 x1 6 704 (by decide) (by decide) inb_S1x8x1024x128_S1x1x32x128_0_6_704_0 _ (s6_22 i x0 x1),
    at_emb i x0 x1 5 704 (by decide) (by decide) inb_S1x8x1024x128_S1x1x32x128_0_5_704_0 _ (s5_22 i x0 x1),
    at_emb i x0 x1 4 704 (by decide) (by decide) inb_S1x8x1024x128_S1x1x32x128_0_4_704_0 _ (s4_22 i x0 x1),
    at_emb i x0 x1 3 704 (by decide) (by decide) inb_S1x8x1024x128_S1x1x32x128_0_3_704_0 _ (s3_22 i x0 x1),
    at_emb i x0 x1 2 704 (by decide) (by decide) inb_S1x8x1024x128_S1x1x32x128_0_2_704_0 _ (s2_22 i x0 x1),
    at_emb i x0 x1 1 704 (by decide) (by decide) inb_S1x8x1024x128_S1x1x32x128_0_1_704_0 _ (s1_22 i x0 x1),
    at_emb i x0 x1 0 704 (by decide) (by decide) inb_S1x8x1024x128_S1x1x32x128_0_0_704_0 _ (s0_22 i x0 x1),
    at_emb i x0 x1 7 672 (by decide) (by decide) inb_S1x8x1024x128_S1x1x32x128_0_7_672_0 _ (s7_21 i x0 x1),
    at_emb i x0 x1 6 672 (by decide) (by decide) inb_S1x8x1024x128_S1x1x32x128_0_6_672_0 _ (s6_21 i x0 x1),
    at_emb i x0 x1 5 672 (by decide) (by decide) inb_S1x8x1024x128_S1x1x32x128_0_5_672_0 _ (s5_21 i x0 x1),
    at_emb i x0 x1 4 672 (by decide) (by decide) inb_S1x8x1024x128_S1x1x32x128_0_4_672_0 _ (s4_21 i x0 x1),
    at_emb i x0 x1 3 672 (by decide) (by decide) inb_S1x8x1024x128_S1x1x32x128_0_3_672_0 _ (s3_21 i x0 x1),
    at_emb i x0 x1 2 672 (by decide) (by decide) inb_S1x8x1024x128_S1x1x32x128_0_2_672_0 _ (s2_21 i x0 x1),
    at_emb i x0 x1 1 672 (by decide) (by decide) inb_S1x8x1024x128_S1x1x32x128_0_1_672_0 _ (s1_21 i x0 x1),
    at_emb i x0 x1 0 672 (by decide) (by decide) inb_S1x8x1024x128_S1x1x32x128_0_0_672_0 _ (s0_21 i x0 x1),
    at_emb i x0 x1 7 640 (by decide) (by decide) inb_S1x8x1024x128_S1x1x32x128_0_7_640_0 _ (s7_20 i x0 x1),
    at_emb i x0 x1 6 640 (by decide) (by decide) inb_S1x8x1024x128_S1x1x32x128_0_6_640_0 _ (s6_20 i x0 x1),
    at_emb i x0 x1 5 640 (by decide) (by decide) inb_S1x8x1024x128_S1x1x32x128_0_5_640_0 _ (s5_20 i x0 x1),
    at_emb i x0 x1 4 640 (by decide) (by decide) inb_S1x8x1024x128_S1x1x32x128_0_4_640_0 _ (s4_20 i x0 x1),
    at_emb i x0 x1 3 640 (by decide) (by decide) inb_S1x8x1024x128_S1x1x32x128_0_3_640_0 _ (s3_20 i x0 x1),
    at_emb i x0 x1 2 640 (by decide) (by decide) inb_S1x8x1024x128_S1x1x32x128_0_2_640_0 _ (s2_20 i x0 x1),
    at_emb i x0 x1 1 640 (by decide) (by decide) inb_S1x8x1024x128_S1x1x32x128_0_1_640_0 _ (s1_20 i x0 x1),
    at_emb i x0 x1 0 640 (by decide) (by decide) inb_S1x8x1024x128_S1x1x32x128_0_0_640_0 _ (s0_20 i x0 x1),
    at_emb i x0 x1 7 608 (by decide) (by decide) inb_S1x8x1024x128_S1x1x32x128_0_7_608_0 _ (s7_19 i x0 x1),
    at_emb i x0 x1 6 608 (by decide) (by decide) inb_S1x8x1024x128_S1x1x32x128_0_6_608_0 _ (s6_19 i x0 x1),
    at_emb i x0 x1 5 608 (by decide) (by decide) inb_S1x8x1024x128_S1x1x32x128_0_5_608_0 _ (s5_19 i x0 x1),
    at_emb i x0 x1 4 608 (by decide) (by decide) inb_S1x8x1024x128_S1x1x32x128_0_4_608_0 _ (s4_19 i x0 x1),
    at_emb i x0 x1 3 608 (by decide) (by decide) inb_S1x8x1024x128_S1x1x32x128_0_3_608_0 _ (s3_19 i x0 x1),
    at_emb i x0 x1 2 608 (by decide) (by decide) inb_S1x8x1024x128_S1x1x32x128_0_2_608_0 _ (s2_19 i x0 x1),
    at_emb i x0 x1 1 608 (by decide) (by decide) inb_S1x8x1024x128_S1x1x32x128_0_1_608_0 _ (s1_19 i x0 x1),
    at_emb i x0 x1 0 608 (by decide) (by decide) inb_S1x8x1024x128_S1x1x32x128_0_0_608_0 _ (s0_19 i x0 x1),
    at_emb i x0 x1 7 576 (by decide) (by decide) inb_S1x8x1024x128_S1x1x32x128_0_7_576_0 _ (s7_18 i x0 x1),
    at_emb i x0 x1 6 576 (by decide) (by decide) inb_S1x8x1024x128_S1x1x32x128_0_6_576_0 _ (s6_18 i x0 x1),
    at_emb i x0 x1 5 576 (by decide) (by decide) inb_S1x8x1024x128_S1x1x32x128_0_5_576_0 _ (s5_18 i x0 x1),
    at_emb i x0 x1 4 576 (by decide) (by decide) inb_S1x8x1024x128_S1x1x32x128_0_4_576_0 _ (s4_18 i x0 x1),
    at_emb i x0 x1 3 576 (by decide) (by decide) inb_S1x8x1024x128_S1x1x32x128_0_3_576_0 _ (s3_18 i x0 x1),
    at_emb i x0 x1 2 576 (by decide) (by decide) inb_S1x8x1024x128_S1x1x32x128_0_2_576_0 _ (s2_18 i x0 x1),
    at_emb i x0 x1 1 576 (by decide) (by decide) inb_S1x8x1024x128_S1x1x32x128_0_1_576_0 _ (s1_18 i x0 x1),
    at_emb i x0 x1 0 576 (by decide) (by decide) inb_S1x8x1024x128_S1x1x32x128_0_0_576_0 _ (s0_18 i x0 x1),
    at_emb i x0 x1 7 544 (by decide) (by decide) inb_S1x8x1024x128_S1x1x32x128_0_7_544_0 _ (s7_17 i x0 x1),
    at_emb i x0 x1 6 544 (by decide) (by decide) inb_S1x8x1024x128_S1x1x32x128_0_6_544_0 _ (s6_17 i x0 x1),
    at_emb i x0 x1 5 544 (by decide) (by decide) inb_S1x8x1024x128_S1x1x32x128_0_5_544_0 _ (s5_17 i x0 x1),
    at_emb i x0 x1 4 544 (by decide) (by decide) inb_S1x8x1024x128_S1x1x32x128_0_4_544_0 _ (s4_17 i x0 x1),
    at_emb i x0 x1 3 544 (by decide) (by decide) inb_S1x8x1024x128_S1x1x32x128_0_3_544_0 _ (s3_17 i x0 x1),
    at_emb i x0 x1 2 544 (by decide) (by decide) inb_S1x8x1024x128_S1x1x32x128_0_2_544_0 _ (s2_17 i x0 x1),
    at_emb i x0 x1 1 544 (by decide) (by decide) inb_S1x8x1024x128_S1x1x32x128_0_1_544_0 _ (s1_17 i x0 x1),
    at_emb i x0 x1 0 544 (by decide) (by decide) inb_S1x8x1024x128_S1x1x32x128_0_0_544_0 _ (s0_17 i x0 x1),
    at_emb i x0 x1 7 512 (by decide) (by decide) inb_S1x8x1024x128_S1x1x32x128_0_7_512_0 _ (s7_16 i x0 x1),
    at_emb i x0 x1 6 512 (by decide) (by decide) inb_S1x8x1024x128_S1x1x32x128_0_6_512_0 _ (s6_16 i x0 x1),
    at_emb i x0 x1 5 512 (by decide) (by decide) inb_S1x8x1024x128_S1x1x32x128_0_5_512_0 _ (s5_16 i x0 x1),
    at_emb i x0 x1 4 512 (by decide) (by decide) inb_S1x8x1024x128_S1x1x32x128_0_4_512_0 _ (s4_16 i x0 x1),
    at_emb i x0 x1 3 512 (by decide) (by decide) inb_S1x8x1024x128_S1x1x32x128_0_3_512_0 _ (s3_16 i x0 x1),
    at_emb i x0 x1 2 512 (by decide) (by decide) inb_S1x8x1024x128_S1x1x32x128_0_2_512_0 _ (s2_16 i x0 x1),
    at_emb i x0 x1 1 512 (by decide) (by decide) inb_S1x8x1024x128_S1x1x32x128_0_1_512_0 _ (s1_16 i x0 x1),
    at_emb i x0 x1 0 512 (by decide) (by decide) inb_S1x8x1024x128_S1x1x32x128_0_0_512_0 _ (s0_16 i x0 x1),
    at_emb i x0 x1 7 480 (by decide) (by decide) inb_S1x8x1024x128_S1x1x32x128_0_7_480_0 _ (s7_15 i x0 x1),
    at_emb i x0 x1 6 480 (by decide) (by decide) inb_S1x8x1024x128_S1x1x32x128_0_6_480_0 _ (s6_15 i x0 x1),
    at_emb i x0 x1 5 480 (by decide) (by decide) inb_S1x8x1024x128_S1x1x32x128_0_5_480_0 _ (s5_15 i x0 x1),
    at_emb i x0 x1 4 480 (by decide) (by decide) inb_S1x8x1024x128_S1x1x32x128_0_4_480_0 _ (s4_15 i x0 x1),
    at_emb i x0 x1 3 480 (by decide) (by decide) inb_S1x8x1024x128_S1x1x32x128_0_3_480_0 _ (s3_15 i x0 x1),
    at_emb i x0 x1 2 480 (by decide) (by decide) inb_S1x8x1024x128_S1x1x32x128_0_2_480_0 _ (s2_15 i x0 x1),
    at_emb i x0 x1 1 480 (by decide) (by decide) inb_S1x8x1024x128_S1x1x32x128_0_1_480_0 _ (s1_15 i x0 x1),
    at_emb i x0 x1 0 480 (by decide) (by decide) inb_S1x8x1024x128_S1x1x32x128_0_0_480_0 _ (s0_15 i x0 x1),
    at_emb i x0 x1 7 448 (by decide) (by decide) inb_S1x8x1024x128_S1x1x32x128_0_7_448_0 _ (s7_14 i x0 x1),
    at_emb i x0 x1 6 448 (by decide) (by decide) inb_S1x8x1024x128_S1x1x32x128_0_6_448_0 _ (s6_14 i x0 x1),
    at_emb i x0 x1 5 448 (by decide) (by decide) inb_S1x8x1024x128_S1x1x32x128_0_5_448_0 _ (s5_14 i x0 x1),
    at_emb i x0 x1 4 448 (by decide) (by decide) inb_S1x8x1024x128_S1x1x32x128_0_4_448_0 _ (s4_14 i x0 x1),
    at_emb i x0 x1 3 448 (by decide) (by decide) inb_S1x8x1024x128_S1x1x32x128_0_3_448_0 _ (s3_14 i x0 x1),
    at_emb i x0 x1 2 448 (by decide) (by decide) inb_S1x8x1024x128_S1x1x32x128_0_2_448_0 _ (s2_14 i x0 x1),
    at_emb i x0 x1 1 448 (by decide) (by decide) inb_S1x8x1024x128_S1x1x32x128_0_1_448_0 _ (s1_14 i x0 x1),
    at_emb i x0 x1 0 448 (by decide) (by decide) inb_S1x8x1024x128_S1x1x32x128_0_0_448_0 _ (s0_14 i x0 x1),
    at_emb i x0 x1 7 416 (by decide) (by decide) inb_S1x8x1024x128_S1x1x32x128_0_7_416_0 _ (s7_13 i x0 x1),
    at_emb i x0 x1 6 416 (by decide) (by decide) inb_S1x8x1024x128_S1x1x32x128_0_6_416_0 _ (s6_13 i x0 x1),
    at_emb i x0 x1 5 416 (by decide) (by decide) inb_S1x8x1024x128_S1x1x32x128_0_5_416_0 _ (s5_13 i x0 x1),
    at_emb i x0 x1 4 416 (by decide) (by decide) inb_S1x8x1024x128_S1x1x32x128_0_4_416_0 _ (s4_13 i x0 x1),
    at_emb i x0 x1 3 416 (by decide) (by decide) inb_S1x8x1024x128_S1x1x32x128_0_3_416_0 _ (s3_13 i x0 x1),
    at_emb i x0 x1 2 416 (by decide) (by decide) inb_S1x8x1024x128_S1x1x32x128_0_2_416_0 _ (s2_13 i x0 x1),
    at_emb i x0 x1 1 416 (by decide) (by decide) inb_S1x8x1024x128_S1x1x32x128_0_1_416_0 _ (s1_13 i x0 x1),
    at_emb i x0 x1 0 416 (by decide) (by decide) inb_S1x8x1024x128_S1x1x32x128_0_0_416_0 _ (s0_13 i x0 x1),
    at_emb i x0 x1 7 384 (by decide) (by decide) inb_S1x8x1024x128_S1x1x32x128_0_7_384_0 _ (s7_12 i x0 x1),
    at_emb i x0 x1 6 384 (by decide) (by decide) inb_S1x8x1024x128_S1x1x32x128_0_6_384_0 _ (s6_12 i x0 x1),
    at_emb i x0 x1 5 384 (by decide) (by decide) inb_S1x8x1024x128_S1x1x32x128_0_5_384_0 _ (s5_12 i x0 x1),
    at_emb i x0 x1 4 384 (by decide) (by decide) inb_S1x8x1024x128_S1x1x32x128_0_4_384_0 _ (s4_12 i x0 x1),
    at_emb i x0 x1 3 384 (by decide) (by decide) inb_S1x8x1024x128_S1x1x32x128_0_3_384_0 _ (s3_12 i x0 x1),
    at_emb i x0 x1 2 384 (by decide) (by decide) inb_S1x8x1024x128_S1x1x32x128_0_2_384_0 _ (s2_12 i x0 x1),
    at_emb i x0 x1 1 384 (by decide) (by decide) inb_S1x8x1024x128_S1x1x32x128_0_1_384_0 _ (s1_12 i x0 x1),
    at_emb i x0 x1 0 384 (by decide) (by decide) inb_S1x8x1024x128_S1x1x32x128_0_0_384_0 _ (s0_12 i x0 x1),
    at_emb i x0 x1 7 352 (by decide) (by decide) inb_S1x8x1024x128_S1x1x32x128_0_7_352_0 _ (s7_11 i x0 x1),
    at_emb i x0 x1 6 352 (by decide) (by decide) inb_S1x8x1024x128_S1x1x32x128_0_6_352_0 _ (s6_11 i x0 x1),
    at_emb i x0 x1 5 352 (by decide) (by decide) inb_S1x8x1024x128_S1x1x32x128_0_5_352_0 _ (s5_11 i x0 x1),
    at_emb i x0 x1 4 352 (by decide) (by decide) inb_S1x8x1024x128_S1x1x32x128_0_4_352_0 _ (s4_11 i x0 x1),
    at_emb i x0 x1 3 352 (by decide) (by decide) inb_S1x8x1024x128_S1x1x32x128_0_3_352_0 _ (s3_11 i x0 x1),
    at_emb i x0 x1 2 352 (by decide) (by decide) inb_S1x8x1024x128_S1x1x32x128_0_2_352_0 _ (s2_11 i x0 x1),
    at_emb i x0 x1 1 352 (by decide) (by decide) inb_S1x8x1024x128_S1x1x32x128_0_1_352_0 _ (s1_11 i x0 x1),
    at_emb i x0 x1 0 352 (by decide) (by decide) inb_S1x8x1024x128_S1x1x32x128_0_0_352_0 _ (s0_11 i x0 x1),
    at_emb i x0 x1 7 320 (by decide) (by decide) inb_S1x8x1024x128_S1x1x32x128_0_7_320_0 _ (s7_10 i x0 x1),
    at_emb i x0 x1 6 320 (by decide) (by decide) inb_S1x8x1024x128_S1x1x32x128_0_6_320_0 _ (s6_10 i x0 x1),
    at_emb i x0 x1 5 320 (by decide) (by decide) inb_S1x8x1024x128_S1x1x32x128_0_5_320_0 _ (s5_10 i x0 x1),
    at_emb i x0 x1 4 320 (by decide) (by decide) inb_S1x8x1024x128_S1x1x32x128_0_4_320_0 _ (s4_10 i x0 x1),
    at_emb i x0 x1 3 320 (by decide) (by decide) inb_S1x8x1024x128_S1x1x32x128_0_3_320_0 _ (s3_10 i x0 x1),
    at_emb i x0 x1 2 320 (by decide) (by decide) inb_S1x8x1024x128_S1x1x32x128_0_2_320_0 _ (s2_10 i x0 x1),
    at_emb i x0 x1 1 320 (by decide) (by decide) inb_S1x8x1024x128_S1x1x32x128_0_1_320_0 _ (s1_10 i x0 x1),
    at_emb i x0 x1 0 320 (by decide) (by decide) inb_S1x8x1024x128_S1x1x32x128_0_0_320_0 _ (s0_10 i x0 x1),
    at_emb i x0 x1 7 288 (by decide) (by decide) inb_S1x8x1024x128_S1x1x32x128_0_7_288_0 _ (s7_9 i x0 x1),
    at_emb i x0 x1 6 288 (by decide) (by decide) inb_S1x8x1024x128_S1x1x32x128_0_6_288_0 _ (s6_9 i x0 x1),
    at_emb i x0 x1 5 288 (by decide) (by decide) inb_S1x8x1024x128_S1x1x32x128_0_5_288_0 _ (s5_9 i x0 x1),
    at_emb i x0 x1 4 288 (by decide) (by decide) inb_S1x8x1024x128_S1x1x32x128_0_4_288_0 _ (s4_9 i x0 x1),
    at_emb i x0 x1 3 288 (by decide) (by decide) inb_S1x8x1024x128_S1x1x32x128_0_3_288_0 _ (s3_9 i x0 x1),
    at_emb i x0 x1 2 288 (by decide) (by decide) inb_S1x8x1024x128_S1x1x32x128_0_2_288_0 _ (s2_9 i x0 x1),
    at_emb i x0 x1 1 288 (by decide) (by decide) inb_S1x8x1024x128_S1x1x32x128_0_1_288_0 _ (s1_9 i x0 x1),
    at_emb i x0 x1 0 288 (by decide) (by decide) inb_S1x8x1024x128_S1x1x32x128_0_0_288_0 _ (s0_9 i x0 x1),
    at_emb i x0 x1 7 256 (by decide) (by decide) inb_S1x8x1024x128_S1x1x32x128_0_7_256_0 _ (s7_8 i x0 x1),
    at_emb i x0 x1 6 256 (by decide) (by decide) inb_S1x8x1024x128_S1x1x32x128_0_6_256_0 _ (s6_8 i x0 x1),
    at_emb i x0 x1 5 256 (by decide) (by decide) inb_S1x8x1024x128_S1x1x32x128_0_5_256_0 _ (s5_8 i x0 x1),
    at_emb i x0 x1 4 256 (by decide) (by decide) inb_S1x8x1024x128_S1x1x32x128_0_4_256_0 _ (s4_8 i x0 x1),
    at_emb i x0 x1 3 256 (by decide) (by decide) inb_S1x8x1024x128_S1x1x32x128_0_3_256_0 _ (s3_8 i x0 x1),
    at_emb i x0 x1 2 256 (by decide) (by decide) inb_S1x8x1024x128_S1x1x32x128_0_2_256_0 _ (s2_8 i x0 x1),
    at_emb i x0 x1 1 256 (by decide) (by decide) inb_S1x8x1024x128_S1x1x32x128_0_1_256_0 _ (s1_8 i x0 x1),
    at_emb i x0 x1 0 256 (by decide) (by decide) inb_S1x8x1024x128_S1x1x32x128_0_0_256_0 _ (s0_8 i x0 x1),
    at_emb i x0 x1 7 224 (by decide) (by decide) inb_S1x8x1024x128_S1x1x32x128_0_7_224_0 _ (s7_7 i x0 x1),
    at_emb i x0 x1 6 224 (by decide) (by decide) inb_S1x8x1024x128_S1x1x32x128_0_6_224_0 _ (s6_7 i x0 x1),
    at_emb i x0 x1 5 224 (by decide) (by decide) inb_S1x8x1024x128_S1x1x32x128_0_5_224_0 _ (s5_7 i x0 x1),
    at_emb i x0 x1 4 224 (by decide) (by decide) inb_S1x8x1024x128_S1x1x32x128_0_4_224_0 _ (s4_7 i x0 x1),
    at_emb i x0 x1 3 224 (by decide) (by decide) inb_S1x8x1024x128_S1x1x32x128_0_3_224_0 _ (s3_7 i x0 x1),
    at_emb i x0 x1 2 224 (by decide) (by decide) inb_S1x8x1024x128_S1x1x32x128_0_2_224_0 _ (s2_7 i x0 x1),
    at_emb i x0 x1 1 224 (by decide) (by decide) inb_S1x8x1024x128_S1x1x32x128_0_1_224_0 _ (s1_7 i x0 x1),
    at_emb i x0 x1 0 224 (by decide) (by decide) inb_S1x8x1024x128_S1x1x32x128_0_0_224_0 _ (s0_7 i x0 x1),
    at_emb i x0 x1 7 192 (by decide) (by decide) inb_S1x8x1024x128_S1x1x32x128_0_7_192_0 _ (s7_6 i x0 x1),
    at_emb i x0 x1 6 192 (by decide) (by decide) inb_S1x8x1024x128_S1x1x32x128_0_6_192_0 _ (s6_6 i x0 x1),
    at_emb i x0 x1 5 192 (by decide) (by decide) inb_S1x8x1024x128_S1x1x32x128_0_5_192_0 _ (s5_6 i x0 x1),
    at_emb i x0 x1 4 192 (by decide) (by decide) inb_S1x8x1024x128_S1x1x32x128_0_4_192_0 _ (s4_6 i x0 x1),
    at_emb i x0 x1 3 192 (by decide) (by decide) inb_S1x8x1024x128_S1x1x32x128_0_3_192_0 _ (s3_6 i x0 x1),
    at_emb i x0 x1 2 192 (by decide) (by decide) inb_S1x8x1024x128_S1x1x32x128_0_2_192_0 _ (s2_6 i x0 x1),
    at_emb i x0 x1 1 192 (by decide) (by decide) inb_S1x8x1024x128_S1x1x32x128_0_1_192_0 _ (s1_6 i x0 x1),
    at_emb i x0 x1 0 192 (by decide) (by decide) inb_S1x8x1024x128_S1x1x32x128_0_0_192_0 _ (s0_6 i x0 x1),
    at_emb i x0 x1 7 160 (by decide) (by decide) inb_S1x8x1024x128_S1x1x32x128_0_7_160_0 _ (s7_5 i x0 x1),
    at_emb i x0 x1 6 160 (by decide) (by decide) inb_S1x8x1024x128_S1x1x32x128_0_6_160_0 _ (s6_5 i x0 x1),
    at_emb i x0 x1 5 160 (by decide) (by decide) inb_S1x8x1024x128_S1x1x32x128_0_5_160_0 _ (s5_5 i x0 x1),
    at_emb i x0 x1 4 160 (by decide) (by decide) inb_S1x8x1024x128_S1x1x32x128_0_4_160_0 _ (s4_5 i x0 x1),
    at_emb i x0 x1 3 160 (by decide) (by decide) inb_S1x8x1024x128_S1x1x32x128_0_3_160_0 _ (s3_5 i x0 x1),
    at_emb i x0 x1 2 160 (by decide) (by decide) inb_S1x8x1024x128_S1x1x32x128_0_2_160_0 _ (s2_5 i x0 x1),
    at_emb i x0 x1 1 160 (by decide) (by decide) inb_S1x8x1024x128_S1x1x32x128_0_1_160_0 _ (s1_5 i x0 x1),
    at_emb i x0 x1 0 160 (by decide) (by decide) inb_S1x8x1024x128_S1x1x32x128_0_0_160_0 _ (s0_5 i x0 x1),
    at_emb i x0 x1 7 128 (by decide) (by decide) inb_S1x8x1024x128_S1x1x32x128_0_7_128_0 _ (s7_4 i x0 x1),
    at_emb i x0 x1 6 128 (by decide) (by decide) inb_S1x8x1024x128_S1x1x32x128_0_6_128_0 _ (s6_4 i x0 x1),
    at_emb i x0 x1 5 128 (by decide) (by decide) inb_S1x8x1024x128_S1x1x32x128_0_5_128_0 _ (s5_4 i x0 x1),
    at_emb i x0 x1 4 128 (by decide) (by decide) inb_S1x8x1024x128_S1x1x32x128_0_4_128_0 _ (s4_4 i x0 x1),
    at_emb i x0 x1 3 128 (by decide) (by decide) inb_S1x8x1024x128_S1x1x32x128_0_3_128_0 _ (s3_4 i x0 x1),
    at_emb i x0 x1 2 128 (by decide) (by decide) inb_S1x8x1024x128_S1x1x32x128_0_2_128_0 _ (s2_4 i x0 x1),
    at_emb i x0 x1 1 128 (by decide) (by decide) inb_S1x8x1024x128_S1x1x32x128_0_1_128_0 _ (s1_4 i x0 x1),
    at_emb i x0 x1 0 128 (by decide) (by decide) inb_S1x8x1024x128_S1x1x32x128_0_0_128_0 _ (s0_4 i x0 x1),
    at_emb i x0 x1 7 96 (by decide) (by decide) inb_S1x8x1024x128_S1x1x32x128_0_7_96_0 _ (s7_3 i x0 x1),
    at_emb i x0 x1 6 96 (by decide) (by decide) inb_S1x8x1024x128_S1x1x32x128_0_6_96_0 _ (s6_3 i x0 x1),
    at_emb i x0 x1 5 96 (by decide) (by decide) inb_S1x8x1024x128_S1x1x32x128_0_5_96_0 _ (s5_3 i x0 x1),
    at_emb i x0 x1 4 96 (by decide) (by decide) inb_S1x8x1024x128_S1x1x32x128_0_4_96_0 _ (s4_3 i x0 x1),
    at_emb i x0 x1 3 96 (by decide) (by decide) inb_S1x8x1024x128_S1x1x32x128_0_3_96_0 _ (s3_3 i x0 x1),
    at_emb i x0 x1 2 96 (by decide) (by decide) inb_S1x8x1024x128_S1x1x32x128_0_2_96_0 _ (s2_3 i x0 x1),
    at_emb i x0 x1 1 96 (by decide) (by decide) inb_S1x8x1024x128_S1x1x32x128_0_1_96_0 _ (s1_3 i x0 x1),
    at_emb i x0 x1 0 96 (by decide) (by decide) inb_S1x8x1024x128_S1x1x32x128_0_0_96_0 _ (s0_3 i x0 x1),
    at_emb i x0 x1 7 64 (by decide) (by decide) inb_S1x8x1024x128_S1x1x32x128_0_7_64_0 _ (s7_2 i x0 x1),
    at_emb i x0 x1 6 64 (by decide) (by decide) inb_S1x8x1024x128_S1x1x32x128_0_6_64_0 _ (s6_2 i x0 x1),
    at_emb i x0 x1 5 64 (by decide) (by decide) inb_S1x8x1024x128_S1x1x32x128_0_5_64_0 _ (s5_2 i x0 x1),
    at_emb i x0 x1 4 64 (by decide) (by decide) inb_S1x8x1024x128_S1x1x32x128_0_4_64_0 _ (s4_2 i x0 x1),
    at_emb i x0 x1 3 64 (by decide) (by decide) inb_S1x8x1024x128_S1x1x32x128_0_3_64_0 _ (s3_2 i x0 x1),
    at_emb i x0 x1 2 64 (by decide) (by decide) inb_S1x8x1024x128_S1x1x32x128_0_2_64_0 _ (s2_2 i x0 x1),
    at_emb i x0 x1 1 64 (by decide) (by decide) inb_S1x8x1024x128_S1x1x32x128_0_1_64_0 _ (s1_2 i x0 x1),
    at_emb i x0 x1 0 64 (by decide) (by decide) inb_S1x8x1024x128_S1x1x32x128_0_0_64_0 _ (s0_2 i x0 x1),
    at_emb i x0 x1 7 32 (by decide) (by decide) inb_S1x8x1024x128_S1x1x32x128_0_7_32_0 _ (s7_1 i x0 x1),
    at_emb i x0 x1 6 32 (by decide) (by decide) inb_S1x8x1024x128_S1x1x32x128_0_6_32_0 _ (s6_1 i x0 x1),
    at_emb i x0 x1 5 32 (by decide) (by decide) inb_S1x8x1024x128_S1x1x32x128_0_5_32_0 _ (s5_1 i x0 x1),
    at_emb i x0 x1 4 32 (by decide) (by decide) inb_S1x8x1024x128_S1x1x32x128_0_4_32_0 _ (s4_1 i x0 x1),
    at_emb i x0 x1 3 32 (by decide) (by decide) inb_S1x8x1024x128_S1x1x32x128_0_3_32_0 _ (s3_1 i x0 x1),
    at_emb i x0 x1 2 32 (by decide) (by decide) inb_S1x8x1024x128_S1x1x32x128_0_2_32_0 _ (s2_1 i x0 x1),
    at_emb i x0 x1 1 32 (by decide) (by decide) inb_S1x8x1024x128_S1x1x32x128_0_1_32_0 _ (s1_1 i x0 x1),
    at_emb i x0 x1 0 32 (by decide) (by decide) inb_S1x8x1024x128_S1x1x32x128_0_0_32_0 _ (s0_1 i x0 x1),
    at_emb i x0 x1 7 0 (by decide) (by decide) inb_S1x8x1024x128_S1x1x32x128_0_7_0_0 _ (s7_0 i x0 x1),
    at_emb i x0 x1 6 0 (by decide) (by decide) inb_S1x8x1024x128_S1x1x32x128_0_6_0_0 _ (s6_0 i x0 x1),
    at_emb i x0 x1 5 0 (by decide) (by decide) inb_S1x8x1024x128_S1x1x32x128_0_5_0_0 _ (s5_0 i x0 x1),
    at_emb i x0 x1 4 0 (by decide) (by decide) inb_S1x8x1024x128_S1x1x32x128_0_4_0_0 _ (s4_0 i x0 x1),
    at_emb i x0 x1 3 0 (by decide) (by decide) inb_S1x8x1024x128_S1x1x32x128_0_3_0_0 _ (s3_0 i x0 x1),
    at_emb i x0 x1 2 0 (by decide) (by decide) inb_S1x8x1024x128_S1x1x32x128_0_2_0_0 _ (s2_0 i x0 x1),
    at_emb i x0 x1 1 0 (by decide) (by decide) inb_S1x8x1024x128_S1x1x32x128_0_1_0_0 _ (s1_0 i x0 x1),
    at_emb i x0 x1 0 0 (by decide) (by decide) inb_S1x8x1024x128_S1x1x32x128_0_0_0_0 _ (s0_0 i x0 x1), trivial⟩

/-- What one grid point leaves in its result block. -/
theorem block (i : grid0.Coords) (x0 : FVec Ideal S1x8192x128 .fp8e5m2) (x1 : FVec Ideal S1x1024x56 .f32) (y : S1x8x1024x128.Idx) :
    out0_2 (F := Ideal) i x0 x1 y = BLK i x0 x1 y := by
  unfold out0_2
  exact View.canon_apply_of_pieces (BLK i x0 x1) _ (stores i x0 x1).mem y (cover0_2 (F := Ideal) i x0 x1 y)

variable (V : (c : Dev nD) → (b : Ref sig .tc) → Buf (Elt Ideal) ((c : Thread nD τ).loc b))

/-- The blocks of grid point `t`: batch `t / 28`, half of the frames `t / 14 % 2`, column tile `t % 14`. -/
theorem idx_val : ∀ t : Fin cfg0.N, win0_0.index t = ![t.val / 28, t.val / 14 % 2, t.val % 14] ∧ win0_1.index t = ![t.val / 28, t.val / 14 % 2, 0]
    ∧ win0_2.index t = ![t.val / 28, 0, t.val / 14 % 2, t.val % 14] ∧ (grid0.coords t 2).val = t.val % 14 :=
  (by decide +kernel : ∀ t : Fin grid0.N, _)

/-- The expanded gradient: phase `p` of frame `s` is the code at sequence position `8 s + p` times the scale of the frame and group. -/
def G (codes : FVec Ideal S3x16384x1792 .fp8e5m2) (scale : FVec Ideal S3x2048x56 .f32) : FVec Ideal S3x8x2048x1792 .bf16 := fun i =>
  (codes (ix3 (i 0) ⟨(i 2).val * 8 + (i 1).val, by have h1 : (i 1).val < 8 := (i 1).isLt; have h2 : (i 2).val < 2048 := (i 2).isLt; omega⟩ (i 3))
    * scale (ix3 (i 0) (i 2) ⟨(i 3).val / 32, by have h3 : (i 3).val < 1792 := (i 3).isLt; omega⟩) : EReal)

/-- One grid point stores its block of the expanded gradient. -/
theorem point (c : Dev nD) (t : Fin cfg0.N) (y : S1x8x1024x128.Idx) :
    BLK (grid0.coords t) (iblk0 V c 0 t) (iblk0 V c 1 t) y = G (V c main_arg1) (V c main_arg2) (((cfg0.win 2).blk t).view.emb y) := by
  unfold BLK SC
  refine (congrArg (fun e : EReal => _ * e) (scale_at (grid0.coords t) ⟨t.val % 14, by omega⟩ (idx_val t).2.2.2 _ (y 2) (y 3))).trans ?_
  pointwise [G]
  blk_point [iblk0, idx_val t]

/-- The result array ends as the expanded gradient. -/
theorem final (c : Dev nD) : (dat0 V c).arrAt 2 cfg0.N = G (V c main_arg1) (V c main_arg2) := by
  refine (dat0 V c).arrAt_eq_of_covers 2 _ (by decide +kernel) fun t _ y => ?_
  blk_simp
  rw [after0_2, block]
  exact point V c t y

end Cert.KernelIdeal.WholeExpand
end
-- ==== Proof.DxValue.lean ====
/- What the second call leaves in its result array, read over the reals, for any contents `V` of the arrays it is
   entered with: each grid point adds one phase's product to two accumulators, the last phase stores their combination. -/
module

public import proofs.«01_k».proof.Proof.KernelIdealDx
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.KernelIdeal.WholeDx

open Cert.KernelIdeal Cert.KernelIdeal.Gen Cert.KernelIdeal.Whole Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The weight codes as the region reads them: the tap split into half and phase. -/
def W4 (w : FVec Ideal S16x3584x1792 .fp8e4m3) : FVec Ideal S2x8x3584x1792 .fp8e4m3 :=
  shapeCast _ w shapeCasts_S16x3584x1792_S2x8x3584x1792

/-- The scales as the region reads them: one row. -/
def WS (ws : FVec Ideal S1792 .f32) : FVec Ideal S1x1792 .f32 :=
  shapeCast _ ws shapeCasts_S1792_S1x1792

/-- The blocks of grid point `t`: batch `t / 56`, column tile `t / 8 % 7`, phase `t % 8`. -/
theorem idx_val : ∀ t : Fin cfg1.N, win1_0.index t = ![t.val / 56, t.val % 8, 0, 0] ∧ win1_1.index t = ![0, t.val % 8, t.val / 8 % 7, 0]
    ∧ win1_2.index t = ![0, 0] ∧ win1_3.index t = ![t.val / 56, 0, t.val / 8 % 7] :=
  (by decide +kernel : ∀ t : Fin grid1.N, _)

/-- What one phase adds: the row of the gradient times the decoded weights of half `h`. -/
def TERM (h : Fin 2) (g : FVec Ideal S3x8x2048x1792 .bf16) (w : FVec Ideal S2x8x3584x1792 .fp8e4m3) (ws : FVec Ideal S1x1792 .f32)
    (b : Fin 3) (p : Fin 8) (s : Fin 2048) (i : Fin 3584) : EReal :=
  ∑ o : Fin 1792, g (ix4 b p s o) * (w (ix4 h p i o) * ws (ix2 0 o))

/-- The addition of one grid point to the accumulator of half `h`. -/
def ADD (h : Fin 2) (g : FVec Ideal S3x8x2048x1792 .bf16) (w : FVec Ideal S2x8x3584x1792 .fp8e4m3) (ws : FVec Ideal S1x1792 .f32)
    (t : Fin cfg1.N) (y : S2048x512.Idx) : EReal :=
  TERM h g w ws ⟨t.val / 56, by have : t.val < 168 := t.isLt; omega⟩ ⟨t.val % 8, by omega⟩ (y 0)
    ⟨t.val / 8 % 7 * 512 + (y 1).val, by have h1 : (y 1).val < 512 := (y 1).isLt; omega⟩

/-- The first half of a weight block. -/
abbrev R0 : Rect S2x1x512x1792 := Rect.unit ![0, 0, 0, 0] ![1, 1, 512, 1792] inb_S2x1x512x1792_S1x1x512x1792_0_0_0_0

/-- The second half of a weight block. -/
abbrev R1 : Rect S2x1x512x1792 := Rect.unit ![1, 0, 0, 0] ![1, 1, 512, 1792] inb_S2x1x512x1792_S1x1x512x1792_1_0_0_0

/-- What the body adds to the first accumulator, at an index. -/
theorem pay7_at (c : Dev nD) (t : Fin cfg1.N) (a : Vec Ideal S2048x512 .f32) (y : S2048x512.Idx) :
    k1_pay7 (F := Ideal) (iblk1 V c 2 t) (iblk1 V c 0 t) (View.ld (iblk1 V c 1 t) R0) a y
      = (a y + ADD 0 (V c main_v0) (V c main_v1) (V c main_v2) t y : EReal) := by
  pointwise [k1_pay7, ADD, TERM]
  blk_point [iblk1, idx_val t]

/-- What the body adds to the second accumulator, at an index. -/
theorem pay8_at (c : Dev nD) (t : Fin cfg1.N) (a : Vec Ideal S2048x512 .f32) (y : S2048x512.Idx) :
    k1_pay1 (F := Ideal) (k1_pay8 (F := Ideal) (iblk1 V c 2 t) (iblk1 V c 0 t) (View.ld (iblk1 V c 1 t) R1) a) y
      = (a y + ADD 1 (V c main_v0) (V c main_v1) (V c main_v2) t y : EReal) := by
  pointwise [k1_pay1, k1_pay8, ADD, TERM]
  blk_point [iblk1, idx_val t]

/-- The first accumulator is reset to zero. -/
theorem zero3 (y : S2048x512.Idx) : k1_pay3 (F := Ideal) y = (0 : EReal) := by
  pointwise [k1_pay3]

/-- The second accumulator is reset to zero. -/
theorem zero4 (y : S2048x512.Idx) : k1_pay4 (F := Ideal) y = (0 : EReal) := by
  pointwise [k1_pay4]

/-- The first accumulator after phase 0: that phase's addition alone. -/
theorem acc0_reset (c : Dev nD) (t : Fin cfg1.N) (h0 : t.val % 8 = 0) (y : S2048x512.Idx) :
    (outsAt1 V c t.val t.isLt).2.1 y = (0 + ADD 0 (V c main_v0) (V c main_v1) (V c main_v2) t y : EReal) := by
  rw [outsAt1_A V c t h0 (by omega)]
  frame_out
  exact (pay7_at V c t _ y).trans (by rw [zero3])

/-- The first accumulator after a later phase: what the phase before left, plus this phase's addition. -/
theorem acc0_step (c : Dev nD) (t : Fin cfg1.N) (h0 : ¬ t.val % 8 = 0) (y : S2048x512.Idx) :
    (outsAt1 V c t.val t.isLt).2.1 y = ((outsAt1 V c (t.val - 1) (Nat.lt_of_le_of_lt (Nat.sub_le _ _) t.isLt)).2.1 y
      + ADD 0 (V c main_v0) (V c main_v1) (V c main_v2) t y : EReal) := by
  by_cases h1 : t.val % 8 = 7
  · rw [outsAt1_C V c t h0 h1]
    frame_out
    rw [read_unread_whole]
    exact pay7_at V c t _ y
  · rw [outsAt1_B V c t h0 h1]
    frame_out
    rw [read_unread_whole]
    exact pay7_at V c t _ y

/-- The second accumulator after phase 0: that phase's addition alone. -/
theorem acc1_reset (c : Dev nD) (t : Fin cfg1.N) (h0 : t.val % 8 = 0) (y : S2048x512.Idx) :
    (outsAt1 V c t.val t.isLt).2.2 y = (0 + ADD 1 (V c main_v0) (V c main_v1) (V c main_v2) t y : EReal) := by
  rw [outsAt1_A V c t h0 (by omega)]
  frame_out
  exact (pay8_at V c t _ y).trans (by rw [zero4])

/-- The second accumulator after a later phase: what the phase before left, plus this phase's addition. -/
theorem acc1_step (c : Dev nD) (t : Fin cfg1.N) (h0 : ¬ t.val % 8 = 0) (y : S2048x512.Idx) :
    (outsAt1 V c t.val t.isLt).2.2 y = ((outsAt1 V c (t.val - 1) (Nat.lt_of_le_of_lt (Nat.sub_le _ _) t.isLt)).2.2 y
      + ADD 1 (V c main_v0) (V c main_v1) (V c main_v2) t y : EReal) := by
  by_cases h1 : t.val % 8 = 7
  · rw [outsAt1_C V c t h0 h1]
    frame_out
    rw [read_unread_whole]
    exact pay8_at V c t _ y
  · rw [outsAt1_B V c t h0 h1]
    frame_out
    rw [read_unread_whole]
    exact pay8_at V c t _ y

/-- At the last phase the first accumulator holds the sum over the phases. -/
theorem acc0_flush (c : Dev nD) (t : Fin cfg1.N) (h1 : t.val % 8 = 7) (y : S2048x512.Idx) :
    (outsAt1 V c t.val t.isLt).2.1 y = (0 + ∑ p : Fin 8, ADD 0 (V c main_v0) (V c main_v1) (V c main_v2)
      ⟨8 * (t.val / 8) + p.val, by have : t.val < 168 := t.isLt; show _ < 168; omega⟩ y : EReal) :=
  Pipeline.eq_sum_fin_of_reset_step_apply_of_flush (fun n h => (outsAt1 V c n h).2.1) 8 (fun _ => (0 : EReal)) _
    (fun t h y => acc0_reset V c t h y) (fun t h y => acc0_step V c t h y) t h1 y

/-- At the last phase the second accumulator holds the sum over the phases. -/
theorem acc1_flush (c : Dev nD) (t : Fin cfg1.N) (h1 : t.val % 8 = 7) (y : S2048x512.Idx) :
    (outsAt1 V c t.val t.isLt).2.2 y = (0 + ∑ p : Fin 8, ADD 1 (V c main_v0) (V c main_v1) (V c main_v2)
      ⟨8 * (t.val / 8) + p.val, by have : t.val < 168 := t.isLt; show _ < 168; omega⟩ y : EReal) :=
  Pipeline.eq_sum_fin_of_reset_step_apply_of_flush (fun n h => (outsAt1 V c n h).2.2) 8 (fun _ => (0 : EReal)) _
    (fun t h y => acc1_reset V c t h y) (fun t h y => acc1_step V c t h y) t h1 y

/-- What the last phase stores, of the two accumulators it leaves. -/
theorem out_flush (c : Dev nD) (t : Fin cfg1.N) (h1 : t.val % 8 = 7) (y : S1x2048x512.Idx) :
    (outsAt1 V c t.val t.isLt).1 y = k1_pay2 (F := Ideal) (outsAt1 V c t.val t.isLt).2.2 (outsAt1 V c t.val t.isLt).2.1 y := by
  rw [outsAt1_C V c t (by omega) h1]
  frame_out

/-- The row test fails before the last frame. -/
theorem lane_ne (s : Fin 2048) (hs : s.val < 2047) {α : Type} (a b : α) :
    Scalar.select (IntOp.cmpi CmpIPredicate.eq (BitVec.ofNat 32 s.val) 2047#32) a b = b := by
  have h : ¬ BitVec.ofNat 32 s.val = 2047#32 := fun h => by
    have := congrArg BitVec.toNat h
    rw [BitVec.toNat_ofNat, Nat.mod_eq_of_lt (by omega)] at this
    have : s.val = 2047 := this
    omega
  have h2 : IntOp.cmpi CmpIPredicate.eq (BitVec.ofNat 32 s.val) 2047#32 = 0#1 := by
    show BitVec.ofBool (BitVec.ofNat 32 s.val == 2047#32) = 0#1
    rw [beq_eq_false_iff_ne.2 h]
    rfl
  rw [h2]
  rfl

/-- The row test holds at the last frame. -/
theorem lane_eq (s : Fin 2048) (hs : ¬ s.val < 2047) {α : Type} (a b : α) :
    Scalar.select (IntOp.cmpi CmpIPredicate.eq (BitVec.ofNat 32 s.val) 2047#32) a b = a := by
  have h : s.val = 2047 := by omega
  rw [h]
  rfl

/-- The block written at the last phase, before the last frame: the first sum plus the second sum one frame later. -/
theorem pay2_at (a1 a0 : Vec Ideal S2048x512 .f32) (s : Fin 2048) (j : Fin 512) (hs : s.val < 2047) :
    k1_pay2 (F := Ideal) a1 a0 (ix3 0 s j) = (a0 (ix2 s j) + a1 (ix2 ⟨s.val + 1, by omega⟩ j) : EReal) := by
  pointwise [k1_pay2]
  rw [lane_ne s hs]
  refine congrArg (fun e : EReal => a0 (ix2 s j) + e) (congrArg a1 ((ix2_inj ..).2 ⟨Fin.ext ?_, rfl⟩))
  show (s.val + 2048 - 2047) % 2048 = s.val + 1
  omega

/-- The block written at the last phase, at the last frame: the first sum alone. -/
theorem pay2_last (a1 a0 : Vec Ideal S2048x512 .f32) (s : Fin 2048) (j : Fin 512) (hs : ¬ s.val < 2047) :
    k1_pay2 (F := Ideal) a1 a0 (ix3 0 s j) = a0 (ix2 s j) := by
  pointwise [k1_pay2]
  rw [lane_eq s hs]
  exact add_zero _

/-- The sum over phases and output channels of half `h` of the weights, at batch `b`, frame `s`, channel `i`. -/
def SUM (h : Fin 2) (g : FVec Ideal S3x8x2048x1792 .bf16) (w : FVec Ideal S2x8x3584x1792 .fp8e4m3) (ws : FVec Ideal S1x1792 .f32)
    (b : Fin 3) (s : Fin 2048) (i : Fin 3584) : EReal :=
  ∑ p : Fin 8, TERM h g w ws b p s i

/-- Where grid point `8 q + p` adds. -/
theorem add_at (h : Fin 2) (g : FVec Ideal S3x8x2048x1792 .bf16) (w : FVec Ideal S2x8x3584x1792 .fp8e4m3) (ws : FVec Ideal S1x1792 .f32)
    (t : Fin cfg1.N) (s : Fin 2048) (j : Fin 512) (hb : t.val / 56 < 3) (hi : t.val / 8 % 7 * 512 + j.val < 3584) :
    (∑ p : Fin 8, ADD h g w ws ⟨8 * (t.val / 8) + p.val, by have : t.val < 168 := t.isLt; show _ < 168; omega⟩ (ix2 s j))
      = SUM h g w ws ⟨t.val / 56, hb⟩ s ⟨t.val / 8 % 7 * 512 + j.val, hi⟩ := by
  refine Finset.sum_congr rfl fun p _ => ?_
  unfold ADD
  have h1 : (8 * (t.val / 8) + p.val) / 56 = t.val / 56 := by omega
  have h2 : (8 * (t.val / 8) + p.val) % 8 = p.val := by omega
  have h3 : (8 * (t.val / 8) + p.val) / 8 = t.val / 8 := by omega
  congr 1
  · exact Fin.ext h1
  · exact Fin.ext h2
  · exact Fin.ext (by show (8 * (t.val / 8) + p.val) / 8 % 7 * 512 + j.val = t.val / 8 % 7 * 512 + j.val; rw [h3])

/-- The result: the first half's sum at the frame, and the second half's at the next frame, none at the last. -/
def OUT (g : FVec Ideal S3x8x2048x1792 .bf16) (w : FVec Ideal S2x8x3584x1792 .fp8e4m3) (ws : FVec Ideal S1x1792 .f32) :
    FVec Ideal S3x2048x3584 .bf16 := fun i =>
  if h : (i 1).val < 2047 then (SUM 0 g w ws (i 0) (i 1) (i 2) + SUM 1 g w ws (i 0) ⟨(i 1).val + 1, by omega⟩ (i 2) : EReal)
  else SUM 0 g w ws (i 0) (i 1) (i 2)

/-- The result before the last frame. -/
theorem out_at (g : FVec Ideal S3x8x2048x1792 .bf16) (w : FVec Ideal S2x8x3584x1792 .fp8e4m3) (ws : FVec Ideal S1x1792 .f32)
    (b : Fin 3) (s : Fin 2048) (i : Fin 3584) (h : s.val < 2047) :
    OUT g w ws (ix3 b s i) = (SUM 0 g w ws b s i + SUM 1 g w ws b ⟨s.val + 1, by omega⟩ i : EReal) := dif_pos h

/-- The result at the last frame. -/
theorem out_last (g : FVec Ideal S3x8x2048x1792 .bf16) (w : FVec Ideal S2x8x3584x1792 .fp8e4m3) (ws : FVec Ideal S1x1792 .f32)
    (b : Fin 3) (s : Fin 2048) (i : Fin 3584) (h : ¬ s.val < 2047) :
    OUT g w ws (ix3 b s i) = SUM 0 g w ws b s i := dif_neg h

/-- The last phase of a tile writes the tile of `OUT`. -/
theorem point (c : Dev nD) (t : Fin cfg1.N) (h1 : t.val % 8 = 7) (s : Fin 2048) (j : Fin 512) (hb : t.val / 56 < 3) (hi : t.val / 8 % 7 * 512 + j.val < 3584) :
    (outsAt1 V c t.val t.isLt).1 (ix3 0 s j)
      = OUT (V c main_v0) (V c main_v1) (V c main_v2) (ix3 ⟨t.val / 56, hb⟩ s ⟨t.val / 8 % 7 * 512 + j.val, hi⟩) := by
  rw [out_flush V c t h1]
  by_cases hs : s.val < 2047
  · rw [pay2_at _ _ s j hs, out_at _ _ _ _ _ _ hs, acc0_flush V c t h1, acc1_flush V c t h1, zero_add, zero_add, add_at _ _ _ _ t s j hb hi, add_at _ _ _ _ t _ j hb hi]
  · rw [pay2_last _ _ s j hs, out_last _ _ _ _ _ _ hs, acc0_flush V c t h1, zero_add, add_at _ _ _ _ t s j hb hi]

/-- The result block is written back at the last phase alone. -/
theorem flush_val : ∀ t : Fin cfg1.N, (cfg1.win 3).flush t = true → t.val % 8 = 7 :=
  (by decide +kernel : ∀ t : Fin grid1.N, _)

/-- The result array ends as `OUT` of the entry contents. -/
theorem final (c : Dev nD) : (dat1 V c).arrAt 3 cfg1.N = OUT (V c main_v0) (V c main_v1) (V c main_v2) := by
  refine (dat1 V c).arrAt_eq_of_covers 3 _ (by decide +kernel) fun t hf y => ?_
  blk_simp
  rw [after1_3]
  have h1 := flush_val t hf
  have hN : t.val < 168 := t.isLt
  have e : y = ix3 (n0 := 1) (n1 := 2048) (n2 := 512) 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have hj : (y 2).val < 512 := (y 2).isLt
  refine (congrArg _ e).trans ((point V c t h1 (y 1) (y 2) (by omega) (by omega)).trans (congrArg _ ?_))
  blk_point [idx_val t]

end Cert.KernelIdeal.WholeDx
end
-- ==== Proof.DwValue.lean ====
/- What the third call leaves in its result array, read over the reals, for any contents `V` of the arrays it is
   entered with: every grid point stores one block of one matrix product. -/
module

public import proofs.«01_k».proof.Proof.KernelIdealDw
public import Idealize.ShloMosaic.Lib.Pipeline.ValueKit
public import Idealize.ShloMosaic.Lib.Pointwise
public import Idealize.ShloMosaic.Lib.Claim

@[expose] public section

set_option maxRecDepth 16384

noncomputable section

namespace Cert.KernelIdeal.WholeDw

open Cert.KernelIdeal Cert.KernelIdeal.Gen Cert.KernelIdeal.Whole Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The first operand of the third call, of the argument `x`: `x` with batch and frame along the lanes, above the
same of `x` moved one frame later. -/
def XT (x : FVec Ideal S3x2048x3584 .bf16) : FVec Ideal S7168x6144 .bf16 :=
  concatenate S7168x6144 0
    [⟨S3584x6144, transpose S3584x6144 [1, 0] (shapeCast S6144x3584 x shapeCasts_S3x2048x3584_S6144x3584) transposes_S6144x3584_S3584x6144_1_0⟩,
     ⟨S3584x6144, transpose S3584x6144 [1, 0] (shapeCast S6144x3584
        (pad S3x2048x3584 ![0, 1, 0] ![0, 0, 0] ![0, 0, 0] (extractStridedSlice S3x2047x3584 ![0, 0, 0] x slices_S3x2048x3584_S3x2047x3584_0_0_0)
          (sitofp .bf16 (constantI S_ 32 0#32)) pads_S3x2047x3584_S3x2048x3584_000_100_000 h_S_)
        shapeCasts_S3x2048x3584_S6144x3584) transposes_S6144x3584_S3584x6144_1_0⟩]
    concatenates_S3584x6144_S3584x6144_S7168x6144_d0

/-- The first 3584 rows of the operand are the columns of `x`: batch and frame flattened along the lanes. -/
theorem xt_low (x : FVec Ideal S3x2048x3584 .bf16) (r : Fin 7168) (k : Fin 6144) (hr : r.val < 3584) :
    XT x (ix2 r k) = x (ix3 ⟨k.val / 2048, by omega⟩ ⟨k.val % 2048, by omega⟩ ⟨r.val, hr⟩) := by
  pointwise [XT]
  rw [dif_pos hr]

/-- The integer 0 as a float is 0. -/
theorem sitofp_zero : (FloatOps.sitofp (F := Ideal) FTy.bf16 (0#32) : EReal) = 0 := by
  show (((0#32 : BitVec 32).toInt : ℝ) : EReal) = 0
  simp

/-- The last 3584 rows are the columns of `x` one frame later; frame 0 of each batch is filled with zero. -/
theorem xt_zero (x : FVec Ideal S3x2048x3584 .bf16) (r : Fin 7168) (k : Fin 6144) (hr : ¬ r.val < 3584) (h : k.val % 2048 = 0) :
    XT x (ix2 r k) = (0 : EReal) := by
  pointwise [XT]
  rw [dif_neg hr]
  have h2 : ¬ (k.val / 2048 < 3 ∧ (1 ≤ k.val % 2048 ∧ k.val % 2048 - 1 < 2047) ∧ r.val - 3584 < 3584) := by omega
  exact (dif_neg h2).trans sitofp_zero

/-- The last 3584 rows are the columns of `x` one frame later: frame `s` holds frame `s - 1`. -/
theorem xt_prev (x : FVec Ideal S3x2048x3584 .bf16) (r : Fin 7168) (k : Fin 6144) (hr : ¬ r.val < 3584) (h : ¬ k.val % 2048 = 0) :
    XT x (ix2 r k) = x (ix3 ⟨k.val / 2048, by omega⟩ ⟨k.val % 2048 - 1, by omega⟩ ⟨r.val - 3584, by omega⟩) := by
  pointwise [XT]
  rw [dif_neg hr]
  have h2 : k.val / 2048 < 3 ∧ (1 ≤ k.val % 2048 ∧ k.val % 2048 - 1 < 2047) ∧ r.val - 3584 < 3584 := by omega
  exact dif_pos h2

/-- The blocks of grid point `t`: row block `t / 56`, phase `t % 56 / 7`, output-channel block `t % 7`. -/
theorem idx_val : ∀ t : Fin cfg2.N, win2_0.index t = ![t.val / 56, 0] ∧ win2_1.index t = ![0, t.val % 56 / 7, 0, t.val % 56 % 7]
    ∧ win2_2.index t = ![t.val / 56 / 4 * 8 + t.val % 56 / 7, t.val / 56 % 4, t.val % 56 % 7] :=
  (by decide +kernel : ∀ t : Fin grid2.N, _)

/-- The result: tap `(i 0)` contracts batch and frame; the phase is the tap modulo 8, the half its quotient. -/
def OUT (xt : FVec Ideal S7168x6144 .bf16) (g : FVec Ideal S3x8x2048x1792 .bf16) : FVec Ideal S16x3584x1792 .f32 := fun i =>
  ∑ k : Fin 6144, xt (ix2 ⟨(i 0).val / 8 * 3584 + (i 1).val, by have h0 : (i 0).val < 16 := (i 0).isLt; have h1 : (i 1).val < 3584 := (i 1).isLt; omega⟩ k)
    * g (ix4 ⟨k.val / 2048, by have := k.isLt; omega⟩ ⟨(i 0).val % 8, Nat.mod_lt _ (by decide)⟩ ⟨k.val % 2048, Nat.mod_lt _ (by decide)⟩ (i 2))

/-- One grid point stores its block of `OUT`. -/
theorem point (c : Dev nD) (t : Fin cfg2.N) (y : S1x896x256.Idx) :
    k2_pay1 (F := Ideal) (iblk2 V c 1 t) (iblk2 V c 0 t) y = OUT (V c main_v10) (V c main_v0) (((cfg2.win 2).blk t).view.emb y) := by
  pointwise [k2_pay1, OUT]
  blk_point [iblk2, idx_val t]

/-- The result array ends as `OUT` of the entry contents. -/
theorem final (c : Dev nD) : (dat2 V c).arrAt 2 cfg2.N = OUT (V c main_v10) (V c main_v0) := by
  refine (dat2 V c).arrAt_eq_of_covers 2 _ (by decide +kernel) fun t _ y => ?_
  blk_simp
  rw [after2_2]; frame_out
  exact point V c t y

end Cert.KernelIdeal.WholeDw
end
-- ==== Proof.Results.lean ====
/- The kernel's two results as functions of its arguments, read over the reals: each call's result array, threaded through
   the host operations between the calls. -/
module

public import proofs.«01_k».proof.Proof.KernelIdealRun
public import proofs.«01_k».proof.Proof.ExpandValue
public import proofs.«01_k».proof.Proof.DxValue
public import proofs.«01_k».proof.Proof.DwValue
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second call reads the expanded gradient. -/
theorem entry_g1 (c : Dev nD) : V2 m ρ c main_v0 = WholeExpand.G (m ((c : Thread nD τ).loc main_arg1)) (m ((c : Thread nD τ).loc main_arg2)) :=
  (W2_of m ρ c main_v0 (by decide)).trans ((W1_arr m ρ c 2).trans (WholeExpand.final (V0 m ρ) c))

/-- The second call reads the weight codes with the tap split into half and phase. -/
theorem entry_w (c : Dev nD) : V2 m ρ c main_v1 = WholeDx.W4 (m ((c : Thread nD τ).loc main_arg3)) := by
  have h := W1_args m ρ c main_arg3 (by decide)
  show StableHlo.after hostOps1 (W1 m ρ c) (Proc.devRef .tc main_v1) = _
  generalize W1 m ρ c = X at h ⊢
  rw [← h]
  entry_read
  rfl

/-- The second call reads the weight scales as one row. -/
theorem entry_ws (c : Dev nD) : V2 m ρ c main_v2 = WholeDx.WS (m ((c : Thread nD τ).loc main_arg4)) := by
  have h := W1_args m ρ c main_arg4 (by decide)
  show StableHlo.after hostOps1 (W1 m ρ c) (Proc.devRef .tc main_v2) = _
  generalize W1 m ρ c = X at h ⊢
  rw [← h]
  entry_read
  rfl

/-- The third call reads the expanded gradient. -/
theorem entry_g2 (c : Dev nD) : V6 m ρ c main_v0 = WholeExpand.G (m ((c : Thread nD τ).loc main_arg1)) (m ((c : Thread nD τ).loc main_arg2)) :=
  (W6_of m ρ c main_v0 (by decide)).trans ((W5_of m ρ c main_v0 (by decide)).trans ((W4_of m ρ c main_v0 (by decide)).trans
    ((W3_of m ρ c main_v0 (by decide +kernel)).trans (entry_g1 m ρ c))))

/-- The third call's first operand. -/
theorem entry_xt (c : Dev nD) : V6 m ρ c main_v10 = WholeDw.XT (m ((c : Thread nD τ).loc main_arg0)) := by
  have h := W3_args m ρ c main_arg0 (by decide)
  show StableHlo.after hostOps2_2 (StableHlo.after hostOps2_1 (StableHlo.after hostOps2 (W3 m ρ c))) (Proc.devRef .tc main_v10) = _
  generalize W3 m ρ c = X at h ⊢
  rw [← h]
  entry_read
  rfl

/-- The first result. -/
theorem result_dx (c : Dev nD) : W7 m ρ c (Proc.devRef .tc main_v3)
    = WholeDx.OUT (WholeExpand.G (m ((c : Thread nD τ).loc main_arg1)) (m ((c : Thread nD τ).loc main_arg2)))
        (WholeDx.W4 (m ((c : Thread nD τ).loc main_arg3))) (WholeDx.WS (m ((c : Thread nD τ).loc main_arg4))) := by
  refine (W7_of m ρ c main_v3 (by decide +kernel)).trans ((W6_of m ρ c main_v3 (by decide)).trans ((W5_of m ρ c main_v3 (by decide)).trans
    ((W4_of m ρ c main_v3 (by decide)).trans ((W3_arr m ρ c 3).trans ((WholeDx.final (V2 m ρ) c).trans ?_)))))
  rw [entry_g1, entry_w, entry_ws]

/-- The second result. -/
theorem result_dw (c : Dev nD) : W7 m ρ c (Proc.devRef .tc main_v11)
    = WholeDw.OUT (WholeDw.XT (m ((c : Thread nD τ).loc main_arg0)))
        (WholeExpand.G (m ((c : Thread nD τ).loc main_arg1)) (m ((c : Thread nD τ).loc main_arg2))) := by
  refine (W7_arr m ρ c 2).trans ((WholeDw.final (V6 m ρ) c).trans ?_)
  rw [entry_xt, entry_g2]

/-- The kernel's run, its two results and its arguments named. -/
theorem run_results : θ_run defs (onTc (τ := τ) (main (F := Ideal))) ⟨m, fun _ => 0, ρ⟩ fun r => ∀ c : Dev nD,
      r.2.mem ((c.tc : Thread nD τ).loc main_v3)
        = WholeDx.OUT (WholeExpand.G (m ((c : Thread nD τ).loc main_arg1)) (m ((c : Thread nD τ).loc main_arg2)))
            (WholeDx.W4 (m ((c : Thread nD τ).loc main_arg3))) (WholeDx.WS (m ((c : Thread nD τ).loc main_arg4)))
      ∧ r.2.mem ((c.tc : Thread nD τ).loc main_v11)
        = WholeDw.OUT (WholeDw.XT (m ((c : Thread nD τ).loc main_arg0)))
            (WholeExpand.G (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨(h.1 c _ (mem_uc main_v3 (by decide))).trans (result_dx m ρ c),
       (h.1 c _ (mem_uc main_v11 (by decide))).trans (result_dw m ρ c),
       (h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c),
       (h.1 c _ (mem_uc main_arg4 (by decide))).trans (W7_main_arg4 m ρ c)⟩) (run m ρ)

end Cert.KernelIdeal.Whole
end
-- ==== Proof.Ref.lean ====
/- What the reference computes, read over the reals: the decoded arrays, its two results as its operations compose them, and
   each result at an index. -/
module

public import proofs.«01_k».proof.Proof.Gen.ReferenceIdeal.Run
public import Idealize.ShloMosaic.Lib.Pipeline.ValueKit
public import Idealize.ShloMosaic.Lib.Pointwise
public import Idealize.ShloMosaic.Lib.Routing.OpsPair
public import Idealize.ShloMosaic.Lib.Claim

@[expose] public section

set_option maxRecDepth 16384

noncomputable section

namespace Cert.ReferenceIdeal.Calc

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- A fold that changes its value only at positions that hit leaves it alone when no position hits. -/
theorem foldl_no_hit {ι α : Type} (P : ι → Prop) [DecidablePred P] (f : α → ι → α) :
    ∀ (l : List ι) (a : α), (∀ n ∈ l, ¬ P n) → l.foldl (fun a n => if P n then f a n else a) a = a
  | [], _, _ => rfl
  | n :: l, a, h => by
    rw [List.foldl_cons, if_neg (h n (by simp))]
    exact foldl_no_hit P f l a fun k hk => h k (by simp [hk])

/-- A fold that changes its value only at positions that hit changes it once when exactly one position hits. -/
theorem foldl_one_hit {ι α : Type} (P : ι → Prop) [DecidablePred P] (f : α → ι → α) (n0 : ι) (h : ∀ n, P n ↔ n = n0) :
    ∀ (l : List ι) (a : α), l.Nodup → n0 ∈ l → l.foldl (fun a n => if P n then f a n else a) a = f a n0
  | [], _, _, hm => by simp at hm
  | n :: l, a, hd, hm => by
    rw [List.foldl_cons]
    by_cases e : n = n0
    · subst e
      rw [if_pos ((h n).2 rfl)]
      exact foldl_no_hit P f l _ fun k hk hp => (List.nodup_cons.1 hd).1 (((h k).1 hp) ▸ hk)
    · rw [if_neg fun hp => e ((h n).1 hp)]
      exact foldl_one_hit P f n0 h l a (List.nodup_cons.1 hd).2 ((List.mem_cons.1 hm).resolve_left fun q => e q.symm)

/-- The scatter's dimension record: every update axis is a window axis, and the one index word moves axis 1. -/
abbrev SD : ScatterDims S3x2048x3584 S1 S3x2047x3584 := scatter_S3x2048x3584_S1_S3x2047x3584_012_n_1_0

/-- With the index word zero, the update at `(b, s, c)` lands at `(b, s, c)`. -/
theorem lands (idx : IVec S1 32) (h : ∀ i, idx i = 0#32) (b : Fin 3) (s : Fin 2047) (i : Fin 3584) (b' : Fin 3) (s' : Fin 2048) (i' : Fin 3584) :
    SD.resultIdx? (ix3 b s i) idx = some (ix3 b' s' i') ↔ b = b' ∧ s.val = s'.val ∧ i = i' := by
  have hs : ∀ a, SD.start (ix3 b s i) idx a = 0 := fun a => by
    unfold ScatterDims.start
    split
    · rw [h]; rfl
    · rfl
  have w0 : SD.window (ix3 b s i) 0 = b.val := rfl
  have w1 : SD.window (ix3 b s i) 1 = s.val := rfl
  have w2 : SD.window (ix3 b s i) 2 = i.val := rfl
  rw [Routing.resultIdx?_eq_some]
  constructor
  · intro q
    have q0 := q 0
    have q1 := q 1
    have q2 := q 2
    rw [hs, w0] at q0
    rw [hs, w1] at q1
    rw [hs, w2] at q2
    have q0 : (0 : Int) + (b.val : Int) = (b'.val : Int) := q0
    have q1 : (0 : Int) + (s.val : Int) = (s'.val : Int) := q1
    have q2 : (0 : Int) + (i.val : Int) = (i'.val : Int) := q2
    exact ⟨Fin.ext (by omega), by omega, Fin.ext (by omega)⟩
  · rintro ⟨rfl, hq, rfl⟩ a
    rw [hs]
    match a with
    | ⟨0, _⟩ => exact (zero_add _).trans (congrArg Nat.cast w0)
    | ⟨1, _⟩ => exact (zero_add _).trans (congrArg Nat.cast (w1.trans hq))
    | ⟨2, _⟩ => exact (zero_add _).trans (congrArg Nat.cast w2)

/-- The scatter-add at a frame that has an update. -/
theorem scatter_hit (x : FVec Ideal S3x2048x3584 .f32) (idx : IVec S1 32) (h : ∀ i, idx i = 0#32) (u : FVec Ideal S3x2047x3584 .f32)
    (b : Fin 3) (s : Fin 2047) (i : Fin 3584) :
    Host.scatter SD FloatOps.addf x idx u (ix3 b ⟨s.val, by omega⟩ i) = (x (ix3 b ⟨s.val, by omega⟩ i) + u (ix3 b s i) : EReal) := by
  rw [Routing.scatter_at]
  refine (foldl_one_hit _ (fun a n => FloatOps.addf a (u (S3x2047x3584.rowMajor.symm n))) (S3x2047x3584.rowMajor (ix3 b s i)) (fun n => ?_) _ _ (List.nodup_finRange _) (List.mem_finRange _)).trans ?_
  · obtain ⟨k, rfl⟩ := S3x2047x3584.rowMajor.surjective n
    rw [Equiv.symm_apply_apply, Equiv.apply_eq_iff_eq]
    idx_vars k
    rw [lands idx h, ix3_inj]
    exact ⟨fun q => ⟨q.1, Fin.ext q.2.1, q.2.2⟩, fun q => ⟨q.1, congrArg Fin.val q.2.1, q.2.2⟩⟩
  · rw [Equiv.symm_apply_apply]
    rfl

/-- The scatter-add at the last frame, which no update reaches. -/
theorem scatter_miss (x : FVec Ideal S3x2048x3584 .f32) (idx : IVec S1 32) (h : ∀ i, idx i = 0#32) (u : FVec Ideal S3x2047x3584 .f32)
    (b : Fin 3) (s : Fin 2048) (i : Fin 3584) (hs : s.val = 2047) :
    Host.scatter SD FloatOps.addf x idx u (ix3 b s i) = x (ix3 b s i) := by
  rw [Routing.scatter_at]
  refine foldl_no_hit _ (fun a n => FloatOps.addf a (u (S3x2047x3584.rowMajor.symm n))) _ _ fun n _ => ?_
  obtain ⟨k, rfl⟩ := S3x2047x3584.rowMajor.surjective n
  rw [Equiv.symm_apply_apply]
  idx_vars k
  rw [lands idx h]
  intro q
  omega

/-- The gradient's codes as the reference's decoding call returns them: the same reals. -/
def C5 (codes : FVec Ideal S3x16384x1792 .fp8e5m2) : FVec Ideal S3x16384x1792 .bf16 := fun i => (codes i : EReal)

/-- The weight codes as the reference's decoding call returns them: the same reals. -/
def C4 (codes : FVec Ideal S16x3584x1792 .fp8e4m3) : FVec Ideal S16x3584x1792 .bf16 := fun i => (codes i : EReal)

/-- The one grid point's blocks are the whole arrays. -/
theorem idx_val : ∀ t : Fin cfg0.N, win0_0.index t = ![0, 0, 0] ∧ win0_1.index t = ![0, 0, 0] ∧ win0_2.index t = ![0, 0, 0] ∧ win0_3.index t = ![0, 0, 0] :=
  (by decide +kernel : ∀ t : Fin grid0.N, _)

/-- The decoding call leaves the gradient's codes in its first result array. -/
theorem decoded5 (c : Dev nD) : Value.reg_main_v0_0 m c = C5 (m ((c : Thread nD τ).loc main_arg1)) := by
  show (dats m 0 c).arrAt 2 cfg0.N = _
  refine (dats m 0 c).arrAt_eq_of_after_last 2 t0_0 (by decide +kernel) _ fun j => ?_
  blk_simp
  rw [after0_2]; frame_out
  pointwise [k0_pay1, C5]
  blk_point [iblk, V_main_arg1, V_main_arg3, idx_val t0_0]

/-- The decoding call leaves the weight codes in its second result array. -/
theorem decoded4 (c : Dev nD) : Value.reg_main_v0_1 m c = C4 (m ((c : Thread nD τ).loc main_arg3)) := by
  show (dats m 0 c).arrAt 3 cfg0.N = _
  refine (dats m 0 c).arrAt_eq_of_after_last 3 t0_0 (by decide +kernel) _ fun j => ?_
  blk_simp
  rw [after0_3]; frame_out
  pointwise [k0_pay2, C4]
  blk_point [iblk, V_main_arg1, V_main_arg3, idx_val t0_0]

/-- The gradient by frame and phase: each code times the scale of its frame and group of 32 channels. -/
def GR (codes : FVec Ideal S3x16384x1792 .fp8e5m2) (scale : FVec Ideal S3x2048x56 .f32) : FVec Ideal S3x2048x8x1792 .bf16 :=
  shapeCast _ (mulf (shapeCast _ (C5 codes) shapeCasts_S3x16384x1792_S3x2048x8x56x32) (broadcastInDim S3x2048x8x56x32 ![0, 1, 2, 3, 4] bcast_S3x2048x1x56x1_S3x2048x8x56x32_0_1_2_3_4 (broadcastInDim S3x2048x1x56x1 ![0, 1, 3] bcast_S3x2048x56_S3x2048x1x56x1_0_1_3 (truncf .bf16 scale bitsLt_bf16_f32)))) shapeCasts_S3x2048x8x56x32_S3x2048x8x1792

/-- The decoded weights: each code times its output channel's scale. -/
def WR (codes : FVec Ideal S16x3584x1792 .fp8e4m3) (scale : FVec Ideal S1792 .f32) : FVec Ideal S16x3584x1792 .bf16 :=
  mulf (C4 codes) (broadcastInDim S16x3584x1792 ![0, 1, 2] bcast_S1x1x1792_S16x3584x1792_0_1_2 (broadcastInDim S1x1x1792 ![2] bcast_S1792_S1x1x1792_2 (truncf .bf16 scale bitsLt_bf16_f32)))

/-- The part of the first result that pairs frame `s` of the gradient with the first eight taps. -/
def D0 (g : FVec Ideal S3x2048x8x1792 .bf16) (w : FVec Ideal S16x3584x1792 .bf16) : FVec Ideal S3x2048x3584 .f32 :=
  Host.dotGeneral dot_S3x2048x8x1792_S8x3584x1792_S3x2048x3584_32_20_01_1_n_n none g (shapeCast _ (extractStridedSlice S1x8x3584x1792 ![0, 0, 0, 0] (shapeCast _ w shapeCasts_S16x3584x1792_S2x8x3584x1792) slices_S2x8x3584x1792_S1x8x3584x1792_0_0_0_0) shapeCasts_S1x8x3584x1792_S8x3584x1792)

/-- The part that pairs frame `s + 1` of the gradient with the last eight taps. -/
def D1 (g : FVec Ideal S3x2048x8x1792 .bf16) (w : FVec Ideal S16x3584x1792 .bf16) : FVec Ideal S3x2047x3584 .f32 :=
  Host.dotGeneral dot_S3x2047x8x1792_S8x3584x1792_S3x2047x3584_32_20_01_1_n_n none (extractStridedSlice S3x2047x8x1792 ![0, 1, 0, 0] g slices_S3x2048x8x1792_S3x2047x8x1792_0_1_0_0) (shapeCast _ (extractStridedSlice S1x8x3584x1792 ![1, 0, 0, 0] (shapeCast _ w shapeCasts_S16x3584x1792_S2x8x3584x1792) slices_S2x8x3584x1792_S1x8x3584x1792_1_0_0_0) shapeCasts_S1x8x3584x1792_S8x3584x1792)

/-- The reference's first result as its host operations compose it, of the gradient `g` and the decoded weights `w`. -/
def DX (g : FVec Ideal S3x2048x8x1792 .bf16) (w : FVec Ideal S16x3584x1792 .bf16) : FVec Ideal S3x2048x3584 .bf16 :=
  truncf .bf16 (Host.scatter SD FloatOps.addf (D0 g w) (broadcastInDim S1 ![] bcast_S_S1 (constantI S_ 32 0#32)) (D1 g w)) bitsLt_bf16_f32

/-- The reference's second result as its host operations compose it, of the argument `x` and the gradient `g`. -/
def DW (x : FVec Ideal S3x2048x3584 .bf16) (g : FVec Ideal S3x2048x8x1792 .bf16) : FVec Ideal S16x3584x1792 .f32 :=
  shapeCast _ (concatenate S2x8x3584x1792 0 [⟨S1x8x3584x1792, (broadcastInDim S1x8x3584x1792 ![1, 2, 3] bcast_S8x3584x1792_S1x8x3584x1792_1_2_3 (transpose S8x3584x1792 [0, 2, 1] (Host.dotGeneral dot_S3x2048x8x1792_S3x2048x3584_S8x1792x3584_01_01_23_2_n_n none g x) transposes_S8x1792x3584_S8x3584x1792_0_2_1))⟩, ⟨S1x8x3584x1792, (broadcastInDim S1x8x3584x1792 ![1, 2, 3] bcast_S8x3584x1792_S1x8x3584x1792_1_2_3 (transpose S8x3584x1792 [0, 2, 1] (Host.dotGeneral dot_S3x2047x8x1792_S3x2047x3584_S8x1792x3584_01_01_23_2_n_n none (extractStridedSlice S3x2047x8x1792 ![0, 1, 0, 0] g slices_S3x2048x8x1792_S3x2047x8x1792_0_1_0_0) (extractStridedSlice S3x2047x3584 ![0, 0, 0] x slices_S3x2048x3584_S3x2047x3584_0_0_0)) transposes_S8x1792x3584_S8x3584x1792_0_2_1))⟩] concatenates_S1x8x3584x1792_S1x8x3584x1792_S2x8x3584x1792_d0) shapeCasts_S2x8x3584x1792_S16x3584x1792

/-- The gradient at an index. -/
theorem g_at (codes : FVec Ideal S3x16384x1792 .fp8e5m2) (scale : FVec Ideal S3x2048x56 .f32) (b : Fin 3) (s : Fin 2048) (p : Fin 8) (o : Fin 1792) :
    GR codes scale (ix4 b s p o) = (codes (ix3 b ⟨s.val * 8 + p.val, by omega⟩ o) * scale (ix3 b s ⟨o.val / 32, by omega⟩) : EReal) := by
  pointwise [GR, C5]

/-- The decoded weights at an index. -/
theorem w_at (codes : FVec Ideal S16x3584x1792 .fp8e4m3) (scale : FVec Ideal S1792 .f32) (r : Fin 16) (i : Fin 3584) (o : Fin 1792) :
    WR codes scale (ix3 r i o) = (codes (ix3 r i o) * scale (ix1 o) : EReal) := by
  pointwise [WR, C4]

/-- The first part of the first result at an index. -/
theorem d0_at (g : FVec Ideal S3x2048x8x1792 .bf16) (w : FVec Ideal S16x3584x1792 .bf16) (b : Fin 3) (s : Fin 2048) (i : Fin 3584) :
    D0 g w (ix3 b s i) = ∑ p : Fin 8, ∑ o : Fin 1792, g (ix4 b s p o) * w (ix3 ⟨p.val, by omega⟩ i o) := by
  pointwise [D0]
  exact Finset.sum_comm

/-- The second part of the first result at an index. -/
theorem d1_at (g : FVec Ideal S3x2048x8x1792 .bf16) (w : FVec Ideal S16x3584x1792 .bf16) (b : Fin 3) (s : Fin 2047) (i : Fin 3584) :
    D1 g w (ix3 b s i) = ∑ p : Fin 8, ∑ o : Fin 1792, g (ix4 b ⟨1 + s.val, by omega⟩ p o) * w (ix3 ⟨8 + p.val, by omega⟩ i o) := by
  pointwise [D1]
  exact Finset.sum_comm

/-- The final cast is the identity. -/
theorem trunc_at (v : FVec Ideal S3x2048x3584 .f32) (i : S3x2048x3584.Idx) : truncf .bf16 v bitsLt_bf16_f32 i = v i := rfl

/-- The first result at a frame before the last. -/
theorem dx_at (g : FVec Ideal S3x2048x8x1792 .bf16) (w : FVec Ideal S16x3584x1792 .bf16) (b : Fin 3) (s : Fin 2047) (i : Fin 3584) :
    DX g w (ix3 b ⟨s.val, by omega⟩ i) = D0 g w (ix3 b ⟨s.val, by omega⟩ i) + D1 g w (ix3 b s i) := by
  refine Eq.trans ?_ (scatter_hit (D0 g w) (broadcastInDim S1 ![] bcast_S_S1 (constantI S_ 32 0#32)) (fun _ => rfl) (D1 g w) b s i)
  unfold DX
  rw [trunc_at]

/-- The first result at the last frame. -/
theorem dx_last (g : FVec Ideal S3x2048x8x1792 .bf16) (w : FVec Ideal S16x3584x1792 .bf16) (b : Fin 3) (s : Fin 2048) (i : Fin 3584) (hs : s.val = 2047) :
    DX g w (ix3 b s i) = D0 g w (ix3 b s i) := by
  refine Eq.trans ?_ (scatter_miss (D0 g w) (broadcastInDim S1 ![] bcast_S_S1 (constantI S_ 32 0#32)) (fun _ => rfl) (D1 g w) b s i hs)
  unfold DX
  rw [trunc_at]

/-- The first eight taps of the second result: tap `r` at channel `i` and output channel `o` contracts batch and frame. -/
theorem dw_low (x : FVec Ideal S3x2048x3584 .bf16) (g : FVec Ideal S3x2048x8x1792 .bf16) (r : Fin 16) (i : Fin 3584) (o : Fin 1792) (hr : r.val < 8) :
    DW x g (ix3 r i o) = ∑ b : Fin 3, ∑ s : Fin 2048, g (ix4 b s ⟨r.val % 8, Nat.mod_lt _ (by decide)⟩ o) * x (ix3 b s i) := by
  pointwise [DW]
  rw [dif_pos (by omega)]

/-- The last eight taps: tap `r` pairs frame `s` of `x` with frame `s + 1` of `g`. -/
theorem dw_high (x : FVec Ideal S3x2048x3584 .bf16) (g : FVec Ideal S3x2048x8x1792 .bf16) (r : Fin 16) (i : Fin 3584) (o : Fin 1792) (hr : ¬ r.val < 8) :
    DW x g (ix3 r i o) = ∑ b : Fin 3, ∑ s : Fin 2047, g (ix4 b ⟨1 + s.val, by omega⟩ ⟨r.val % 8, Nat.mod_lt _ (by decide)⟩ o) * x (ix3 b ⟨s.val, by omega⟩ i) := by
  pointwise [DW]
  rw [dif_neg (by omega)]

/-- The reference's run, its results named. -/
theorem run_ref (ρ : Dev nD → PrngReg) :
    θ_run defs (onTc (τ := τ) (main (F := Ideal))) ⟨m, fun _ => 0, ρ⟩ fun r => ∀ c : Dev nD,
      r.2.mem ((c.tc : Thread nD τ).loc main_v22)
          = DX (GR (m ((c.tc : Thread nD τ).loc main_arg1)) (m ((c.tc : Thread nD τ).loc main_arg2))) (WR (m ((c.tc : Thread nD τ).loc main_arg3)) (m ((c.tc : Thread nD τ).loc main_arg4)))
      ∧ r.2.mem ((c.tc : Thread nD τ).loc main_v30)
          = DW (m ((c.tc : Thread nD τ).loc main_arg0)) (GR (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold DX D0 D1 GR WR; rw [decoded5, decoded4]),
    (h c).2.1.trans (by unfold DW GR; rw [decoded5]), (h c).2.2⟩) (Value.run m ρ)

end Cert.ReferenceIdeal.Calc
end
-- ==== Proof.Equation.lean ====
/- The equation of the two programs over the reals: index by index, the kernel's two results are the reference's. -/
module

public import proofs.«01_k».proof.Proof.Results
public import proofs.«01_k».proof.Proof.Ref
public import proofs.«01_k».proof.Defs

@[expose] public section

set_option maxRecDepth 16384

noncomputable section

namespace Cert.Equation

open Idealize.ShloMosaic Idealize.ShloMosaic.TcCoe Idealize.SL.Sem
open Cert.ReferenceIdeal.Calc (GR WR D0 D1 DX DW g_at w_at d0_at d1_at dx_at dx_last dw_low dw_high)
open Cert.KernelIdeal.WholeExpand (G)
open Cert.KernelIdeal.WholeDx (W4 WS TERM SUM out_at out_last)
open Cert.KernelIdeal.WholeDw (XT xt_low xt_zero xt_prev)

/-- The two decoded gradients: the kernel keeps the phase before the frame, the reference after it. -/
theorem g_eq (codes : FVec Ideal Cert.KernelIdeal.S3x16384x1792 .fp8e5m2) (scale : FVec Ideal Cert.KernelIdeal.S3x2048x56 .f32)
    (b : Fin 3) (p : Fin 8) (s : Fin 2048) (o : Fin 1792) : G codes scale (ix4 b p s o) = GR codes scale (ix4 b s p o) :=
  (g_at codes scale b s p o).symm

/-- The weights with the tap split into half and phase, at an index. -/
theorem w4_at (w : FVec Ideal Cert.KernelIdeal.S16x3584x1792 .fp8e4m3) (h : Fin 2) (p : Fin 8) (i : Fin 3584) (o : Fin 1792) :
    W4 w (ix4 h p i o) = w (ix3 ⟨h.val * 8 + p.val, by omega⟩ i o) := by
  pointwise [W4]

/-- The row of scales at an index. -/
theorem ws_at (ws : FVec Ideal Cert.KernelIdeal.S1792 .f32) (o : Fin 1792) : WS ws (ix2 0 o) = ws (ix1 o) := by
  pointwise [WS]

section
variable (g : FVec Ideal Cert.KernelIdeal.S3x8x2048x1792 .bf16) (gr : FVec Ideal Cert.ReferenceIdeal.S3x2048x8x1792 .bf16)
variable (hg : ∀ (b : Fin 3) (p : Fin 8) (s : Fin 2048) (o : Fin 1792), g (ix4 b p s o) = gr (ix4 b s p o))
variable (w : FVec Ideal Cert.KernelIdeal.S16x3584x1792 .fp8e4m3) (ws : FVec Ideal Cert.KernelIdeal.S1792 .f32)
variable (x : FVec Ideal Cert.KernelIdeal.S3x2048x3584 .bf16)
include hg

/-- The kernel's sum over the first eight taps is the reference's. -/
theorem sum_low (b : Fin 3) (s : Fin 2048) (i : Fin 3584) :
    SUM 0 g (W4 w) (WS ws) b s i = D0 gr (WR w ws) (ix3 b s i) := by
  rw [d0_at]
  refine Finset.sum_congr rfl fun p _ => Finset.sum_congr rfl fun o _ => ?_
  rw [w4_at, ws_at, w_at]
  refine congrArg₂ (fun a b : EReal => a * b) (hg b p s o) (congrArg (fun e : EReal => e * ws (ix1 o)) (congrArg w ?_))
  refine (ix3_inj ..).2 ⟨Fin.ext ?_, rfl, rfl⟩
  show 0 * 8 + p.val = p.val
  omega

/-- The kernel's sum over the last eight taps is the reference's, one frame later. -/
theorem sum_high (b : Fin 3) (s : Fin 2047) (i : Fin 3584) :
    SUM 1 g (W4 w) (WS ws) b ⟨s.val + 1, by omega⟩ i = D1 gr (WR w ws) (ix3 b s i) := by
  rw [d1_at]
  refine Finset.sum_congr rfl fun p _ => Finset.sum_congr rfl fun o _ => ?_
  rw [w4_at, ws_at, w_at]
  refine congrArg₂ (fun a b : EReal => a * b) ((hg b p _ o).trans (congrArg gr ?_)) rfl
  refine (ix4_inj ..).2 ⟨rfl, Fin.ext ?_, rfl, rfl⟩
  show s.val + 1 = 1 + s.val
  omega

/-- The kernel's first result is the reference's. -/
theorem dx_eq : Cert.KernelIdeal.WholeDx.OUT g (W4 w) (WS ws) = DX gr (WR w ws) := by
  funext j
  idx_vars j
  by_cases h : j1.val < 2047
  · rw [out_at g (W4 w) (WS ws) j0 j1 j2 h]
    refine Eq.trans ?_ (dx_at gr (WR w ws) j0 ⟨j1.val, h⟩ j2).symm
    exact congrArg₂ (fun a b : EReal => a + b) (sum_low g gr hg w ws j0 j1 j2) (sum_high g gr hg w ws j0 ⟨j1.val, h⟩ j2)
  · rw [out_last g (W4 w) (WS ws) j0 j1 j2 h, dx_last gr (WR w ws) j0 j1 j2 (by omega)]
    exact sum_low g gr hg w ws j0 j1 j2

/-- The first eight taps of the second result. -/
theorem dw_eq_low (r : Fin 16) (i : Fin 3584) (o : Fin 1792) (hr : r.val < 8) :
    Cert.KernelIdeal.WholeDw.OUT (XT x) g (ix3 r i o) = DW x gr (ix3 r i o) := by
  rw [dw_low x gr r i o hr]
  refine Fin.sum_divmod_congr fun k hb hs => ?_
  refine (congrArg (fun e : EReal => e * _) (xt_low x _ k ?_)).trans ?_
  · show r.val / 8 * 3584 + i.val < 3584
    omega
  · rw [mul_comm]
    refine congrArg₂ (fun a b : EReal => a * b) (hg _ _ _ _) (congrArg x ?_)
    refine (ix3_inj ..).2 ⟨rfl, rfl, Fin.ext ?_⟩
    show r.val / 8 * 3584 + i.val = i.val
    omega

/-- The last eight taps of the second result: frame 0 of the shifted rows is zero, so the sum starts at frame 1. -/
theorem dw_eq_high (r : Fin 16) (i : Fin 3584) (o : Fin 1792) (hr : ¬ r.val < 8) :
    Cert.KernelIdeal.WholeDw.OUT (XT x) g (ix3 r i o) = DW x gr (ix3 r i o) := by
  rw [dw_high x gr r i o hr]
  have hR : r.val / 8 * 3584 + i.val < 7168 := by omega
  have h1 : Cert.KernelIdeal.WholeDw.OUT (XT x) g (ix3 r i o)
      = ∑ b : Fin 3, ∑ s : Fin 2048, (XT x (ix2 ⟨r.val / 8 * 3584 + i.val, hR⟩ ⟨b.val * 2048 + s.val, by omega⟩) : EReal)
          * g (ix4 b ⟨r.val % 8, Nat.mod_lt _ (by decide)⟩ s o) := by
    refine Fin.sum_divmod_congr fun k hb hs => ?_
    refine congrArg₂ (fun a b : EReal => a * b) (congrArg _ ((ix2_inj ..).2 ⟨rfl, Fin.ext ?_⟩)) rfl
    show k.val = k.val / 2048 * 2048 + k.val % 2048
    omega
  rw [h1]
  refine Finset.sum_congr rfl fun b _ => ?_
  rw [Fin.sum_univ_succ (n := 2047), xt_zero x _ _ (by show ¬ r.val / 8 * 3584 + i.val < 3584; omega) (by show (b.val * 2048 + 0) % 2048 = 0; omega), zero_mul, zero_add]
  refine Finset.sum_congr rfl fun s _ => ?_
  rw [xt_prev x _ _ (by show ¬ r.val / 8 * 3584 + i.val < 3584; omega) (by show ¬ (b.val * 2048 + (s.val + 1)) % 2048 = 0; omega), mul_comm]
  refine congrArg₂ (fun a b : EReal => a * b) ((hg _ _ _ _).trans (congrArg gr ?_)) (congrArg x ?_)
  · refine (ix4_inj ..).2 ⟨rfl, Fin.ext ?_, rfl, rfl⟩
    show s.val + 1 = 1 + s.val
    omega
  · refine (ix3_inj ..).2 ⟨Fin.ext ?_, Fin.ext ?_, Fin.ext ?_⟩
    · show (b.val * 2048 + (s.val + 1)) / 2048 = b.val
      omega
    · show (b.val * 2048 + (s.val + 1)) % 2048 - 1 = s.val
      omega
    · show r.val / 8 * 3584 + i.val - 3584 = i.val
      omega

/-- The kernel's second result is the reference's. -/
theorem dw_eq : Cert.KernelIdeal.WholeDw.OUT (XT x) g = DW x gr := by
  funext j
  idx_vars j
  by_cases h : j0.val < 8
  · exact dw_eq_low g gr hg x j0 j1 j2 h
  · exact dw_eq_high g gr hg x j0 j1 j2 h
end

/-- The kernel computes what the reference computes, over the reals: both results. -/
theorem algebraic : Cert.algebraic_KernelIdeal_ReferenceIdeal := by
  pair_intro
  · exact Cert.KernelIdeal.Whole.run_results m g
  · refine (θ_run Cert.ReferenceIdeal.defs _ _).mono (fun r h c => ⟨(h c).1.trans ?_, (h c).2.1.trans ?_, (h c).2.2⟩) (Cert.ReferenceIdeal.Calc.run_ref m' g')
    · rw [(hagree c).2.1, (hagree c).2.2.1, (hagree c).2.2.2.1, (hagree c).2.2.2.2]
      exact (dx_eq _ _ (g_eq _ _) _ _).symm
    · rw [(hagree c).1, (hagree c).2.1, (hagree c).2.2.1]
      exact (dw_eq _ _ (g_eq _ _) _).symm

end Cert.Equation
end
-- ==== Proof.CallDxValue.lean ====
/- The call `dx` alone: what it leaves in its result array, read over the reals. -/
module

public import proofs.«01_k».proof.Proof.Gen.DxIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DxIdeal.Calc

open Cert.DxIdeal Cert.DxIdeal.Gen Idealize.ShloMosaic Idealize.ShloMosaic.TcCoe Idealize.SL.Sem
open Idealize.ShloMosaic.Pipeline (Dat)

variable (m : (ℓ : Loc nD τ sig) → Buf (Elt Ideal) ℓ)

/-- The weight codes as the region reads them: the tap split into half and phase. -/
def W4 (w : FVec Ideal S16x3584x1792 .fp8e4m3) : FVec Ideal S2x8x3584x1792 .fp8e4m3 :=
  shapeCast _ w shapeCasts_S16x3584x1792_S2x8x3584x1792

/-- The scales as the region reads them: one row. -/
def WS (ws : FVec Ideal S1792 .f32) : FVec Ideal S1x1792 .f32 :=
  shapeCast _ ws shapeCasts_S1792_S1x1792

/-- The call reads the weight codes with the tap split into half and phase. -/
theorem entry_w (c : Dev nD) : V m c main_v0 = W4 (m ((c : Thread nD τ).loc main_arg1)) := by
  entry_read
  rfl

/-- The call reads the scales as one row. -/
theorem entry_ws (c : Dev nD) : V m c main_v1 = WS (m ((c : Thread nD τ).loc main_arg2)) := by
  entry_read
  rfl

/-- The blocks of grid point `t`: batch `t / 56`, column tile `t / 8 % 7`, phase `t % 8`. -/
theorem idx_val : ∀ t : Fin cfg0.N, win0_0.index t = ![t.val / 56, t.val % 8, 0, 0] ∧ win0_1.index t = ![0, t.val % 8, t.val / 8 % 7, 0]
    ∧ win0_2.index t = ![0, 0] ∧ win0_3.index t = ![t.val / 56, 0, t.val / 8 % 7] :=
  (by decide +kernel : ∀ t : Fin grid0.N, _)

/-- What one phase adds: the row of the gradient times the decoded weights of half `h`. -/
def TERM (h : Fin 2) (g : FVec Ideal S3x8x2048x1792 .bf16) (w : FVec Ideal S2x8x3584x1792 .fp8e4m3) (ws : FVec Ideal S1x1792 .f32)
    (b : Fin 3) (p : Fin 8) (s : Fin 2048) (i : Fin 3584) : EReal :=
  ∑ o : Fin 1792, g (ix4 b p s o) * (w (ix4 h p i o) * ws (ix2 0 o))

/-- The addition of one grid point to the accumulator of half `h`. -/
def ADD (h : Fin 2) (g : FVec Ideal S3x8x2048x1792 .bf16) (w : FVec Ideal S2x8x3584x1792 .fp8e4m3) (ws : FVec Ideal S1x1792 .f32)
    (t : Fin cfg0.N) (y : S2048x512.Idx) : EReal :=
  TERM h g w ws ⟨t.val / 56, by have : t.val < 168 := t.isLt; omega⟩ ⟨t.val % 8, by omega⟩ (y 0)
    ⟨t.val / 8 % 7 * 512 + (y 1).val, by have h1 : (y 1).val < 512 := (y 1).isLt; omega⟩

/-- The first half of a weight block. -/
abbrev R0 : Rect S2x1x512x1792 := Rect.unit ![0, 0, 0, 0] ![1, 1, 512, 1792] inb_S2x1x512x1792_S1x1x512x1792_0_0_0_0

/-- The second half of a weight block. -/
abbrev R1 : Rect S2x1x512x1792 := Rect.unit ![1, 0, 0, 0] ![1, 1, 512, 1792] inb_S2x1x512x1792_S1x1x512x1792_1_0_0_0

/-- What the body adds to the first accumulator, at an index. -/
theorem pay7_at (c : Dev nD) (t : Fin cfg0.N) (a : Vec Ideal S2048x512 .f32) (y : S2048x512.Idx) :
    k0_pay7 (F := Ideal) (iblk m c 2 t) (iblk m c 0 t) (View.ld (iblk m c 1 t) R0) a y
      = (a y + ADD 0 (m ((c : Thread nD τ).loc main_arg0)) (V m c main_v0) (V m c main_v1) t y : EReal) := by
  pointwise [k0_pay7, ADD, TERM]
  blk_point [iblk, V_main_arg0, idx_val t]

/-- What the body adds to the second accumulator, at an index. -/
theorem pay8_at (c : Dev nD) (t : Fin cfg0.N) (a : Vec Ideal S2048x512 .f32) (y : S2048x512.Idx) :
    k0_pay1 (F := Ideal) (k0_pay8 (F := Ideal) (iblk m c 2 t) (iblk m c 0 t) (View.ld (iblk m c 1 t) R1) a) y
      = (a y + ADD 1 (m ((c : Thread nD τ).loc main_arg0)) (V m c main_v0) (V m c main_v1) t y : EReal) := by
  pointwise [k0_pay1, k0_pay8, ADD, TERM]
  blk_point [iblk, V_main_arg0, idx_val t]

/-- The first accumulator is reset to zero. -/
theorem zero3 (y : S2048x512.Idx) : k0_pay3 (F := Ideal) y = (0 : EReal) := by
  pointwise [k0_pay3]

/-- The second accumulator is reset to zero. -/
theorem zero4 (y : S2048x512.Idx) : k0_pay4 (F := Ideal) y = (0 : EReal) := by
  pointwise [k0_pay4]

/-- The first accumulator after phase 0: that phase's addition alone. -/
theorem acc0_reset (c : Dev nD) (t : Fin cfg0.N) (h0 : t.val % 8 = 0) (y : S2048x512.Idx) :
    (outsAt0 m c t.val t.isLt).2.1 y = (0 + ADD 0 (m ((c : Thread nD τ).loc main_arg0)) (V m c main_v0) (V m c main_v1) t y : EReal) := by
  rw [outsAt0_A m c t h0 (by omega)]
  frame_out
  exact (pay7_at m c t _ y).trans (by rw [zero3])

/-- The first accumulator after a later phase: what the phase before left, plus this phase's addition. -/
theorem acc0_step (c : Dev nD) (t : Fin cfg0.N) (h0 : ¬ t.val % 8 = 0) (y : S2048x512.Idx) :
    (outsAt0 m c t.val t.isLt).2.1 y = ((outsAt0 m c (t.val - 1) (Nat.lt_of_le_of_lt (Nat.sub_le _ _) t.isLt)).2.1 y
      + ADD 0 (m ((c : Thread nD τ).loc main_arg0)) (V m c main_v0) (V m c main_v1) t y : EReal) := by
  by_cases h1 : t.val % 8 = 7
  · rw [outsAt0_C m c t h0 h1]
    frame_out
    rw [read_unread_whole]
    exact pay7_at m c t _ y
  · rw [outsAt0_B m c t h0 h1]
    frame_out
    rw [read_unread_whole]
    exact pay7_at m c t _ y

/-- The second accumulator after phase 0: that phase's addition alone. -/
theorem acc1_reset (c : Dev nD) (t : Fin cfg0.N) (h0 : t.val % 8 = 0) (y : S2048x512.Idx) :
    (outsAt0 m c t.val t.isLt).2.2 y = (0 + ADD 1 (m ((c : Thread nD τ).loc main_arg0)) (V m c main_v0) (V m c main_v1) t y : EReal) := by
  rw [outsAt0_A m c t h0 (by omega)]
  frame_out
  exact (pay8_at m c t _ y).trans (by rw [zero4])

/-- The second accumulator after a later phase: what the phase before left, plus this phase's addition. -/
theorem acc1_step (c : Dev nD) (t : Fin cfg0.N) (h0 : ¬ t.val % 8 = 0) (y : S2048x512.Idx) :
    (outsAt0 m c t.val t.isLt).2.2 y = ((outsAt0 m c (t.val - 1) (Nat.lt_of_le_of_lt (Nat.sub_le _ _) t.isLt)).2.2 y
      + ADD 1 (m ((c : Thread nD τ).loc main_arg0)) (V m c main_v0) (V m c main_v1) t y : EReal) := by
  by_cases h1 : t.val % 8 = 7
  · rw [outsAt0_C m c t h0 h1]
    frame_out
    rw [read_unread_whole]
    exact pay8_at m c t _ y
  · rw [outsAt0_B m c t h0 h1]
    frame_out
    rw [read_unread_whole]
    exact pay8_at m c t _ y

/-- At the last phase the first accumulator holds the sum over the phases. -/
theorem acc0_flush (c : Dev nD) (t : Fin cfg0.N) (h1 : t.val % 8 = 7) (y : S2048x512.Idx) :
    (outsAt0 m c t.val t.isLt).2.1 y = (0 + ∑ p : Fin 8, ADD 0 (m ((c : Thread nD τ).loc main_arg0)) (V m c main_v0) (V m c main_v1)
      ⟨8 * (t.val / 8) + p.val, by have : t.val < 168 := t.isLt; show _ < 168; omega⟩ y : EReal) :=
  Pipeline.eq_sum_fin_of_reset_step_apply_of_flush (fun n h => (outsAt0 m c n h).2.1) 8 (fun _ => (0 : EReal)) _
    (fun t h y => acc0_reset m c t h y) (fun t h y => acc0_step m c t h y) t h1 y

/-- At the last phase the second accumulator holds the sum over the phases. -/
theorem acc1_flush (c : Dev nD) (t : Fin cfg0.N) (h1 : t.val % 8 = 7) (y : S2048x512.Idx) :
    (outsAt0 m c t.val t.isLt).2.2 y = (0 + ∑ p : Fin 8, ADD 1 (m ((c : Thread nD τ).loc main_arg0)) (V m c main_v0) (V m c main_v1)
      ⟨8 * (t.val / 8) + p.val, by have : t.val < 168 := t.isLt; show _ < 168; omega⟩ y : EReal) :=
  Pipeline.eq_sum_fin_of_reset_step_apply_of_flush (fun n h => (outsAt0 m c n h).2.2) 8 (fun _ => (0 : EReal)) _
    (fun t h y => acc1_reset m c t h y) (fun t h y => acc1_step m c t h y) t h1 y

/-- What the last phase stores, of the two accumulators it leaves. -/
theorem out_flush (c : Dev nD) (t : Fin cfg0.N) (h1 : t.val % 8 = 7) (y : S1x2048x512.Idx) :
    (outsAt0 m c t.val t.isLt).1 y = k0_pay2 (F := Ideal) (outsAt0 m c t.val t.isLt).2.2 (outsAt0 m c t.val t.isLt).2.1 y := by
  rw [outsAt0_C m c t (by omega) h1]
  frame_out

/-- The row test fails before the last frame. -/
theorem lane_ne (s : Fin 2048) (hs : s.val < 2047) {α : Type} (a b : α) :
    Scalar.select (IntOp.cmpi CmpIPredicate.eq (BitVec.ofNat 32 s.val) 2047#32) a b = b := by
  have h : ¬ BitVec.ofNat 32 s.val = 2047#32 := fun h => by
    have := congrArg BitVec.toNat h
    rw [BitVec.toNat_ofNat, Nat.mod_eq_of_lt (by omega)] at this
    have : s.val = 2047 := this
    omega
  have h2 : IntOp.cmpi CmpIPredicate.eq (BitVec.ofNat 32 s.val) 2047#32 = 0#1 := by
    show BitVec.ofBool (BitVec.ofNat 32 s.val == 2047#32) = 0#1
    rw [beq_eq_false_iff_ne.2 h]
    rfl
  rw [h2]
  rfl

/-- The row test holds at the last frame. -/
theorem lane_eq (s : Fin 2048) (hs : ¬ s.val < 2047) {α : Type} (a b : α) :
    Scalar.select (IntOp.cmpi CmpIPredicate.eq (BitVec.ofNat 32 s.val) 2047#32) a b = a := by
  have h : s.val = 2047 := by omega
  rw [h]
  rfl

/-- The block written at the last phase, before the last frame: the first sum plus the second sum one frame later. -/
theorem pay2_at (a1 a0 : Vec Ideal S2048x512 .f32) (s : Fin 2048) (j : Fin 512) (hs : s.val < 2047) :
    k0_pay2 (F := Ideal) a1 a0 (ix3 0 s j) = (a0 (ix2 s j) + a1 (ix2 ⟨s.val + 1, by omega⟩ j) : EReal) := by
  pointwise [k0_pay2]
  rw [lane_ne s hs]
  refine congrArg (fun e : EReal => a0 (ix2 s j) + e) (congrArg a1 ((ix2_inj ..).2 ⟨Fin.ext ?_, rfl⟩))
  show (s.val + 2048 - 2047) % 2048 = s.val + 1
  omega

/-- The block written at the last phase, at the last frame: the first sum alone. -/
theorem pay2_last (a1 a0 : Vec Ideal S2048x512 .f32) (s : Fin 2048) (j : Fin 512) (hs : ¬ s.val < 2047) :
    k0_pay2 (F := Ideal) a1 a0 (ix3 0 s j) = a0 (ix2 s j) := by
  pointwise [k0_pay2]
  rw [lane_eq s hs]
  exact add_zero _

/-- The sum over phases and output channels of half `h` of the weights, at batch `b`, frame `s`, channel `i`. -/
def SUM (h : Fin 2) (g : FVec Ideal S3x8x2048x1792 .bf16) (w : FVec Ideal S2x8x3584x1792 .fp8e4m3) (ws : FVec Ideal S1x1792 .f32)
    (b : Fin 3) (s : Fin 2048) (i : Fin 3584) : EReal :=
  ∑ p : Fin 8, TERM h g w ws b p s i

/-- Where grid point `8 q + p` adds. -/
theorem add_at (h : Fin 2) (g : FVec Ideal S3x8x2048x1792 .bf16) (w : FVec Ideal S2x8x3584x1792 .fp8e4m3) (ws : FVec Ideal S1x1792 .f32)
    (t : Fin cfg0.N) (s : Fin 2048) (j : Fin 512) (hb : t.val / 56 < 3) (hi : t.val / 8 % 7 * 512 + j.val < 3584) :
    (∑ p : Fin 8, ADD h g w ws ⟨8 * (t.val / 8) + p.val, by have : t.val < 168 := t.isLt; show _ < 168; omega⟩ (ix2 s j))
      = SUM h g w ws ⟨t.val / 56, hb⟩ s ⟨t.val / 8 % 7 * 512 + j.val, hi⟩ := by
  refine Finset.sum_congr rfl fun p _ => ?_
  unfold ADD
  have h1 : (8 * (t.val / 8) + p.val) / 56 = t.val / 56 := by omega
  have h2 : (8 * (t.val / 8) + p.val) % 8 = p.val := by omega
  have h3 : (8 * (t.val / 8) + p.val) / 8 = t.val / 8 := by omega
  congr 1
  · exact Fin.ext h1
  · exact Fin.ext h2
  · exact Fin.ext (by show (8 * (t.val / 8) + p.val) / 8 % 7 * 512 + j.val = t.val / 8 % 7 * 512 + j.val; rw [h3])

/-- The result: the first half's sum at the frame, and the second half's at the next frame, none at the last. -/
def OUT (g : FVec Ideal S3x8x2048x1792 .bf16) (w : FVec Ideal S2x8x3584x1792 .fp8e4m3) (ws : FVec Ideal S1x1792 .f32) :
    FVec Ideal S3x2048x3584 .bf16 := fun i =>
  if h : (i 1).val < 2047 then (SUM 0 g w ws (i 0) (i 1) (i 2) + SUM 1 g w ws (i 0) ⟨(i 1).val + 1, by omega⟩ (i 2) : EReal)
  else SUM 0 g w ws (i 0) (i 1) (i 2)

/-- The result before the last frame. -/
theorem out_at (g : FVec Ideal S3x8x2048x1792 .bf16) (w : FVec Ideal S2x8x3584x1792 .fp8e4m3) (ws : FVec Ideal S1x1792 .f32)
    (b : Fin 3) (s : Fin 2048) (i : Fin 3584) (h : s.val < 2047) :
    OUT g w ws (ix3 b s i) = (SUM 0 g w ws b s i + SUM 1 g w ws b ⟨s.val + 1, by omega⟩ i : EReal) := dif_pos h

/-- The result at the last frame. -/
theorem out_last (g : FVec Ideal S3x8x2048x1792 .bf16) (w : FVec Ideal S2x8x3584x1792 .fp8e4m3) (ws : FVec Ideal S1x1792 .f32)
    (b : Fin 3) (s : Fin 2048) (i : Fin 3584) (h : ¬ s.val < 2047) :
    OUT g w ws (ix3 b s i) = SUM 0 g w ws b s i := dif_neg h

/-- One grid point stores its block of `OUT`. -/
theorem point (c : Dev nD) (t : Fin cfg0.N) (h1 : t.val % 8 = 7) (s : Fin 2048) (j : Fin 512) (hb : t.val / 56 < 3) (hi : t.val / 8 % 7 * 512 + j.val < 3584) :
    (outsAt0 m c t.val t.isLt).1 (ix3 0 s j)
      = OUT (m ((c : Thread nD τ).loc main_arg0)) (V m c main_v0) (V m c main_v1) (ix3 ⟨t.val / 56, hb⟩ s ⟨t.val / 8 % 7 * 512 + j.val, hi⟩) := by
  rw [out_flush m c t h1]
  by_cases hs : s.val < 2047
  · rw [pay2_at _ _ s j hs, out_at _ _ _ _ _ _ hs, acc0_flush m c t h1, acc1_flush m c t h1, zero_add, zero_add, add_at _ _ _ _ t s j hb hi, add_at _ _ _ _ t _ j hb hi]
  · rw [pay2_last _ _ s j hs, out_last _ _ _ _ _ _ hs, acc0_flush m c t h1, zero_add, add_at _ _ _ _ t s j hb hi]

/-- The result block is written back at the last phase alone. -/
theorem flush_val : ∀ t : Fin cfg0.N, (cfg0.win 3).flush t = true → t.val % 8 = 7 :=
  (by decide +kernel : ∀ t : Fin grid0.N, _)

/-- The result array ends as `OUT` of the entry contents. -/
theorem final (c : Dev nD) : (dats m 0 c).arrAt 3 (cfgs 0).N = OUT (m ((c : Thread nD τ).loc main_arg0)) (V m c main_v0) (V m c main_v1) := by
  refine (dats m 0 c).arrAt_eq_of_covers 3 _ (by decide +kernel) fun t hf y => ?_
  blk_simp
  rw [after0_3]
  have h1 := flush_val t hf
  have hN : t.val < 168 := t.isLt
  have e : y = ix3 (n0 := 1) (n1 := 2048) (n2 := 512) 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have hj : (y 2).val < 512 := (y 2).isLt
  refine (congrArg _ e).trans ((point m c t h1 (y 1) (y 2) (by omega) (by omega)).trans (congrArg _ ?_))
  blk_point [idx_val t]

end Cert.DxIdeal.Calc
end
-- ==== Proof.CallDxRef.lean ====
/- What the reference of `dx` alone computes, index by index, over the reals. -/
module

public import proofs.«01_k».proof.Proof.Gen.DxReferenceIdeal.Run
public import Idealize.ShloMosaic.Lib.Pipeline.ValueKit
public import Idealize.ShloMosaic.Lib.Pointwise
public import Idealize.ShloMosaic.Lib.Routing.OpsPair
public import Idealize.ShloMosaic.Lib.Claim

@[expose] public section

set_option maxRecDepth 16384

noncomputable section

namespace Cert.DxReferenceIdeal.Calc

open Cert.DxReferenceIdeal Cert.DxReferenceIdeal.Gen Idealize.ShloMosaic Idealize.ShloMosaic.TcCoe Idealize.SL.Sem
open Idealize.ShloMosaic.Pipeline (Dat)

variable (m : (ℓ : Loc nD τ sig) → Buf (Elt Ideal) ℓ)

/-- A fold that changes its value only at positions that hit leaves it alone when no position hits. -/
theorem foldl_no_hit {ι α : Type} (P : ι → Prop) [DecidablePred P] (f : α → ι → α) :
    ∀ (l : List ι) (a : α), (∀ n ∈ l, ¬ P n) → l.foldl (fun a n => if P n then f a n else a) a = a
  | [], _, _ => rfl
  | n :: l, a, h => by
    rw [List.foldl_cons, if_neg (h n (by simp))]
    exact foldl_no_hit P f l a fun k hk => h k (by simp [hk])

/-- A fold that changes its value only at positions that hit changes it once when exactly one position hits. -/
theorem foldl_one_hit {ι α : Type} (P : ι → Prop) [DecidablePred P] (f : α → ι → α) (n0 : ι) (h : ∀ n, P n ↔ n = n0) :
    ∀ (l : List ι) (a : α), l.Nodup → n0 ∈ l → l.foldl (fun a n => if P n then f a n else a) a = f a n0
  | [], _, _, hm => by simp at hm
  | n :: l, a, hd, hm => by
    rw [List.foldl_cons]
    by_cases e : n = n0
    · subst e
      rw [if_pos ((h n).2 rfl)]
      exact foldl_no_hit P f l _ fun k hk hp => (List.nodup_cons.1 hd).1 (((h k).1 hp) ▸ hk)
    · rw [if_neg fun hp => e ((h n).1 hp)]
      exact foldl_one_hit P f n0 h l a (List.nodup_cons.1 hd).2 ((List.mem_cons.1 hm).resolve_left fun q => e q.symm)

/-- The scatter's dimension record: every update axis is a window axis, and the one index word moves axis 1. -/
abbrev SD : ScatterDims S3x2048x3584 S1 S3x2047x3584 := scatter_S3x2048x3584_S1_S3x2047x3584_012_n_1_0

/-- With the index word zero, the update at `(b, s, c)` lands at `(b, s, c)`. -/
theorem lands (idx : IVec S1 32) (h : ∀ i, idx i = 0#32) (b : Fin 3) (s : Fin 2047) (i : Fin 3584) (b' : Fin 3) (s' : Fin 2048) (i' : Fin 3584) :
    SD.resultIdx? (ix3 b s i) idx = some (ix3 b' s' i') ↔ b = b' ∧ s.val = s'.val ∧ i = i' := by
  have hs : ∀ a, SD.start (ix3 b s i) idx a = 0 := fun a => by
    unfold ScatterDims.start
    split
    · rw [h]; rfl
    · rfl
  have w0 : SD.window (ix3 b s i) 0 = b.val := rfl
  have w1 : SD.window (ix3 b s i) 1 = s.val := rfl
  have w2 : SD.window (ix3 b s i) 2 = i.val := rfl
  rw [Routing.resultIdx?_eq_some]
  constructor
  · intro q
    have q0 := q 0
    have q1 := q 1
    have q2 := q 2
    rw [hs, w0] at q0
    rw [hs, w1] at q1
    rw [hs, w2] at q2
    have q0 : (0 : Int) + (b.val : Int) = (b'.val : Int) := q0
    have q1 : (0 : Int) + (s.val : Int) = (s'.val : Int) := q1
    have q2 : (0 : Int) + (i.val : Int) = (i'.val : Int) := q2
    exact ⟨Fin.ext (by omega), by omega, Fin.ext (by omega)⟩
  · rintro ⟨rfl, hq, rfl⟩ a
    rw [hs]
    match a with
    | ⟨0, _⟩ => exact (zero_add _).trans (congrArg Nat.cast w0)
    | ⟨1, _⟩ => exact (zero_add _).trans (congrArg Nat.cast (w1.trans hq))
    | ⟨2, _⟩ => exact (zero_add _).trans (congrArg Nat.cast w2)

/-- The scatter-add at a frame that has an update. -/
theorem scatter_hit (x : FVec Ideal S3x2048x3584 .f32) (idx : IVec S1 32) (h : ∀ i, idx i = 0#32) (u : FVec Ideal S3x2047x3584 .f32)
    (b : Fin 3) (s : Fin 2047) (i : Fin 3584) :
    Host.scatter SD FloatOps.addf x idx u (ix3 b ⟨s.val, by omega⟩ i) = (x (ix3 b ⟨s.val, by omega⟩ i) + u (ix3 b s i) : EReal) := by
  rw [Routing.scatter_at]
  refine (foldl_one_hit _ (fun a n => FloatOps.addf a (u (S3x2047x3584.rowMajor.symm n))) (S3x2047x3584.rowMajor (ix3 b s i)) (fun n => ?_) _ _ (List.nodup_finRange _) (List.mem_finRange _)).trans ?_
  · obtain ⟨k, rfl⟩ := S3x2047x3584.rowMajor.surjective n
    rw [Equiv.symm_apply_apply, Equiv.apply_eq_iff_eq]
    idx_vars k
    rw [lands idx h, ix3_inj]
    exact ⟨fun q => ⟨q.1, Fin.ext q.2.1, q.2.2⟩, fun q => ⟨q.1, congrArg Fin.val q.2.1, q.2.2⟩⟩
  · rw [Equiv.symm_apply_apply]
    rfl

/-- The scatter-add at the last frame, which no update reaches. -/
theorem scatter_miss (x : FVec Ideal S3x2048x3584 .f32) (idx : IVec S1 32) (h : ∀ i, idx i = 0#32) (u : FVec Ideal S3x2047x3584 .f32)
    (b : Fin 3) (s : Fin 2048) (i : Fin 3584) (hs : s.val = 2047) :
    Host.scatter SD FloatOps.addf x idx u (ix3 b s i) = x (ix3 b s i) := by
  rw [Routing.scatter_at]
  refine foldl_no_hit _ (fun a n => FloatOps.addf a (u (S3x2047x3584.rowMajor.symm n))) _ _ fun n _ => ?_
  obtain ⟨k, rfl⟩ := S3x2047x3584.rowMajor.surjective n
  rw [Equiv.symm_apply_apply]
  idx_vars k
  rw [lands idx h]
  intro q
  omega

/-- The decoded weights: each code times its output channel's scale. -/
def DEC (codes : FVec Ideal S16x3584x1792 .fp8e4m3) (scale : FVec Ideal S1792 .f32) : FVec Ideal S16x3584x1792 .bf16 := fun i =>
  codes i * scale (ix1 (i 2))

/-- The one grid point's blocks are the whole arrays. -/
theorem idx_val : ∀ t : Fin cfg0.N, win0_0.index t = ![0, 0, 0] ∧ win0_1.index t = ![0] ∧ win0_2.index t = ![0, 0, 0] :=
  (by decide +kernel : ∀ t : Fin grid0.N, _)

/-- The decoding region leaves the decoded weights in its result array. -/
theorem decoded (c : Dev nD) : Value.reg_main_v0 m c
    = DEC (m ((c : Thread nD τ).loc main_arg1)) (m ((c : Thread nD τ).loc main_arg2)) := by
  show (dats m 0 c).arrAt 2 cfg0.N = _
  refine (dats m 0 c).arrAt_eq_of_after_last 2 t0_0 (by decide +kernel) _ fun j => ?_
  blk_simp
  rw [after0_2]; frame_out
  pointwise [k0_pay1, DEC]
  blk_point [iblk, V_main_arg1, V_main_arg2, idx_val t0_0]

/-- The part of the result that pairs frame `s` of the gradient with the first eight taps. -/
def D0 (g : FVec Ideal S3x8x2048x1792 .bf16) (w : FVec Ideal S16x3584x1792 .bf16) : FVec Ideal S3x2048x3584 .f32 :=
  Host.dotGeneral dot_S3x2048x8x1792_S8x3584x1792_S3x2048x3584_32_20_01_1_n_n none (transpose S3x2048x8x1792 [0, 2, 1, 3] g transposes_S3x8x2048x1792_S3x2048x8x1792_0_2_1_3) (shapeCast _ (extractStridedSlice S1x8x3584x1792 ![0, 0, 0, 0] (shapeCast _ w shapeCasts_S16x3584x1792_S2x8x3584x1792) slices_S2x8x3584x1792_S1x8x3584x1792_0_0_0_0) shapeCasts_S1x8x3584x1792_S8x3584x1792)

/-- The part that pairs frame `s + 1` of the gradient with the last eight taps. -/
def D1 (g : FVec Ideal S3x8x2048x1792 .bf16) (w : FVec Ideal S16x3584x1792 .bf16) : FVec Ideal S3x2047x3584 .f32 :=
  Host.dotGeneral dot_S3x2047x8x1792_S8x3584x1792_S3x2047x3584_32_20_01_1_n_n none (extractStridedSlice S3x2047x8x1792 ![0, 1, 0, 0] (transpose S3x2048x8x1792 [0, 2, 1, 3] g transposes_S3x8x2048x1792_S3x2048x8x1792_0_2_1_3) slices_S3x2048x8x1792_S3x2047x8x1792_0_1_0_0) (shapeCast _ (extractStridedSlice S1x8x3584x1792 ![1, 0, 0, 0] (shapeCast _ w shapeCasts_S16x3584x1792_S2x8x3584x1792) slices_S2x8x3584x1792_S1x8x3584x1792_1_0_0_0) shapeCasts_S1x8x3584x1792_S8x3584x1792)

/-- The reference's result as its host operations compose it, of the expanded gradient `g` and the decoded weights `w`. -/
def REF (g : FVec Ideal S3x8x2048x1792 .bf16) (w : FVec Ideal S16x3584x1792 .bf16) : FVec Ideal S3x2048x3584 .bf16 :=
  truncf .bf16 (Host.scatter SD FloatOps.addf (D0 g w) (broadcastInDim S1 ![] bcast_S_S1 (constantI S_ 32 0#32)) (D1 g w)) bitsLt_bf16_f32

/-- The first part of the result at an index: the first eight taps. -/
theorem d0_at (g : FVec Ideal S3x8x2048x1792 .bf16) (w : FVec Ideal S16x3584x1792 .bf16) (b : Fin 3) (s : Fin 2048) (i : Fin 3584) :
    D0 g w (ix3 b s i) = ∑ p : Fin 8, ∑ o : Fin 1792, g (ix4 b p s o) * w (ix3 ⟨p.val, by omega⟩ i o) := by
  pointwise [D0]
  exact Finset.sum_comm

/-- The second part of the result at an index: the last eight taps, one frame later. -/
theorem d1_at (g : FVec Ideal S3x8x2048x1792 .bf16) (w : FVec Ideal S16x3584x1792 .bf16) (b : Fin 3) (s : Fin 2047) (i : Fin 3584) :
    D1 g w (ix3 b s i) = ∑ p : Fin 8, ∑ o : Fin 1792, g (ix4 b p ⟨1 + s.val, by omega⟩ o) * w (ix3 ⟨8 + p.val, by omega⟩ i o) := by
  pointwise [D1]
  exact Finset.sum_comm

/-- The final cast is the identity. -/
theorem trunc_at (v : FVec Ideal S3x2048x3584 .f32) (i : S3x2048x3584.Idx) : truncf .bf16 v bitsLt_bf16_f32 i = v i := rfl

/-- The result at a frame before the last. -/
theorem ref_at (g : FVec Ideal S3x8x2048x1792 .bf16) (w : FVec Ideal S16x3584x1792 .bf16) (b : Fin 3) (s : Fin 2047) (i : Fin 3584) :
    REF g w (ix3 b ⟨s.val, by omega⟩ i) = D0 g w (ix3 b ⟨s.val, by omega⟩ i) + D1 g w (ix3 b s i) := by
  refine Eq.trans ?_ (scatter_hit (D0 g w) (broadcastInDim S1 ![] bcast_S_S1 (constantI S_ 32 0#32)) (fun _ => rfl) (D1 g w) b s i)
  unfold REF
  rw [trunc_at]

/-- The result at the last frame. -/
theorem ref_last (g : FVec Ideal S3x8x2048x1792 .bf16) (w : FVec Ideal S16x3584x1792 .bf16) (b : Fin 3) (s : Fin 2048) (i : Fin 3584) (hs : s.val = 2047) :
    REF g w (ix3 b s i) = D0 g w (ix3 b s i) := by
  refine Eq.trans ?_ (scatter_miss (D0 g w) (broadcastInDim S1 ![] bcast_S_S1 (constantI S_ 32 0#32)) (fun _ => rfl) (D1 g w) b s i hs)
  unfold REF
  rw [trunc_at]

/-- The reference's run, its result named. -/
theorem run_ref (ρ : Dev nD → PrngReg) :
    θ_run defs (onTc (τ := τ) (main (F := Ideal))) ⟨m, fun _ => 0, ρ⟩ fun r => ∀ c : Dev nD,
      r.2.mem ((c.tc : Thread nD τ).loc main_v12)
          = REF (m ((c.tc : Thread nD τ).loc main_arg0)) (DEC (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by unfold REF D0 D1; rw [decoded]), (h c).2⟩) (Value.run m ρ)

end Cert.DxReferenceIdeal.Calc
end
-- ==== Proof.CallDxEq.lean ====
/- The call `dx` alone against its reference. -/
module

public import proofs.«01_k».proof.Proof.CallDxValue
public import proofs.«01_k».proof.Proof.CallDxRef
public import proofs.«01_k».proof.Defs

@[expose] public section

set_option maxRecDepth 16384

noncomputable section

namespace Cert.DxEq

open Idealize.ShloMosaic Idealize.ShloMosaic.TcCoe Idealize.SL.Sem
open Cert.DxReferenceIdeal.Calc (DEC D0 D1 REF d0_at d1_at ref_at ref_last)
open Cert.DxIdeal.Calc (W4 WS TERM SUM OUT out_at out_last)

/-- The weights with the tap split into half and phase, at an index. -/
theorem w4_at (w : FVec Ideal Cert.DxIdeal.S16x3584x1792 .fp8e4m3) (h : Fin 2) (p : Fin 8) (i : Fin 3584) (o : Fin 1792) :
    W4 w (ix4 h p i o) = w (ix3 ⟨h.val * 8 + p.val, by omega⟩ i o) := by
  pointwise [W4]

/-- The row of scales at an index. -/
theorem ws_at (ws : FVec Ideal Cert.DxIdeal.S1792 .f32) (o : Fin 1792) : WS ws (ix2 0 o) = ws (ix1 o) := by
  pointwise [WS]

/-- The kernel's sum over the first eight taps is the reference's. -/
theorem sum_low (g : FVec Ideal Cert.DxIdeal.S3x8x2048x1792 .bf16) (w : FVec Ideal Cert.DxIdeal.S16x3584x1792 .fp8e4m3)
    (ws : FVec Ideal Cert.DxIdeal.S1792 .f32) (b : Fin 3) (s : Fin 2048) (i : Fin 3584) :
    SUM 0 g (W4 w) (WS ws) b s i = D0 g (DEC w ws) (ix3 b s i) := by
  rw [d0_at]
  refine Finset.sum_congr rfl fun p _ => Finset.sum_congr rfl fun o _ => ?_
  rw [w4_at, ws_at]
  refine congrArg₂ (fun a b : EReal => a * b) rfl (congrArg (fun e : EReal => e * ws (ix1 o)) (congrArg w ?_))
  refine (ix3_inj ..).2 ⟨Fin.ext ?_, rfl, rfl⟩
  show 0 * 8 + p.val = p.val
  omega

/-- The kernel's sum over the last eight taps is the reference's, one frame later. -/
theorem sum_high (g : FVec Ideal Cert.DxIdeal.S3x8x2048x1792 .bf16) (w : FVec Ideal Cert.DxIdeal.S16x3584x1792 .fp8e4m3)
    (ws : FVec Ideal Cert.DxIdeal.S1792 .f32) (b : Fin 3) (s : Fin 2047) (i : Fin 3584) :
    SUM 1 g (W4 w) (WS ws) b ⟨s.val + 1, by omega⟩ i = D1 g (DEC w ws) (ix3 b s i) := by
  rw [d1_at]
  refine Finset.sum_congr rfl fun p _ => Finset.sum_congr rfl fun o _ => ?_
  rw [w4_at, ws_at]
  refine congrArg₂ (fun a b : EReal => a * b) (congrArg g ?_) (congrArg (fun e : EReal => e * ws (ix1 o)) (congrArg w ?_))
  · refine (ix4_inj ..).2 ⟨rfl, rfl, Fin.ext ?_, rfl⟩
    show s.val + 1 = 1 + s.val
    omega
  · rfl

/-- The kernel's result is the reference's. -/
theorem out_eq_ref (g : FVec Ideal Cert.DxIdeal.S3x8x2048x1792 .bf16) (w : FVec Ideal Cert.DxIdeal.S16x3584x1792 .fp8e4m3)
    (ws : FVec Ideal Cert.DxIdeal.S1792 .f32) : OUT g (W4 w) (WS ws) = REF g (DEC w ws) := by
  funext j
  idx_vars j
  by_cases h : j1.val < 2047
  · rw [out_at g (W4 w) (WS ws) j0 j1 j2 h]
    refine Eq.trans ?_ (ref_at g (DEC w ws) j0 ⟨j1.val, h⟩ j2).symm
    exact congrArg₂ (fun a b : EReal => a + b) (sum_low g w ws j0 j1 j2) (sum_high g w ws j0 ⟨j1.val, h⟩ j2)
  · rw [out_last g (W4 w) (WS ws) j0 j1 j2 h, ref_last g (DEC w ws) j0 j1 j2 (by omega)]
    exact sum_low g w ws j0 j1 j2

/-- The dx call computes what its reference computes, over the reals. -/
theorem algebraic : Cert.algebraic_DxIdeal_DxReferenceIdeal := by
  pair_intro
  · run_from Cert.DxIdeal.Value.run_blocks m g
  · refine (θ_run Cert.DxReferenceIdeal.defs _ _).mono (fun r h c => ⟨(h c).1.trans ?_, (h c).2⟩) (Cert.DxReferenceIdeal.Calc.run_ref m' g')
    have e := (Cert.DxIdeal.Calc.final m c).trans (by rw [Cert.DxIdeal.Calc.entry_w, Cert.DxIdeal.Calc.entry_ws])
    rw [(hagree c).1, (hagree c).2.1, (hagree c).2.2]
    exact (out_eq_ref _ _ _).symm.trans e.symm

end Cert.DxEq
end
-- ==== Proof.CallDwValue.lean ====
/- The call `dw` alone: what it leaves in its result array, read over the reals. -/
module

public import proofs.«01_k».proof.Proof.Gen.DwIdeal.Value
public import Idealize.ShloMosaic.Lib.Pipeline.ValueKit
public import Idealize.ShloMosaic.Lib.Pointwise
public import Idealize.ShloMosaic.Lib.Claim

@[expose] public section

set_option maxRecDepth 16384

noncomputable section

namespace Cert.DwIdeal.Calc

open Cert.DwIdeal Cert.DwIdeal.Gen Idealize.ShloMosaic Idealize.ShloMosaic.TcCoe Idealize.SL.Sem
open Idealize.ShloMosaic.Pipeline (Dat)

variable (m : (ℓ : Loc nD τ sig) → Buf (Elt Ideal) ℓ)

def XT (x : FVec Ideal S3x2048x3584 .bf16) : FVec Ideal S7168x6144 .bf16 :=
  concatenate S7168x6144 0
    [⟨S3584x6144, transpose S3584x6144 [1, 0] (shapeCast S6144x3584 x shapeCasts_S3x2048x3584_S6144x3584) transposes_S6144x3584_S3584x6144_1_0⟩,
     ⟨S3584x6144, transpose S3584x6144 [1, 0] (shapeCast S6144x3584
        (pad S3x2048x3584 ![0, 1, 0] ![0, 0, 0] ![0, 0, 0] (extractStridedSlice S3x2047x3584 ![0, 0, 0] x slices_S3x2048x3584_S3x2047x3584_0_0_0)
          (sitofp .bf16 (constantI S_ 32 0#32)) pads_S3x2047x3584_S3x2048x3584_000_100_000 h_S_)
        shapeCasts_S3x2048x3584_S6144x3584) transposes_S6144x3584_S3584x6144_1_0⟩]
    concatenates_S3584x6144_S3584x6144_S7168x6144_d0

/-- The first 3584 rows of the operand are the columns of `x`: batch and frame flattened along the lanes. -/
theorem xt_low (x : FVec Ideal S3x2048x3584 .bf16) (r : Fin 7168) (k : Fin 6144) (hr : r.val < 3584) :
    XT x (ix2 r k) = x (ix3 ⟨k.val / 2048, by omega⟩ ⟨k.val % 2048, by omega⟩ ⟨r.val, hr⟩) := by
  pointwise [XT]
  rw [dif_pos hr]

/-- The integer 0 as a float is 0. -/
theorem sitofp_zero : (FloatOps.sitofp (F := Ideal) FTy.bf16 (0#32) : EReal) = 0 := by
  show (((0#32 : BitVec 32).toInt : ℝ) : EReal) = 0
  simp

/-- The last 3584 rows are the columns of `x` one frame later; frame 0 of each batch is filled with zero. -/
theorem xt_zero (x : FVec Ideal S3x2048x3584 .bf16) (r : Fin 7168) (k : Fin 6144) (hr : ¬ r.val < 3584) (h : k.val % 2048 = 0) :
    XT x (ix2 r k) = (0 : EReal) := by
  pointwise [XT]
  rw [dif_neg hr]
  have h2 : ¬ (k.val / 2048 < 3 ∧ (1 ≤ k.val % 2048 ∧ k.val % 2048 - 1 < 2047) ∧ r.val - 3584 < 3584) := by omega
  exact (dif_neg h2).trans sitofp_zero

/-- The last 3584 rows are the columns of `x` one frame later: frame `s` holds frame `s - 1`. -/
theorem xt_prev (x : FVec Ideal S3x2048x3584 .bf16) (r : Fin 7168) (k : Fin 6144) (hr : ¬ r.val < 3584) (h : ¬ k.val % 2048 = 0) :
    XT x (ix2 r k) = x (ix3 ⟨k.val / 2048, by omega⟩ ⟨k.val % 2048 - 1, by omega⟩ ⟨r.val - 3584, by omega⟩) := by
  pointwise [XT]
  rw [dif_neg hr]
  have h2 : k.val / 2048 < 3 ∧ (1 ≤ k.val % 2048 ∧ k.val % 2048 - 1 < 2047) ∧ r.val - 3584 < 3584 := by omega
  exact dif_pos h2

/-- The call's first operand. -/
theorem entry_xt (c : Dev nD) : V m c main_v6 = XT (m ((c : Thread nD τ).loc main_arg0)) := by
  entry_read
  rfl

/-- The blocks of grid point `t`: batch `t / 56`, column tile `t / 8 % 7`, phase `t % 8`. -/
theorem idx_val : ∀ t : Fin cfg0.N, win0_0.index t = ![t.val / 56, 0] ∧ win0_1.index t = ![0, t.val % 56 / 7, 0, t.val % 56 % 7]
    ∧ win0_2.index t = ![t.val / 56 / 4 * 8 + t.val % 56 / 7, t.val / 56 % 4, t.val % 56 % 7] :=
  (by decide +kernel : ∀ t : Fin grid0.N, _)

def OUT (xt : FVec Ideal S7168x6144 .bf16) (g : FVec Ideal S3x8x2048x1792 .bf16) : FVec Ideal S16x3584x1792 .f32 := fun i =>
  ∑ k : Fin 6144, xt (ix2 ⟨(i 0).val / 8 * 3584 + (i 1).val, by have h0 : (i 0).val < 16 := (i 0).isLt; have h1 : (i 1).val < 3584 := (i 1).isLt; omega⟩ k)
    * g (ix4 ⟨k.val / 2048, by have := k.isLt; omega⟩ ⟨(i 0).val % 8, Nat.mod_lt _ (by decide)⟩ ⟨k.val % 2048, Nat.mod_lt _ (by decide)⟩ (i 2))

/-- One grid point stores its block of `OUT`. -/
theorem point (c : Dev nD) (t : Fin cfg0.N) (y : S1x896x256.Idx) :
    k0_pay1 (F := Ideal) (iblk m c 1 t) (iblk m c 0 t) y = OUT (V m c main_v6) (m ((c : Thread nD τ).loc main_arg1)) (((cfg0.win 2).blk t).view.emb y) := by
  pointwise [k0_pay1, OUT]
  blk_point [iblk, V_main_arg1, idx_val t]

/-- The result array ends as `OUT` of the entry contents. -/
theorem final (c : Dev nD) : (dats m 0 c).arrAt 2 (cfgs 0).N = OUT (V m c main_v6) (m ((c : Thread nD τ).loc main_arg1)) := by
  refine (dats m 0 c).arrAt_eq_of_covers 2 _ (by decide +kernel) fun t _ y => ?_
  blk_simp
  rw [after0_2]; frame_out
  exact point m c t y

end Cert.DwIdeal.Calc
end
-- ==== Proof.CallDwRef.lean ====
/- What the reference of `dw` alone computes, index by index, over the reals. -/
module

public import proofs.«01_k».proof.Proof.Gen.DwReferenceIdeal.Run
public import Idealize.ShloMosaic.Lib.Pointwise

@[expose] public section

set_option maxRecDepth 16384

noncomputable section

namespace Cert.DwReferenceIdeal.Calc

open Cert.DwReferenceIdeal Cert.DwReferenceIdeal.Gen Idealize.ShloMosaic Idealize.ShloMosaic.TcCoe Idealize.SL.Sem

def REF (x : FVec Ideal S3x2048x3584 .bf16) (g : FVec Ideal S3x8x2048x1792 .bf16) : FVec Ideal S16x3584x1792 .f32 :=
  shapeCast _ (concatenate S2x8x3584x1792 0 [⟨S1x8x3584x1792, (broadcastInDim S1x8x3584x1792 ![1, 2, 3] bcast_S8x3584x1792_S1x8x3584x1792_1_2_3 (transpose S8x3584x1792 [0, 2, 1] (Host.dotGeneral dot_S3x2048x8x1792_S3x2048x3584_S8x1792x3584_01_01_23_2_n_n none (transpose S3x2048x8x1792 [0, 2, 1, 3] g transposes_S3x8x2048x1792_S3x2048x8x1792_0_2_1_3) x) transposes_S8x1792x3584_S8x3584x1792_0_2_1))⟩, ⟨S1x8x3584x1792, (broadcastInDim S1x8x3584x1792 ![1, 2, 3] bcast_S8x3584x1792_S1x8x3584x1792_1_2_3 (transpose S8x3584x1792 [0, 2, 1] (Host.dotGeneral dot_S3x2047x8x1792_S3x2047x3584_S8x1792x3584_01_01_23_2_n_n none (extractStridedSlice S3x2047x8x1792 ![0, 1, 0, 0] (transpose S3x2048x8x1792 [0, 2, 1, 3] g transposes_S3x8x2048x1792_S3x2048x8x1792_0_2_1_3) slices_S3x2048x8x1792_S3x2047x8x1792_0_1_0_0) (extractStridedSlice S3x2047x3584 ![0, 0, 0] x slices_S3x2048x3584_S3x2047x3584_0_0_0)) transposes_S8x1792x3584_S8x3584x1792_0_2_1))⟩] concatenates_S1x8x3584x1792_S1x8x3584x1792_S2x8x3584x1792_d0) shapeCasts_S2x8x3584x1792_S16x3584x1792

/-- The first eight taps of the result: tap `r` at channel `i` and output channel `o` contracts batch and frame. -/
theorem ref_low (x : FVec Ideal S3x2048x3584 .bf16) (g : FVec Ideal S3x8x2048x1792 .bf16) (r : Fin 16) (i : Fin 3584) (o : Fin 1792) (hr : r.val < 8) :
    REF x g (ix3 r i o) = ∑ b : Fin 3, ∑ s : Fin 2048, g (ix4 b ⟨r.val % 8, Nat.mod_lt _ (by decide)⟩ s o) * x (ix3 b s i) := by
  pointwise [REF]
  rw [dif_pos (by omega)]

/-- The last eight taps: tap `r` pairs frame `s` of `x` with frame `s + 1` of `g`. -/
theorem ref_high (x : FVec Ideal S3x2048x3584 .bf16) (g : FVec Ideal S3x8x2048x1792 .bf16) (r : Fin 16) (i : Fin 3584) (o : Fin 1792) (hr : ¬ r.val < 8) :
    REF x g (ix3 r i o) = ∑ b : Fin 3, ∑ s : Fin 2047, g (ix4 b ⟨r.val % 8, Nat.mod_lt _ (by decide)⟩ ⟨1 + s.val, by omega⟩ o) * x (ix3 b ⟨s.val, by omega⟩ i) := by
  pointwise [REF]
  rw [dif_neg (by omega)]

end Cert.DwReferenceIdeal.Calc
end
-- ==== Proof.CallDwEq.lean ====
/- The call `dw` alone against its reference. -/
module

public import proofs.«01_k».proof.Proof.CallDwValue
public import proofs.«01_k».proof.Proof.CallDwRef
public import proofs.«01_k».proof.Defs

@[expose] public section

set_option maxRecDepth 16384

noncomputable section

namespace Cert.DwEq

open Idealize.ShloMosaic Idealize.ShloMosaic.TcCoe Idealize.SL.Sem

/-- The first eight taps. -/
theorem eq_low (x : FVec Ideal Cert.DwIdeal.S3x2048x3584 .bf16) (g : FVec Ideal Cert.DwIdeal.S3x8x2048x1792 .bf16)
    (r : Fin 16) (i : Fin 3584) (o : Fin 1792) (hr : r.val < 8) :
    Cert.DwIdeal.Calc.OUT (Cert.DwIdeal.Calc.XT x) g (ix3 r i o) = Cert.DwReferenceIdeal.Calc.REF x g (ix3 r i o) := by
  rw [Cert.DwReferenceIdeal.Calc.ref_low x g r i o hr]
  refine Fin.sum_divmod_congr fun k hb hs => ?_
  refine (congrArg (fun e : EReal => e * _) (Cert.DwIdeal.Calc.xt_low x _ k ?_)).trans ?_
  · show r.val / 8 * 3584 + i.val < 3584
    omega
  · rw [mul_comm]
    refine congrArg₂ (fun a b : EReal => a * b) rfl (congrArg x ?_)
    refine (ix3_inj ..).2 ⟨rfl, rfl, Fin.ext ?_⟩
    show r.val / 8 * 3584 + i.val = i.val
    omega

/-- The last eight taps: frame 0 of the shifted rows is zero, so the sum starts at frame 1. -/
theorem eq_high (x : FVec Ideal Cert.DwIdeal.S3x2048x3584 .bf16) (g : FVec Ideal Cert.DwIdeal.S3x8x2048x1792 .bf16)
    (r : Fin 16) (i : Fin 3584) (o : Fin 1792) (hr : ¬ r.val < 8) :
    Cert.DwIdeal.Calc.OUT (Cert.DwIdeal.Calc.XT x) g (ix3 r i o) = Cert.DwReferenceIdeal.Calc.REF x g (ix3 r i o) := by
  rw [Cert.DwReferenceIdeal.Calc.ref_high x g r i o hr]
  have hR : r.val / 8 * 3584 + i.val < 7168 := by omega
  have h1 : Cert.DwIdeal.Calc.OUT (Cert.DwIdeal.Calc.XT x) g (ix3 r i o)
      = ∑ b : Fin 3, ∑ s : Fin 2048, (Cert.DwIdeal.Calc.XT x (ix2 ⟨r.val / 8 * 3584 + i.val, hR⟩ ⟨b.val * 2048 + s.val, by omega⟩) : EReal)
          * g (ix4 b ⟨r.val % 8, Nat.mod_lt _ (by decide)⟩ s o) := by
    refine Fin.sum_divmod_congr fun k hb hs => ?_
    refine congrArg₂ (fun a b : EReal => a * b) (congrArg _ ((ix2_inj ..).2 ⟨rfl, Fin.ext ?_⟩)) rfl
    show k.val = k.val / 2048 * 2048 + k.val % 2048
    omega
  rw [h1]
  refine Finset.sum_congr rfl fun b _ => ?_
  rw [Fin.sum_univ_succ (n := 2047), Cert.DwIdeal.Calc.xt_zero x _ _ (by show ¬ r.val / 8 * 3584 + i.val < 3584; omega) (by show (b.val * 2048 + 0) % 2048 = 0; omega), zero_mul, zero_add]
  refine Finset.sum_congr rfl fun s _ => ?_
  rw [Cert.DwIdeal.Calc.xt_prev x _ _ (by show ¬ r.val / 8 * 3584 + i.val < 3584; omega) (by show ¬ (b.val * 2048 + (s.val + 1)) % 2048 = 0; omega), mul_comm]
  refine congrArg₂ (fun a b : EReal => a * b) (congrArg g ?_) (congrArg x ?_)
  · refine (ix4_inj ..).2 ⟨rfl, rfl, Fin.ext ?_, rfl⟩
    show s.val + 1 = 1 + s.val
    omega
  · refine (ix3_inj ..).2 ⟨Fin.ext ?_, Fin.ext ?_, Fin.ext ?_⟩
    · show (b.val * 2048 + (s.val + 1)) / 2048 = b.val
      omega
    · show (b.val * 2048 + (s.val + 1)) % 2048 - 1 = s.val
      omega
    · show r.val / 8 * 3584 + i.val - 3584 = i.val
      omega

/-- The call's result is the reference's. -/
theorem out_eq_ref (x : FVec Ideal Cert.DwIdeal.S3x2048x3584 .bf16) (g : FVec Ideal Cert.DwIdeal.S3x8x2048x1792 .bf16) :
    Cert.DwIdeal.Calc.OUT (Cert.DwIdeal.Calc.XT x) g = Cert.DwReferenceIdeal.Calc.REF x g := by
  funext j
  idx_vars j
  by_cases h : j0.val < 8
  · exact eq_low x g j0 j1 j2 h
  · exact eq_high x g j0 j1 j2 h

/-- The call computes what its reference computes, over the reals. -/
theorem algebraic : Cert.algebraic_DwIdeal_DwReferenceIdeal := by
  pair_intro
  · run_from Cert.DwIdeal.Value.run_blocks m g
  · run_from Cert.DwReferenceIdeal.Value.run m' g'
    exact (out_eq_ref (m ((c.tc : Thread Cert.DwIdeal.nD Cert.DwIdeal.τ).loc Cert.DwIdeal.main_arg0)) (m ((c.tc : Thread Cert.DwIdeal.nD Cert.DwIdeal.τ).loc Cert.DwIdeal.main_arg1))).symm.trans
      ((Cert.DwIdeal.Calc.final m c).trans (by rw [Cert.DwIdeal.Calc.entry_xt])).symm

/-- The reference leaves its arguments unchanged and every semaphore at zero. -/
theorem frame_ref : Cert.quiescent_DwReferenceIdeal := by
  intro m g _
  exact (θ_run Cert.DwReferenceIdeal.defs _ _).mono
    (fun r h => ⟨fun c => (h c).2, Idealize.ShloMosaic.sem_eq_zero_of_no_sems (by decide) r.2⟩)
    (Cert.DwReferenceIdeal.Value.run (F := Ideal) m g)

end Cert.DwEq
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.Equation
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxReferenceIdeal
public import proofs.«01_k».proof.Proof.Gen.DxReferenceIdeal.Skeleton
public import proofs.«01_k».proof.Proof.Gen.DxReferenceIdeal.Launch
public import proofs.«01_k».proof.Proof.Gen.DxReferenceIdeal.Points
public import proofs.«01_k».proof.Proof.Gen.DxReferenceIdeal.Frame
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwReferenceIdeal
public import proofs.«01_k».proof.Proof.Gen.DxIdeal.Value
public import proofs.«01_k».proof.Proof.Gen.DwIdeal.Value
public import proofs.«01_k».proof.Proof.Gen.DxReferenceIdeal.Run
public import proofs.«01_k».proof.Proof.Gen.DxReferenceIdeal.Read
public import proofs.«01_k».proof.Proof.Gen.DwReferenceIdeal.Run
public import proofs.«01_k».proof.Proof.Gen.DwReferenceIdeal.Read
public import proofs.«01_k».proof.Proof.CallDxEq
public import proofs.«01_k».proof.Proof.CallDwEq
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Dx.Gen.facts, Cert.DxIdeal.Gen.facts, Cert.DxReferenceIdeal.Gen.facts,
  Cert.Dw.Gen.facts, Cert.DwIdeal.Gen.facts, Cert.DwReferenceIdeal.Gen.facts,
  fun m ρ _ => Cert.Kernel.Whole.frame m ρ, fun m ρ _ => Cert.KernelIdeal.Whole.frame m ρ,
  fun m ρ _ => Cert.ReferenceIdeal.Gen.frame m ρ,
  fun m ρ _ => Cert.Dx.Gen.frame m ρ, fun m ρ _ => Cert.DxIdeal.Gen.frame m ρ, fun m ρ _ => Cert.DxReferenceIdeal.Gen.frame m ρ,
  fun m ρ _ => Cert.Dw.Gen.frame m ρ, fun m ρ _ => Cert.DwIdeal.Gen.frame m ρ, Cert.DwEq.frame_ref,
  trivial, Cert.Equation.algebraic, trivial, Cert.DxEq.algebraic, trivial, Cert.DwEq.algebraic⟩

end Cert.Proof

end
